-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S1024x1024 : Shape := ⟨2, ![1024, 1024]⟩
abbrev S64 : Shape := ⟨1, ![64]⟩
abbrev S1x64 : Shape := ⟨2, ![1, 64]⟩
abbrev S2048x64 : Shape := ⟨2, ![2048, 64]⟩
abbrev S_ : Shape := ⟨0, ![]⟩

class Facts : Prop where
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S_S2048x1 : S_.BroadcastsInDim S2048x1 (![] : Fin 0 → Fin S2048x1.rank)
  reducesTo_S2048x64_S64_d0 : S2048x64.ReducesTo [0] S64
  h_S_ : 0 < S_.numel
  bcast_S_S64 : S_.BroadcastsInDim S64 (![] : Fin 0 → Fin S64.rank)
  bitsLt_bf16_f32 : FTy.bits .bf16 < FTy.bits .f32
  bcast_S_S2048x1024 : S_.BroadcastsInDim S2048x1024 (![] : Fin 0 → Fin S2048x1024.rank)
  bcast_S_S1024x64 : S_.BroadcastsInDim S1024x64 (![] : Fin 0 → Fin S1024x64.rank)

variable [Facts]

def fn_part1 {F : FTy → Type} [FloatOps F] (main_v7 : IVec S2048x1 1) (main_v9 : IVec S2048x1 1) (main_v12 : IVec S64 1) (main_v16 : IVec S2048x1024 1) (main_v18 : FVec F S1024x64 .f32) : IVec S2048x1 1 × IVec S2048x1 1 × IVec S64 1 × IVec S2048x1024 1 × IVec S1024x64 1 :=
  let main_cst_3 : FVec F S_ .f32 := constant S_ .f32 0x7F800000#32
  let main_v19 : FVec F S1024x64 .f32 := broadcastInDim S1024x64 ![] bcast_S_S1024x64 main_cst_3
  let main_v20 : IVec S1024x64 1 := cmpf .olt main_v18 main_v19
  (main_v7, main_v9, main_v12, main_v16, main_v20)

def fn {F : FTy → Type} [FloatOps F] (main_arg0 : FVec F S2048x1024 .bf16) (main_arg1 : FVec F S1024x64 .bf16) (main_arg2 : IVec S2048x1 32) (main_arg3 : FVec F S8x1024x1024 .bf16) (main_arg4 : FVec F S1024x1024 .bf16) : IVec S2048x1 1 × IVec S2048x1 1 × IVec S64 1 × IVec S2048x1024 1 × IVec S1024x64 1 :=
  let main_v0 : IVec S64 32 := iotaInDim S64 32 0
  let main_v1 : IVec S1x64 32 := broadcastInDim S1x64 ![1] bcast_S64_S1x64_1 main_v0
  let main_v2 : IVec S2048x64 32 := broadcastInDim S2048x64 ![0, 1] bcast_S2048x1_S2048x64_0_1 main_arg2
  let main_v3 : IVec S2048x64 32 := broadcastInDim S2048x64 ![0, 1] bcast_S1x64_S2048x64_0_1 main_v1
  let main_v4 : IVec S2048x64 1 := cmpi .eq main_v2 main_v3
  let main_v5 : FVec F S2048x64 .f32 := uitofp .f32 main_v4
  let main_c : IVec S_ 32 := constantI S_ 32 0#32
  let main_v6 : IVec S2048x1 32 := broadcastInDim S2048x1 ![] bcast_S_S2048x1 main_c
  let main_v7 : IVec S2048x1 1 := cmpi .sge main_arg2 main_v6
  let main_c_0 : IVec S_ 32 := constantI S_ 32 64#32
  let main_v8 : IVec S2048x1 32 := broadcastInDim S2048x1 ![] bcast_S_S2048x1 main_c_0
  let main_v9 : IVec S2048x1 1 := cmpi .slt main_arg2 main_v8
  let main_cst : FVec F S_ .f32 := constant S_ .f32 0x00000000#32
  let main_v10 : FVec F S64 .f32 := (fun x v => Host.reduceAdd x v reducesTo_S2048x64_S64_d0 h_S_) main_v5 main_cst
  let main_cst_1 : FVec F S_ .f32 := constant S_ .f32 0x42800000#32
  let main_v11 : FVec F S64 .f32 := broadcastInDim S64 ![] bcast_S_S64 main_cst_1
  let main_v12 : IVec S64 1 := cmpf .ole main_v10 main_v11
  let main_v13 : FVec F S2048x1024 .f32 := (extf .f32 · bitsLt_bf16_f32) main_arg0
  let main_v14 : FVec F S2048x1024 .f32 := Host.absf main_v13
  let main_cst_2 : FVec F S_ .f32 := constant S_ .f32 0x7F800000#32
  let main_v15 : FVec F S2048x1024 .f32 := broadcastInDim S2048x1024 ![] bcast_S_S2048x1024 main_cst_2
  let main_v16 : IVec S2048x1024 1 := cmpf .olt main_v14 main_v15
  let main_v17 : FVec F S1024x64 .f32 := (extf .f32 · bitsLt_bf16_f32) main_arg1
  let main_v18 : FVec F S1024x64 .f32 := Host.absf main_v17
  fn_part1 (F := F) main_v7 main_v9 main_v12 main_v16 main_v18
-- ==== Pre_routable_ReferenceIdeal.lean ====
abbrev S16384x1024 : Shape := ⟨2, ![16384, 1024]⟩
abbrev S1024x64 : Shape := ⟨2, ![1024, 64]⟩
abbrev S16384x1 : Shape := ⟨2, ![16384, 1]⟩
abbrev S64x1024x1024 : Shape := ⟨3, ![64, 1024, 1024]⟩
abbrev S1024x1024 : Shape := ⟨2, ![1024, 1024]⟩
abbrev S64 : Shape := ⟨1, ![64]⟩
abbrev S1x64 : Shape := ⟨2, ![1, 64]⟩
abbrev S16384x64 : Shape := ⟨2, ![16384, 64]⟩
abbrev S_ : Shape := ⟨0, ![]⟩

class Facts : Prop where
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  bcast_S_S16384x1 : S_.BroadcastsInDim S16384x1 (![] : Fin 0 → Fin S16384x1.rank)
  reducesTo_S16384x64_S64_d0 : S16384x64.ReducesTo [0] S64
  h_S_ : 0 < S_.numel
  bcast_S_S64 : S_.BroadcastsInDim S64 (![] : Fin 0 → Fin S64.rank)
  bitsLt_bf16_f32 : FTy.bits .bf16 < FTy.bits .f32
  bcast_S_S16384x1024 : S_.BroadcastsInDim S16384x1024 (![] : Fin 0 → Fin S16384x1024.rank)
  bcast_S_S1024x64 : S_.BroadcastsInDim S1024x64 (![] : Fin 0 → Fin S1024x64.rank)

variable [Facts]

def fn_part1 {F : FTy → Type} [FloatOps F] (main_v7 : IVec S16384x1 1) (main_v9 : IVec S16384x1 1) (main_v12 : IVec S64 1) (main_v16 : IVec S16384x1024 1) (main_v18 : FVec F S1024x64 .f32) : IVec S16384x1 1 × IVec S16384x1 1 × IVec S64 1 × IVec S16384x1024 1 × IVec S1024x64 1 :=
  let main_cst_3 : FVec F S_ .f32 := constant S_ .f32 0x7F800000#32
  let main_v19 : FVec F S1024x64 .f32 := broadcastInDim S1024x64 ![] bcast_S_S1024x64 main_cst_3
  let main_v20 : IVec S1024x64 1 := cmpf .olt main_v18 main_v19
  (main_v7, main_v9, main_v12, main_v16, main_v20)

def fn {F : FTy → Type} [FloatOps F] (main_arg0 : FVec F S16384x1024 .bf16) (main_arg1 : FVec F S1024x64 .bf16) (main_arg2 : IVec S16384x1 32) (main_arg3 : FVec F S64x1024x1024 .bf16) (main_arg4 : FVec F S1024x1024 .bf16) : IVec S16384x1 1 × IVec S16384x1 1 × IVec S64 1 × IVec S16384x1024 1 × IVec S1024x64 1 :=
  let main_v0 : IVec S64 32 := iotaInDim S64 32 0
  let main_v1 : IVec S1x64 32 := broadcastInDim S1x64 ![1] bcast_S64_S1x64_1 main_v0
  let main_v2 : IVec S16384x64 32 := broadcastInDim S16384x64 ![0, 1] bcast_S16384x1_S16384x64_0_1 main_arg2
  let main_v3 : IVec S16384x64 32 := broadcastInDim S16384x64 ![0, 1] bcast_S1x64_S16384x64_0_1 main_v1
  let main_v4 : IVec S16384x64 1 := cmpi .eq main_v2 main_v3
  let main_v5 : FVec F S16384x64 .f32 := uitofp .f32 main_v4
  let main_c : IVec S_ 32 := constantI S_ 32 0#32
  let main_v6 : IVec S16384x1 32 := broadcastInDim S16384x1 ![] bcast_S_S16384x1 main_c
  let main_v7 : IVec S16384x1 1 := cmpi .sge main_arg2 main_v6
  let main_c_0 : IVec S_ 32 := constantI S_ 32 64#32
  let main_v8 : IVec S16384x1 32 := broadcastInDim S16384x1 ![] bcast_S_S16384x1 main_c_0
  let main_v9 : IVec S16384x1 1 := cmpi .slt main_arg2 main_v8
  let main_cst : FVec F S_ .f32 := constant S_ .f32 0x00000000#32
  let main_v10 : FVec F S64 .f32 := (fun x v => Host.reduceAdd x v reducesTo_S16384x64_S64_d0 h_S_) main_v5 main_cst
  let main_cst_1 : FVec F S_ .f32 := constant S_ .f32 0x42800000#32
  let main_v11 : FVec F S64 .f32 := broadcastInDim S64 ![] bcast_S_S64 main_cst_1
  let main_v12 : IVec S64 1 := cmpf .ole main_v10 main_v11
  let main_v13 : FVec F S16384x1024 .f32 := (extf .f32 · bitsLt_bf16_f32) main_arg0
  let main_v14 : FVec F S16384x1024 .f32 := Host.absf main_v13
  let main_cst_2 : FVec F S_ .f32 := constant S_ .f32 0x7F800000#32
  let main_v15 : FVec F S16384x1024 .f32 := broadcastInDim S16384x1024 ![] bcast_S_S16384x1024 main_cst_2
  let main_v16 : IVec S16384x1024 1 := cmpf .olt main_v14 main_v15
  let main_v17 : FVec F S1024x64 .f32 := (extf .f32 · bitsLt_bf16_f32) main_arg1
  let main_v18 : FVec F S1024x64 .f32 := Host.absf main_v17
  fn_part1 (F := F) main_v7 main_v9 main_v12 main_v16 main_v18
-- ==== Kernel.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S1024x1024 : Shape := ⟨2, ![1024, 1024]⟩
abbrev S8x512x1024 : Shape := ⟨3, ![8, 512, 1024]⟩
abbrev S8x8x64x1024 : Shape := ⟨4, ![8, 8, 64, 1024]⟩
abbrev S2x1024x1024 : Shape := ⟨3, ![2, 1024, 1024]⟩
abbrev S2 : Shape := ⟨1, ![2]⟩
abbrev S_ : Shape := ⟨0, ![]⟩
abbrev S8x8 : Shape := ⟨2, ![8, 8]⟩
abbrev S2048x64 : Shape := ⟨2, ![2048, 64]⟩
abbrev S2048 : Shape := ⟨1, ![2048]⟩
abbrev S1x64 : Shape := ⟨2, ![1, 64]⟩
abbrev S2047x64 : Shape := ⟨2, ![2047, 64]⟩
abbrev S2x64 : Shape := ⟨2, ![2, 64]⟩
abbrev S2046x64 : Shape := ⟨2, ![2046, 64]⟩
abbrev S4x64 : Shape := ⟨2, ![4, 64]⟩
abbrev S2044x64 : Shape := ⟨2, ![2044, 64]⟩
abbrev S8x64 : Shape := ⟨2, ![8, 64]⟩
abbrev S2040x64 : Shape := ⟨2, ![2040, 64]⟩
abbrev S16x64 : Shape := ⟨2, ![16, 64]⟩
abbrev S2032x64 : Shape := ⟨2, ![2032, 64]⟩
abbrev S32x64 : Shape := ⟨2, ![32, 64]⟩
abbrev S2016x64 : Shape := ⟨2, ![2016, 64]⟩
abbrev S64x64 : Shape := ⟨2, ![64, 64]⟩
abbrev S1984x64 : Shape := ⟨2, ![1984, 64]⟩
abbrev S128x64 : Shape := ⟨2, ![128, 64]⟩
abbrev S1920x64 : Shape := ⟨2, ![1920, 64]⟩
abbrev S256x64 : Shape := ⟨2, ![256, 64]⟩
abbrev S1792x64 : Shape := ⟨2, ![1792, 64]⟩
abbrev S512x64 : Shape := ⟨2, ![512, 64]⟩
abbrev S1536x64 : Shape := ⟨2, ![1536, 64]⟩
abbrev S1 : Shape := ⟨1, ![1]⟩
abbrev S1x1024x1024 : Shape := ⟨3, ![1, 1024, 1024]⟩
abbrev S512x1024 : Shape := ⟨2, ![512, 1024]⟩
abbrev S512x1 : Shape := ⟨2, ![512, 1]⟩
abbrev S512x512 : Shape := ⟨2, ![512, 512]⟩
abbrev S1x512x1024 : Shape := ⟨3, ![1, 512, 1024]⟩
abbrev S1x1 : Shape := ⟨2, ![1, 1]⟩
abbrev S1x1x64x1024 : Shape := ⟨4, ![1, 1, 64, 1024]⟩
abbrev S64x1024 : Shape := ⟨2, ![64, 1024]⟩
abbrev S1x64x1024 : Shape := ⟨3, ![1, 64, 1024]⟩
abbrev S1x8x64x1024 : Shape := ⟨4, ![1, 8, 64, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x1, .i32⟩
  | .hbm, ⟨3, _⟩ => ⟨S8x1024x1024, .bf16⟩
  | .hbm, ⟨4, _⟩ => ⟨S1024x1024, .bf16⟩
  | .hbm, ⟨5, _⟩ => ⟨S2048x1024, .f32⟩
  | .local _ .vmem, ⟨0, _⟩ => ⟨S2048x1024, .bf16⟩
  | .local _ .vmem, ⟨1, _⟩ => ⟨S1024x64, .bf16⟩
  | .local _ .vmem, ⟨2, _⟩ => ⟨S2048x1, .i32⟩
  | .local _ .vmem, ⟨3, _⟩ => ⟨S1024x1024, .bf16⟩
  | .local _ .vmem, ⟨4, _⟩ => ⟨S2048x1024, .f32⟩
  | .local _ .vmem, ⟨5, _⟩ => ⟨S8x512x1024, .bf16⟩
  | .local _ .vmem, ⟨6, _⟩ => ⟨S8x8x64x1024, .bf16⟩
  | .local _ .vmem, ⟨7, _⟩ => ⟨S2x1024x1024, .bf16⟩
  | .local _ .vmem, ⟨8, _⟩ => ⟨S2048x1024, .bf16⟩
  | .local _ .vmem, ⟨9, _⟩ => ⟨S2048x1, .i32⟩
  | _, _ => ⟨S2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => true
  | ⟨1, _⟩ => false
  | _ => false

abbrev dmaSemScoped : Fin 263 → Bool
  | ⟨i, _⟩ => dmaSemScopedAt i

abbrev sig : RefSig :=
  (ofTc nBuf bufTy 2 263 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
@[reducible] def k0_t1_loop : Scf.Loop 32 :=
  let c0_i32_98 : BitVec 32 := 0#32
  let c8_i32_99 : BitVec 32 := 8#32
  let v192 : BitVec 32 := Scalar.addi c0_i32_98 c8_i32_99
  let c1_i32_100 : BitVec 32 := 1#32
  ⟨c0_i32_98, v192, c1_i32_100⟩
@[reducible] def k0_t2_loop : Scf.Loop 32 :=
  let c0_i32_2729 : BitVec 32 := 0#32
  let c4_i32_2730 : BitVec 32 := 4#32
  let v2210 : BitVec 32 := Scalar.addi c0_i32_2729 c4_i32_2730
  let c1_i32_2731 : BitVec 32 := 1#32
  ⟨c0_i32_2729, v2210, c1_i32_2731⟩
def k0_off1 (k0_t2 : Fin k0_t2_loop.trips) : Fin 2 → Nat :=
  let c0_i32_2729 : BitVec 32 := 0#32
  let c1_i32_2731 : BitVec 32 := 1#32
  let arg18 : BitVec 32 := Scf.iv c0_i32_2729 c1_i32_2731 k0_t2
  let c512_i32 : BitVec 32 := 512#32
  let v2221 : BitVec 32 := Scalar.muli arg18 c512_i32
  let v2233 : Index := Scalar.indexCast v2221
  let c0_2743 : Index := 0#32
  ![v2233.toNat, 0]
def k0_off2 (k0_t2 : Fin k0_t2_loop.trips) : Fin 2 → Nat :=
  let c0_i32_2729 : BitVec 32 := 0#32
  let c1_i32_2731 : BitVec 32 := 1#32
  let arg18 : BitVec 32 := Scf.iv c0_i32_2729 c1_i32_2731 k0_t2
  let c512_i32 : BitVec 32 := 512#32
  let v2221 : BitVec 32 := Scalar.muli arg18 c512_i32
  let v2244 : Index := Scalar.indexCast v2221
  let c0_2745 : Index := 0#32
  ![v2244.toNat, 0]
def k0_off3 (k0_t1 : Fin k0_t1_loop.trips) : Fin 3 → Nat :=
  let c0_i32_98 : BitVec 32 := 0#32
  let c1_i32_100 : BitVec 32 := 1#32
  let arg17 : BitVec 32 := Scf.iv c0_i32_98 c1_i32_100 k0_t1
  let v2214 : Index := Scalar.indexCast arg17
  let c0_2733 : Index := 0#32
  let c0_2734 : Index := 0#32
  ![v2214.toNat, 0, 0]
def k0_cond1 (k0_t1 : Fin k0_t1_loop.trips) : BitVec 1 :=
  let c0_i32_98 : BitVec 32 := 0#32
  let c1_i32_100 : BitVec 32 := 1#32
  let arg17 : BitVec 32 := Scf.iv c0_i32_98 c1_i32_100 k0_t1
  let c0_i32_2735 : BitVec 32 := 0#32
  let v2218 : BitVec 1 := Scalar.cmpi .sgt arg17 c0_i32_2735
  let v2219 : BitVec 32 := Scalar.extui v2218
  let c0_i32_2736 : BitVec 32 := 0#32
  let v2220 : BitVec 1 := Scalar.cmpi .ne v2219 c0_i32_2736
  v2220

def k0_off4 (k0_t1 : Fin k0_t1_loop.trips) : Fin 2 → Nat :=
  let c0_i32_2745 : BitVec 32 := 0#32
  let c0_i32_98 : BitVec 32 := 0#32
  let c1_i32_100 : BitVec 32 := 1#32
  let arg17 : BitVec 32 := Scf.iv c0_i32_98 c1_i32_100 k0_t1
  ![0, arg17.toNat]
def k0_off5 (k0_t1 : Fin k0_t1_loop.trips) : Fin 4 → Nat :=
  let c0_i32_2743 : BitVec 32 := 0#32
  let c0_i32_98 : BitVec 32 := 0#32
  let c1_i32_100 : BitVec 32 := 1#32
  let arg17 : BitVec 32 := Scf.iv c0_i32_98 c1_i32_100 k0_t1
  let c0_i32_2748 : BitVec 32 := 0#32
  let c0_i32_2749 : BitVec 32 := 0#32
  ![0, arg17.toNat, 0, 0]
def k0_off6 (k0_t1 : Fin k0_t1_loop.trips) : Fin 3 → Nat :=
  let c0_i32_98 : BitVec 32 := 0#32
  let c1_i32_100 : BitVec 32 := 1#32
  let arg17 : BitVec 32 := Scf.iv c0_i32_98 c1_i32_100 k0_t1
  let c0_i32_2750 : BitVec 32 := 0#32
  let c0_i32_2751 : BitVec 32 := 0#32
  ![arg17.toNat, 0, 0]
def k0_dev8 (d0 : Dev nD) (k0_t1 : Fin k0_t1_loop.trips) : Nat :=
  let c0_i32_2747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_98 : BitVec 32 := 0#32
  let c1_i32_100 : BitVec 32 := 1#32
  let arg17 : BitVec 32 := Scf.iv c0_i32_98 c1_i32_100 k0_t1
  let v2221 : BitVec 32 := Scalar.addi v2 arg17
  let c8_i32_2737 : BitVec 32 := 8#32
  let c0_i32_2738 : BitVec 32 := 0#32
  let v2222 : BitVec 1 := Scalar.cmpi .eq c8_i32_2737 c0_i32_2738
  let c1_i32_2739 : BitVec 32 := 1#32
  let v2223 : BitVec 32 := Scalar.select v2222 c1_i32_2739 c8_i32_2737
  let v2224 : BitVec 32 := Scalar.remsi v2221 v2223
  let c0_i32_2741 : BitVec 32 := 0#32
  let v2226 : BitVec 1 := Scalar.cmpi .slt v2224 c0_i32_2741
  let c0_i32_2742 : BitVec 32 := 0#32
  let v2227 : BitVec 1 := Scalar.cmpi .slt v2223 c0_i32_2742
  let v2228 : BitVec 1 := Scalar.xori v2226 v2227
  let c0_i32_2740 : BitVec 32 := 0#32
  let v2225 : BitVec 1 := Scalar.cmpi .ne v2224 c0_i32_2740
  let v2229 : BitVec 1 := Scalar.andi v2228 v2225
  let v2230 : BitVec 32 := Scalar.addi v2224 v2223
  let v2231 : BitVec 32 := Scalar.select v2229 v2230 v2224
  let c1_i32_2746 : BitVec 32 := 1#32
  let v2232 : BitVec 32 := Scalar.muli v2231 c1_i32_2746
  let v2233 : BitVec 32 := Scalar.addi c0_i32_2747 v2232
  v2233.toNat
def k0_off7 (k0_t1 : Fin k0_t1_loop.trips) : Fin 2 → Nat :=
  let c1_i32_2760 : BitVec 32 := 1#32
  let c0_i32_98 : BitVec 32 := 0#32
  let c1_i32_100 : BitVec 32 := 1#32
  let arg17 : BitVec 32 := Scf.iv c0_i32_98 c1_i32_100 k0_t1
  ![1, arg17.toNat]
def k0_off8 (k0_t1 : Fin k0_t1_loop.trips) : Fin 4 → Nat :=
  let c1_i32_2758 : BitVec 32 := 1#32
  let c0_i32_98 : BitVec 32 := 0#32
  let c1_i32_100 : BitVec 32 := 1#32
  let arg17 : BitVec 32 := Scf.iv c0_i32_98 c1_i32_100 k0_t1
  let c0_i32_2763 : BitVec 32 := 0#32
  let c0_i32_2764 : BitVec 32 := 0#32
  ![1, arg17.toNat, 0, 0]
def k0_off9 (k0_t1 : Fin k0_t1_loop.trips) : Fin 3 → Nat :=
  let c0_i32_98 : BitVec 32 := 0#32
  let c1_i32_100 : BitVec 32 := 1#32
  let arg17 : BitVec 32 := Scf.iv c0_i32_98 c1_i32_100 k0_t1
  let c64_i32_2765 : BitVec 32 := 64#32
  let c0_i32_2766 : BitVec 32 := 0#32
  ![arg17.toNat, 64, 0]
def k0_dev9 (d0 : Dev nD) (k0_t1 : Fin k0_t1_loop.trips) : Nat :=
  let c0_i32_2762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_98 : BitVec 32 := 0#32
  let c1_i32_100 : BitVec 32 := 1#32
  let arg17 : BitVec 32 := Scf.iv c0_i32_98 c1_i32_100 k0_t1
  let v2242 : BitVec 32 := Scalar.addi v2 arg17
  let c8_i32_2752 : BitVec 32 := 8#32
  let c0_i32_2753 : BitVec 32 := 0#32
  let v2243 : BitVec 1 := Scalar.cmpi .eq c8_i32_2752 c0_i32_2753
  let c1_i32_2754 : BitVec 32 := 1#32
  let v2244 : BitVec 32 := Scalar.select v2243 c1_i32_2754 c8_i32_2752
  let v2245 : BitVec 32 := Scalar.remsi v2242 v2244
  let c0_i32_2756 : BitVec 32 := 0#32
  let v2247 : BitVec 1 := Scalar.cmpi .slt v2245 c0_i32_2756
  let c0_i32_2757 : BitVec 32 := 0#32
  let v2248 : BitVec 1 := Scalar.cmpi .slt v2244 c0_i32_2757
  let v2249 : BitVec 1 := Scalar.xori v2247 v2248
  let c0_i32_2755 : BitVec 32 := 0#32
  let v2246 : BitVec 1 := Scalar.cmpi .ne v2245 c0_i32_2755
  let v2250 : BitVec 1 := Scalar.andi v2249 v2246
  let v2251 : BitVec 32 := Scalar.addi v2245 v2244
  let v2252 : BitVec 32 := Scalar.select v2250 v2251 v2245
  let c1_i32_2761 : BitVec 32 := 1#32
  let v2253 : BitVec 32 := Scalar.muli v2252 c1_i32_2761
  let v2254 : BitVec 32 := Scalar.addi c0_i32_2762 v2253
  v2254.toNat
def k0_off10 (k0_t1 : Fin k0_t1_loop.trips) : Fin 2 → Nat :=
  let c2_i32_2775 : BitVec 32 := 2#32
  let c0_i32_98 : BitVec 32 := 0#32
  let c1_i32_100 : BitVec 32 := 1#32
  let arg17 : BitVec 32 := Scf.iv c0_i32_98 c1_i32_100 k0_t1
  ![2, arg17.toNat]
def k0_off11 (k0_t1 : Fin k0_t1_loop.trips) : Fin 4 → Nat :=
  let c2_i32_2773 : BitVec 32 := 2#32
  let c0_i32_98 : BitVec 32 := 0#32
  let c1_i32_100 : BitVec 32 := 1#32
  let arg17 : BitVec 32 := Scf.iv c0_i32_98 c1_i32_100 k0_t1
  let c0_i32_2778 : BitVec 32 := 0#32
  let c0_i32_2779 : BitVec 32 := 0#32
  ![2, arg17.toNat, 0, 0]
def k0_off12 (k0_t1 : Fin k0_t1_loop.trips) : Fin 3 → Nat :=
  let c0_i32_98 : BitVec 32 := 0#32
  let c1_i32_100 : BitVec 32 := 1#32
  let arg17 : BitVec 32 := Scf.iv c0_i32_98 c1_i32_100 k0_t1
  let c128_i32_2780 : BitVec 32 := 128#32
  let c0_i32_2781 : BitVec 32 := 0#32
  ![arg17.toNat, 128, 0]
def k0_dev10 (d0 : Dev nD) (k0_t1 : Fin k0_t1_loop.trips) : Nat :=
  let c0_i32_2777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_98 : BitVec 32 := 0#32
  let c1_i32_100 : BitVec 32 := 1#32
  let arg17 : BitVec 32 := Scf.iv c0_i32_98 c1_i32_100 k0_t1
  let v2263 : BitVec 32 := Scalar.addi v2 arg17
  let c8_i32_2767 : BitVec 32 := 8#32
  let c0_i32_2768 : BitVec 32 := 0#32
  let v2264 : BitVec 1 := Scalar.cmpi .eq c8_i32_2767 c0_i32_2768
  let c1_i32_2769 : BitVec 32 := 1#32
  let v2265 : BitVec 32 := Scalar.select v2264 c1_i32_2769 c8_i32_2767
  let v2266 : BitVec 32 := Scalar.remsi v2263 v2265
  let c0_i32_2771 : BitVec 32 := 0#32
  let v2268 : BitVec 1 := Scalar.cmpi .slt v2266 c0_i32_2771
  let c0_i32_2772 : BitVec 32 := 0#32
  let v2269 : BitVec 1 := Scalar.cmpi .slt v2265 c0_i32_2772
  let v2270 : BitVec 1 := Scalar.xori v2268 v2269
  let c0_i32_2770 : BitVec 32 := 0#32
  let v2267 : BitVec 1 := Scalar.cmpi .ne v2266 c0_i32_2770
  let v2271 : BitVec 1 := Scalar.andi v2270 v2267
  let v2272 : BitVec 32 := Scalar.addi v2266 v2265
  let v2273 : BitVec 32 := Scalar.select v2271 v2272 v2266
  let c1_i32_2776 : BitVec 32 := 1#32
  let v2274 : BitVec 32 := Scalar.muli v2273 c1_i32_2776
  let v2275 : BitVec 32 := Scalar.addi c0_i32_2777 v2274
  v2275.toNat
def k0_off13 (k0_t1 : Fin k0_t1_loop.trips) : Fin 2 → Nat :=
  let c3_i32_2790 : BitVec 32 := 3#32
  let c0_i32_98 : BitVec 32 := 0#32
  let c1_i32_100 : BitVec 32 := 1#32
  let arg17 : BitVec 32 := Scf.iv c0_i32_98 c1_i32_100 k0_t1
  ![3, arg17.toNat]
def k0_off14 (k0_t1 : Fin k0_t1_loop.trips) : Fin 4 → Nat :=
  let c3_i32_2788 : BitVec 32 := 3#32
  let c0_i32_98 : BitVec 32 := 0#32
  let c1_i32_100 : BitVec 32 := 1#32
  let arg17 : BitVec 32 := Scf.iv c0_i32_98 c1_i32_100 k0_t1
  let c0_i32_2793 : BitVec 32 := 0#32
  let c0_i32_2794 : BitVec 32 := 0#32
  ![3, arg17.toNat, 0, 0]
def k0_off15 (k0_t1 : Fin k0_t1_loop.trips) : Fin 3 → Nat :=
  let c0_i32_98 : BitVec 32 := 0#32
  let c1_i32_100 : BitVec 32 := 1#32
  let arg17 : BitVec 32 := Scf.iv c0_i32_98 c1_i32_100 k0_t1
  let c192_i32_2795 : BitVec 32 := 192#32
  let c0_i32_2796 : BitVec 32 := 0#32
  ![arg17.toNat, 192, 0]
def k0_dev11 (d0 : Dev nD) (k0_t1 : Fin k0_t1_loop.trips) : Nat :=
  let c0_i32_2792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_98 : BitVec 32 := 0#32
  let c1_i32_100 : BitVec 32 := 1#32
  let arg17 : BitVec 32 := Scf.iv c0_i32_98 c1_i32_100 k0_t1
  let v2284 : BitVec 32 := Scalar.addi v2 arg17
  let c8_i32_2782 : BitVec 32 := 8#32
  let c0_i32_2783 : BitVec 32 := 0#32
  let v2285 : BitVec 1 := Scalar.cmpi .eq c8_i32_2782 c0_i32_2783
  let c1_i32_2784 : BitVec 32 := 1#32
  let v2286 : BitVec 32 := Scalar.select v2285 c1_i32_2784 c8_i32_2782
  let v2287 : BitVec 32 := Scalar.remsi v2284 v2286
  let c0_i32_2786 : BitVec 32 := 0#32
  let v2289 : BitVec 1 := Scalar.cmpi .slt v2287 c0_i32_2786
  let c0_i32_2787 : BitVec 32 := 0#32
  let v2290 : BitVec 1 := Scalar.cmpi .slt v2286 c0_i32_2787
  let v2291 : BitVec 1 := Scalar.xori v2289 v2290
  let c0_i32_2785 : BitVec 32 := 0#32
  let v2288 : BitVec 1 := Scalar.cmpi .ne v2287 c0_i32_2785
  let v2292 : BitVec 1 := Scalar.andi v2291 v2288
  let v2293 : BitVec 32 := Scalar.addi v2287 v2286
  let v2294 : BitVec 32 := Scalar.select v2292 v2293 v2287
  let c1_i32_2791 : BitVec 32 := 1#32
  let v2295 : BitVec 32 := Scalar.muli v2294 c1_i32_2791
  let v2296 : BitVec 32 := Scalar.addi c0_i32_2792 v2295
  v2296.toNat
def k0_off16 (k0_t1 : Fin k0_t1_loop.trips) : Fin 2 → Nat :=
  let c4_i32_2805 : BitVec 32 := 4#32
  let c0_i32_98 : BitVec 32 := 0#32
  let c1_i32_100 : BitVec 32 := 1#32
  let arg17 : BitVec 32 := Scf.iv c0_i32_98 c1_i32_100 k0_t1
  ![4, arg17.toNat]
def k0_off17 (k0_t1 : Fin k0_t1_loop.trips) : Fin 4 → Nat :=
  let c4_i32_2803 : BitVec 32 := 4#32
  let c0_i32_98 : BitVec 32 := 0#32
  let c1_i32_100 : BitVec 32 := 1#32
  let arg17 : BitVec 32 := Scf.iv c0_i32_98 c1_i32_100 k0_t1
  let c0_i32_2808 : BitVec 32 := 0#32
  let c0_i32_2809 : BitVec 32 := 0#32
  ![4, arg17.toNat, 0, 0]
def k0_off18 (k0_t1 : Fin k0_t1_loop.trips) : Fin 3 → Nat :=
  let c0_i32_98 : BitVec 32 := 0#32
  let c1_i32_100 : BitVec 32 := 1#32
  let arg17 : BitVec 32 := Scf.iv c0_i32_98 c1_i32_100 k0_t1
  let c256_i32_2810 : BitVec 32 := 256#32
  let c0_i32_2811 : BitVec 32 := 0#32
  ![arg17.toNat, 256, 0]
def k0_dev12 (d0 : Dev nD) (k0_t1 : Fin k0_t1_loop.trips) : Nat :=
  let c0_i32_2807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_98 : BitVec 32 := 0#32
  let c1_i32_100 : BitVec 32 := 1#32
  let arg17 : BitVec 32 := Scf.iv c0_i32_98 c1_i32_100 k0_t1
  let v2305 : BitVec 32 := Scalar.addi v2 arg17
  let c8_i32_2797 : BitVec 32 := 8#32
  let c0_i32_2798 : BitVec 32 := 0#32
  let v2306 : BitVec 1 := Scalar.cmpi .eq c8_i32_2797 c0_i32_2798
  let c1_i32_2799 : BitVec 32 := 1#32
  let v2307 : BitVec 32 := Scalar.select v2306 c1_i32_2799 c8_i32_2797
  let v2308 : BitVec 32 := Scalar.remsi v2305 v2307
  let c0_i32_2801 : BitVec 32 := 0#32
  let v2310 : BitVec 1 := Scalar.cmpi .slt v2308 c0_i32_2801
  let c0_i32_2802 : BitVec 32 := 0#32
  let v2311 : BitVec 1 := Scalar.cmpi .slt v2307 c0_i32_2802
  let v2312 : BitVec 1 := Scalar.xori v2310 v2311
  let c0_i32_2800 : BitVec 32 := 0#32
  let v2309 : BitVec 1 := Scalar.cmpi .ne v2308 c0_i32_2800
  let v2313 : BitVec 1 := Scalar.andi v2312 v2309
  let v2314 : BitVec 32 := Scalar.addi v2308 v2307
  let v2315 : BitVec 32 := Scalar.select v2313 v2314 v2308
  let c1_i32_2806 : BitVec 32 := 1#32
  let v2316 : BitVec 32 := Scalar.muli v2315 c1_i32_2806
  let v2317 : BitVec 32 := Scalar.addi c0_i32_2807 v2316
  v2317.toNat
def k0_off19 (k0_t1 : Fin k0_t1_loop.trips) : Fin 2 → Nat :=
  let c5_i32_2820 : BitVec 32 := 5#32
  let c0_i32_98 : BitVec 32 := 0#32
  let c1_i32_100 : BitVec 32 := 1#32
  let arg17 : BitVec 32 := Scf.iv c0_i32_98 c1_i32_100 k0_t1
  ![5, arg17.toNat]
def k0_off20 (k0_t1 : Fin k0_t1_loop.trips) : Fin 4 → Nat :=
  let c5_i32_2818 : BitVec 32 := 5#32
  let c0_i32_98 : BitVec 32 := 0#32
  let c1_i32_100 : BitVec 32 := 1#32
  let arg17 : BitVec 32 := Scf.iv c0_i32_98 c1_i32_100 k0_t1
  let c0_i32_2823 : BitVec 32 := 0#32
  let c0_i32_2824 : BitVec 32 := 0#32
  ![5, arg17.toNat, 0, 0]
def k0_off21 (k0_t1 : Fin k0_t1_loop.trips) : Fin 3 → Nat :=
  let c0_i32_98 : BitVec 32 := 0#32
  let c1_i32_100 : BitVec 32 := 1#32
  let arg17 : BitVec 32 := Scf.iv c0_i32_98 c1_i32_100 k0_t1
  let c320_i32_2825 : BitVec 32 := 320#32
  let c0_i32_2826 : BitVec 32 := 0#32
  ![arg17.toNat, 320, 0]
def k0_dev13 (d0 : Dev nD) (k0_t1 : Fin k0_t1_loop.trips) : Nat :=
  let c0_i32_2822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_98 : BitVec 32 := 0#32
  let c1_i32_100 : BitVec 32 := 1#32
  let arg17 : BitVec 32 := Scf.iv c0_i32_98 c1_i32_100 k0_t1
  let v2326 : BitVec 32 := Scalar.addi v2 arg17
  let c8_i32_2812 : BitVec 32 := 8#32
  let c0_i32_2813 : BitVec 32 := 0#32
  let v2327 : BitVec 1 := Scalar.cmpi .eq c8_i32_2812 c0_i32_2813
  let c1_i32_2814 : BitVec 32 := 1#32
  let v2328 : BitVec 32 := Scalar.select v2327 c1_i32_2814 c8_i32_2812
  let v2329 : BitVec 32 := Scalar.remsi v2326 v2328
  let c0_i32_2816 : BitVec 32 := 0#32
  let v2331 : BitVec 1 := Scalar.cmpi .slt v2329 c0_i32_2816
  let c0_i32_2817 : BitVec 32 := 0#32
  let v2332 : BitVec 1 := Scalar.cmpi .slt v2328 c0_i32_2817
  let v2333 : BitVec 1 := Scalar.xori v2331 v2332
  let c0_i32_2815 : BitVec 32 := 0#32
  let v2330 : BitVec 1 := Scalar.cmpi .ne v2329 c0_i32_2815
  let v2334 : BitVec 1 := Scalar.andi v2333 v2330
  let v2335 : BitVec 32 := Scalar.addi v2329 v2328
  let v2336 : BitVec 32 := Scalar.select v2334 v2335 v2329
  let c1_i32_2821 : BitVec 32 := 1#32
  let v2337 : BitVec 32 := Scalar.muli v2336 c1_i32_2821
  let v2338 : BitVec 32 := Scalar.addi c0_i32_2822 v2337
  v2338.toNat
def k0_off22 (k0_t1 : Fin k0_t1_loop.trips) : Fin 2 → Nat :=
  let c6_i32_2835 : BitVec 32 := 6#32
  let c0_i32_98 : BitVec 32 := 0#32
  let c1_i32_100 : BitVec 32 := 1#32
  let arg17 : BitVec 32 := Scf.iv c0_i32_98 c1_i32_100 k0_t1
  ![6, arg17.toNat]
def k0_off23 (k0_t1 : Fin k0_t1_loop.trips) : Fin 4 → Nat :=
  let c6_i32_2833 : BitVec 32 := 6#32
  let c0_i32_98 : BitVec 32 := 0#32
  let c1_i32_100 : BitVec 32 := 1#32
  let arg17 : BitVec 32 := Scf.iv c0_i32_98 c1_i32_100 k0_t1
  let c0_i32_2838 : BitVec 32 := 0#32
  let c0_i32_2839 : BitVec 32 := 0#32
  ![6, arg17.toNat, 0, 0]
def k0_off24 (k0_t1 : Fin k0_t1_loop.trips) : Fin 3 → Nat :=
  let c0_i32_98 : BitVec 32 := 0#32
  let c1_i32_100 : BitVec 32 := 1#32
  let arg17 : BitVec 32 := Scf.iv c0_i32_98 c1_i32_100 k0_t1
  let c384_i32_2840 : BitVec 32 := 384#32
  let c0_i32_2841 : BitVec 32 := 0#32
  ![arg17.toNat, 384, 0]
def k0_dev14 (d0 : Dev nD) (k0_t1 : Fin k0_t1_loop.trips) : Nat :=
  let c0_i32_2837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_98 : BitVec 32 := 0#32
  let c1_i32_100 : BitVec 32 := 1#32
  let arg17 : BitVec 32 := Scf.iv c0_i32_98 c1_i32_100 k0_t1
  let v2347 : BitVec 32 := Scalar.addi v2 arg17
  let c8_i32_2827 : BitVec 32 := 8#32
  let c0_i32_2828 : BitVec 32 := 0#32
  let v2348 : BitVec 1 := Scalar.cmpi .eq c8_i32_2827 c0_i32_2828
  let c1_i32_2829 : BitVec 32 := 1#32
  let v2349 : BitVec 32 := Scalar.select v2348 c1_i32_2829 c8_i32_2827
  let v2350 : BitVec 32 := Scalar.remsi v2347 v2349
  let c0_i32_2831 : BitVec 32 := 0#32
  let v2352 : BitVec 1 := Scalar.cmpi .slt v2350 c0_i32_2831
  let c0_i32_2832 : BitVec 32 := 0#32
  let v2353 : BitVec 1 := Scalar.cmpi .slt v2349 c0_i32_2832
  let v2354 : BitVec 1 := Scalar.xori v2352 v2353
  let c0_i32_2830 : BitVec 32 := 0#32
  let v2351 : BitVec 1 := Scalar.cmpi .ne v2350 c0_i32_2830
  let v2355 : BitVec 1 := Scalar.andi v2354 v2351
  let v2356 : BitVec 32 := Scalar.addi v2350 v2349
  let v2357 : BitVec 32 := Scalar.select v2355 v2356 v2350
  let c1_i32_2836 : BitVec 32 := 1#32
  let v2358 : BitVec 32 := Scalar.muli v2357 c1_i32_2836
  let v2359 : BitVec 32 := Scalar.addi c0_i32_2837 v2358
  v2359.toNat
def k0_off25 (k0_t1 : Fin k0_t1_loop.trips) : Fin 2 → Nat :=
  let c7_i32_2850 : BitVec 32 := 7#32
  let c0_i32_98 : BitVec 32 := 0#32
  let c1_i32_100 : BitVec 32 := 1#32
  let arg17 : BitVec 32 := Scf.iv c0_i32_98 c1_i32_100 k0_t1
  ![7, arg17.toNat]
def k0_off26 (k0_t1 : Fin k0_t1_loop.trips) : Fin 4 → Nat :=
  let c7_i32_2848 : BitVec 32 := 7#32
  let c0_i32_98 : BitVec 32 := 0#32
  let c1_i32_100 : BitVec 32 := 1#32
  let arg17 : BitVec 32 := Scf.iv c0_i32_98 c1_i32_100 k0_t1
  let c0_i32_2853 : BitVec 32 := 0#32
  let c0_i32_2854 : BitVec 32 := 0#32
  ![7, arg17.toNat, 0, 0]
def k0_off27 (k0_t1 : Fin k0_t1_loop.trips) : Fin 3 → Nat :=
  let c0_i32_98 : BitVec 32 := 0#32
  let c1_i32_100 : BitVec 32 := 1#32
  let arg17 : BitVec 32 := Scf.iv c0_i32_98 c1_i32_100 k0_t1
  let c448_i32_2855 : BitVec 32 := 448#32
  let c0_i32_2856 : BitVec 32 := 0#32
  ![arg17.toNat, 448, 0]
def k0_dev15 (d0 : Dev nD) (k0_t1 : Fin k0_t1_loop.trips) : Nat :=
  let c0_i32_2852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_98 : BitVec 32 := 0#32
  let c1_i32_100 : BitVec 32 := 1#32
  let arg17 : BitVec 32 := Scf.iv c0_i32_98 c1_i32_100 k0_t1
  let v2368 : BitVec 32 := Scalar.addi v2 arg17
  let c8_i32_2842 : BitVec 32 := 8#32
  let c0_i32_2843 : BitVec 32 := 0#32
  let v2369 : BitVec 1 := Scalar.cmpi .eq c8_i32_2842 c0_i32_2843
  let c1_i32_2844 : BitVec 32 := 1#32
  let v2370 : BitVec 32 := Scalar.select v2369 c1_i32_2844 c8_i32_2842
  let v2371 : BitVec 32 := Scalar.remsi v2368 v2370
  let c0_i32_2846 : BitVec 32 := 0#32
  let v2373 : BitVec 1 := Scalar.cmpi .slt v2371 c0_i32_2846
  let c0_i32_2847 : BitVec 32 := 0#32
  let v2374 : BitVec 1 := Scalar.cmpi .slt v2370 c0_i32_2847
  let v2375 : BitVec 1 := Scalar.xori v2373 v2374
  let c0_i32_2845 : BitVec 32 := 0#32
  let v2372 : BitVec 1 := Scalar.cmpi .ne v2371 c0_i32_2845
  let v2376 : BitVec 1 := Scalar.andi v2375 v2372
  let v2377 : BitVec 32 := Scalar.addi v2371 v2370
  let v2378 : BitVec 32 := Scalar.select v2376 v2377 v2371
  let c1_i32_2851 : BitVec 32 := 1#32
  let v2379 : BitVec 32 := Scalar.muli v2378 c1_i32_2851
  let v2380 : BitVec 32 := Scalar.addi c0_i32_2852 v2379
  v2380.toNat
@[reducible] def k0_t3_loop : Scf.Loop 32 :=
  let c0_i32_130 : BitVec 32 := 0#32
  let c4_i32_131 : BitVec 32 := 4#32
  let v227 : BitVec 32 := Scalar.addi c0_i32_130 c4_i32_131
  let c1_i32_132 : BitVec 32 := 1#32
  ⟨c0_i32_130, v227, c1_i32_132⟩
def k0_off28 (k0_t3 : Fin k0_t3_loop.trips) : Fin 2 → Nat :=
  let c0_i32_130 : BitVec 32 := 0#32
  let c1_i32_132 : BitVec 32 := 1#32
  let arg17 : BitVec 32 := Scf.iv c0_i32_130 c1_i32_132 k0_t3
  let c512_i32 : BitVec 32 := 512#32
  let v2209 : BitVec 32 := Scalar.muli arg17 c512_i32
  let v2210 : Index := Scalar.indexCast v2209
  let c0_2728 : Index := 0#32
  ![v2210.toNat, 0]
@[reducible] def k0_t4_loop : Scf.Loop 32 :=
  let c0_i32_800 : BitVec 32 := 0#32
  let c8_i32_801 : BitVec 32 := 8#32
  let v564 : BitVec 32 := Scalar.addi c0_i32_800 c8_i32_801
  let c1_i32_802 : BitVec 32 := 1#32
  ⟨c0_i32_800, v564, c1_i32_802⟩
def k0_off29 (k0_t4 : Fin k0_t4_loop.trips) : Fin 2 → Nat :=
  let c0_i32_800 : BitVec 32 := 0#32
  let c1_i32_802 : BitVec 32 := 1#32
  let arg17 : BitVec 32 := Scf.iv c0_i32_800 c1_i32_802 k0_t4
  let c1_i32_2730 : BitVec 32 := 1#32
  ![arg17.toNat, 1]
def k0_off30 (k0_t4 : Fin k0_t4_loop.trips) : Fin 4 → Nat :=
  let c0_i32_800 : BitVec 32 := 0#32
  let c1_i32_802 : BitVec 32 := 1#32
  let arg17 : BitVec 32 := Scf.iv c0_i32_800 c1_i32_802 k0_t4
  let c1_i32_2729 : BitVec 32 := 1#32
  let c0_i32_2734 : BitVec 32 := 0#32
  let c0_i32_2735 : BitVec 32 := 0#32
  ![arg17.toNat, 1, 0, 0]
def k0_off31 (k0_t4 : Fin k0_t4_loop.trips) : Fin 2 → Nat :=
  let c0_i32_800 : BitVec 32 := 0#32
  let c1_i32_802 : BitVec 32 := 1#32
  let arg17 : BitVec 32 := Scf.iv c0_i32_800 c1_i32_802 k0_t4
  let c2_i32_2740 : BitVec 32 := 2#32
  ![arg17.toNat, 2]
def k0_off32 (k0_t4 : Fin k0_t4_loop.trips) : Fin 4 → Nat :=
  let c0_i32_800 : BitVec 32 := 0#32
  let c1_i32_802 : BitVec 32 := 1#32
  let arg17 : BitVec 32 := Scf.iv c0_i32_800 c1_i32_802 k0_t4
  let c2_i32_2739 : BitVec 32 := 2#32
  let c0_i32_2744 : BitVec 32 := 0#32
  let c0_i32_2745 : BitVec 32 := 0#32
  ![arg17.toNat, 2, 0, 0]
def k0_off33 (k0_t4 : Fin k0_t4_loop.trips) : Fin 2 → Nat :=
  let c0_i32_800 : BitVec 32 := 0#32
  let c1_i32_802 : BitVec 32 := 1#32
  let arg17 : BitVec 32 := Scf.iv c0_i32_800 c1_i32_802 k0_t4
  let c3_i32_2750 : BitVec 32 := 3#32
  ![arg17.toNat, 3]
def k0_off34 (k0_t4 : Fin k0_t4_loop.trips) : Fin 4 → Nat :=
  let c0_i32_800 : BitVec 32 := 0#32
  let c1_i32_802 : BitVec 32 := 1#32
  let arg17 : BitVec 32 := Scf.iv c0_i32_800 c1_i32_802 k0_t4
  let c3_i32_2749 : BitVec 32 := 3#32
  let c0_i32_2754 : BitVec 32 := 0#32
  let c0_i32_2755 : BitVec 32 := 0#32
  ![arg17.toNat, 3, 0, 0]
def k0_off35 (k0_t4 : Fin k0_t4_loop.trips) : Fin 2 → Nat :=
  let c0_i32_800 : BitVec 32 := 0#32
  let c1_i32_802 : BitVec 32 := 1#32
  let arg17 : BitVec 32 := Scf.iv c0_i32_800 c1_i32_802 k0_t4
  let c4_i32_2760 : BitVec 32 := 4#32
  ![arg17.toNat, 4]
def k0_off36 (k0_t4 : Fin k0_t4_loop.trips) : Fin 4 → Nat :=
  let c0_i32_800 : BitVec 32 := 0#32
  let c1_i32_802 : BitVec 32 := 1#32
  let arg17 : BitVec 32 := Scf.iv c0_i32_800 c1_i32_802 k0_t4
  let c4_i32_2759 : BitVec 32 := 4#32
  let c0_i32_2764 : BitVec 32 := 0#32
  let c0_i32_2765 : BitVec 32 := 0#32
  ![arg17.toNat, 4, 0, 0]
def k0_off37 (k0_t4 : Fin k0_t4_loop.trips) : Fin 2 → Nat :=
  let c0_i32_800 : BitVec 32 := 0#32
  let c1_i32_802 : BitVec 32 := 1#32
  let arg17 : BitVec 32 := Scf.iv c0_i32_800 c1_i32_802 k0_t4
  let c5_i32_2770 : BitVec 32 := 5#32
  ![arg17.toNat, 5]
def k0_off38 (k0_t4 : Fin k0_t4_loop.trips) : Fin 4 → Nat :=
  let c0_i32_800 : BitVec 32 := 0#32
  let c1_i32_802 : BitVec 32 := 1#32
  let arg17 : BitVec 32 := Scf.iv c0_i32_800 c1_i32_802 k0_t4
  let c5_i32_2769 : BitVec 32 := 5#32
  let c0_i32_2774 : BitVec 32 := 0#32
  let c0_i32_2775 : BitVec 32 := 0#32
  ![arg17.toNat, 5, 0, 0]
def k0_off39 (k0_t4 : Fin k0_t4_loop.trips) : Fin 2 → Nat :=
  let c0_i32_800 : BitVec 32 := 0#32
  let c1_i32_802 : BitVec 32 := 1#32
  let arg17 : BitVec 32 := Scf.iv c0_i32_800 c1_i32_802 k0_t4
  let c6_i32_2780 : BitVec 32 := 6#32
  ![arg17.toNat, 6]
def k0_off40 (k0_t4 : Fin k0_t4_loop.trips) : Fin 4 → Nat :=
  let c0_i32_800 : BitVec 32 := 0#32
  let c1_i32_802 : BitVec 32 := 1#32
  let arg17 : BitVec 32 := Scf.iv c0_i32_800 c1_i32_802 k0_t4
  let c6_i32_2779 : BitVec 32 := 6#32
  let c0_i32_2784 : BitVec 32 := 0#32
  let c0_i32_2785 : BitVec 32 := 0#32
  ![arg17.toNat, 6, 0, 0]
def k0_off41 (k0_t4 : Fin k0_t4_loop.trips) : Fin 2 → Nat :=
  let c0_i32_800 : BitVec 32 := 0#32
  let c1_i32_802 : BitVec 32 := 1#32
  let arg17 : BitVec 32 := Scf.iv c0_i32_800 c1_i32_802 k0_t4
  let c7_i32_2790 : BitVec 32 := 7#32
  ![arg17.toNat, 7]
def k0_off42 (k0_t4 : Fin k0_t4_loop.trips) : Fin 4 → Nat :=
  let c0_i32_800 : BitVec 32 := 0#32
  let c1_i32_802 : BitVec 32 := 1#32
  let arg17 : BitVec 32 := Scf.iv c0_i32_800 c1_i32_802 k0_t4
  let c7_i32_2789 : BitVec 32 := 7#32
  let c0_i32_2794 : BitVec 32 := 0#32
  let c0_i32_2795 : BitVec 32 := 0#32
  ![arg17.toNat, 7, 0, 0]
def k0_off43 (k0_t4 : Fin k0_t4_loop.trips) : Fin 1 → Nat :=
  let c0_i32_800 : BitVec 32 := 0#32
  let c1_i32_802 : BitVec 32 := 1#32
  let arg17 : BitVec 32 := Scf.iv c0_i32_800 c1_i32_802 k0_t4
  let c2_i32_2798 : BitVec 32 := 2#32
  let v2265 : BitVec 32 := Scalar.remsi arg17 c2_i32_2798
  ![v2265.toNat]
def k0_off44 (k0_t4 : Fin k0_t4_loop.trips) : Fin 3 → Nat :=
  let c0_i32_800 : BitVec 32 := 0#32
  let c1_i32_802 : BitVec 32 := 1#32
  let arg17 : BitVec 32 := Scf.iv c0_i32_800 c1_i32_802 k0_t4
  let c2_i32_2798 : BitVec 32 := 2#32
  let v2265 : BitVec 32 := Scalar.remsi arg17 c2_i32_2798
  let c0_i32_2799 : BitVec 32 := 0#32
  let c0_i32_2800 : BitVec 32 := 0#32
  ![v2265.toNat, 0, 0]
def k0_off45 (k0_t4 : Fin k0_t4_loop.trips) : Fin 3 → Nat :=
  let c0_i32_800 : BitVec 32 := 0#32
  let c1_i32_802 : BitVec 32 := 1#32
  let arg17 : BitVec 32 := Scf.iv c0_i32_800 c1_i32_802 k0_t4
  let c0_i32_2801 : BitVec 32 := 0#32
  let c0_i32_2802 : BitVec 32 := 0#32
  ![arg17.toNat, 0, 0]
def k0_cond2 (k0_t4 : Fin k0_t4_loop.trips) : BitVec 1 :=
  let c0_i32_800 : BitVec 32 := 0#32
  let c1_i32_802 : BitVec 32 := 1#32
  let arg17 : BitVec 32 := Scf.iv c0_i32_800 c1_i32_802 k0_t4
  let c1_i32_2803 : BitVec 32 := 1#32
  let v2272 : BitVec 32 := Scalar.addi arg17 c1_i32_2803
  let c8_i32_2804 : BitVec 32 := 8#32
  let v2273 : BitVec 1 := Scalar.cmpi .slt v2272 c8_i32_2804
  let v2274 : BitVec 32 := Scalar.extui v2273
  let c0_i32_2805 : BitVec 32 := 0#32
  let v2275 : BitVec 1 := Scalar.cmpi .ne v2274 c0_i32_2805
  v2275

def k0_off46 (k0_t4 : Fin k0_t4_loop.trips) : Fin 1 → Nat :=
  let c0_i32_800 : BitVec 32 := 0#32
  let c1_i32_802 : BitVec 32 := 1#32
  let arg17 : BitVec 32 := Scf.iv c0_i32_800 c1_i32_802 k0_t4
  let c1_i32_2814 : BitVec 32 := 1#32
  let v2289 : BitVec 32 := Scalar.addi arg17 c1_i32_2814
  let c2_i32_2815 : BitVec 32 := 2#32
  let v2290 : BitVec 32 := Scalar.remsi v2289 c2_i32_2815
  ![v2290.toNat]
def k0_off47 (k0_t4 : Fin k0_t4_loop.trips) : Fin 3 → Nat :=
  let c0_i32_800 : BitVec 32 := 0#32
  let c1_i32_802 : BitVec 32 := 1#32
  let arg17 : BitVec 32 := Scf.iv c0_i32_800 c1_i32_802 k0_t4
  let c1_i32_2814 : BitVec 32 := 1#32
  let v2289 : BitVec 32 := Scalar.addi arg17 c1_i32_2814
  let c2_i32_2815 : BitVec 32 := 2#32
  let v2290 : BitVec 32 := Scalar.remsi v2289 c2_i32_2815
  let c0_i32_2817 : BitVec 32 := 0#32
  let c0_i32_2818 : BitVec 32 := 0#32
  ![v2290.toNat, 0, 0]
def k0_off48 (k0_t4 : Fin k0_t4_loop.trips) : Fin 3 → Nat :=
  let c0_i32_800 : BitVec 32 := 0#32
  let c1_i32_802 : BitVec 32 := 1#32
  let arg17 : BitVec 32 := Scf.iv c0_i32_800 c1_i32_802 k0_t4
  let c1_i32_2816 : BitVec 32 := 1#32
  let v2291 : BitVec 32 := Scalar.addi arg17 c1_i32_2816
  let c0_i32_2819 : BitVec 32 := 0#32
  let c0_i32_2820 : BitVec 32 := 0#32
  ![v2291.toNat, 0, 0]
def k0_off49 (k0_t4 : Fin k0_t4_loop.trips) : Fin 4 → Nat :=
  let c0_i32_800 : BitVec 32 := 0#32
  let c1_i32_802 : BitVec 32 := 1#32
  let arg17 : BitVec 32 := Scf.iv c0_i32_800 c1_i32_802 k0_t4
  let v2276 : Index := Scalar.indexCast arg17
  let c0_2806 : Index := 0#32
  let c0_2807 : Index := 0#32
  let c0_2808 : Index := 0#32
  ![v2276.toNat, 0, 0, 0]
def k0_off50 (k0_t4 : Fin k0_t4_loop.trips) : Fin 3 → Nat :=
  let c0_i32_800 : BitVec 32 := 0#32
  let c1_i32_802 : BitVec 32 := 1#32
  let arg17 : BitVec 32 := Scf.iv c0_i32_800 c1_i32_802 k0_t4
  let c2_i32_2798 : BitVec 32 := 2#32
  let v2265 : BitVec 32 := Scalar.remsi arg17 c2_i32_2798
  let v2279 : Index := Scalar.indexCast v2265
  let c0_2809 : Index := 0#32
  let c0_2810 : Index := 0#32
  ![v2279.toNat, 0, 0]
def k0_off51 (k0_t4 : Fin k0_t4_loop.trips) : Fin 3 → Nat :=
  let c0_i32_800 : BitVec 32 := 0#32
  let c1_i32_802 : BitVec 32 := 1#32
  let arg17 : BitVec 32 := Scf.iv c0_i32_800 c1_i32_802 k0_t4
  let v2285 : Index := Scalar.indexCast arg17
  let c0_2812 : Index := 0#32
  let c0_2813 : Index := 0#32
  ![v2285.toNat, 0, 0]
def k0_dev16 (d0 : Dev nD) : Nat :=
  let c0_i32_869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_860 : BitVec 32 := 1#32
  let v605 : BitVec 32 := Scalar.addi v2 c1_i32_860
  let c8_i32_861 : BitVec 32 := 8#32
  let c0_i32_862 : BitVec 32 := 0#32
  let v606 : BitVec 1 := Scalar.cmpi .eq c8_i32_861 c0_i32_862
  let c1_i32_863 : BitVec 32 := 1#32
  let v607 : BitVec 32 := Scalar.select v606 c1_i32_863 c8_i32_861
  let v608 : BitVec 32 := Scalar.remsi v605 v607
  let c0_i32_865 : BitVec 32 := 0#32
  let v610 : BitVec 1 := Scalar.cmpi .slt v608 c0_i32_865
  let c0_i32_866 : BitVec 32 := 0#32
  let v611 : BitVec 1 := Scalar.cmpi .slt v607 c0_i32_866
  let v612 : BitVec 1 := Scalar.xori v610 v611
  let c0_i32_864 : BitVec 32 := 0#32
  let v609 : BitVec 1 := Scalar.cmpi .ne v608 c0_i32_864
  let v613 : BitVec 1 := Scalar.andi v612 v609
  let v614 : BitVec 32 := Scalar.addi v608 v607
  let v615 : BitVec 32 := Scalar.select v613 v614 v608
  let c1_i32_868 : BitVec 32 := 1#32
  let v616 : BitVec 32 := Scalar.muli v615 c1_i32_868
  let v617 : BitVec 32 := Scalar.addi c0_i32_869 v616
  v617.toNat
def k0_dev17 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_870 : BitVec 32 := 2#32
  let v618 : BitVec 32 := Scalar.addi v2 c2_i32_870
  let c8_i32_871 : BitVec 32 := 8#32
  let c0_i32_872 : BitVec 32 := 0#32
  let v619 : BitVec 1 := Scalar.cmpi .eq c8_i32_871 c0_i32_872
  let c1_i32_873 : BitVec 32 := 1#32
  let v620 : BitVec 32 := Scalar.select v619 c1_i32_873 c8_i32_871
  let v621 : BitVec 32 := Scalar.remsi v618 v620
  let c0_i32_875 : BitVec 32 := 0#32
  let v623 : BitVec 1 := Scalar.cmpi .slt v621 c0_i32_875
  let c0_i32_876 : BitVec 32 := 0#32
  let v624 : BitVec 1 := Scalar.cmpi .slt v620 c0_i32_876
  let v625 : BitVec 1 := Scalar.xori v623 v624
  let c0_i32_874 : BitVec 32 := 0#32
  let v622 : BitVec 1 := Scalar.cmpi .ne v621 c0_i32_874
  let v626 : BitVec 1 := Scalar.andi v625 v622
  let v627 : BitVec 32 := Scalar.addi v621 v620
  let v628 : BitVec 32 := Scalar.select v626 v627 v621
  let c1_i32_878 : BitVec 32 := 1#32
  let v629 : BitVec 32 := Scalar.muli v628 c1_i32_878
  let v630 : BitVec 32 := Scalar.addi c0_i32_879 v629
  v630.toNat
def k0_dev18 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_880 : BitVec 32 := 3#32
  let v631 : BitVec 32 := Scalar.addi v2 c3_i32_880
  let c8_i32_881 : BitVec 32 := 8#32
  let c0_i32_882 : BitVec 32 := 0#32
  let v632 : BitVec 1 := Scalar.cmpi .eq c8_i32_881 c0_i32_882
  let c1_i32_883 : BitVec 32 := 1#32
  let v633 : BitVec 32 := Scalar.select v632 c1_i32_883 c8_i32_881
  let v634 : BitVec 32 := Scalar.remsi v631 v633
  let c0_i32_885 : BitVec 32 := 0#32
  let v636 : BitVec 1 := Scalar.cmpi .slt v634 c0_i32_885
  let c0_i32_886 : BitVec 32 := 0#32
  let v637 : BitVec 1 := Scalar.cmpi .slt v633 c0_i32_886
  let v638 : BitVec 1 := Scalar.xori v636 v637
  let c0_i32_884 : BitVec 32 := 0#32
  let v635 : BitVec 1 := Scalar.cmpi .ne v634 c0_i32_884
  let v639 : BitVec 1 := Scalar.andi v638 v635
  let v640 : BitVec 32 := Scalar.addi v634 v633
  let v641 : BitVec 32 := Scalar.select v639 v640 v634
  let c1_i32_888 : BitVec 32 := 1#32
  let v642 : BitVec 32 := Scalar.muli v641 c1_i32_888
  let v643 : BitVec 32 := Scalar.addi c0_i32_889 v642
  v643.toNat
def k0_dev19 (d0 : Dev nD) : Nat :=
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_890 : BitVec 32 := 4#32
  let v644 : BitVec 32 := Scalar.addi v2 c4_i32_890
  let c8_i32_891 : BitVec 32 := 8#32
  let c0_i32_892 : BitVec 32 := 0#32
  let v645 : BitVec 1 := Scalar.cmpi .eq c8_i32_891 c0_i32_892
  let c1_i32_893 : BitVec 32 := 1#32
  let v646 : BitVec 32 := Scalar.select v645 c1_i32_893 c8_i32_891
  let v647 : BitVec 32 := Scalar.remsi v644 v646
  let c0_i32_895 : BitVec 32 := 0#32
  let v649 : BitVec 1 := Scalar.cmpi .slt v647 c0_i32_895
  let c0_i32_896 : BitVec 32 := 0#32
  let v650 : BitVec 1 := Scalar.cmpi .slt v646 c0_i32_896
  let v651 : BitVec 1 := Scalar.xori v649 v650
  let c0_i32_894 : BitVec 32 := 0#32
  let v648 : BitVec 1 := Scalar.cmpi .ne v647 c0_i32_894
  let v652 : BitVec 1 := Scalar.andi v651 v648
  let v653 : BitVec 32 := Scalar.addi v647 v646
  let v654 : BitVec 32 := Scalar.select v652 v653 v647
  let c1_i32_898 : BitVec 32 := 1#32
  let v655 : BitVec 32 := Scalar.muli v654 c1_i32_898
  let v656 : BitVec 32 := Scalar.addi c0_i32_899 v655
  v656.toNat
def k0_dev20 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_900 : BitVec 32 := 5#32
  let v657 : BitVec 32 := Scalar.addi v2 c5_i32_900
  let c8_i32_901 : BitVec 32 := 8#32
  let c0_i32_902 : BitVec 32 := 0#32
  let v658 : BitVec 1 := Scalar.cmpi .eq c8_i32_901 c0_i32_902
  let c1_i32_903 : BitVec 32 := 1#32
  let v659 : BitVec 32 := Scalar.select v658 c1_i32_903 c8_i32_901
  let v660 : BitVec 32 := Scalar.remsi v657 v659
  let c0_i32_905 : BitVec 32 := 0#32
  let v662 : BitVec 1 := Scalar.cmpi .slt v660 c0_i32_905
  let c0_i32_906 : BitVec 32 := 0#32
  let v663 : BitVec 1 := Scalar.cmpi .slt v659 c0_i32_906
  let v664 : BitVec 1 := Scalar.xori v662 v663
  let c0_i32_904 : BitVec 32 := 0#32
  let v661 : BitVec 1 := Scalar.cmpi .ne v660 c0_i32_904
  let v665 : BitVec 1 := Scalar.andi v664 v661
  let v666 : BitVec 32 := Scalar.addi v660 v659
  let v667 : BitVec 32 := Scalar.select v665 v666 v660
  let c1_i32_908 : BitVec 32 := 1#32
  let v668 : BitVec 32 := Scalar.muli v667 c1_i32_908
  let v669 : BitVec 32 := Scalar.addi c0_i32_909 v668
  v669.toNat
def k0_dev21 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_910 : BitVec 32 := 6#32
  let v670 : BitVec 32 := Scalar.addi v2 c6_i32_910
  let c8_i32_911 : BitVec 32 := 8#32
  let c0_i32_912 : BitVec 32 := 0#32
  let v671 : BitVec 1 := Scalar.cmpi .eq c8_i32_911 c0_i32_912
  let c1_i32_913 : BitVec 32 := 1#32
  let v672 : BitVec 32 := Scalar.select v671 c1_i32_913 c8_i32_911
  let v673 : BitVec 32 := Scalar.remsi v670 v672
  let c0_i32_915 : BitVec 32 := 0#32
  let v675 : BitVec 1 := Scalar.cmpi .slt v673 c0_i32_915
  let c0_i32_916 : BitVec 32 := 0#32
  let v676 : BitVec 1 := Scalar.cmpi .slt v672 c0_i32_916
  let v677 : BitVec 1 := Scalar.xori v675 v676
  let c0_i32_914 : BitVec 32 := 0#32
  let v674 : BitVec 1 := Scalar.cmpi .ne v673 c0_i32_914
  let v678 : BitVec 1 := Scalar.andi v677 v674
  let v679 : BitVec 32 := Scalar.addi v673 v672
  let v680 : BitVec 32 := Scalar.select v678 v679 v673
  let c1_i32_918 : BitVec 32 := 1#32
  let v681 : BitVec 32 := Scalar.muli v680 c1_i32_918
  let v682 : BitVec 32 := Scalar.addi c0_i32_919 v681
  v682.toNat
def k0_dev22 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_920 : BitVec 32 := 7#32
  let v683 : BitVec 32 := Scalar.addi v2 c7_i32_920
  let c8_i32_921 : BitVec 32 := 8#32
  let c0_i32_922 : BitVec 32 := 0#32
  let v684 : BitVec 1 := Scalar.cmpi .eq c8_i32_921 c0_i32_922
  let c1_i32_923 : BitVec 32 := 1#32
  let v685 : BitVec 32 := Scalar.select v684 c1_i32_923 c8_i32_921
  let v686 : BitVec 32 := Scalar.remsi v683 v685
  let c0_i32_925 : BitVec 32 := 0#32
  let v688 : BitVec 1 := Scalar.cmpi .slt v686 c0_i32_925
  let c0_i32_926 : BitVec 32 := 0#32
  let v689 : BitVec 1 := Scalar.cmpi .slt v685 c0_i32_926
  let v690 : BitVec 1 := Scalar.xori v688 v689
  let c0_i32_924 : BitVec 32 := 0#32
  let v687 : BitVec 1 := Scalar.cmpi .ne v686 c0_i32_924
  let v691 : BitVec 1 := Scalar.andi v690 v687
  let v692 : BitVec 32 := Scalar.addi v686 v685
  let v693 : BitVec 32 := Scalar.select v691 v692 v686
  let c1_i32_928 : BitVec 32 := 1#32
  let v694 : BitVec 32 := Scalar.muli v693 c1_i32_928
  let v695 : BitVec 32 := Scalar.addi c0_i32_929 v694
  v695.toNat
def k0_dev23 (d0 : Dev nD) : Nat :=
  let c0_i32_947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_932 : BitVec 32 := 1#32
  let v696 : BitVec 32 := Scalar.subi v2 c1_i32_932
  let c8_i32_933 : BitVec 32 := 8#32
  let c0_i32_934 : BitVec 32 := 0#32
  let v697 : BitVec 1 := Scalar.cmpi .eq c8_i32_933 c0_i32_934
  let c1_i32_935 : BitVec 32 := 1#32
  let v698 : BitVec 32 := Scalar.select v697 c1_i32_935 c8_i32_933
  let v699 : BitVec 32 := Scalar.remsi v696 v698
  let c0_i32_937 : BitVec 32 := 0#32
  let v701 : BitVec 1 := Scalar.cmpi .slt v699 c0_i32_937
  let c0_i32_938 : BitVec 32 := 0#32
  let v702 : BitVec 1 := Scalar.cmpi .slt v698 c0_i32_938
  let v703 : BitVec 1 := Scalar.xori v701 v702
  let c0_i32_936 : BitVec 32 := 0#32
  let v700 : BitVec 1 := Scalar.cmpi .ne v699 c0_i32_936
  let v704 : BitVec 1 := Scalar.andi v703 v700
  let v705 : BitVec 32 := Scalar.addi v699 v698
  let v706 : BitVec 32 := Scalar.select v704 v705 v699
  let c1_i32_946 : BitVec 32 := 1#32
  let v707 : BitVec 32 := Scalar.muli v706 c1_i32_946
  let v708 : BitVec 32 := Scalar.addi c0_i32_947 v707
  v708.toNat
def k0_dev24 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_952 : BitVec 32 := 1#32
  let v717 : BitVec 32 := Scalar.subi v2 c1_i32_952
  let c8_i32_953 : BitVec 32 := 8#32
  let c0_i32_954 : BitVec 32 := 0#32
  let v718 : BitVec 1 := Scalar.cmpi .eq c8_i32_953 c0_i32_954
  let c1_i32_955 : BitVec 32 := 1#32
  let v719 : BitVec 32 := Scalar.select v718 c1_i32_955 c8_i32_953
  let v720 : BitVec 32 := Scalar.remsi v717 v719
  let c0_i32_957 : BitVec 32 := 0#32
  let v722 : BitVec 1 := Scalar.cmpi .slt v720 c0_i32_957
  let c0_i32_958 : BitVec 32 := 0#32
  let v723 : BitVec 1 := Scalar.cmpi .slt v719 c0_i32_958
  let v724 : BitVec 1 := Scalar.xori v722 v723
  let c0_i32_956 : BitVec 32 := 0#32
  let v721 : BitVec 1 := Scalar.cmpi .ne v720 c0_i32_956
  let v725 : BitVec 1 := Scalar.andi v724 v721
  let v726 : BitVec 32 := Scalar.addi v720 v719
  let v727 : BitVec 32 := Scalar.select v725 v726 v720
  let c1_i32_966 : BitVec 32 := 1#32
  let v728 : BitVec 32 := Scalar.muli v727 c1_i32_966
  let v729 : BitVec 32 := Scalar.addi c0_i32_967 v728
  v729.toNat
def k0_dev25 (d0 : Dev nD) : Nat :=
  let c0_i32_987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_972 : BitVec 32 := 1#32
  let v738 : BitVec 32 := Scalar.subi v2 c1_i32_972
  let c8_i32_973 : BitVec 32 := 8#32
  let c0_i32_974 : BitVec 32 := 0#32
  let v739 : BitVec 1 := Scalar.cmpi .eq c8_i32_973 c0_i32_974
  let c1_i32_975 : BitVec 32 := 1#32
  let v740 : BitVec 32 := Scalar.select v739 c1_i32_975 c8_i32_973
  let v741 : BitVec 32 := Scalar.remsi v738 v740
  let c0_i32_977 : BitVec 32 := 0#32
  let v743 : BitVec 1 := Scalar.cmpi .slt v741 c0_i32_977
  let c0_i32_978 : BitVec 32 := 0#32
  let v744 : BitVec 1 := Scalar.cmpi .slt v740 c0_i32_978
  let v745 : BitVec 1 := Scalar.xori v743 v744
  let c0_i32_976 : BitVec 32 := 0#32
  let v742 : BitVec 1 := Scalar.cmpi .ne v741 c0_i32_976
  let v746 : BitVec 1 := Scalar.andi v745 v742
  let v747 : BitVec 32 := Scalar.addi v741 v740
  let v748 : BitVec 32 := Scalar.select v746 v747 v741
  let c1_i32_986 : BitVec 32 := 1#32
  let v749 : BitVec 32 := Scalar.muli v748 c1_i32_986
  let v750 : BitVec 32 := Scalar.addi c0_i32_987 v749
  v750.toNat
def k0_dev26 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_992 : BitVec 32 := 1#32
  let v759 : BitVec 32 := Scalar.subi v2 c1_i32_992
  let c8_i32_993 : BitVec 32 := 8#32
  let c0_i32_994 : BitVec 32 := 0#32
  let v760 : BitVec 1 := Scalar.cmpi .eq c8_i32_993 c0_i32_994
  let c1_i32_995 : BitVec 32 := 1#32
  let v761 : BitVec 32 := Scalar.select v760 c1_i32_995 c8_i32_993
  let v762 : BitVec 32 := Scalar.remsi v759 v761
  let c0_i32_997 : BitVec 32 := 0#32
  let v764 : BitVec 1 := Scalar.cmpi .slt v762 c0_i32_997
  let c0_i32_998 : BitVec 32 := 0#32
  let v765 : BitVec 1 := Scalar.cmpi .slt v761 c0_i32_998
  let v766 : BitVec 1 := Scalar.xori v764 v765
  let c0_i32_996 : BitVec 32 := 0#32
  let v763 : BitVec 1 := Scalar.cmpi .ne v762 c0_i32_996
  let v767 : BitVec 1 := Scalar.andi v766 v763
  let v768 : BitVec 32 := Scalar.addi v762 v761
  let v769 : BitVec 32 := Scalar.select v767 v768 v762
  let c1_i32_1006 : BitVec 32 := 1#32
  let v770 : BitVec 32 := Scalar.muli v769 c1_i32_1006
  let v771 : BitVec 32 := Scalar.addi c0_i32_1007 v770
  v771.toNat
def k0_dev27 (d0 : Dev nD) : Nat :=
  let c0_i32_1027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1012 : BitVec 32 := 1#32
  let v780 : BitVec 32 := Scalar.subi v2 c1_i32_1012
  let c8_i32_1013 : BitVec 32 := 8#32
  let c0_i32_1014 : BitVec 32 := 0#32
  let v781 : BitVec 1 := Scalar.cmpi .eq c8_i32_1013 c0_i32_1014
  let c1_i32_1015 : BitVec 32 := 1#32
  let v782 : BitVec 32 := Scalar.select v781 c1_i32_1015 c8_i32_1013
  let v783 : BitVec 32 := Scalar.remsi v780 v782
  let c0_i32_1017 : BitVec 32 := 0#32
  let v785 : BitVec 1 := Scalar.cmpi .slt v783 c0_i32_1017
  let c0_i32_1018 : BitVec 32 := 0#32
  let v786 : BitVec 1 := Scalar.cmpi .slt v782 c0_i32_1018
  let v787 : BitVec 1 := Scalar.xori v785 v786
  let c0_i32_1016 : BitVec 32 := 0#32
  let v784 : BitVec 1 := Scalar.cmpi .ne v783 c0_i32_1016
  let v788 : BitVec 1 := Scalar.andi v787 v784
  let v789 : BitVec 32 := Scalar.addi v783 v782
  let v790 : BitVec 32 := Scalar.select v788 v789 v783
  let c1_i32_1026 : BitVec 32 := 1#32
  let v791 : BitVec 32 := Scalar.muli v790 c1_i32_1026
  let v792 : BitVec 32 := Scalar.addi c0_i32_1027 v791
  v792.toNat
def k0_dev28 (d0 : Dev nD) : Nat :=
  let c0_i32_1047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1032 : BitVec 32 := 1#32
  let v801 : BitVec 32 := Scalar.subi v2 c1_i32_1032
  let c8_i32_1033 : BitVec 32 := 8#32
  let c0_i32_1034 : BitVec 32 := 0#32
  let v802 : BitVec 1 := Scalar.cmpi .eq c8_i32_1033 c0_i32_1034
  let c1_i32_1035 : BitVec 32 := 1#32
  let v803 : BitVec 32 := Scalar.select v802 c1_i32_1035 c8_i32_1033
  let v804 : BitVec 32 := Scalar.remsi v801 v803
  let c0_i32_1037 : BitVec 32 := 0#32
  let v806 : BitVec 1 := Scalar.cmpi .slt v804 c0_i32_1037
  let c0_i32_1038 : BitVec 32 := 0#32
  let v807 : BitVec 1 := Scalar.cmpi .slt v803 c0_i32_1038
  let v808 : BitVec 1 := Scalar.xori v806 v807
  let c0_i32_1036 : BitVec 32 := 0#32
  let v805 : BitVec 1 := Scalar.cmpi .ne v804 c0_i32_1036
  let v809 : BitVec 1 := Scalar.andi v808 v805
  let v810 : BitVec 32 := Scalar.addi v804 v803
  let v811 : BitVec 32 := Scalar.select v809 v810 v804
  let c1_i32_1046 : BitVec 32 := 1#32
  let v812 : BitVec 32 := Scalar.muli v811 c1_i32_1046
  let v813 : BitVec 32 := Scalar.addi c0_i32_1047 v812
  v813.toNat
def k0_dev29 (d0 : Dev nD) : Nat :=
  let c0_i32_1067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1052 : BitVec 32 := 1#32
  let v822 : BitVec 32 := Scalar.subi v2 c1_i32_1052
  let c8_i32_1053 : BitVec 32 := 8#32
  let c0_i32_1054 : BitVec 32 := 0#32
  let v823 : BitVec 1 := Scalar.cmpi .eq c8_i32_1053 c0_i32_1054
  let c1_i32_1055 : BitVec 32 := 1#32
  let v824 : BitVec 32 := Scalar.select v823 c1_i32_1055 c8_i32_1053
  let v825 : BitVec 32 := Scalar.remsi v822 v824
  let c0_i32_1057 : BitVec 32 := 0#32
  let v827 : BitVec 1 := Scalar.cmpi .slt v825 c0_i32_1057
  let c0_i32_1058 : BitVec 32 := 0#32
  let v828 : BitVec 1 := Scalar.cmpi .slt v824 c0_i32_1058
  let v829 : BitVec 1 := Scalar.xori v827 v828
  let c0_i32_1056 : BitVec 32 := 0#32
  let v826 : BitVec 1 := Scalar.cmpi .ne v825 c0_i32_1056
  let v830 : BitVec 1 := Scalar.andi v829 v826
  let v831 : BitVec 32 := Scalar.addi v825 v824
  let v832 : BitVec 32 := Scalar.select v830 v831 v825
  let c1_i32_1066 : BitVec 32 := 1#32
  let v833 : BitVec 32 := Scalar.muli v832 c1_i32_1066
  let v834 : BitVec 32 := Scalar.addi c0_i32_1067 v833
  v834.toNat
def k0_dev30 (d0 : Dev nD) : Nat :=
  let c0_i32_1087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1072 : BitVec 32 := 1#32
  let v843 : BitVec 32 := Scalar.subi v2 c1_i32_1072
  let c8_i32_1073 : BitVec 32 := 8#32
  let c0_i32_1074 : BitVec 32 := 0#32
  let v844 : BitVec 1 := Scalar.cmpi .eq c8_i32_1073 c0_i32_1074
  let c1_i32_1075 : BitVec 32 := 1#32
  let v845 : BitVec 32 := Scalar.select v844 c1_i32_1075 c8_i32_1073
  let v846 : BitVec 32 := Scalar.remsi v843 v845
  let c0_i32_1077 : BitVec 32 := 0#32
  let v848 : BitVec 1 := Scalar.cmpi .slt v846 c0_i32_1077
  let c0_i32_1078 : BitVec 32 := 0#32
  let v849 : BitVec 1 := Scalar.cmpi .slt v845 c0_i32_1078
  let v850 : BitVec 1 := Scalar.xori v848 v849
  let c0_i32_1076 : BitVec 32 := 0#32
  let v847 : BitVec 1 := Scalar.cmpi .ne v846 c0_i32_1076
  let v851 : BitVec 1 := Scalar.andi v850 v847
  let v852 : BitVec 32 := Scalar.addi v846 v845
  let v853 : BitVec 32 := Scalar.select v851 v852 v846
  let c1_i32_1086 : BitVec 32 := 1#32
  let v854 : BitVec 32 := Scalar.muli v853 c1_i32_1086
  let v855 : BitVec 32 := Scalar.addi c0_i32_1087 v854
  v855.toNat
def k0_dev31 (d0 : Dev nD) : Nat :=
  let c0_i32_1107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1092 : BitVec 32 := 2#32
  let v864 : BitVec 32 := Scalar.subi v2 c2_i32_1092
  let c8_i32_1093 : BitVec 32 := 8#32
  let c0_i32_1094 : BitVec 32 := 0#32
  let v865 : BitVec 1 := Scalar.cmpi .eq c8_i32_1093 c0_i32_1094
  let c1_i32_1095 : BitVec 32 := 1#32
  let v866 : BitVec 32 := Scalar.select v865 c1_i32_1095 c8_i32_1093
  let v867 : BitVec 32 := Scalar.remsi v864 v866
  let c0_i32_1097 : BitVec 32 := 0#32
  let v869 : BitVec 1 := Scalar.cmpi .slt v867 c0_i32_1097
  let c0_i32_1098 : BitVec 32 := 0#32
  let v870 : BitVec 1 := Scalar.cmpi .slt v866 c0_i32_1098
  let v871 : BitVec 1 := Scalar.xori v869 v870
  let c0_i32_1096 : BitVec 32 := 0#32
  let v868 : BitVec 1 := Scalar.cmpi .ne v867 c0_i32_1096
  let v872 : BitVec 1 := Scalar.andi v871 v868
  let v873 : BitVec 32 := Scalar.addi v867 v866
  let v874 : BitVec 32 := Scalar.select v872 v873 v867
  let c1_i32_1106 : BitVec 32 := 1#32
  let v875 : BitVec 32 := Scalar.muli v874 c1_i32_1106
  let v876 : BitVec 32 := Scalar.addi c0_i32_1107 v875
  v876.toNat
def k0_dev32 (d0 : Dev nD) : Nat :=
  let c0_i32_1127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1112 : BitVec 32 := 2#32
  let v885 : BitVec 32 := Scalar.subi v2 c2_i32_1112
  let c8_i32_1113 : BitVec 32 := 8#32
  let c0_i32_1114 : BitVec 32 := 0#32
  let v886 : BitVec 1 := Scalar.cmpi .eq c8_i32_1113 c0_i32_1114
  let c1_i32_1115 : BitVec 32 := 1#32
  let v887 : BitVec 32 := Scalar.select v886 c1_i32_1115 c8_i32_1113
  let v888 : BitVec 32 := Scalar.remsi v885 v887
  let c0_i32_1117 : BitVec 32 := 0#32
  let v890 : BitVec 1 := Scalar.cmpi .slt v888 c0_i32_1117
  let c0_i32_1118 : BitVec 32 := 0#32
  let v891 : BitVec 1 := Scalar.cmpi .slt v887 c0_i32_1118
  let v892 : BitVec 1 := Scalar.xori v890 v891
  let c0_i32_1116 : BitVec 32 := 0#32
  let v889 : BitVec 1 := Scalar.cmpi .ne v888 c0_i32_1116
  let v893 : BitVec 1 := Scalar.andi v892 v889
  let v894 : BitVec 32 := Scalar.addi v888 v887
  let v895 : BitVec 32 := Scalar.select v893 v894 v888
  let c1_i32_1126 : BitVec 32 := 1#32
  let v896 : BitVec 32 := Scalar.muli v895 c1_i32_1126
  let v897 : BitVec 32 := Scalar.addi c0_i32_1127 v896
  v897.toNat
def k0_dev33 (d0 : Dev nD) : Nat :=
  let c0_i32_1147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1132 : BitVec 32 := 2#32
  let v906 : BitVec 32 := Scalar.subi v2 c2_i32_1132
  let c8_i32_1133 : BitVec 32 := 8#32
  let c0_i32_1134 : BitVec 32 := 0#32
  let v907 : BitVec 1 := Scalar.cmpi .eq c8_i32_1133 c0_i32_1134
  let c1_i32_1135 : BitVec 32 := 1#32
  let v908 : BitVec 32 := Scalar.select v907 c1_i32_1135 c8_i32_1133
  let v909 : BitVec 32 := Scalar.remsi v906 v908
  let c0_i32_1137 : BitVec 32 := 0#32
  let v911 : BitVec 1 := Scalar.cmpi .slt v909 c0_i32_1137
  let c0_i32_1138 : BitVec 32 := 0#32
  let v912 : BitVec 1 := Scalar.cmpi .slt v908 c0_i32_1138
  let v913 : BitVec 1 := Scalar.xori v911 v912
  let c0_i32_1136 : BitVec 32 := 0#32
  let v910 : BitVec 1 := Scalar.cmpi .ne v909 c0_i32_1136
  let v914 : BitVec 1 := Scalar.andi v913 v910
  let v915 : BitVec 32 := Scalar.addi v909 v908
  let v916 : BitVec 32 := Scalar.select v914 v915 v909
  let c1_i32_1146 : BitVec 32 := 1#32
  let v917 : BitVec 32 := Scalar.muli v916 c1_i32_1146
  let v918 : BitVec 32 := Scalar.addi c0_i32_1147 v917
  v918.toNat
def k0_dev34 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1152 : BitVec 32 := 2#32
  let v927 : BitVec 32 := Scalar.subi v2 c2_i32_1152
  let c8_i32_1153 : BitVec 32 := 8#32
  let c0_i32_1154 : BitVec 32 := 0#32
  let v928 : BitVec 1 := Scalar.cmpi .eq c8_i32_1153 c0_i32_1154
  let c1_i32_1155 : BitVec 32 := 1#32
  let v929 : BitVec 32 := Scalar.select v928 c1_i32_1155 c8_i32_1153
  let v930 : BitVec 32 := Scalar.remsi v927 v929
  let c0_i32_1157 : BitVec 32 := 0#32
  let v932 : BitVec 1 := Scalar.cmpi .slt v930 c0_i32_1157
  let c0_i32_1158 : BitVec 32 := 0#32
  let v933 : BitVec 1 := Scalar.cmpi .slt v929 c0_i32_1158
  let v934 : BitVec 1 := Scalar.xori v932 v933
  let c0_i32_1156 : BitVec 32 := 0#32
  let v931 : BitVec 1 := Scalar.cmpi .ne v930 c0_i32_1156
  let v935 : BitVec 1 := Scalar.andi v934 v931
  let v936 : BitVec 32 := Scalar.addi v930 v929
  let v937 : BitVec 32 := Scalar.select v935 v936 v930
  let c1_i32_1166 : BitVec 32 := 1#32
  let v938 : BitVec 32 := Scalar.muli v937 c1_i32_1166
  let v939 : BitVec 32 := Scalar.addi c0_i32_1167 v938
  v939.toNat
def k0_dev35 (d0 : Dev nD) : Nat :=
  let c0_i32_1187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1172 : BitVec 32 := 2#32
  let v948 : BitVec 32 := Scalar.subi v2 c2_i32_1172
  let c8_i32_1173 : BitVec 32 := 8#32
  let c0_i32_1174 : BitVec 32 := 0#32
  let v949 : BitVec 1 := Scalar.cmpi .eq c8_i32_1173 c0_i32_1174
  let c1_i32_1175 : BitVec 32 := 1#32
  let v950 : BitVec 32 := Scalar.select v949 c1_i32_1175 c8_i32_1173
  let v951 : BitVec 32 := Scalar.remsi v948 v950
  let c0_i32_1177 : BitVec 32 := 0#32
  let v953 : BitVec 1 := Scalar.cmpi .slt v951 c0_i32_1177
  let c0_i32_1178 : BitVec 32 := 0#32
  let v954 : BitVec 1 := Scalar.cmpi .slt v950 c0_i32_1178
  let v955 : BitVec 1 := Scalar.xori v953 v954
  let c0_i32_1176 : BitVec 32 := 0#32
  let v952 : BitVec 1 := Scalar.cmpi .ne v951 c0_i32_1176
  let v956 : BitVec 1 := Scalar.andi v955 v952
  let v957 : BitVec 32 := Scalar.addi v951 v950
  let v958 : BitVec 32 := Scalar.select v956 v957 v951
  let c1_i32_1186 : BitVec 32 := 1#32
  let v959 : BitVec 32 := Scalar.muli v958 c1_i32_1186
  let v960 : BitVec 32 := Scalar.addi c0_i32_1187 v959
  v960.toNat
def k0_dev36 (d0 : Dev nD) : Nat :=
  let c0_i32_1207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1192 : BitVec 32 := 2#32
  let v969 : BitVec 32 := Scalar.subi v2 c2_i32_1192
  let c8_i32_1193 : BitVec 32 := 8#32
  let c0_i32_1194 : BitVec 32 := 0#32
  let v970 : BitVec 1 := Scalar.cmpi .eq c8_i32_1193 c0_i32_1194
  let c1_i32_1195 : BitVec 32 := 1#32
  let v971 : BitVec 32 := Scalar.select v970 c1_i32_1195 c8_i32_1193
  let v972 : BitVec 32 := Scalar.remsi v969 v971
  let c0_i32_1197 : BitVec 32 := 0#32
  let v974 : BitVec 1 := Scalar.cmpi .slt v972 c0_i32_1197
  let c0_i32_1198 : BitVec 32 := 0#32
  let v975 : BitVec 1 := Scalar.cmpi .slt v971 c0_i32_1198
  let v976 : BitVec 1 := Scalar.xori v974 v975
  let c0_i32_1196 : BitVec 32 := 0#32
  let v973 : BitVec 1 := Scalar.cmpi .ne v972 c0_i32_1196
  let v977 : BitVec 1 := Scalar.andi v976 v973
  let v978 : BitVec 32 := Scalar.addi v972 v971
  let v979 : BitVec 32 := Scalar.select v977 v978 v972
  let c1_i32_1206 : BitVec 32 := 1#32
  let v980 : BitVec 32 := Scalar.muli v979 c1_i32_1206
  let v981 : BitVec 32 := Scalar.addi c0_i32_1207 v980
  v981.toNat
def k0_dev37 (d0 : Dev nD) : Nat :=
  let c0_i32_1227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1212 : BitVec 32 := 2#32
  let v990 : BitVec 32 := Scalar.subi v2 c2_i32_1212
  let c8_i32_1213 : BitVec 32 := 8#32
  let c0_i32_1214 : BitVec 32 := 0#32
  let v991 : BitVec 1 := Scalar.cmpi .eq c8_i32_1213 c0_i32_1214
  let c1_i32_1215 : BitVec 32 := 1#32
  let v992 : BitVec 32 := Scalar.select v991 c1_i32_1215 c8_i32_1213
  let v993 : BitVec 32 := Scalar.remsi v990 v992
  let c0_i32_1217 : BitVec 32 := 0#32
  let v995 : BitVec 1 := Scalar.cmpi .slt v993 c0_i32_1217
  let c0_i32_1218 : BitVec 32 := 0#32
  let v996 : BitVec 1 := Scalar.cmpi .slt v992 c0_i32_1218
  let v997 : BitVec 1 := Scalar.xori v995 v996
  let c0_i32_1216 : BitVec 32 := 0#32
  let v994 : BitVec 1 := Scalar.cmpi .ne v993 c0_i32_1216
  let v998 : BitVec 1 := Scalar.andi v997 v994
  let v999 : BitVec 32 := Scalar.addi v993 v992
  let v1000 : BitVec 32 := Scalar.select v998 v999 v993
  let c1_i32_1226 : BitVec 32 := 1#32
  let v1001 : BitVec 32 := Scalar.muli v1000 c1_i32_1226
  let v1002 : BitVec 32 := Scalar.addi c0_i32_1227 v1001
  v1002.toNat
def k0_dev38 (d0 : Dev nD) : Nat :=
  let c0_i32_1247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1232 : BitVec 32 := 2#32
  let v1011 : BitVec 32 := Scalar.subi v2 c2_i32_1232
  let c8_i32_1233 : BitVec 32 := 8#32
  let c0_i32_1234 : BitVec 32 := 0#32
  let v1012 : BitVec 1 := Scalar.cmpi .eq c8_i32_1233 c0_i32_1234
  let c1_i32_1235 : BitVec 32 := 1#32
  let v1013 : BitVec 32 := Scalar.select v1012 c1_i32_1235 c8_i32_1233
  let v1014 : BitVec 32 := Scalar.remsi v1011 v1013
  let c0_i32_1237 : BitVec 32 := 0#32
  let v1016 : BitVec 1 := Scalar.cmpi .slt v1014 c0_i32_1237
  let c0_i32_1238 : BitVec 32 := 0#32
  let v1017 : BitVec 1 := Scalar.cmpi .slt v1013 c0_i32_1238
  let v1018 : BitVec 1 := Scalar.xori v1016 v1017
  let c0_i32_1236 : BitVec 32 := 0#32
  let v1015 : BitVec 1 := Scalar.cmpi .ne v1014 c0_i32_1236
  let v1019 : BitVec 1 := Scalar.andi v1018 v1015
  let v1020 : BitVec 32 := Scalar.addi v1014 v1013
  let v1021 : BitVec 32 := Scalar.select v1019 v1020 v1014
  let c1_i32_1246 : BitVec 32 := 1#32
  let v1022 : BitVec 32 := Scalar.muli v1021 c1_i32_1246
  let v1023 : BitVec 32 := Scalar.addi c0_i32_1247 v1022
  v1023.toNat
def k0_dev39 (d0 : Dev nD) : Nat :=
  let c0_i32_1267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1252 : BitVec 32 := 3#32
  let v1032 : BitVec 32 := Scalar.subi v2 c3_i32_1252
  let c8_i32_1253 : BitVec 32 := 8#32
  let c0_i32_1254 : BitVec 32 := 0#32
  let v1033 : BitVec 1 := Scalar.cmpi .eq c8_i32_1253 c0_i32_1254
  let c1_i32_1255 : BitVec 32 := 1#32
  let v1034 : BitVec 32 := Scalar.select v1033 c1_i32_1255 c8_i32_1253
  let v1035 : BitVec 32 := Scalar.remsi v1032 v1034
  let c0_i32_1257 : BitVec 32 := 0#32
  let v1037 : BitVec 1 := Scalar.cmpi .slt v1035 c0_i32_1257
  let c0_i32_1258 : BitVec 32 := 0#32
  let v1038 : BitVec 1 := Scalar.cmpi .slt v1034 c0_i32_1258
  let v1039 : BitVec 1 := Scalar.xori v1037 v1038
  let c0_i32_1256 : BitVec 32 := 0#32
  let v1036 : BitVec 1 := Scalar.cmpi .ne v1035 c0_i32_1256
  let v1040 : BitVec 1 := Scalar.andi v1039 v1036
  let v1041 : BitVec 32 := Scalar.addi v1035 v1034
  let v1042 : BitVec 32 := Scalar.select v1040 v1041 v1035
  let c1_i32_1266 : BitVec 32 := 1#32
  let v1043 : BitVec 32 := Scalar.muli v1042 c1_i32_1266
  let v1044 : BitVec 32 := Scalar.addi c0_i32_1267 v1043
  v1044.toNat
def k0_dev40 (d0 : Dev nD) : Nat :=
  let c0_i32_1287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1272 : BitVec 32 := 3#32
  let v1053 : BitVec 32 := Scalar.subi v2 c3_i32_1272
  let c8_i32_1273 : BitVec 32 := 8#32
  let c0_i32_1274 : BitVec 32 := 0#32
  let v1054 : BitVec 1 := Scalar.cmpi .eq c8_i32_1273 c0_i32_1274
  let c1_i32_1275 : BitVec 32 := 1#32
  let v1055 : BitVec 32 := Scalar.select v1054 c1_i32_1275 c8_i32_1273
  let v1056 : BitVec 32 := Scalar.remsi v1053 v1055
  let c0_i32_1277 : BitVec 32 := 0#32
  let v1058 : BitVec 1 := Scalar.cmpi .slt v1056 c0_i32_1277
  let c0_i32_1278 : BitVec 32 := 0#32
  let v1059 : BitVec 1 := Scalar.cmpi .slt v1055 c0_i32_1278
  let v1060 : BitVec 1 := Scalar.xori v1058 v1059
  let c0_i32_1276 : BitVec 32 := 0#32
  let v1057 : BitVec 1 := Scalar.cmpi .ne v1056 c0_i32_1276
  let v1061 : BitVec 1 := Scalar.andi v1060 v1057
  let v1062 : BitVec 32 := Scalar.addi v1056 v1055
  let v1063 : BitVec 32 := Scalar.select v1061 v1062 v1056
  let c1_i32_1286 : BitVec 32 := 1#32
  let v1064 : BitVec 32 := Scalar.muli v1063 c1_i32_1286
  let v1065 : BitVec 32 := Scalar.addi c0_i32_1287 v1064
  v1065.toNat
def k0_dev41 (d0 : Dev nD) : Nat :=
  let c0_i32_1307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1292 : BitVec 32 := 3#32
  let v1074 : BitVec 32 := Scalar.subi v2 c3_i32_1292
  let c8_i32_1293 : BitVec 32 := 8#32
  let c0_i32_1294 : BitVec 32 := 0#32
  let v1075 : BitVec 1 := Scalar.cmpi .eq c8_i32_1293 c0_i32_1294
  let c1_i32_1295 : BitVec 32 := 1#32
  let v1076 : BitVec 32 := Scalar.select v1075 c1_i32_1295 c8_i32_1293
  let v1077 : BitVec 32 := Scalar.remsi v1074 v1076
  let c0_i32_1297 : BitVec 32 := 0#32
  let v1079 : BitVec 1 := Scalar.cmpi .slt v1077 c0_i32_1297
  let c0_i32_1298 : BitVec 32 := 0#32
  let v1080 : BitVec 1 := Scalar.cmpi .slt v1076 c0_i32_1298
  let v1081 : BitVec 1 := Scalar.xori v1079 v1080
  let c0_i32_1296 : BitVec 32 := 0#32
  let v1078 : BitVec 1 := Scalar.cmpi .ne v1077 c0_i32_1296
  let v1082 : BitVec 1 := Scalar.andi v1081 v1078
  let v1083 : BitVec 32 := Scalar.addi v1077 v1076
  let v1084 : BitVec 32 := Scalar.select v1082 v1083 v1077
  let c1_i32_1306 : BitVec 32 := 1#32
  let v1085 : BitVec 32 := Scalar.muli v1084 c1_i32_1306
  let v1086 : BitVec 32 := Scalar.addi c0_i32_1307 v1085
  v1086.toNat
def k0_dev42 (d0 : Dev nD) : Nat :=
  let c0_i32_1327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1312 : BitVec 32 := 3#32
  let v1095 : BitVec 32 := Scalar.subi v2 c3_i32_1312
  let c8_i32_1313 : BitVec 32 := 8#32
  let c0_i32_1314 : BitVec 32 := 0#32
  let v1096 : BitVec 1 := Scalar.cmpi .eq c8_i32_1313 c0_i32_1314
  let c1_i32_1315 : BitVec 32 := 1#32
  let v1097 : BitVec 32 := Scalar.select v1096 c1_i32_1315 c8_i32_1313
  let v1098 : BitVec 32 := Scalar.remsi v1095 v1097
  let c0_i32_1317 : BitVec 32 := 0#32
  let v1100 : BitVec 1 := Scalar.cmpi .slt v1098 c0_i32_1317
  let c0_i32_1318 : BitVec 32 := 0#32
  let v1101 : BitVec 1 := Scalar.cmpi .slt v1097 c0_i32_1318
  let v1102 : BitVec 1 := Scalar.xori v1100 v1101
  let c0_i32_1316 : BitVec 32 := 0#32
  let v1099 : BitVec 1 := Scalar.cmpi .ne v1098 c0_i32_1316
  let v1103 : BitVec 1 := Scalar.andi v1102 v1099
  let v1104 : BitVec 32 := Scalar.addi v1098 v1097
  let v1105 : BitVec 32 := Scalar.select v1103 v1104 v1098
  let c1_i32_1326 : BitVec 32 := 1#32
  let v1106 : BitVec 32 := Scalar.muli v1105 c1_i32_1326
  let v1107 : BitVec 32 := Scalar.addi c0_i32_1327 v1106
  v1107.toNat
def k0_dev43 (d0 : Dev nD) : Nat :=
  let c0_i32_1347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1332 : BitVec 32 := 3#32
  let v1116 : BitVec 32 := Scalar.subi v2 c3_i32_1332
  let c8_i32_1333 : BitVec 32 := 8#32
  let c0_i32_1334 : BitVec 32 := 0#32
  let v1117 : BitVec 1 := Scalar.cmpi .eq c8_i32_1333 c0_i32_1334
  let c1_i32_1335 : BitVec 32 := 1#32
  let v1118 : BitVec 32 := Scalar.select v1117 c1_i32_1335 c8_i32_1333
  let v1119 : BitVec 32 := Scalar.remsi v1116 v1118
  let c0_i32_1337 : BitVec 32 := 0#32
  let v1121 : BitVec 1 := Scalar.cmpi .slt v1119 c0_i32_1337
  let c0_i32_1338 : BitVec 32 := 0#32
  let v1122 : BitVec 1 := Scalar.cmpi .slt v1118 c0_i32_1338
  let v1123 : BitVec 1 := Scalar.xori v1121 v1122
  let c0_i32_1336 : BitVec 32 := 0#32
  let v1120 : BitVec 1 := Scalar.cmpi .ne v1119 c0_i32_1336
  let v1124 : BitVec 1 := Scalar.andi v1123 v1120
  let v1125 : BitVec 32 := Scalar.addi v1119 v1118
  let v1126 : BitVec 32 := Scalar.select v1124 v1125 v1119
  let c1_i32_1346 : BitVec 32 := 1#32
  let v1127 : BitVec 32 := Scalar.muli v1126 c1_i32_1346
  let v1128 : BitVec 32 := Scalar.addi c0_i32_1347 v1127
  v1128.toNat
def k0_dev44 (d0 : Dev nD) : Nat :=
  let c0_i32_1367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1352 : BitVec 32 := 3#32
  let v1137 : BitVec 32 := Scalar.subi v2 c3_i32_1352
  let c8_i32_1353 : BitVec 32 := 8#32
  let c0_i32_1354 : BitVec 32 := 0#32
  let v1138 : BitVec 1 := Scalar.cmpi .eq c8_i32_1353 c0_i32_1354
  let c1_i32_1355 : BitVec 32 := 1#32
  let v1139 : BitVec 32 := Scalar.select v1138 c1_i32_1355 c8_i32_1353
  let v1140 : BitVec 32 := Scalar.remsi v1137 v1139
  let c0_i32_1357 : BitVec 32 := 0#32
  let v1142 : BitVec 1 := Scalar.cmpi .slt v1140 c0_i32_1357
  let c0_i32_1358 : BitVec 32 := 0#32
  let v1143 : BitVec 1 := Scalar.cmpi .slt v1139 c0_i32_1358
  let v1144 : BitVec 1 := Scalar.xori v1142 v1143
  let c0_i32_1356 : BitVec 32 := 0#32
  let v1141 : BitVec 1 := Scalar.cmpi .ne v1140 c0_i32_1356
  let v1145 : BitVec 1 := Scalar.andi v1144 v1141
  let v1146 : BitVec 32 := Scalar.addi v1140 v1139
  let v1147 : BitVec 32 := Scalar.select v1145 v1146 v1140
  let c1_i32_1366 : BitVec 32 := 1#32
  let v1148 : BitVec 32 := Scalar.muli v1147 c1_i32_1366
  let v1149 : BitVec 32 := Scalar.addi c0_i32_1367 v1148
  v1149.toNat
def k0_dev45 (d0 : Dev nD) : Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1372 : BitVec 32 := 3#32
  let v1158 : BitVec 32 := Scalar.subi v2 c3_i32_1372
  let c8_i32_1373 : BitVec 32 := 8#32
  let c0_i32_1374 : BitVec 32 := 0#32
  let v1159 : BitVec 1 := Scalar.cmpi .eq c8_i32_1373 c0_i32_1374
  let c1_i32_1375 : BitVec 32 := 1#32
  let v1160 : BitVec 32 := Scalar.select v1159 c1_i32_1375 c8_i32_1373
  let v1161 : BitVec 32 := Scalar.remsi v1158 v1160
  let c0_i32_1377 : BitVec 32 := 0#32
  let v1163 : BitVec 1 := Scalar.cmpi .slt v1161 c0_i32_1377
  let c0_i32_1378 : BitVec 32 := 0#32
  let v1164 : BitVec 1 := Scalar.cmpi .slt v1160 c0_i32_1378
  let v1165 : BitVec 1 := Scalar.xori v1163 v1164
  let c0_i32_1376 : BitVec 32 := 0#32
  let v1162 : BitVec 1 := Scalar.cmpi .ne v1161 c0_i32_1376
  let v1166 : BitVec 1 := Scalar.andi v1165 v1162
  let v1167 : BitVec 32 := Scalar.addi v1161 v1160
  let v1168 : BitVec 32 := Scalar.select v1166 v1167 v1161
  let c1_i32_1386 : BitVec 32 := 1#32
  let v1169 : BitVec 32 := Scalar.muli v1168 c1_i32_1386
  let v1170 : BitVec 32 := Scalar.addi c0_i32_1387 v1169
  v1170.toNat
def k0_dev46 (d0 : Dev nD) : Nat :=
  let c0_i32_1407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1392 : BitVec 32 := 3#32
  let v1179 : BitVec 32 := Scalar.subi v2 c3_i32_1392
  let c8_i32_1393 : BitVec 32 := 8#32
  let c0_i32_1394 : BitVec 32 := 0#32
  let v1180 : BitVec 1 := Scalar.cmpi .eq c8_i32_1393 c0_i32_1394
  let c1_i32_1395 : BitVec 32 := 1#32
  let v1181 : BitVec 32 := Scalar.select v1180 c1_i32_1395 c8_i32_1393
  let v1182 : BitVec 32 := Scalar.remsi v1179 v1181
  let c0_i32_1397 : BitVec 32 := 0#32
  let v1184 : BitVec 1 := Scalar.cmpi .slt v1182 c0_i32_1397
  let c0_i32_1398 : BitVec 32 := 0#32
  let v1185 : BitVec 1 := Scalar.cmpi .slt v1181 c0_i32_1398
  let v1186 : BitVec 1 := Scalar.xori v1184 v1185
  let c0_i32_1396 : BitVec 32 := 0#32
  let v1183 : BitVec 1 := Scalar.cmpi .ne v1182 c0_i32_1396
  let v1187 : BitVec 1 := Scalar.andi v1186 v1183
  let v1188 : BitVec 32 := Scalar.addi v1182 v1181
  let v1189 : BitVec 32 := Scalar.select v1187 v1188 v1182
  let c1_i32_1406 : BitVec 32 := 1#32
  let v1190 : BitVec 32 := Scalar.muli v1189 c1_i32_1406
  let v1191 : BitVec 32 := Scalar.addi c0_i32_1407 v1190
  v1191.toNat
def k0_dev47 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1412 : BitVec 32 := 4#32
  let v1200 : BitVec 32 := Scalar.subi v2 c4_i32_1412
  let c8_i32_1413 : BitVec 32 := 8#32
  let c0_i32_1414 : BitVec 32 := 0#32
  let v1201 : BitVec 1 := Scalar.cmpi .eq c8_i32_1413 c0_i32_1414
  let c1_i32_1415 : BitVec 32 := 1#32
  let v1202 : BitVec 32 := Scalar.select v1201 c1_i32_1415 c8_i32_1413
  let v1203 : BitVec 32 := Scalar.remsi v1200 v1202
  let c0_i32_1417 : BitVec 32 := 0#32
  let v1205 : BitVec 1 := Scalar.cmpi .slt v1203 c0_i32_1417
  let c0_i32_1418 : BitVec 32 := 0#32
  let v1206 : BitVec 1 := Scalar.cmpi .slt v1202 c0_i32_1418
  let v1207 : BitVec 1 := Scalar.xori v1205 v1206
  let c0_i32_1416 : BitVec 32 := 0#32
  let v1204 : BitVec 1 := Scalar.cmpi .ne v1203 c0_i32_1416
  let v1208 : BitVec 1 := Scalar.andi v1207 v1204
  let v1209 : BitVec 32 := Scalar.addi v1203 v1202
  let v1210 : BitVec 32 := Scalar.select v1208 v1209 v1203
  let c1_i32_1426 : BitVec 32 := 1#32
  let v1211 : BitVec 32 := Scalar.muli v1210 c1_i32_1426
  let v1212 : BitVec 32 := Scalar.addi c0_i32_1427 v1211
  v1212.toNat
def k0_dev48 (d0 : Dev nD) : Nat :=
  let c0_i32_1447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1432 : BitVec 32 := 4#32
  let v1221 : BitVec 32 := Scalar.subi v2 c4_i32_1432
  let c8_i32_1433 : BitVec 32 := 8#32
  let c0_i32_1434 : BitVec 32 := 0#32
  let v1222 : BitVec 1 := Scalar.cmpi .eq c8_i32_1433 c0_i32_1434
  let c1_i32_1435 : BitVec 32 := 1#32
  let v1223 : BitVec 32 := Scalar.select v1222 c1_i32_1435 c8_i32_1433
  let v1224 : BitVec 32 := Scalar.remsi v1221 v1223
  let c0_i32_1437 : BitVec 32 := 0#32
  let v1226 : BitVec 1 := Scalar.cmpi .slt v1224 c0_i32_1437
  let c0_i32_1438 : BitVec 32 := 0#32
  let v1227 : BitVec 1 := Scalar.cmpi .slt v1223 c0_i32_1438
  let v1228 : BitVec 1 := Scalar.xori v1226 v1227
  let c0_i32_1436 : BitVec 32 := 0#32
  let v1225 : BitVec 1 := Scalar.cmpi .ne v1224 c0_i32_1436
  let v1229 : BitVec 1 := Scalar.andi v1228 v1225
  let v1230 : BitVec 32 := Scalar.addi v1224 v1223
  let v1231 : BitVec 32 := Scalar.select v1229 v1230 v1224
  let c1_i32_1446 : BitVec 32 := 1#32
  let v1232 : BitVec 32 := Scalar.muli v1231 c1_i32_1446
  let v1233 : BitVec 32 := Scalar.addi c0_i32_1447 v1232
  v1233.toNat
def k0_dev49 (d0 : Dev nD) : Nat :=
  let c0_i32_1467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1452 : BitVec 32 := 4#32
  let v1242 : BitVec 32 := Scalar.subi v2 c4_i32_1452
  let c8_i32_1453 : BitVec 32 := 8#32
  let c0_i32_1454 : BitVec 32 := 0#32
  let v1243 : BitVec 1 := Scalar.cmpi .eq c8_i32_1453 c0_i32_1454
  let c1_i32_1455 : BitVec 32 := 1#32
  let v1244 : BitVec 32 := Scalar.select v1243 c1_i32_1455 c8_i32_1453
  let v1245 : BitVec 32 := Scalar.remsi v1242 v1244
  let c0_i32_1457 : BitVec 32 := 0#32
  let v1247 : BitVec 1 := Scalar.cmpi .slt v1245 c0_i32_1457
  let c0_i32_1458 : BitVec 32 := 0#32
  let v1248 : BitVec 1 := Scalar.cmpi .slt v1244 c0_i32_1458
  let v1249 : BitVec 1 := Scalar.xori v1247 v1248
  let c0_i32_1456 : BitVec 32 := 0#32
  let v1246 : BitVec 1 := Scalar.cmpi .ne v1245 c0_i32_1456
  let v1250 : BitVec 1 := Scalar.andi v1249 v1246
  let v1251 : BitVec 32 := Scalar.addi v1245 v1244
  let v1252 : BitVec 32 := Scalar.select v1250 v1251 v1245
  let c1_i32_1466 : BitVec 32 := 1#32
  let v1253 : BitVec 32 := Scalar.muli v1252 c1_i32_1466
  let v1254 : BitVec 32 := Scalar.addi c0_i32_1467 v1253
  v1254.toNat
def k0_dev50 (d0 : Dev nD) : Nat :=
  let c0_i32_1487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1472 : BitVec 32 := 4#32
  let v1263 : BitVec 32 := Scalar.subi v2 c4_i32_1472
  let c8_i32_1473 : BitVec 32 := 8#32
  let c0_i32_1474 : BitVec 32 := 0#32
  let v1264 : BitVec 1 := Scalar.cmpi .eq c8_i32_1473 c0_i32_1474
  let c1_i32_1475 : BitVec 32 := 1#32
  let v1265 : BitVec 32 := Scalar.select v1264 c1_i32_1475 c8_i32_1473
  let v1266 : BitVec 32 := Scalar.remsi v1263 v1265
  let c0_i32_1477 : BitVec 32 := 0#32
  let v1268 : BitVec 1 := Scalar.cmpi .slt v1266 c0_i32_1477
  let c0_i32_1478 : BitVec 32 := 0#32
  let v1269 : BitVec 1 := Scalar.cmpi .slt v1265 c0_i32_1478
  let v1270 : BitVec 1 := Scalar.xori v1268 v1269
  let c0_i32_1476 : BitVec 32 := 0#32
  let v1267 : BitVec 1 := Scalar.cmpi .ne v1266 c0_i32_1476
  let v1271 : BitVec 1 := Scalar.andi v1270 v1267
  let v1272 : BitVec 32 := Scalar.addi v1266 v1265
  let v1273 : BitVec 32 := Scalar.select v1271 v1272 v1266
  let c1_i32_1486 : BitVec 32 := 1#32
  let v1274 : BitVec 32 := Scalar.muli v1273 c1_i32_1486
  let v1275 : BitVec 32 := Scalar.addi c0_i32_1487 v1274
  v1275.toNat
def k0_dev51 (d0 : Dev nD) : Nat :=
  let c0_i32_1507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1492 : BitVec 32 := 4#32
  let v1284 : BitVec 32 := Scalar.subi v2 c4_i32_1492
  let c8_i32_1493 : BitVec 32 := 8#32
  let c0_i32_1494 : BitVec 32 := 0#32
  let v1285 : BitVec 1 := Scalar.cmpi .eq c8_i32_1493 c0_i32_1494
  let c1_i32_1495 : BitVec 32 := 1#32
  let v1286 : BitVec 32 := Scalar.select v1285 c1_i32_1495 c8_i32_1493
  let v1287 : BitVec 32 := Scalar.remsi v1284 v1286
  let c0_i32_1497 : BitVec 32 := 0#32
  let v1289 : BitVec 1 := Scalar.cmpi .slt v1287 c0_i32_1497
  let c0_i32_1498 : BitVec 32 := 0#32
  let v1290 : BitVec 1 := Scalar.cmpi .slt v1286 c0_i32_1498
  let v1291 : BitVec 1 := Scalar.xori v1289 v1290
  let c0_i32_1496 : BitVec 32 := 0#32
  let v1288 : BitVec 1 := Scalar.cmpi .ne v1287 c0_i32_1496
  let v1292 : BitVec 1 := Scalar.andi v1291 v1288
  let v1293 : BitVec 32 := Scalar.addi v1287 v1286
  let v1294 : BitVec 32 := Scalar.select v1292 v1293 v1287
  let c1_i32_1506 : BitVec 32 := 1#32
  let v1295 : BitVec 32 := Scalar.muli v1294 c1_i32_1506
  let v1296 : BitVec 32 := Scalar.addi c0_i32_1507 v1295
  v1296.toNat
def k0_dev52 (d0 : Dev nD) : Nat :=
  let c0_i32_1527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1512 : BitVec 32 := 4#32
  let v1305 : BitVec 32 := Scalar.subi v2 c4_i32_1512
  let c8_i32_1513 : BitVec 32 := 8#32
  let c0_i32_1514 : BitVec 32 := 0#32
  let v1306 : BitVec 1 := Scalar.cmpi .eq c8_i32_1513 c0_i32_1514
  let c1_i32_1515 : BitVec 32 := 1#32
  let v1307 : BitVec 32 := Scalar.select v1306 c1_i32_1515 c8_i32_1513
  let v1308 : BitVec 32 := Scalar.remsi v1305 v1307
  let c0_i32_1517 : BitVec 32 := 0#32
  let v1310 : BitVec 1 := Scalar.cmpi .slt v1308 c0_i32_1517
  let c0_i32_1518 : BitVec 32 := 0#32
  let v1311 : BitVec 1 := Scalar.cmpi .slt v1307 c0_i32_1518
  let v1312 : BitVec 1 := Scalar.xori v1310 v1311
  let c0_i32_1516 : BitVec 32 := 0#32
  let v1309 : BitVec 1 := Scalar.cmpi .ne v1308 c0_i32_1516
  let v1313 : BitVec 1 := Scalar.andi v1312 v1309
  let v1314 : BitVec 32 := Scalar.addi v1308 v1307
  let v1315 : BitVec 32 := Scalar.select v1313 v1314 v1308
  let c1_i32_1526 : BitVec 32 := 1#32
  let v1316 : BitVec 32 := Scalar.muli v1315 c1_i32_1526
  let v1317 : BitVec 32 := Scalar.addi c0_i32_1527 v1316
  v1317.toNat
def k0_dev53 (d0 : Dev nD) : Nat :=
  let c0_i32_1547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1532 : BitVec 32 := 4#32
  let v1326 : BitVec 32 := Scalar.subi v2 c4_i32_1532
  let c8_i32_1533 : BitVec 32 := 8#32
  let c0_i32_1534 : BitVec 32 := 0#32
  let v1327 : BitVec 1 := Scalar.cmpi .eq c8_i32_1533 c0_i32_1534
  let c1_i32_1535 : BitVec 32 := 1#32
  let v1328 : BitVec 32 := Scalar.select v1327 c1_i32_1535 c8_i32_1533
  let v1329 : BitVec 32 := Scalar.remsi v1326 v1328
  let c0_i32_1537 : BitVec 32 := 0#32
  let v1331 : BitVec 1 := Scalar.cmpi .slt v1329 c0_i32_1537
  let c0_i32_1538 : BitVec 32 := 0#32
  let v1332 : BitVec 1 := Scalar.cmpi .slt v1328 c0_i32_1538
  let v1333 : BitVec 1 := Scalar.xori v1331 v1332
  let c0_i32_1536 : BitVec 32 := 0#32
  let v1330 : BitVec 1 := Scalar.cmpi .ne v1329 c0_i32_1536
  let v1334 : BitVec 1 := Scalar.andi v1333 v1330
  let v1335 : BitVec 32 := Scalar.addi v1329 v1328
  let v1336 : BitVec 32 := Scalar.select v1334 v1335 v1329
  let c1_i32_1546 : BitVec 32 := 1#32
  let v1337 : BitVec 32 := Scalar.muli v1336 c1_i32_1546
  let v1338 : BitVec 32 := Scalar.addi c0_i32_1547 v1337
  v1338.toNat
def k0_dev54 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1552 : BitVec 32 := 4#32
  let v1347 : BitVec 32 := Scalar.subi v2 c4_i32_1552
  let c8_i32_1553 : BitVec 32 := 8#32
  let c0_i32_1554 : BitVec 32 := 0#32
  let v1348 : BitVec 1 := Scalar.cmpi .eq c8_i32_1553 c0_i32_1554
  let c1_i32_1555 : BitVec 32 := 1#32
  let v1349 : BitVec 32 := Scalar.select v1348 c1_i32_1555 c8_i32_1553
  let v1350 : BitVec 32 := Scalar.remsi v1347 v1349
  let c0_i32_1557 : BitVec 32 := 0#32
  let v1352 : BitVec 1 := Scalar.cmpi .slt v1350 c0_i32_1557
  let c0_i32_1558 : BitVec 32 := 0#32
  let v1353 : BitVec 1 := Scalar.cmpi .slt v1349 c0_i32_1558
  let v1354 : BitVec 1 := Scalar.xori v1352 v1353
  let c0_i32_1556 : BitVec 32 := 0#32
  let v1351 : BitVec 1 := Scalar.cmpi .ne v1350 c0_i32_1556
  let v1355 : BitVec 1 := Scalar.andi v1354 v1351
  let v1356 : BitVec 32 := Scalar.addi v1350 v1349
  let v1357 : BitVec 32 := Scalar.select v1355 v1356 v1350
  let c1_i32_1566 : BitVec 32 := 1#32
  let v1358 : BitVec 32 := Scalar.muli v1357 c1_i32_1566
  let v1359 : BitVec 32 := Scalar.addi c0_i32_1567 v1358
  v1359.toNat
def k0_dev55 (d0 : Dev nD) : Nat :=
  let c0_i32_1587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1572 : BitVec 32 := 5#32
  let v1368 : BitVec 32 := Scalar.subi v2 c5_i32_1572
  let c8_i32_1573 : BitVec 32 := 8#32
  let c0_i32_1574 : BitVec 32 := 0#32
  let v1369 : BitVec 1 := Scalar.cmpi .eq c8_i32_1573 c0_i32_1574
  let c1_i32_1575 : BitVec 32 := 1#32
  let v1370 : BitVec 32 := Scalar.select v1369 c1_i32_1575 c8_i32_1573
  let v1371 : BitVec 32 := Scalar.remsi v1368 v1370
  let c0_i32_1577 : BitVec 32 := 0#32
  let v1373 : BitVec 1 := Scalar.cmpi .slt v1371 c0_i32_1577
  let c0_i32_1578 : BitVec 32 := 0#32
  let v1374 : BitVec 1 := Scalar.cmpi .slt v1370 c0_i32_1578
  let v1375 : BitVec 1 := Scalar.xori v1373 v1374
  let c0_i32_1576 : BitVec 32 := 0#32
  let v1372 : BitVec 1 := Scalar.cmpi .ne v1371 c0_i32_1576
  let v1376 : BitVec 1 := Scalar.andi v1375 v1372
  let v1377 : BitVec 32 := Scalar.addi v1371 v1370
  let v1378 : BitVec 32 := Scalar.select v1376 v1377 v1371
  let c1_i32_1586 : BitVec 32 := 1#32
  let v1379 : BitVec 32 := Scalar.muli v1378 c1_i32_1586
  let v1380 : BitVec 32 := Scalar.addi c0_i32_1587 v1379
  v1380.toNat
def k0_dev56 (d0 : Dev nD) : Nat :=
  let c0_i32_1607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1592 : BitVec 32 := 5#32
  let v1389 : BitVec 32 := Scalar.subi v2 c5_i32_1592
  let c8_i32_1593 : BitVec 32 := 8#32
  let c0_i32_1594 : BitVec 32 := 0#32
  let v1390 : BitVec 1 := Scalar.cmpi .eq c8_i32_1593 c0_i32_1594
  let c1_i32_1595 : BitVec 32 := 1#32
  let v1391 : BitVec 32 := Scalar.select v1390 c1_i32_1595 c8_i32_1593
  let v1392 : BitVec 32 := Scalar.remsi v1389 v1391
  let c0_i32_1597 : BitVec 32 := 0#32
  let v1394 : BitVec 1 := Scalar.cmpi .slt v1392 c0_i32_1597
  let c0_i32_1598 : BitVec 32 := 0#32
  let v1395 : BitVec 1 := Scalar.cmpi .slt v1391 c0_i32_1598
  let v1396 : BitVec 1 := Scalar.xori v1394 v1395
  let c0_i32_1596 : BitVec 32 := 0#32
  let v1393 : BitVec 1 := Scalar.cmpi .ne v1392 c0_i32_1596
  let v1397 : BitVec 1 := Scalar.andi v1396 v1393
  let v1398 : BitVec 32 := Scalar.addi v1392 v1391
  let v1399 : BitVec 32 := Scalar.select v1397 v1398 v1392
  let c1_i32_1606 : BitVec 32 := 1#32
  let v1400 : BitVec 32 := Scalar.muli v1399 c1_i32_1606
  let v1401 : BitVec 32 := Scalar.addi c0_i32_1607 v1400
  v1401.toNat
def k0_dev57 (d0 : Dev nD) : Nat :=
  let c0_i32_1627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1612 : BitVec 32 := 5#32
  let v1410 : BitVec 32 := Scalar.subi v2 c5_i32_1612
  let c8_i32_1613 : BitVec 32 := 8#32
  let c0_i32_1614 : BitVec 32 := 0#32
  let v1411 : BitVec 1 := Scalar.cmpi .eq c8_i32_1613 c0_i32_1614
  let c1_i32_1615 : BitVec 32 := 1#32
  let v1412 : BitVec 32 := Scalar.select v1411 c1_i32_1615 c8_i32_1613
  let v1413 : BitVec 32 := Scalar.remsi v1410 v1412
  let c0_i32_1617 : BitVec 32 := 0#32
  let v1415 : BitVec 1 := Scalar.cmpi .slt v1413 c0_i32_1617
  let c0_i32_1618 : BitVec 32 := 0#32
  let v1416 : BitVec 1 := Scalar.cmpi .slt v1412 c0_i32_1618
  let v1417 : BitVec 1 := Scalar.xori v1415 v1416
  let c0_i32_1616 : BitVec 32 := 0#32
  let v1414 : BitVec 1 := Scalar.cmpi .ne v1413 c0_i32_1616
  let v1418 : BitVec 1 := Scalar.andi v1417 v1414
  let v1419 : BitVec 32 := Scalar.addi v1413 v1412
  let v1420 : BitVec 32 := Scalar.select v1418 v1419 v1413
  let c1_i32_1626 : BitVec 32 := 1#32
  let v1421 : BitVec 32 := Scalar.muli v1420 c1_i32_1626
  let v1422 : BitVec 32 := Scalar.addi c0_i32_1627 v1421
  v1422.toNat
def k0_dev58 (d0 : Dev nD) : Nat :=
  let c0_i32_1647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1632 : BitVec 32 := 5#32
  let v1431 : BitVec 32 := Scalar.subi v2 c5_i32_1632
  let c8_i32_1633 : BitVec 32 := 8#32
  let c0_i32_1634 : BitVec 32 := 0#32
  let v1432 : BitVec 1 := Scalar.cmpi .eq c8_i32_1633 c0_i32_1634
  let c1_i32_1635 : BitVec 32 := 1#32
  let v1433 : BitVec 32 := Scalar.select v1432 c1_i32_1635 c8_i32_1633
  let v1434 : BitVec 32 := Scalar.remsi v1431 v1433
  let c0_i32_1637 : BitVec 32 := 0#32
  let v1436 : BitVec 1 := Scalar.cmpi .slt v1434 c0_i32_1637
  let c0_i32_1638 : BitVec 32 := 0#32
  let v1437 : BitVec 1 := Scalar.cmpi .slt v1433 c0_i32_1638
  let v1438 : BitVec 1 := Scalar.xori v1436 v1437
  let c0_i32_1636 : BitVec 32 := 0#32
  let v1435 : BitVec 1 := Scalar.cmpi .ne v1434 c0_i32_1636
  let v1439 : BitVec 1 := Scalar.andi v1438 v1435
  let v1440 : BitVec 32 := Scalar.addi v1434 v1433
  let v1441 : BitVec 32 := Scalar.select v1439 v1440 v1434
  let c1_i32_1646 : BitVec 32 := 1#32
  let v1442 : BitVec 32 := Scalar.muli v1441 c1_i32_1646
  let v1443 : BitVec 32 := Scalar.addi c0_i32_1647 v1442
  v1443.toNat
def k0_dev59 (d0 : Dev nD) : Nat :=
  let c0_i32_1667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1652 : BitVec 32 := 5#32
  let v1452 : BitVec 32 := Scalar.subi v2 c5_i32_1652
  let c8_i32_1653 : BitVec 32 := 8#32
  let c0_i32_1654 : BitVec 32 := 0#32
  let v1453 : BitVec 1 := Scalar.cmpi .eq c8_i32_1653 c0_i32_1654
  let c1_i32_1655 : BitVec 32 := 1#32
  let v1454 : BitVec 32 := Scalar.select v1453 c1_i32_1655 c8_i32_1653
  let v1455 : BitVec 32 := Scalar.remsi v1452 v1454
  let c0_i32_1657 : BitVec 32 := 0#32
  let v1457 : BitVec 1 := Scalar.cmpi .slt v1455 c0_i32_1657
  let c0_i32_1658 : BitVec 32 := 0#32
  let v1458 : BitVec 1 := Scalar.cmpi .slt v1454 c0_i32_1658
  let v1459 : BitVec 1 := Scalar.xori v1457 v1458
  let c0_i32_1656 : BitVec 32 := 0#32
  let v1456 : BitVec 1 := Scalar.cmpi .ne v1455 c0_i32_1656
  let v1460 : BitVec 1 := Scalar.andi v1459 v1456
  let v1461 : BitVec 32 := Scalar.addi v1455 v1454
  let v1462 : BitVec 32 := Scalar.select v1460 v1461 v1455
  let c1_i32_1666 : BitVec 32 := 1#32
  let v1463 : BitVec 32 := Scalar.muli v1462 c1_i32_1666
  let v1464 : BitVec 32 := Scalar.addi c0_i32_1667 v1463
  v1464.toNat
def k0_dev60 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1672 : BitVec 32 := 5#32
  let v1473 : BitVec 32 := Scalar.subi v2 c5_i32_1672
  let c8_i32_1673 : BitVec 32 := 8#32
  let c0_i32_1674 : BitVec 32 := 0#32
  let v1474 : BitVec 1 := Scalar.cmpi .eq c8_i32_1673 c0_i32_1674
  let c1_i32_1675 : BitVec 32 := 1#32
  let v1475 : BitVec 32 := Scalar.select v1474 c1_i32_1675 c8_i32_1673
  let v1476 : BitVec 32 := Scalar.remsi v1473 v1475
  let c0_i32_1677 : BitVec 32 := 0#32
  let v1478 : BitVec 1 := Scalar.cmpi .slt v1476 c0_i32_1677
  let c0_i32_1678 : BitVec 32 := 0#32
  let v1479 : BitVec 1 := Scalar.cmpi .slt v1475 c0_i32_1678
  let v1480 : BitVec 1 := Scalar.xori v1478 v1479
  let c0_i32_1676 : BitVec 32 := 0#32
  let v1477 : BitVec 1 := Scalar.cmpi .ne v1476 c0_i32_1676
  let v1481 : BitVec 1 := Scalar.andi v1480 v1477
  let v1482 : BitVec 32 := Scalar.addi v1476 v1475
  let v1483 : BitVec 32 := Scalar.select v1481 v1482 v1476
  let c1_i32_1686 : BitVec 32 := 1#32
  let v1484 : BitVec 32 := Scalar.muli v1483 c1_i32_1686
  let v1485 : BitVec 32 := Scalar.addi c0_i32_1687 v1484
  v1485.toNat
def k0_dev61 (d0 : Dev nD) : Nat :=
  let c0_i32_1707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1692 : BitVec 32 := 5#32
  let v1494 : BitVec 32 := Scalar.subi v2 c5_i32_1692
  let c8_i32_1693 : BitVec 32 := 8#32
  let c0_i32_1694 : BitVec 32 := 0#32
  let v1495 : BitVec 1 := Scalar.cmpi .eq c8_i32_1693 c0_i32_1694
  let c1_i32_1695 : BitVec 32 := 1#32
  let v1496 : BitVec 32 := Scalar.select v1495 c1_i32_1695 c8_i32_1693
  let v1497 : BitVec 32 := Scalar.remsi v1494 v1496
  let c0_i32_1697 : BitVec 32 := 0#32
  let v1499 : BitVec 1 := Scalar.cmpi .slt v1497 c0_i32_1697
  let c0_i32_1698 : BitVec 32 := 0#32
  let v1500 : BitVec 1 := Scalar.cmpi .slt v1496 c0_i32_1698
  let v1501 : BitVec 1 := Scalar.xori v1499 v1500
  let c0_i32_1696 : BitVec 32 := 0#32
  let v1498 : BitVec 1 := Scalar.cmpi .ne v1497 c0_i32_1696
  let v1502 : BitVec 1 := Scalar.andi v1501 v1498
  let v1503 : BitVec 32 := Scalar.addi v1497 v1496
  let v1504 : BitVec 32 := Scalar.select v1502 v1503 v1497
  let c1_i32_1706 : BitVec 32 := 1#32
  let v1505 : BitVec 32 := Scalar.muli v1504 c1_i32_1706
  let v1506 : BitVec 32 := Scalar.addi c0_i32_1707 v1505
  v1506.toNat
def k0_dev62 (d0 : Dev nD) : Nat :=
  let c0_i32_1727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1712 : BitVec 32 := 5#32
  let v1515 : BitVec 32 := Scalar.subi v2 c5_i32_1712
  let c8_i32_1713 : BitVec 32 := 8#32
  let c0_i32_1714 : BitVec 32 := 0#32
  let v1516 : BitVec 1 := Scalar.cmpi .eq c8_i32_1713 c0_i32_1714
  let c1_i32_1715 : BitVec 32 := 1#32
  let v1517 : BitVec 32 := Scalar.select v1516 c1_i32_1715 c8_i32_1713
  let v1518 : BitVec 32 := Scalar.remsi v1515 v1517
  let c0_i32_1717 : BitVec 32 := 0#32
  let v1520 : BitVec 1 := Scalar.cmpi .slt v1518 c0_i32_1717
  let c0_i32_1718 : BitVec 32 := 0#32
  let v1521 : BitVec 1 := Scalar.cmpi .slt v1517 c0_i32_1718
  let v1522 : BitVec 1 := Scalar.xori v1520 v1521
  let c0_i32_1716 : BitVec 32 := 0#32
  let v1519 : BitVec 1 := Scalar.cmpi .ne v1518 c0_i32_1716
  let v1523 : BitVec 1 := Scalar.andi v1522 v1519
  let v1524 : BitVec 32 := Scalar.addi v1518 v1517
  let v1525 : BitVec 32 := Scalar.select v1523 v1524 v1518
  let c1_i32_1726 : BitVec 32 := 1#32
  let v1526 : BitVec 32 := Scalar.muli v1525 c1_i32_1726
  let v1527 : BitVec 32 := Scalar.addi c0_i32_1727 v1526
  v1527.toNat
def k0_dev63 (d0 : Dev nD) : Nat :=
  let c0_i32_1747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1732 : BitVec 32 := 6#32
  let v1536 : BitVec 32 := Scalar.subi v2 c6_i32_1732
  let c8_i32_1733 : BitVec 32 := 8#32
  let c0_i32_1734 : BitVec 32 := 0#32
  let v1537 : BitVec 1 := Scalar.cmpi .eq c8_i32_1733 c0_i32_1734
  let c1_i32_1735 : BitVec 32 := 1#32
  let v1538 : BitVec 32 := Scalar.select v1537 c1_i32_1735 c8_i32_1733
  let v1539 : BitVec 32 := Scalar.remsi v1536 v1538
  let c0_i32_1737 : BitVec 32 := 0#32
  let v1541 : BitVec 1 := Scalar.cmpi .slt v1539 c0_i32_1737
  let c0_i32_1738 : BitVec 32 := 0#32
  let v1542 : BitVec 1 := Scalar.cmpi .slt v1538 c0_i32_1738
  let v1543 : BitVec 1 := Scalar.xori v1541 v1542
  let c0_i32_1736 : BitVec 32 := 0#32
  let v1540 : BitVec 1 := Scalar.cmpi .ne v1539 c0_i32_1736
  let v1544 : BitVec 1 := Scalar.andi v1543 v1540
  let v1545 : BitVec 32 := Scalar.addi v1539 v1538
  let v1546 : BitVec 32 := Scalar.select v1544 v1545 v1539
  let c1_i32_1746 : BitVec 32 := 1#32
  let v1547 : BitVec 32 := Scalar.muli v1546 c1_i32_1746
  let v1548 : BitVec 32 := Scalar.addi c0_i32_1747 v1547
  v1548.toNat
def k0_dev64 (d0 : Dev nD) : Nat :=
  let c0_i32_1767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1752 : BitVec 32 := 6#32
  let v1557 : BitVec 32 := Scalar.subi v2 c6_i32_1752
  let c8_i32_1753 : BitVec 32 := 8#32
  let c0_i32_1754 : BitVec 32 := 0#32
  let v1558 : BitVec 1 := Scalar.cmpi .eq c8_i32_1753 c0_i32_1754
  let c1_i32_1755 : BitVec 32 := 1#32
  let v1559 : BitVec 32 := Scalar.select v1558 c1_i32_1755 c8_i32_1753
  let v1560 : BitVec 32 := Scalar.remsi v1557 v1559
  let c0_i32_1757 : BitVec 32 := 0#32
  let v1562 : BitVec 1 := Scalar.cmpi .slt v1560 c0_i32_1757
  let c0_i32_1758 : BitVec 32 := 0#32
  let v1563 : BitVec 1 := Scalar.cmpi .slt v1559 c0_i32_1758
  let v1564 : BitVec 1 := Scalar.xori v1562 v1563
  let c0_i32_1756 : BitVec 32 := 0#32
  let v1561 : BitVec 1 := Scalar.cmpi .ne v1560 c0_i32_1756
  let v1565 : BitVec 1 := Scalar.andi v1564 v1561
  let v1566 : BitVec 32 := Scalar.addi v1560 v1559
  let v1567 : BitVec 32 := Scalar.select v1565 v1566 v1560
  let c1_i32_1766 : BitVec 32 := 1#32
  let v1568 : BitVec 32 := Scalar.muli v1567 c1_i32_1766
  let v1569 : BitVec 32 := Scalar.addi c0_i32_1767 v1568
  v1569.toNat
def k0_dev65 (d0 : Dev nD) : Nat :=
  let c0_i32_1787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1772 : BitVec 32 := 6#32
  let v1578 : BitVec 32 := Scalar.subi v2 c6_i32_1772
  let c8_i32_1773 : BitVec 32 := 8#32
  let c0_i32_1774 : BitVec 32 := 0#32
  let v1579 : BitVec 1 := Scalar.cmpi .eq c8_i32_1773 c0_i32_1774
  let c1_i32_1775 : BitVec 32 := 1#32
  let v1580 : BitVec 32 := Scalar.select v1579 c1_i32_1775 c8_i32_1773
  let v1581 : BitVec 32 := Scalar.remsi v1578 v1580
  let c0_i32_1777 : BitVec 32 := 0#32
  let v1583 : BitVec 1 := Scalar.cmpi .slt v1581 c0_i32_1777
  let c0_i32_1778 : BitVec 32 := 0#32
  let v1584 : BitVec 1 := Scalar.cmpi .slt v1580 c0_i32_1778
  let v1585 : BitVec 1 := Scalar.xori v1583 v1584
  let c0_i32_1776 : BitVec 32 := 0#32
  let v1582 : BitVec 1 := Scalar.cmpi .ne v1581 c0_i32_1776
  let v1586 : BitVec 1 := Scalar.andi v1585 v1582
  let v1587 : BitVec 32 := Scalar.addi v1581 v1580
  let v1588 : BitVec 32 := Scalar.select v1586 v1587 v1581
  let c1_i32_1786 : BitVec 32 := 1#32
  let v1589 : BitVec 32 := Scalar.muli v1588 c1_i32_1786
  let v1590 : BitVec 32 := Scalar.addi c0_i32_1787 v1589
  v1590.toNat
def k0_dev66 (d0 : Dev nD) : Nat :=
  let c0_i32_1807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1792 : BitVec 32 := 6#32
  let v1599 : BitVec 32 := Scalar.subi v2 c6_i32_1792
  let c8_i32_1793 : BitVec 32 := 8#32
  let c0_i32_1794 : BitVec 32 := 0#32
  let v1600 : BitVec 1 := Scalar.cmpi .eq c8_i32_1793 c0_i32_1794
  let c1_i32_1795 : BitVec 32 := 1#32
  let v1601 : BitVec 32 := Scalar.select v1600 c1_i32_1795 c8_i32_1793
  let v1602 : BitVec 32 := Scalar.remsi v1599 v1601
  let c0_i32_1797 : BitVec 32 := 0#32
  let v1604 : BitVec 1 := Scalar.cmpi .slt v1602 c0_i32_1797
  let c0_i32_1798 : BitVec 32 := 0#32
  let v1605 : BitVec 1 := Scalar.cmpi .slt v1601 c0_i32_1798
  let v1606 : BitVec 1 := Scalar.xori v1604 v1605
  let c0_i32_1796 : BitVec 32 := 0#32
  let v1603 : BitVec 1 := Scalar.cmpi .ne v1602 c0_i32_1796
  let v1607 : BitVec 1 := Scalar.andi v1606 v1603
  let v1608 : BitVec 32 := Scalar.addi v1602 v1601
  let v1609 : BitVec 32 := Scalar.select v1607 v1608 v1602
  let c1_i32_1806 : BitVec 32 := 1#32
  let v1610 : BitVec 32 := Scalar.muli v1609 c1_i32_1806
  let v1611 : BitVec 32 := Scalar.addi c0_i32_1807 v1610
  v1611.toNat
def k0_dev67 (d0 : Dev nD) : Nat :=
  let c0_i32_1827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1812 : BitVec 32 := 6#32
  let v1620 : BitVec 32 := Scalar.subi v2 c6_i32_1812
  let c8_i32_1813 : BitVec 32 := 8#32
  let c0_i32_1814 : BitVec 32 := 0#32
  let v1621 : BitVec 1 := Scalar.cmpi .eq c8_i32_1813 c0_i32_1814
  let c1_i32_1815 : BitVec 32 := 1#32
  let v1622 : BitVec 32 := Scalar.select v1621 c1_i32_1815 c8_i32_1813
  let v1623 : BitVec 32 := Scalar.remsi v1620 v1622
  let c0_i32_1817 : BitVec 32 := 0#32
  let v1625 : BitVec 1 := Scalar.cmpi .slt v1623 c0_i32_1817
  let c0_i32_1818 : BitVec 32 := 0#32
  let v1626 : BitVec 1 := Scalar.cmpi .slt v1622 c0_i32_1818
  let v1627 : BitVec 1 := Scalar.xori v1625 v1626
  let c0_i32_1816 : BitVec 32 := 0#32
  let v1624 : BitVec 1 := Scalar.cmpi .ne v1623 c0_i32_1816
  let v1628 : BitVec 1 := Scalar.andi v1627 v1624
  let v1629 : BitVec 32 := Scalar.addi v1623 v1622
  let v1630 : BitVec 32 := Scalar.select v1628 v1629 v1623
  let c1_i32_1826 : BitVec 32 := 1#32
  let v1631 : BitVec 32 := Scalar.muli v1630 c1_i32_1826
  let v1632 : BitVec 32 := Scalar.addi c0_i32_1827 v1631
  v1632.toNat
def k0_dev68 (d0 : Dev nD) : Nat :=
  let c0_i32_1847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1832 : BitVec 32 := 6#32
  let v1641 : BitVec 32 := Scalar.subi v2 c6_i32_1832
  let c8_i32_1833 : BitVec 32 := 8#32
  let c0_i32_1834 : BitVec 32 := 0#32
  let v1642 : BitVec 1 := Scalar.cmpi .eq c8_i32_1833 c0_i32_1834
  let c1_i32_1835 : BitVec 32 := 1#32
  let v1643 : BitVec 32 := Scalar.select v1642 c1_i32_1835 c8_i32_1833
  let v1644 : BitVec 32 := Scalar.remsi v1641 v1643
  let c0_i32_1837 : BitVec 32 := 0#32
  let v1646 : BitVec 1 := Scalar.cmpi .slt v1644 c0_i32_1837
  let c0_i32_1838 : BitVec 32 := 0#32
  let v1647 : BitVec 1 := Scalar.cmpi .slt v1643 c0_i32_1838
  let v1648 : BitVec 1 := Scalar.xori v1646 v1647
  let c0_i32_1836 : BitVec 32 := 0#32
  let v1645 : BitVec 1 := Scalar.cmpi .ne v1644 c0_i32_1836
  let v1649 : BitVec 1 := Scalar.andi v1648 v1645
  let v1650 : BitVec 32 := Scalar.addi v1644 v1643
  let v1651 : BitVec 32 := Scalar.select v1649 v1650 v1644
  let c1_i32_1846 : BitVec 32 := 1#32
  let v1652 : BitVec 32 := Scalar.muli v1651 c1_i32_1846
  let v1653 : BitVec 32 := Scalar.addi c0_i32_1847 v1652
  v1653.toNat
def k0_dev69 (d0 : Dev nD) : Nat :=
  let c0_i32_1867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1852 : BitVec 32 := 6#32
  let v1662 : BitVec 32 := Scalar.subi v2 c6_i32_1852
  let c8_i32_1853 : BitVec 32 := 8#32
  let c0_i32_1854 : BitVec 32 := 0#32
  let v1663 : BitVec 1 := Scalar.cmpi .eq c8_i32_1853 c0_i32_1854
  let c1_i32_1855 : BitVec 32 := 1#32
  let v1664 : BitVec 32 := Scalar.select v1663 c1_i32_1855 c8_i32_1853
  let v1665 : BitVec 32 := Scalar.remsi v1662 v1664
  let c0_i32_1857 : BitVec 32 := 0#32
  let v1667 : BitVec 1 := Scalar.cmpi .slt v1665 c0_i32_1857
  let c0_i32_1858 : BitVec 32 := 0#32
  let v1668 : BitVec 1 := Scalar.cmpi .slt v1664 c0_i32_1858
  let v1669 : BitVec 1 := Scalar.xori v1667 v1668
  let c0_i32_1856 : BitVec 32 := 0#32
  let v1666 : BitVec 1 := Scalar.cmpi .ne v1665 c0_i32_1856
  let v1670 : BitVec 1 := Scalar.andi v1669 v1666
  let v1671 : BitVec 32 := Scalar.addi v1665 v1664
  let v1672 : BitVec 32 := Scalar.select v1670 v1671 v1665
  let c1_i32_1866 : BitVec 32 := 1#32
  let v1673 : BitVec 32 := Scalar.muli v1672 c1_i32_1866
  let v1674 : BitVec 32 := Scalar.addi c0_i32_1867 v1673
  v1674.toNat
def k0_dev70 (d0 : Dev nD) : Nat :=
  let c0_i32_1887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1872 : BitVec 32 := 6#32
  let v1683 : BitVec 32 := Scalar.subi v2 c6_i32_1872
  let c8_i32_1873 : BitVec 32 := 8#32
  let c0_i32_1874 : BitVec 32 := 0#32
  let v1684 : BitVec 1 := Scalar.cmpi .eq c8_i32_1873 c0_i32_1874
  let c1_i32_1875 : BitVec 32 := 1#32
  let v1685 : BitVec 32 := Scalar.select v1684 c1_i32_1875 c8_i32_1873
  let v1686 : BitVec 32 := Scalar.remsi v1683 v1685
  let c0_i32_1877 : BitVec 32 := 0#32
  let v1688 : BitVec 1 := Scalar.cmpi .slt v1686 c0_i32_1877
  let c0_i32_1878 : BitVec 32 := 0#32
  let v1689 : BitVec 1 := Scalar.cmpi .slt v1685 c0_i32_1878
  let v1690 : BitVec 1 := Scalar.xori v1688 v1689
  let c0_i32_1876 : BitVec 32 := 0#32
  let v1687 : BitVec 1 := Scalar.cmpi .ne v1686 c0_i32_1876
  let v1691 : BitVec 1 := Scalar.andi v1690 v1687
  let v1692 : BitVec 32 := Scalar.addi v1686 v1685
  let v1693 : BitVec 32 := Scalar.select v1691 v1692 v1686
  let c1_i32_1886 : BitVec 32 := 1#32
  let v1694 : BitVec 32 := Scalar.muli v1693 c1_i32_1886
  let v1695 : BitVec 32 := Scalar.addi c0_i32_1887 v1694
  v1695.toNat
def k0_dev71 (d0 : Dev nD) : Nat :=
  let c0_i32_1907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1892 : BitVec 32 := 7#32
  let v1704 : BitVec 32 := Scalar.subi v2 c7_i32_1892
  let c8_i32_1893 : BitVec 32 := 8#32
  let c0_i32_1894 : BitVec 32 := 0#32
  let v1705 : BitVec 1 := Scalar.cmpi .eq c8_i32_1893 c0_i32_1894
  let c1_i32_1895 : BitVec 32 := 1#32
  let v1706 : BitVec 32 := Scalar.select v1705 c1_i32_1895 c8_i32_1893
  let v1707 : BitVec 32 := Scalar.remsi v1704 v1706
  let c0_i32_1897 : BitVec 32 := 0#32
  let v1709 : BitVec 1 := Scalar.cmpi .slt v1707 c0_i32_1897
  let c0_i32_1898 : BitVec 32 := 0#32
  let v1710 : BitVec 1 := Scalar.cmpi .slt v1706 c0_i32_1898
  let v1711 : BitVec 1 := Scalar.xori v1709 v1710
  let c0_i32_1896 : BitVec 32 := 0#32
  let v1708 : BitVec 1 := Scalar.cmpi .ne v1707 c0_i32_1896
  let v1712 : BitVec 1 := Scalar.andi v1711 v1708
  let v1713 : BitVec 32 := Scalar.addi v1707 v1706
  let v1714 : BitVec 32 := Scalar.select v1712 v1713 v1707
  let c1_i32_1906 : BitVec 32 := 1#32
  let v1715 : BitVec 32 := Scalar.muli v1714 c1_i32_1906
  let v1716 : BitVec 32 := Scalar.addi c0_i32_1907 v1715
  v1716.toNat
def k0_dev72 (d0 : Dev nD) : Nat :=
  let c0_i32_1927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1912 : BitVec 32 := 7#32
  let v1725 : BitVec 32 := Scalar.subi v2 c7_i32_1912
  let c8_i32_1913 : BitVec 32 := 8#32
  let c0_i32_1914 : BitVec 32 := 0#32
  let v1726 : BitVec 1 := Scalar.cmpi .eq c8_i32_1913 c0_i32_1914
  let c1_i32_1915 : BitVec 32 := 1#32
  let v1727 : BitVec 32 := Scalar.select v1726 c1_i32_1915 c8_i32_1913
  let v1728 : BitVec 32 := Scalar.remsi v1725 v1727
  let c0_i32_1917 : BitVec 32 := 0#32
  let v1730 : BitVec 1 := Scalar.cmpi .slt v1728 c0_i32_1917
  let c0_i32_1918 : BitVec 32 := 0#32
  let v1731 : BitVec 1 := Scalar.cmpi .slt v1727 c0_i32_1918
  let v1732 : BitVec 1 := Scalar.xori v1730 v1731
  let c0_i32_1916 : BitVec 32 := 0#32
  let v1729 : BitVec 1 := Scalar.cmpi .ne v1728 c0_i32_1916
  let v1733 : BitVec 1 := Scalar.andi v1732 v1729
  let v1734 : BitVec 32 := Scalar.addi v1728 v1727
  let v1735 : BitVec 32 := Scalar.select v1733 v1734 v1728
  let c1_i32_1926 : BitVec 32 := 1#32
  let v1736 : BitVec 32 := Scalar.muli v1735 c1_i32_1926
  let v1737 : BitVec 32 := Scalar.addi c0_i32_1927 v1736
  v1737.toNat
def k0_dev73 (d0 : Dev nD) : Nat :=
  let c0_i32_1947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1932 : BitVec 32 := 7#32
  let v1746 : BitVec 32 := Scalar.subi v2 c7_i32_1932
  let c8_i32_1933 : BitVec 32 := 8#32
  let c0_i32_1934 : BitVec 32 := 0#32
  let v1747 : BitVec 1 := Scalar.cmpi .eq c8_i32_1933 c0_i32_1934
  let c1_i32_1935 : BitVec 32 := 1#32
  let v1748 : BitVec 32 := Scalar.select v1747 c1_i32_1935 c8_i32_1933
  let v1749 : BitVec 32 := Scalar.remsi v1746 v1748
  let c0_i32_1937 : BitVec 32 := 0#32
  let v1751 : BitVec 1 := Scalar.cmpi .slt v1749 c0_i32_1937
  let c0_i32_1938 : BitVec 32 := 0#32
  let v1752 : BitVec 1 := Scalar.cmpi .slt v1748 c0_i32_1938
  let v1753 : BitVec 1 := Scalar.xori v1751 v1752
  let c0_i32_1936 : BitVec 32 := 0#32
  let v1750 : BitVec 1 := Scalar.cmpi .ne v1749 c0_i32_1936
  let v1754 : BitVec 1 := Scalar.andi v1753 v1750
  let v1755 : BitVec 32 := Scalar.addi v1749 v1748
  let v1756 : BitVec 32 := Scalar.select v1754 v1755 v1749
  let c1_i32_1946 : BitVec 32 := 1#32
  let v1757 : BitVec 32 := Scalar.muli v1756 c1_i32_1946
  let v1758 : BitVec 32 := Scalar.addi c0_i32_1947 v1757
  v1758.toNat
def k0_dev74 (d0 : Dev nD) : Nat :=
  let c0_i32_1967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1952 : BitVec 32 := 7#32
  let v1767 : BitVec 32 := Scalar.subi v2 c7_i32_1952
  let c8_i32_1953 : BitVec 32 := 8#32
  let c0_i32_1954 : BitVec 32 := 0#32
  let v1768 : BitVec 1 := Scalar.cmpi .eq c8_i32_1953 c0_i32_1954
  let c1_i32_1955 : BitVec 32 := 1#32
  let v1769 : BitVec 32 := Scalar.select v1768 c1_i32_1955 c8_i32_1953
  let v1770 : BitVec 32 := Scalar.remsi v1767 v1769
  let c0_i32_1957 : BitVec 32 := 0#32
  let v1772 : BitVec 1 := Scalar.cmpi .slt v1770 c0_i32_1957
  let c0_i32_1958 : BitVec 32 := 0#32
  let v1773 : BitVec 1 := Scalar.cmpi .slt v1769 c0_i32_1958
  let v1774 : BitVec 1 := Scalar.xori v1772 v1773
  let c0_i32_1956 : BitVec 32 := 0#32
  let v1771 : BitVec 1 := Scalar.cmpi .ne v1770 c0_i32_1956
  let v1775 : BitVec 1 := Scalar.andi v1774 v1771
  let v1776 : BitVec 32 := Scalar.addi v1770 v1769
  let v1777 : BitVec 32 := Scalar.select v1775 v1776 v1770
  let c1_i32_1966 : BitVec 32 := 1#32
  let v1778 : BitVec 32 := Scalar.muli v1777 c1_i32_1966
  let v1779 : BitVec 32 := Scalar.addi c0_i32_1967 v1778
  v1779.toNat
def k0_dev75 (d0 : Dev nD) : Nat :=
  let c0_i32_1987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1972 : BitVec 32 := 7#32
  let v1788 : BitVec 32 := Scalar.subi v2 c7_i32_1972
  let c8_i32_1973 : BitVec 32 := 8#32
  let c0_i32_1974 : BitVec 32 := 0#32
  let v1789 : BitVec 1 := Scalar.cmpi .eq c8_i32_1973 c0_i32_1974
  let c1_i32_1975 : BitVec 32 := 1#32
  let v1790 : BitVec 32 := Scalar.select v1789 c1_i32_1975 c8_i32_1973
  let v1791 : BitVec 32 := Scalar.remsi v1788 v1790
  let c0_i32_1977 : BitVec 32 := 0#32
  let v1793 : BitVec 1 := Scalar.cmpi .slt v1791 c0_i32_1977
  let c0_i32_1978 : BitVec 32 := 0#32
  let v1794 : BitVec 1 := Scalar.cmpi .slt v1790 c0_i32_1978
  let v1795 : BitVec 1 := Scalar.xori v1793 v1794
  let c0_i32_1976 : BitVec 32 := 0#32
  let v1792 : BitVec 1 := Scalar.cmpi .ne v1791 c0_i32_1976
  let v1796 : BitVec 1 := Scalar.andi v1795 v1792
  let v1797 : BitVec 32 := Scalar.addi v1791 v1790
  let v1798 : BitVec 32 := Scalar.select v1796 v1797 v1791
  let c1_i32_1986 : BitVec 32 := 1#32
  let v1799 : BitVec 32 := Scalar.muli v1798 c1_i32_1986
  let v1800 : BitVec 32 := Scalar.addi c0_i32_1987 v1799
  v1800.toNat
def k0_dev76 (d0 : Dev nD) : Nat :=
  let c0_i32_2007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1992 : BitVec 32 := 7#32
  let v1809 : BitVec 32 := Scalar.subi v2 c7_i32_1992
  let c8_i32_1993 : BitVec 32 := 8#32
  let c0_i32_1994 : BitVec 32 := 0#32
  let v1810 : BitVec 1 := Scalar.cmpi .eq c8_i32_1993 c0_i32_1994
  let c1_i32_1995 : BitVec 32 := 1#32
  let v1811 : BitVec 32 := Scalar.select v1810 c1_i32_1995 c8_i32_1993
  let v1812 : BitVec 32 := Scalar.remsi v1809 v1811
  let c0_i32_1997 : BitVec 32 := 0#32
  let v1814 : BitVec 1 := Scalar.cmpi .slt v1812 c0_i32_1997
  let c0_i32_1998 : BitVec 32 := 0#32
  let v1815 : BitVec 1 := Scalar.cmpi .slt v1811 c0_i32_1998
  let v1816 : BitVec 1 := Scalar.xori v1814 v1815
  let c0_i32_1996 : BitVec 32 := 0#32
  let v1813 : BitVec 1 := Scalar.cmpi .ne v1812 c0_i32_1996
  let v1817 : BitVec 1 := Scalar.andi v1816 v1813
  let v1818 : BitVec 32 := Scalar.addi v1812 v1811
  let v1819 : BitVec 32 := Scalar.select v1817 v1818 v1812
  let c1_i32_2006 : BitVec 32 := 1#32
  let v1820 : BitVec 32 := Scalar.muli v1819 c1_i32_2006
  let v1821 : BitVec 32 := Scalar.addi c0_i32_2007 v1820
  v1821.toNat
def k0_dev77 (d0 : Dev nD) : Nat :=
  let c0_i32_2027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2012 : BitVec 32 := 7#32
  let v1830 : BitVec 32 := Scalar.subi v2 c7_i32_2012
  let c8_i32_2013 : BitVec 32 := 8#32
  let c0_i32_2014 : BitVec 32 := 0#32
  let v1831 : BitVec 1 := Scalar.cmpi .eq c8_i32_2013 c0_i32_2014
  let c1_i32_2015 : BitVec 32 := 1#32
  let v1832 : BitVec 32 := Scalar.select v1831 c1_i32_2015 c8_i32_2013
  let v1833 : BitVec 32 := Scalar.remsi v1830 v1832
  let c0_i32_2017 : BitVec 32 := 0#32
  let v1835 : BitVec 1 := Scalar.cmpi .slt v1833 c0_i32_2017
  let c0_i32_2018 : BitVec 32 := 0#32
  let v1836 : BitVec 1 := Scalar.cmpi .slt v1832 c0_i32_2018
  let v1837 : BitVec 1 := Scalar.xori v1835 v1836
  let c0_i32_2016 : BitVec 32 := 0#32
  let v1834 : BitVec 1 := Scalar.cmpi .ne v1833 c0_i32_2016
  let v1838 : BitVec 1 := Scalar.andi v1837 v1834
  let v1839 : BitVec 32 := Scalar.addi v1833 v1832
  let v1840 : BitVec 32 := Scalar.select v1838 v1839 v1833
  let c1_i32_2026 : BitVec 32 := 1#32
  let v1841 : BitVec 32 := Scalar.muli v1840 c1_i32_2026
  let v1842 : BitVec 32 := Scalar.addi c0_i32_2027 v1841
  v1842.toNat
def k0_dev78 (d0 : Dev nD) : Nat :=
  let c0_i32_2047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2032 : BitVec 32 := 7#32
  let v1851 : BitVec 32 := Scalar.subi v2 c7_i32_2032
  let c8_i32_2033 : BitVec 32 := 8#32
  let c0_i32_2034 : BitVec 32 := 0#32
  let v1852 : BitVec 1 := Scalar.cmpi .eq c8_i32_2033 c0_i32_2034
  let c1_i32_2035 : BitVec 32 := 1#32
  let v1853 : BitVec 32 := Scalar.select v1852 c1_i32_2035 c8_i32_2033
  let v1854 : BitVec 32 := Scalar.remsi v1851 v1853
  let c0_i32_2037 : BitVec 32 := 0#32
  let v1856 : BitVec 1 := Scalar.cmpi .slt v1854 c0_i32_2037
  let c0_i32_2038 : BitVec 32 := 0#32
  let v1857 : BitVec 1 := Scalar.cmpi .slt v1853 c0_i32_2038
  let v1858 : BitVec 1 := Scalar.xori v1856 v1857
  let c0_i32_2036 : BitVec 32 := 0#32
  let v1855 : BitVec 1 := Scalar.cmpi .ne v1854 c0_i32_2036
  let v1859 : BitVec 1 := Scalar.andi v1858 v1855
  let v1860 : BitVec 32 := Scalar.addi v1854 v1853
  let v1861 : BitVec 32 := Scalar.select v1859 v1860 v1854
  let c1_i32_2046 : BitVec 32 := 1#32
  let v1862 : BitVec 32 := Scalar.muli v1861 c1_i32_2046
  let v1863 : BitVec 32 := Scalar.addi c0_i32_2047 v1862
  v1863.toNat
@[reducible] def k0_t5_loop : Scf.Loop 32 :=
  let c0_i32_2052 : BitVec 32 := 0#32
  let c8_i32_2053 : BitVec 32 := 8#32
  let v1872 : BitVec 32 := Scalar.addi c0_i32_2052 c8_i32_2053
  let c1_i32_2054 : BitVec 32 := 1#32
  ⟨c0_i32_2052, v1872, c1_i32_2054⟩
def k0_cond3 (k0_t5 : Fin k0_t5_loop.trips) : BitVec 1 :=
  let c0_i32_2052 : BitVec 32 := 0#32
  let c1_i32_2054 : BitVec 32 := 1#32
  let arg17 : BitVec 32 := Scf.iv c0_i32_2052 c1_i32_2054 k0_t5
  let c0_i32_2728 : BitVec 32 := 0#32
  let v2209 : BitVec 1 := Scalar.cmpi .sgt arg17 c0_i32_2728
  let v2210 : BitVec 32 := Scalar.extui v2209
  let c0_i32_2729 : BitVec 32 := 0#32
  let v2211 : BitVec 1 := Scalar.cmpi .ne v2210 c0_i32_2729
  v2211

def k0_off52 (k0_t5 : Fin k0_t5_loop.trips) : Fin 2 → Nat :=
  let c0_i32_2739 : BitVec 32 := 0#32
  let c0_i32_2052 : BitVec 32 := 0#32
  let c1_i32_2054 : BitVec 32 := 1#32
  let arg17 : BitVec 32 := Scf.iv c0_i32_2052 c1_i32_2054 k0_t5
  ![0, arg17.toNat]
def k0_off53 (k0_t5 : Fin k0_t5_loop.trips) : Fin 4 → Nat :=
  let c0_i32_2052 : BitVec 32 := 0#32
  let c1_i32_2054 : BitVec 32 := 1#32
  let arg17 : BitVec 32 := Scf.iv c0_i32_2052 c1_i32_2054 k0_t5
  let c0_i32_2738 : BitVec 32 := 0#32
  let c0_i32_2743 : BitVec 32 := 0#32
  let c0_i32_2744 : BitVec 32 := 0#32
  ![arg17.toNat, 0, 0, 0]
def k0_off54 (k0_t5 : Fin k0_t5_loop.trips) : Fin 2 → Nat :=
  let c1_i32_2749 : BitVec 32 := 1#32
  let c0_i32_2052 : BitVec 32 := 0#32
  let c1_i32_2054 : BitVec 32 := 1#32
  let arg17 : BitVec 32 := Scf.iv c0_i32_2052 c1_i32_2054 k0_t5
  ![1, arg17.toNat]
def k0_off55 (k0_t5 : Fin k0_t5_loop.trips) : Fin 4 → Nat :=
  let c0_i32_2052 : BitVec 32 := 0#32
  let c1_i32_2054 : BitVec 32 := 1#32
  let arg17 : BitVec 32 := Scf.iv c0_i32_2052 c1_i32_2054 k0_t5
  let c1_i32_2748 : BitVec 32 := 1#32
  let c0_i32_2753 : BitVec 32 := 0#32
  let c0_i32_2754 : BitVec 32 := 0#32
  ![arg17.toNat, 1, 0, 0]
def k0_off56 (k0_t5 : Fin k0_t5_loop.trips) : Fin 2 → Nat :=
  let c2_i32_2759 : BitVec 32 := 2#32
  let c0_i32_2052 : BitVec 32 := 0#32
  let c1_i32_2054 : BitVec 32 := 1#32
  let arg17 : BitVec 32 := Scf.iv c0_i32_2052 c1_i32_2054 k0_t5
  ![2, arg17.toNat]
def k0_off57 (k0_t5 : Fin k0_t5_loop.trips) : Fin 4 → Nat :=
  let c0_i32_2052 : BitVec 32 := 0#32
  let c1_i32_2054 : BitVec 32 := 1#32
  let arg17 : BitVec 32 := Scf.iv c0_i32_2052 c1_i32_2054 k0_t5
  let c2_i32_2758 : BitVec 32 := 2#32
  let c0_i32_2763 : BitVec 32 := 0#32
  let c0_i32_2764 : BitVec 32 := 0#32
  ![arg17.toNat, 2, 0, 0]
def k0_off58 (k0_t5 : Fin k0_t5_loop.trips) : Fin 2 → Nat :=
  let c3_i32_2769 : BitVec 32 := 3#32
  let c0_i32_2052 : BitVec 32 := 0#32
  let c1_i32_2054 : BitVec 32 := 1#32
  let arg17 : BitVec 32 := Scf.iv c0_i32_2052 c1_i32_2054 k0_t5
  ![3, arg17.toNat]
def k0_off59 (k0_t5 : Fin k0_t5_loop.trips) : Fin 4 → Nat :=
  let c0_i32_2052 : BitVec 32 := 0#32
  let c1_i32_2054 : BitVec 32 := 1#32
  let arg17 : BitVec 32 := Scf.iv c0_i32_2052 c1_i32_2054 k0_t5
  let c3_i32_2768 : BitVec 32 := 3#32
  let c0_i32_2773 : BitVec 32 := 0#32
  let c0_i32_2774 : BitVec 32 := 0#32
  ![arg17.toNat, 3, 0, 0]
def k0_off60 (k0_t5 : Fin k0_t5_loop.trips) : Fin 2 → Nat :=
  let c4_i32_2779 : BitVec 32 := 4#32
  let c0_i32_2052 : BitVec 32 := 0#32
  let c1_i32_2054 : BitVec 32 := 1#32
  let arg17 : BitVec 32 := Scf.iv c0_i32_2052 c1_i32_2054 k0_t5
  ![4, arg17.toNat]
def k0_off61 (k0_t5 : Fin k0_t5_loop.trips) : Fin 4 → Nat :=
  let c0_i32_2052 : BitVec 32 := 0#32
  let c1_i32_2054 : BitVec 32 := 1#32
  let arg17 : BitVec 32 := Scf.iv c0_i32_2052 c1_i32_2054 k0_t5
  let c4_i32_2778 : BitVec 32 := 4#32
  let c0_i32_2783 : BitVec 32 := 0#32
  let c0_i32_2784 : BitVec 32 := 0#32
  ![arg17.toNat, 4, 0, 0]
def k0_off62 (k0_t5 : Fin k0_t5_loop.trips) : Fin 2 → Nat :=
  let c5_i32_2789 : BitVec 32 := 5#32
  let c0_i32_2052 : BitVec 32 := 0#32
  let c1_i32_2054 : BitVec 32 := 1#32
  let arg17 : BitVec 32 := Scf.iv c0_i32_2052 c1_i32_2054 k0_t5
  ![5, arg17.toNat]
def k0_off63 (k0_t5 : Fin k0_t5_loop.trips) : Fin 4 → Nat :=
  let c0_i32_2052 : BitVec 32 := 0#32
  let c1_i32_2054 : BitVec 32 := 1#32
  let arg17 : BitVec 32 := Scf.iv c0_i32_2052 c1_i32_2054 k0_t5
  let c5_i32_2788 : BitVec 32 := 5#32
  let c0_i32_2793 : BitVec 32 := 0#32
  let c0_i32_2794 : BitVec 32 := 0#32
  ![arg17.toNat, 5, 0, 0]
def k0_off64 (k0_t5 : Fin k0_t5_loop.trips) : Fin 2 → Nat :=
  let c6_i32_2799 : BitVec 32 := 6#32
  let c0_i32_2052 : BitVec 32 := 0#32
  let c1_i32_2054 : BitVec 32 := 1#32
  let arg17 : BitVec 32 := Scf.iv c0_i32_2052 c1_i32_2054 k0_t5
  ![6, arg17.toNat]
def k0_off65 (k0_t5 : Fin k0_t5_loop.trips) : Fin 4 → Nat :=
  let c0_i32_2052 : BitVec 32 := 0#32
  let c1_i32_2054 : BitVec 32 := 1#32
  let arg17 : BitVec 32 := Scf.iv c0_i32_2052 c1_i32_2054 k0_t5
  let c6_i32_2798 : BitVec 32 := 6#32
  let c0_i32_2803 : BitVec 32 := 0#32
  let c0_i32_2804 : BitVec 32 := 0#32
  ![arg17.toNat, 6, 0, 0]
def k0_off66 (k0_t5 : Fin k0_t5_loop.trips) : Fin 2 → Nat :=
  let c7_i32_2809 : BitVec 32 := 7#32
  let c0_i32_2052 : BitVec 32 := 0#32
  let c1_i32_2054 : BitVec 32 := 1#32
  let arg17 : BitVec 32 := Scf.iv c0_i32_2052 c1_i32_2054 k0_t5
  ![7, arg17.toNat]
def k0_off67 (k0_t5 : Fin k0_t5_loop.trips) : Fin 4 → Nat :=
  let c0_i32_2052 : BitVec 32 := 0#32
  let c1_i32_2054 : BitVec 32 := 1#32
  let arg17 : BitVec 32 := Scf.iv c0_i32_2052 c1_i32_2054 k0_t5
  let c7_i32_2808 : BitVec 32 := 7#32
  let c0_i32_2813 : BitVec 32 := 0#32
  let c0_i32_2814 : BitVec 32 := 0#32
  ![arg17.toNat, 7, 0, 0]
def k0_off68 (k0_t5 : Fin k0_t5_loop.trips) : Fin 4 → Nat :=
  let c0_i32_2052 : BitVec 32 := 0#32
  let c1_i32_2054 : BitVec 32 := 1#32
  let arg17 : BitVec 32 := Scf.iv c0_i32_2052 c1_i32_2054 k0_t5
  let v2212 : Index := Scalar.indexCast arg17
  let c0_2730 : Index := 0#32
  let c0_2731 : Index := 0#32
  let c0_2732 : Index := 0#32
  ![v2212.toNat, 0, 0, 0]
@[reducible] def k0_t6_loop : Scf.Loop 32 :=
  let c0_i32_2733 : BitVec 32 := 0#32
  let c4_i32_2734 : BitVec 32 := 4#32
  let v2215 : BitVec 32 := Scalar.addi c0_i32_2733 c4_i32_2734
  let c1_i32_2735 : BitVec 32 := 1#32
  ⟨c0_i32_2733, v2215, c1_i32_2735⟩
def k0_off69 (k0_t6 : Fin k0_t6_loop.trips) : Fin 2 → Nat :=
  let c0_i32_2733 : BitVec 32 := 0#32
  let c1_i32_2735 : BitVec 32 := 1#32
  let arg18 : BitVec 32 := Scf.iv c0_i32_2733 c1_i32_2735 k0_t6
  let c512_i32 : BitVec 32 := 512#32
  let v2216 : BitVec 32 := Scalar.muli arg18 c512_i32
  let v2228 : Index := Scalar.indexCast v2216
  let c0_2743 : Index := 0#32
  ![v2228.toNat, 0]
def k0_off70 (k0_t6 : Fin k0_t6_loop.trips) : Fin 2 → Nat :=
  let c0_i32_2733 : BitVec 32 := 0#32
  let c1_i32_2735 : BitVec 32 := 1#32
  let arg18 : BitVec 32 := Scf.iv c0_i32_2733 c1_i32_2735 k0_t6
  let c512_i32 : BitVec 32 := 512#32
  let v2216 : BitVec 32 := Scalar.muli arg18 c512_i32
  let v2239 : Index := Scalar.indexCast v2216
  let c0_2745 : Index := 0#32
  ![v2239.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x1024 : Shape := ⟨2, ![16384, 1024]⟩
abbrev S1024x64 : Shape := ⟨2, ![1024, 64]⟩
abbrev S16384x1 : Shape := ⟨2, ![16384, 1]⟩
abbrev S64x1024x1024 : Shape := ⟨3, ![64, 1024, 1024]⟩
abbrev S1024x1024 : Shape := ⟨2, ![1024, 1024]⟩
abbrev S16384x64 : Shape := ⟨2, ![16384, 64]⟩
abbrev S_ : Shape := ⟨0, ![]⟩
abbrev S16384 : Shape := ⟨1, ![16384]⟩
abbrev S16384x1x1 : Shape := ⟨3, ![16384, 1, 1]⟩
abbrev S1 : Shape := ⟨1, ![1]⟩
abbrev S1x1x1 : Shape := ⟨3, ![1, 1, 1]⟩
abbrev S16384x1024x1024 : Shape := ⟨3, ![16384, 1024, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x64, .bf16⟩
  | .hbm, ⟨2, _⟩ => ⟨S16384x1, .i32⟩
  | .hbm, ⟨3, _⟩ => ⟨S64x1024x1024, .bf16⟩
  | .hbm, ⟨4, _⟩ => ⟨S1024x1024, .bf16⟩
  | .hbm, ⟨5, _⟩ => ⟨S16384x1024, .f32⟩
  | .hbm, ⟨6, _⟩ => ⟨S1024x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S1024x1024, .f32⟩
  | .hbm, ⟨20, _⟩ => ⟨S16384x1024, .f32⟩
  | .hbm, ⟨21, _⟩ => ⟨S16384, .i32⟩
  | .hbm, ⟨22, _⟩ => ⟨S_, .i32⟩
  | .hbm, ⟨23, _⟩ => ⟨S16384x1, .i32⟩
  | .hbm, ⟨24, _⟩ => ⟨S16384x1, .i1⟩
  | .hbm, ⟨25, _⟩ => ⟨S_, .i32⟩
  | .hbm, ⟨26, _⟩ => ⟨S16384x1, .i32⟩
  | .hbm, ⟨27, _⟩ => ⟨S16384x1, .i32⟩
  | .hbm, ⟨28, _⟩ => ⟨S16384x1, .i32⟩
  | .hbm, ⟨29, _⟩ => ⟨S16384x1x1, .i32⟩
  | .hbm, ⟨30, _⟩ => ⟨S1, .i32⟩
  | .hbm, ⟨31, _⟩ => ⟨S_, .i32⟩
  | .hbm, ⟨32, _⟩ => ⟨S16384x1x1, .i32⟩
  | .hbm, ⟨33, _⟩ => ⟨S16384x1x1, .i1⟩
  | .hbm, ⟨34, _⟩ => ⟨S1x1x1, .i32⟩
  | .hbm, ⟨35, _⟩ => ⟨S16384x1x1, .i32⟩
  | .hbm, ⟨36, _⟩ => ⟨S16384x1x1, .i1⟩
  | .hbm, ⟨37, _⟩ => ⟨S16384x1x1, .i1⟩
  | .hbm, ⟨38, _⟩ => ⟨S_, .i1⟩
  | .hbm, ⟨39, _⟩ => ⟨S16384x1, .i1⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S64x1024x1024, .f32⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S16384x1024x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Common.lean ====
/-
# The exchange's vocabulary

The kernel runs on a ring of eight devices. Every device routes its tokens into a dispatch buffer, one row of
512 slots per offset on the ring, sends row `o` to the device `o` places on, applies its own experts to what
arrives, sends the results back, and adds what it gets back to its output. This module names the neighbours, the
semaphore cells, the regions of the buffers and the contents each region holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device `o` places on. -/
def fwd (c : Dev nD) (o : Fin 8) : Dev nD := ⟨(c.val + o.val) % 8, Nat.mod_lt _ (by decide)⟩
set_option backward.proofsInPublic true in
/-- The device `o` places back. -/
def bwd (c : Dev nD) (o : Fin 8) : Dev nD := ⟨(c.val + 8 - o.val) % 8, Nat.mod_lt _ (by decide)⟩

theorem bwd_fwd (c : Dev nD) (o : Fin 8) : bwd (fwd c o) o = c := by revert c o; decide
theorem fwd_bwd (c : Dev nD) (o : Fin 8) : fwd (bwd c o) o = c := by revert c o; decide
theorem bwd_zero (c : Dev nD) : bwd c 0 = c := by revert c; decide
theorem fwd_zero (c : Dev nD) : fwd c 0 = c := by revert c; decide

/-- Going `o` places on is a bijection of the devices. -/
def ring (o : Fin 8) : Dev nD ≃ Dev nD := ⟨fun c => fwd c o, fun c => bwd c o, fun c => bwd_fwd c o, fun c => fwd_bwd c o⟩

/-! ## The semaphores

`bar` is the launch's barrier semaphore; `rdy` the ready semaphore; `ew s` the copy semaphore of weight slot `s`;
`xf t k o` the semaphore of transfer `(k, o)`: of the dispatch transfers at their sender (`t = 0`) and their
receiver (`t = 1`), of the return transfers at their sender (`t = 2`) and their receiver (`t = 3`). -/

abbrev Own : Type := (Unit ⊕ Fin 2) ⊕ (Fin 4 × Fin 8 × Fin 8)
abbrev CI : Type := Unit ⊕ Own

abbrev bar : CI := .inl ()
abbrev rdy : CI := .inr (.inl (.inl ()))
abbrev ew (s : Fin 2) : CI := .inr (.inl (.inr s))
abbrev xf (t : Fin 4) (k o : Fin 8) : CI := .inr (.inr (t, k, o))

abbrev barS : Sem sig := (SemArray.scalar (sig.barrier 0 rfl) : Sems sig S_).sem
abbrev rdyS : Sem sig := (cc0_scratch6 : Sems sig S_).sem
set_option backward.proofsInPublic true in
def ewS (s : Fin 2) : DmaSem sig := ⟨5 + s.val, by have := s.isLt; show _ < 263; omega⟩
set_option backward.proofsInPublic true in
def xfS (t : Fin 4) (k o : Fin 8) : DmaSem sig :=
  ⟨7 + 64 * t.val + 8 * k.val + o.val, by have := t.isLt; have := k.isLt; have := o.isLt; show _ < 263; omega⟩

def osem : Own → SemLoc sig
  | .inl (.inl _) => .reg rdyS
  | .inl (.inr s) => .dma (ewS s)
  | .inr x => .dma (xfS x.1 x.2.1 x.2.2)
def csem : CI → SemLoc sig
  | .inl _ => .reg barS
  | .inr x => osem x

theorem xfS_inj {t t' : Fin 4} {k k' o o' : Fin 8} (h : xfS t k o = xfS t' k' o') : (t, k, o) = (t', k', o') := by
  have h := congrArg Fin.val h
  unfold xfS at h
  have := t.isLt; have := k.isLt; have := o.isLt; have := t'.isLt; have := k'.isLt; have := o'.isLt
  simp only at h
  refine Prod.ext (Fin.ext ?_) (Prod.ext (Fin.ext ?_) (Fin.ext ?_)) <;> simp only <;> omega
theorem ewS_inj {s s' : Fin 2} (h : ewS s = ewS s') : s = s' := by
  have h := congrArg Fin.val h
  unfold ewS at h
  simp only at h
  exact Fin.ext (by omega)
theorem ewS_ne_xfS (s : Fin 2) (t : Fin 4) (k o : Fin 8) : ewS s ≠ xfS t k o := by
  intro h
  have h := congrArg Fin.val h
  unfold ewS xfS at h
  have := s.isLt
  simp only at h
  omega

theorem osem_injective : Function.Injective osem := by
  intro a b h
  match a, b with
  | .inl (.inl _), .inl (.inl _) => rfl
  | .inl (.inl _), .inl (.inr _) => cases h
  | .inl (.inl _), .inr _ => cases h
  | .inl (.inr _), .inl (.inl _) => cases h
  | .inl (.inr s), .inl (.inr s') => rw [ewS_inj (SemLoc.dma.inj h)]
  | .inl (.inr s), .inr x => exact absurd (SemLoc.dma.inj h) (ewS_ne_xfS _ _ _ _)
  | .inr _, .inl (.inl _) => cases h
  | .inr x, .inl (.inr s) => exact absurd (SemLoc.dma.inj h).symm (ewS_ne_xfS _ _ _ _)
  | .inr (t, k, o), .inr (t', k', o') => rw [xfS_inj (SemLoc.dma.inj h)]

theorem rdyS_ne_barS : rdyS ≠ barS := by decide

theorem osem_ne_bar (x : Own) : osem x ≠ .reg barS := by
  match x with
  | .inl (.inl _) => exact fun h => rdyS_ne_barS (SemLoc.reg.inj h)
  | .inl (.inr s) => exact fun h => by cases h
  | .inr _ => exact fun h => by cases h

theorem csem_injective : Function.Injective csem := by
  intro a b h
  match a, b with
  | .inl _, .inl _ => rfl
  | .inl _, .inr y => exact absurd h.symm (osem_ne_bar y)
  | .inr x, .inl _ => exact absurd h (osem_ne_bar x)
  | .inr x, .inr y => rw [osem_injective h]

abbrev kcell (ck : Dev nD × CI) : GSem nD τ sig := ((ck.1 : Thread nD τ), csem ck.2)

theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

open Classical in
/-- Which of the exchange's cells a semaphore is. -/
def kindOf (s : SemLoc sig) : Option CI := if h : ∃ i, csem i = s then some h.choose else none
theorem kindOf_csem (i : CI) : kindOf (csem i) = some i := by
  have h : ∃ j, csem j = csem i := ⟨i, rfl⟩
  unfold kindOf
  rw [dif_pos h, csem_injective h.choose_spec]
theorem csem_of_kindOf {s : SemLoc sig} {i : CI} (h : kindOf s = some i) : csem i = s := by
  unfold kindOf at h
  by_cases hx : ∃ i, csem i = s
  · rw [dif_pos hx] at h; rw [← Option.some.inj h]; exact hx.choose_spec
  · rw [dif_neg hx] at h; cases h

/-! ## The buffers and their regions -/

abbrev xM : Memref sig .tc .vmem S2048x1024 .bf16 := Memref.whole cc0_stg0_0
abbrev rM : Memref sig .tc .vmem S1024x64 .bf16 := Memref.whole cc0_stg1_0
abbrev iM : Memref sig .tc .vmem S2048x1 .i32 := Memref.whole cc0_stg2_0
abbrev wM : Memref sig .tc .hbm S8x1024x1024 .bf16 := Memref.whole main_arg3
abbrev sM : Memref sig .tc .vmem S1024x1024 .bf16 := Memref.whole cc0_stg3_0
abbrev oM : Memref sig .tc .vmem S2048x1024 .f32 := Memref.whole cc0_stg4_0
abbrev dM : Memref sig .tc .vmem S8x512x1024 .bf16 := Memref.whole cc0_scratch0
abbrev cM : Memref sig .tc .vmem S8x8x64x1024 .bf16 := Memref.whole cc0_scratch1
abbrev eM : Memref sig .tc .vmem S2x1024x1024 .bf16 := Memref.whole cc0_scratch2
abbrev xsM : Memref sig .tc .vmem S2048x1024 .bf16 := Memref.whole cc0_scratch3
abbrev dsM : Memref sig .tc .vmem S2048x1 .i32 := Memref.whole cc0_scratch4

/-- Slots `64 k … 64 k + 63` of row `o` of the dispatch buffer. -/
def dSet (o k : Fin 8) : Finset S8x512x1024.Idx := Finset.univ.filter fun i => (i 0).val = o.val ∧ (i 1).val / 64 = k.val
/-- Row `o` of the dispatch buffer. -/
def dRow (o : Fin 8) : Finset S8x512x1024.Idx := Finset.univ.filter fun i => (i 0).val = o.val
/-- Slot `(k, o)` of the landing buffer. -/
def cSet (k o : Fin 8) : Finset S8x8x64x1024.Idx := Finset.univ.filter fun i => (i 0).val = k.val ∧ (i 1).val = o.val
/-- Slab `k` of the landing buffer. -/
def cSlab (k : Fin 8) : Finset S8x8x64x1024.Idx := Finset.univ.filter fun i => (i 0).val = k.val
/-- Expert `k`'s weights. -/
def wSet (k : Fin 8) : Finset S8x1024x1024.Idx := Finset.univ.filter fun i => (i 0).val = k.val
/-- Weight slot `s`. -/
def eSet (s : Fin 2) : Finset S2x1024x1024.Idx := Finset.univ.filter fun i => (i 0).val = s.val

/-! ## The contents -/

/-- The five inputs, device by device. -/
structure Inp (F : FTy → Type) where
  x : Dev nD → Vec F S2048x1024 .bf16
  r : Dev nD → Vec F S1024x64 .bf16
  i : Dev nD → Vec F S2048x1 .i32
  w : Dev nD → Vec F S8x1024x1024 .bf16
  s : Dev nD → Vec F S1024x1024 .bf16

theorem t1_trips : k0_t1_loop.trips = 8 := by decide
theorem t2_trips : k0_t2_loop.trips = 4 := by decide
theorem t3_trips : k0_t3_loop.trips = 4 := by decide
theorem t4_trips : k0_t4_loop.trips = 8 := by decide
theorem t5_trips : k0_t5_loop.trips = 8 := by decide
theorem t6_trips : k0_t6_loop.trips = 4 := by decide

set_option backward.proofsInPublic true in
def tr1 (o : Fin 8) : Fin k0_t1_loop.trips := ⟨o.val, by rw [t1_trips]; exact o.isLt⟩
set_option backward.proofsInPublic true in
def tr5 (o : Fin 8) : Fin k0_t5_loop.trips := ⟨o.val, by rw [t5_trips]; exact o.isLt⟩

/-- The device's number on the ring, as the kernel computes it. -/
abbrev ringNo (c : Dev nD) : BitVec 32 := Scalar.remsi (Scalar.divsi (Dev.word c) 1#32) 8#32

set_option backward.proofsInPublic true in
def at512 (h : Fin 4) (a : Fin 512) : Fin 2048 := ⟨512 * h.val + a.val, by have := h.isLt; have := a.isLt; omega⟩
set_option backward.proofsInPublic true in
def at64 (k : Fin 8) (a : Fin 64) : Fin 512 := ⟨64 * k.val + a.val, by have := k.isLt; have := a.isLt; omega⟩
set_option backward.proofsInPublic true in
def q512 (a : Fin 2048) : Fin 4 := ⟨a.val / 512, by have := a.isLt; omega⟩
set_option backward.proofsInPublic true in
def r512 (a : Fin 2048) : Fin 512 := ⟨a.val % 512, Nat.mod_lt _ (by decide)⟩

/-- Rows `512 h … 512 h + 511` of a two-axis array. -/
def chunk {α : Type} {n : Nat} (f : (⟨2, ![2048, n]⟩ : Shape).Idx → α) (h : Fin 4) : (⟨2, ![512, n]⟩ : Shape).Idx → α :=
  fun i => f (ix2 (at512 h (i 0)) (i 1))

namespace Inp

variable (X : Inp F)

/-- The dispatch slot of every token of device `c`. -/
def ds (c : Dev nD) : Vec F S2048x1 .i32 :=
  k0_pay8 (k0_pay7 (k0_pay1 (F := F) (X.i c)) (k0_pay2 (X.i c)) (k0_pay4 (X.i c)) (k0_pay5 (F := F)) (k0_pay6 (X.i c)))
/-- The tokens of device `c` scaled by their gates. -/
def xs (c : Dev nD) : Vec F S2048x1024 .bf16 := k0_pay9 (k0_pay3 (X.x c) (X.r c) (X.i c)) (X.x c)
/-- The first `n` chunks' contribution to row `o` of device `c`'s dispatch buffer. -/
def acc (c : Dev nD) (o : Fin 8) : Nat → FVec F S512x1024 .f32
  | 0 => k0_pay10 (F := F)
  | n + 1 => k0_pay11 (ringNo c) (tr1 o) (acc c o n) (chunk (X.ds c) (Fin.ofNat 4 n)) (chunk (X.xs c) (Fin.ofNat 4 n))
/-- Device `c`'s dispatch buffer. -/
def D1 (c : Dev nD) : Vec F S8x512x1024 .bf16 := fun i => k0_pay12 (X.acc c (i 0) 4) (ix3 0 (i 1) (i 2))
/-- Device `c`'s landing buffer after the dispatch. -/
def C1 (c : Dev nD) : Vec F S8x8x64x1024 .bf16 := fun i => X.D1 (bwd c (i 1)) (ix3 (i 1) (at64 (i 0) (i 2)) (i 3))
def slab (f : Vec F S8x8x64x1024 .bf16) (k : Fin 8) : Vec F S1x8x64x1024 .bf16 := fun i => f (ix4 k (i 1) (i 2) (i 3))
def mat (f : Vec F S8x1024x1024 .bf16) (k : Fin 8) : Vec F S1x1024x1024 .bf16 := fun i => f (ix3 k (i 1) (i 2))
/-- Device `c`'s dispatch buffer after its experts: row `k` holds expert `k`'s results. -/
def D2 (c : Dev nD) : Vec F S8x512x1024 .bf16 := fun i => k0_pay24 (slab (X.C1 c) (i 0)) (mat (X.w c) (i 0)) (ix3 0 (i 1) (i 2))
/-- Device `c`'s landing buffer after the return. -/
def C2 (c : Dev nD) : Vec F S8x8x64x1024 .bf16 := fun i => X.D2 (fwd c (i 0)) (ix3 (i 1) (at64 (i 0) (i 2)) (i 3))
/-- Device `c`'s output before the first and after the `n`-th offset of the combine. -/
def out (c : Dev nD) : Nat → Vec F S2048x1024 .f32
  | 0 => fun i => k0_pay23 (chunk (X.x c) (q512 (i 0))) (X.s c) (ix2 (r512 (i 0)) (i 1))
  | n + 1 => fun i => k0_pay34 (ringNo c) (tr5 (Fin.ofNat 8 n)) (slab (X.C2 c) (Fin.ofNat 8 n)) (chunk (X.ds c) (q512 (i 0)))
      (chunk (out c n) (q512 (i 0))) (ix2 (r512 (i 0)) (i 1))

end Inp

end Cert.Exchange

end
-- ==== Proof.Sched.lean ====
/-
# The exchange's schedule

Which device pays which semaphore cell, how much, and what the payment hands over; what every device owes at
launch, in the order it pays; and the levels that keep the waits from going round in a circle.
-/
module

public import proofs.«01_k».proof.Proof.Common

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The credit of one transfer of 64 rows, and of one expert's weights. -/
def NX : ℕ := sig.dmaCredit .tc (Kind.tc.table .vmem) cM.view.buf S64x1024 .bf16
def NW : ℕ := sig.dmaCredit .tc (Kind.tc.table .vmem) eM.view.buf S1024x1024 .bf16
theorem NX_pos : 0 < NX := sig.dmaCredit_pos _ _ _ _ _ (by decide)
theorem NW_pos : 0 < NW := sig.dmaCredit_pos _ _ _ _ _ (by decide)

/-! ## Pieces of the buffers -/

section Pts
variable (c : Dev nD)

/-- A region of the dispatch buffer, of the landing buffer, of the weight slots, of the weights. -/
def dPts (S : Finset S8x512x1024.Idx) (f : Vec F S8x512x1024 .bf16) : sProp 𝕄 := ((c : Thread nD τ).loc cc0_scratch0) ↦[S]{fullShare} f
def cPts (S : Finset S8x8x64x1024.Idx) (f : Vec F S8x8x64x1024 .bf16) : sProp 𝕄 := ((c : Thread nD τ).loc cc0_scratch1) ↦[S]{fullShare} f
def ePts (S : Finset S2x1024x1024.Idx) (f : Vec F S2x1024x1024 .bf16) : sProp 𝕄 := ((c : Thread nD τ).loc cc0_scratch2) ↦[S]{fullShare} f
def wPts (S : Finset S8x1024x1024.Idx) (f : Vec F S8x1024x1024 .bf16) : sProp 𝕄 := ((c : Thread nD τ).loc main_arg3) ↦[S]{fullShare} f

instance (S) (f) : BI.Storable (upEmb : UEmb _ 𝕄) (dPts (F := F) c S f) := by unfold dPts; infer_instance
instance (S) (f) : BI.Storable (upEmb : UEmb _ 𝕄) (cPts (F := F) c S f) := by unfold cPts; infer_instance
instance (S) (f) : BI.Storable (upEmb : UEmb _ 𝕄) (ePts (F := F) c S f) := by unfold ePts; infer_instance
instance (S) (f) : BI.Storable (upEmb : UEmb _ 𝕄) (wPts (F := F) c S f) := by unfold wPts; infer_instance

end Pts

/-! ## What the payments hand over -/

variable (X : Inp F)

/-- Expert `2 r + s`, the `r`-th one that uses weight slot `s`. -/
abbrev expertOf (s : Fin 2) (r : ℕ) : Fin 8 := Fin.ofNat 8 (2 * r + s.val)
/-- A weight slot's contents once expert `k`'s weights are in it. -/
def eAt (c : Dev nD) (k : Fin 8) : Vec F S2x1024x1024 .bf16 := fun i => X.w c (ix3 k (i 1) (i 2))

/-- The device `o` places on hands `c` the slots of its landing buffer that `c`'s dispatch fills. -/
def barPay (c : Dev nD) (o : Fin 8) : sProp 𝕄 := bigSep Finset.univ fun k : Fin 8 => iprop(∃ f, cPts (fwd c o) (cSet k o) f)
/-- The device `o` places back hands `c` the slots of its landing buffer that `c`'s return fills. -/
def rdyPay (c : Dev nD) (o : Fin 8) : sProp 𝕄 := bigSep Finset.univ fun k : Fin 8 => iprop(∃ f, cPts (bwd c o) (cSet o k) f)
def ewPay (c : Dev nD) (s : Fin 2) (r : ℕ) : sProp 𝕄 :=
  iprop(ePts c (eSet s) (eAt X c (expertOf s r)) ∗ wPts c (wSet (expertOf s r)) (X.w c))
def xfPay (c : Dev nD) (t : Fin 4) (k o : Fin 8) : sProp 𝕄 :=
  match t with
  | 0 => dPts c (dSet o k) (X.D1 c)
  | 1 => cPts c (cSet k o) (X.C1 c)
  | 2 => dPts c (dSet k o) (X.D2 c)
  | 3 => cPts c (cSet o k) (X.C2 c)

def payK (c : Dev nD) : CI → ℕ → Fin 8 → sProp 𝕄
  | .inl _, _, d => barPay c d
  | .inr (.inl (.inl _)), _, d => rdyPay c d
  | .inr (.inl (.inr s)), r, _ => ewPay X c s r
  | .inr (.inr x), _, _ => xfPay X c x.1 x.2.1 x.2.2

instance (c : Dev nD) (o : Fin 8) : BI.Storable (upEmb : UEmb _ 𝕄) (barPay (F := F) c o) := by unfold barPay; infer_instance
instance (c : Dev nD) (o : Fin 8) : BI.Storable (upEmb : UEmb _ 𝕄) (rdyPay (F := F) c o) := by unfold rdyPay; infer_instance
instance (c : Dev nD) (s : Fin 2) (r : ℕ) : BI.Storable (upEmb : UEmb _ 𝕄) (ewPay X c s r) := by unfold ewPay; infer_instance
instance (c : Dev nD) (t : Fin 4) (k o : Fin 8) : BI.Storable (upEmb : UEmb _ 𝕄) (xfPay X c t k o) := by
  unfold xfPay; split <;> infer_instance
instance (c : Dev nD) (i : CI) (r : ℕ) (d : Fin 8) : BI.Storable (upEmb : UEmb _ 𝕄) (payK X c i r d) := by
  unfold payK; split <;> infer_instance

/-! ## The duties -/

def dutiesK : CI → ℕ → Finset (Fin 8)
  | .inl _, r => if r = 0 then Finset.univ.erase 0 else ∅
  | .inr (.inl (.inl _)), r => if r = 0 then Finset.univ.erase 0 else ∅
  | .inr (.inl (.inr _)), r => if r < 4 then {0} else ∅
  | .inr (.inr x), r => if r = 0 ∧ x.2.2 ≠ 0 then {0} else ∅

def amountK : CI → ℕ
  | .inl _ => 1
  | .inr (.inl (.inl _)) => 1
  | .inr (.inl (.inr _)) => NW
  | .inr (.inr _) => NX

theorem amountK_pos (i : CI) : 0 < amountK i := by
  unfold amountK; split
  · exact Nat.one_pos
  · exact Nat.one_pos
  · exact NW_pos
  · exact NX_pos

/-- The schedule: a cell's duties, amounts and payloads are its kind's. -/
def Rd : Rounds.Schedule (GSem nD τ sig) (Fin 8) 𝕄 where
  duties g r := if g.1.2 = .tc then (kindOf g.2).elim ∅ fun i => dutiesK i r else ∅
  unitless _ := False
  amount g _ _ := (kindOf g.2).elim 1 amountK
  payload g r d := (kindOf g.2).elim iprop(emp) fun i => payK X g.1.1 i r d
  amount_pos g _ _ _ := by
    cases h : kindOf g.2 with
    | none => exact Nat.one_pos
    | some i => exact amountK_pos i

instance Rd_payload_storable (g : GSem nD τ sig) (r : ℕ) (d : Fin 8) :
    BI.Storable (upEmb : UEmb _ 𝕄) ((Rd X).payload g r d) := by
  unfold Rd
  dsimp only
  cases kindOf g.2 with
  | none => dsimp only [Option.elim]; infer_instance
  | some i => dsimp only [Option.elim]; infer_instance

theorem duties_eq (c : Dev nD) (i : CI) (r : ℕ) : (Rd X).duties (kcell (c, i)) r = dutiesK i r := by
  unfold Rd
  dsimp only
  rw [if_pos rfl, kindOf_csem]; rfl
theorem amount_eq (c : Dev nD) (i : CI) (r : ℕ) (d : Fin 8) : (Rd X).amount (kcell (c, i)) r d = amountK i := by
  show (kindOf (csem i)).elim 1 amountK = _
  rw [kindOf_csem]; rfl
theorem payload_eq (c : Dev nD) (i : CI) (r : ℕ) (d : Fin 8) : (Rd X).payload (kcell (c, i)) r d = payK X c i r d := by
  show ((kindOf (csem i)).elim iprop(emp) fun i => payK X c i r d) = _
  rw [kindOf_csem]; rfl
theorem expect_eq (c : Dev nD) (i : CI) (r : ℕ) : (Rd X).expect (kcell (c, i)) r = (dutiesK i r).card * amountK i := by
  unfold Schedule.expect Schedule.amountOf
  rw [duties_eq, Finset.sum_congr rfl fun d _ => amount_eq X c i r d, Finset.sum_const, smul_eq_mul]

/-! ## What a device owes, in the order it pays -/

abbrev Due : Type := GSem nD τ sig × ℕ

/-- The tally of a list of dues; the head is paid first. -/
def Ow : List Due → CellTallies nD τ sig Unit
  | [] => 0
  | x :: l => Ow l + tallyAt x.1 () x.2

theorem Ow_append (l l' : List Due) : Ow (l ++ l') = Ow l' + Ow l := by
  induction l with
  | nil => exact (add_zero _).symm
  | cons x l ih => show Ow (l ++ l') + _ = Ow l' + (Ow l + _); rw [ih, add_assoc]

def barDue (c : Dev nD) (o : Fin 8) : Due := (kcell (bwd c o, bar), 1)
def rdyDue (c : Dev nD) (o : Fin 8) : Due := (kcell (fwd c o, rdy), 1)
def drDue (c : Dev nD) (o k : Fin 8) : Due := (kcell (fwd c o, xf 1 k o), NX)
def rrDue (c : Dev nD) (o k : Fin 8) : Due := (kcell (bwd c o, xf 3 k o), NX)

/-- The offsets other than zero, and the eight chunks. -/
abbrev offs : List (Fin 8) := [1, 2, 3, 4, 5, 6, 7]
abbrev eight : List (Fin 8) := [0, 1, 2, 3, 4, 5, 6, 7]
abbrev offsDown : List (Fin 8) := [7, 6, 5, 4, 3, 2, 1]

def barDues (c : Dev nD) : List Due := offsDown.map (barDue c)
def rdyDues (c : Dev nD) : List Due := offs.map (rdyDue c)
/-- The dispatch transfers at the offsets `l`, all chunks of an offset together. -/
def drDues (c : Dev nD) (l : List (Fin 8)) : List Due := l.flatMap fun o => eight.map (drDue c o)
def rrDues (c : Dev nD) (l : List (Fin 8)) : List Due := l.flatMap fun o => eight.map (rrDue c o)

def dues (c : Dev nD) : List Due := barDues c ++ (drDues c offs ++ (rdyDues c ++ rrDues c offs))

/-! ## The levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvK : CI → ℕ
  | .inl _ => 1
  | .inr (.inl (.inl _)) => 3
  | .inr (.inl (.inr _)) => 0
  | .inr (.inr x) => if x.1 = 1 then 2 else if x.1 = 3 then 4 else 0

def lv (g : GSem nD τ sig) (_ : Unit) : ℕ := (kindOf g.2).elim 0 lvK
theorem lv_kcell (c : Dev nD) (i : CI) : lv (kcell (c, i)) () = lvK i := by
  show (kindOf (csem i)).elim 0 lvK = _
  rw [kindOf_csem]; rfl

/-- Every due of a list names one of the exchange's cells, above level `n`. -/
def Above (n : ℕ) (l : List Due) : Prop := ∀ x ∈ l, ∃ c i, x.1 = kcell (c, i) ∧ n < lvK i

theorem Above.append {n : ℕ} {l l' : List Due} (h : Above n l) (h' : Above n l') : Above n (l ++ l') := fun x hx =>
  (List.mem_append.mp hx).elim (h x) (h' x)
theorem Above.tail {n : ℕ} {x : Due} {l : List Due} (h : Above n (x :: l)) : Above n l := fun y hy => h y (List.mem_cons_of_mem _ hy)
theorem Above.mono {n n' : ℕ} {l : List Due} (hn : n' ≤ n) (h : Above n l) : Above n' l := fun x hx => by
  obtain ⟨c, i, he, hl⟩ := h x hx; exact ⟨c, i, he, Nat.lt_of_le_of_lt hn hl⟩
theorem Above.nil (n : ℕ) : Above n [] := fun x hx => by cases hx

theorem above_bar (c : Dev nD) : Above 0 (barDues c) := fun x hx => by
  obtain ⟨o, -, rfl⟩ := List.mem_map.mp hx; exact ⟨_, _, rfl, by decide⟩
theorem above_dr (c : Dev nD) (l) : Above 1 (drDues c l) := fun x hx => by
  obtain ⟨o, -, hx⟩ := List.mem_flatMap.mp hx
  obtain ⟨k, -, rfl⟩ := List.mem_map.mp hx; exact ⟨_, _, rfl, by show 1 < 2; decide⟩
theorem above_rdy (c : Dev nD) : Above 2 (rdyDues c) := fun x hx => by
  obtain ⟨o, -, rfl⟩ := List.mem_map.mp hx; exact ⟨_, _, rfl, by decide⟩
theorem above_rr (c : Dev nD) (l) : Above 3 (rrDues c l) := fun x hx => by
  obtain ⟨o, -, hx⟩ := List.mem_flatMap.mp hx
  obtain ⟨k, -, rfl⟩ := List.mem_map.mp hx; exact ⟨_, _, rfl, by show 3 < 4; decide⟩

theorem Ow_pos {l : List Due} {g : GSem nD τ sig} {u : Unit} (h : 0 < Ow l g u) : ∃ x ∈ l, g = x.1 := by
  induction l with
  | nil => exact absurd h (Nat.lt_irrefl 0)
  | cons x l ih =>
    unfold Ow at h
    rw [Pi.add_apply, Finsupp.add_apply, tallyAt_apply] at h
    by_cases hg : g = x.1
    · exact ⟨x, List.mem_cons_self, hg⟩
    · rw [if_neg (fun h' => hg h'.1), Nat.add_zero] at h
      obtain ⟨y, hy, he⟩ := ih h
      exact ⟨y, List.mem_cons_of_mem _ hy, he⟩

/-- A device may wait on a cell of level at most `n` while all it owes lies above `n`. -/
theorem mayWait_of_above (c : Dev nD) (sm : SemLoc sig) {n : ℕ} {l : List Due} (hs : lv ((c : Thread nD τ), sm) () ≤ n) (h : Above n l) :
    (levAts L lv : sProp 𝕄) ⊢ MayWait (c : Thread nD τ) sm () (Ow l) :=
  MayOwe.of_cut (L := L) (lev := lv) n (fun p hp => by rw [Finset.mem_singleton.mp hp, L_tc]; exact Finset.mem_singleton_self _)
    (fun g u hg => by
      obtain ⟨x, hx, rfl⟩ := Ow_pos hg
      obtain ⟨d, i, he, -⟩ := h x hx
      rw [he, L_tc]; exact Finset.mem_singleton_self _)
    (fun p hp => by rw [Finset.mem_singleton.mp hp]; exact hs)
    (fun g u hg => by
      obtain ⟨x, hx, rfl⟩ := Ow_pos hg
      obtain ⟨d, i, he, hl⟩ := h x hx
      rw [he]; exact Nat.lt_of_lt_of_le hl (le_of_eq (lv_kcell d i).symm))

end Cert.Exchange

end
-- ==== Proof.Geometry.lean ====
/-
# Where the kernel's views lie

Every transfer, load and store of the kernel goes through a rectangle of one of its buffers. This module says which
elements each of these rectangles has, where it places an index, and which semaphore a slice of a semaphore array is.
-/
module

public import proofs.«01_k».proof.Proof.Sched

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Semaphores of an array -/

abbrev semAt (a : DmaSems sig S8x8) (off : Fin 2 → ℕ) (inb : ∀ i, off i + S1x1.size i ≤ S8x8.size i) : DmaSem sig :=
  ((a.slice (Rect.unit (s := S8x8) off S1x1.size inb)).squeeze S_ squeezes_S1x1_S_).sem

set_option backward.proofsInPublic true in
/-- The four semaphore arrays of the transfers. -/
def xfArr : Fin 4 → DmaSems sig S8x8 := ![cc0_scratch7, cc0_scratch8, cc0_scratch9, cc0_scratch10]

theorem inb8 (k o : Fin 8) : ∀ i, (![k.val, o.val] : Fin 2 → ℕ) i + S1x1.size i ≤ S8x8.size i := by
  intro i
  have := k.isLt; have := o.isLt
  fin_cases i
  · show k.val + 1 ≤ 8; omega
  · show o.val + 1 ≤ 8; omega

theorem xfArr_at (t : Fin 4) (k o : Fin 8) : semAt (xfArr t) ![k.val, o.val] (inb8 k o) = xfS t k o := by
  revert t k o; decide +kernel

theorem semAt_eq (t : Fin 4) {off : Fin 2 → ℕ} {inb} (k o : Fin 8) (h : off = ![k.val, o.val]) : semAt (xfArr t) off inb = xfS t k o := by
  subst h; exact xfArr_at t k o

abbrev ewAt (off : Fin 1 → ℕ) (inb : ∀ i, off i + S1.size i ≤ S2.size i) : DmaSem sig :=
  (((cc0_scratch5 : DmaSems sig S2).slice (Rect.unit (s := S2) off S1.size inb)).squeeze S_ squeezes_S1_S_).sem
theorem inb2 (s : Fin 2) : ∀ i, (![s.val] : Fin 1 → ℕ) i + S1.size i ≤ S2.size i := by
  intro i
  have := s.isLt
  fin_cases i
  show s.val + 1 ≤ 2; omega
theorem ewAt_lit (s : Fin 2) : ewAt ![s.val] (inb2 s) = ewS s := by revert s; decide +kernel
theorem ewAt_eq {off : Fin 1 → ℕ} {inb} (s : Fin 2) (h : off = ![s.val]) : ewAt off inb = ewS s := by
  subst h; exact ewAt_lit s

/-! ## The views the transfers go through -/

abbrev dV (off : Fin 3 → ℕ) (inb : ∀ i, off i + S1x64x1024.size i ≤ S8x512x1024.size i) : Memref sig .tc .vmem S64x1024 .bf16 :=
  (dM.slice (Rect.unit (s := S8x512x1024) off S1x64x1024.size inb) (fun _ => rfl)).squeeze S64x1024 squeezes_S1x64x1024_S64x1024
abbrev cV (off : Fin 4 → ℕ) (inb : ∀ i, off i + S1x1x64x1024.size i ≤ S8x8x64x1024.size i) : Memref sig .tc .vmem S64x1024 .bf16 :=
  (cM.slice (Rect.unit (s := S8x8x64x1024) off S1x1x64x1024.size inb) (fun _ => rfl)).squeeze S64x1024 squeezes_S1x1x64x1024_S64x1024
abbrev eV (off : Fin 3 → ℕ) (inb : ∀ i, off i + S1x1024x1024.size i ≤ S2x1024x1024.size i) : Memref sig .tc .vmem S1024x1024 .bf16 :=
  (eM.slice (Rect.unit (s := S2x1024x1024) off S1x1024x1024.size inb) (fun _ => rfl)).squeeze S1024x1024 squeezes_S1x1024x1024_S1024x1024
abbrev wV (off : Fin 3 → ℕ) (inb : ∀ i, off i + S1x1024x1024.size i ≤ S8x1024x1024.size i) : Memref sig .tc .hbm S1024x1024 .bf16 :=
  (wM.slice (Rect.unit (s := S8x1024x1024) off S1x1024x1024.size inb) (fun _ => rfl)).squeeze S1024x1024 squeezes_S1x1024x1024_S1024x1024

theorem cV_credit (off) (inb) : (cV off inb).view.dmaCredit = NX := rfl
theorem dV_credit (off) (inb) : (dV off inb).view.dmaCredit = NX := rfl
theorem eV_credit (off) (inb) : (eV off inb).view.dmaCredit = NW := rfl

/-- A rank-two index under a leading axis of one element; under two of them. -/
theorem reshape3 {a b : ℕ} (h : (⟨2, ![a, b]⟩ : Shape).numel = (⟨3, ![1, a, b]⟩ : Shape).numel) (x : (⟨2, ![a, b]⟩ : Shape).Idx) :
    Shape.reshapeEquiv h x = ix3 (n0 := 1) (n1 := a) (n2 := b) 0 (x 0) (x 1) :=
  Shape.reshapeEquiv_eq_of_rowMajor h (by
    refine (Shape.rowMajor_val_three (d := ![1, a, b]) _).trans (Eq.trans ?_ (Shape.rowMajor_val_two (d := ![a, b]) x).symm)
    show (0 * a + (x 0).val) * b + (x 1).val = (x 0).val * b + (x 1).val
    rw [Nat.zero_mul, Nat.zero_add])
theorem reshape4 {a b : ℕ} (h : (⟨2, ![a, b]⟩ : Shape).numel = (⟨4, ![1, 1, a, b]⟩ : Shape).numel) (x : (⟨2, ![a, b]⟩ : Shape).Idx) :
    Shape.reshapeEquiv h x = ix4 (n0 := 1) (n1 := 1) (n2 := a) (n3 := b) 0 0 (x 0) (x 1) :=
  Shape.reshapeEquiv_eq_of_rowMajor h (by
    refine (Shape.rowMajor_val_four (d := ![1, 1, a, b]) _).trans (Eq.trans ?_ (Shape.rowMajor_val_two (d := ![a, b]) x).symm)
    show ((0 * 1 + 0) * a + (x 0).val) * b + (x 1).val = (x 0).val * b + (x 1).val
    simp only [Nat.zero_mul, Nat.zero_add])

theorem ext3 {n0 n1 n2 : ℕ} {i j : (⟨3, ![n0, n1, n2]⟩ : Shape).Idx} (h0 : (i 0).val = (j 0).val) (h1 : (i 1).val = (j 1).val)
    (h2 : (i 2).val = (j 2).val) : i = j := by
  rw [eq_ix3 i, eq_ix3 j, Fin.ext h0, Fin.ext h1, Fin.ext h2]
theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j := by
  funext a
  match a with
  | ⟨0, _⟩ => exact Fin.ext h0
  | ⟨1, _⟩ => exact Fin.ext h1
  | ⟨2, _⟩ => exact Fin.ext h2
  | ⟨3, _⟩ => exact Fin.ext h3
theorem ext2 {n0 n1 : ℕ} {i j : (⟨2, ![n0, n1]⟩ : Shape).Idx} (h0 : (i 0).val = (j 0).val) (h1 : (i 1).val = (j 1).val) : i = j := by
  rw [eq_ix2 i, eq_ix2 j, Fin.ext h0, Fin.ext h1]

theorem dV_emb {off : Fin 3 → ℕ} {inb} (o k : Fin 8) (h : off = ![o.val, 64 * k.val, 0]) (x : S64x1024.Idx) :
    (dV off inb).view.emb x = ix3 o (at64 k (x 0)) (x 1) := by
  subst h
  show (Rect.unit (s := S8x512x1024) _ S1x64x1024.size inb).emb (Shape.reshapeEquiv _ x) = _
  rw [reshape3]
  refine ext3 ?_ ?_ ?_
  · show o.val + 1 * 0 = o.val; omega
  · show 64 * k.val + 1 * (x 0).val = 64 * k.val + (x 0).val; omega
  · show 0 + 1 * (x 1).val = (x 1).val; omega
theorem cV_emb {off : Fin 4 → ℕ} {inb} (k o : Fin 8) (h : off = ![k.val, o.val, 0, 0]) (x : S64x1024.Idx) :
    (cV off inb).view.emb x = ix4 k o (x 0) (x 1) := by
  subst h
  show (Rect.unit (s := S8x8x64x1024) _ S1x1x64x1024.size inb).emb (Shape.reshapeEquiv _ x) = _
  rw [reshape4]
  refine ext4 ?_ ?_ ?_ ?_
  · show k.val + 1 * 0 = k.val; omega
  · show o.val + 1 * 0 = o.val; omega
  · show 0 + 1 * (x 0).val = (x 0).val; omega
  · show 0 + 1 * (x 1).val = (x 1).val; omega
theorem eV_emb {off : Fin 3 → ℕ} {inb} (s : Fin 2) (h : off = ![s.val, 0, 0]) (x : S1024x1024.Idx) :
    (eV off inb).view.emb x = ix3 s (x 0) (x 1) := by
  subst h
  show (Rect.unit (s := S2x1024x1024) _ S1x1024x1024.size inb).emb (Shape.reshapeEquiv _ x) = _
  rw [reshape3]
  refine ext3 ?_ ?_ ?_
  · show s.val + 1 * 0 = s.val; omega
  · show 0 + 1 * (x 0).val = (x 0).val; omega
  · show 0 + 1 * (x 1).val = (x 1).val; omega
theorem wV_emb {off : Fin 3 → ℕ} {inb} (k : Fin 8) (h : off = ![k.val, 0, 0]) (x : S1024x1024.Idx) :
    (wV off inb).view.emb x = ix3 k (x 0) (x 1) := by
  subst h
  show (Rect.unit (s := S8x1024x1024) _ S1x1024x1024.size inb).emb (Shape.reshapeEquiv _ x) = _
  rw [reshape3]
  refine ext3 ?_ ?_ ?_
  · show k.val + 1 * 0 = k.val; omega
  · show 0 + 1 * (x 0).val = (x 0).val; omega
  · show 0 + 1 * (x 1).val = (x 1).val; omega

theorem dV_set {off : Fin 3 → ℕ} {inb} (o k : Fin 8) (h : off = ![o.val, 64 * k.val, 0]) : (dV off inb).view.set = dSet o k := by
  ext i
  constructor
  · intro hi
    obtain ⟨x, -, rfl⟩ := Finset.mem_map.mp hi
    refine Finset.mem_filter.mpr ⟨Finset.mem_univ _, ?_⟩
    rw [dV_emb o k h]
    refine ⟨rfl, ?_⟩
    show (64 * k.val + (x 0).val) / 64 = k.val
    have : (x 0).val < 64 := (x 0).isLt
    omega
  · intro hi
    obtain ⟨-, h0, h1⟩ := Finset.mem_filter.mp hi
    refine Finset.mem_map.mpr ⟨ix2 (⟨(i 1).val % 64, Nat.mod_lt _ (by decide)⟩ : Fin 64) (i 2), Finset.mem_univ _, ?_⟩
    rw [dV_emb o k h]
    refine ext3 h0.symm ?_ rfl
    show 64 * k.val + (i 1).val % 64 = (i 1).val
    omega
theorem cV_set {off : Fin 4 → ℕ} {inb} (k o : Fin 8) (h : off = ![k.val, o.val, 0, 0]) : (cV off inb).view.set = cSet k o := by
  ext i
  constructor
  · intro hi
    obtain ⟨x, -, rfl⟩ := Finset.mem_map.mp hi
    refine Finset.mem_filter.mpr ⟨Finset.mem_univ _, ?_⟩
    rw [cV_emb k o h]
    exact ⟨rfl, rfl⟩
  · intro hi
    obtain ⟨-, h0, h1⟩ := Finset.mem_filter.mp hi
    refine Finset.mem_map.mpr ⟨ix2 (i 2) (i 3), Finset.mem_univ _, ?_⟩
    rw [cV_emb k o h]
    exact ext4 h0.symm h1.symm rfl rfl
theorem eV_set {off : Fin 3 → ℕ} {inb} (s : Fin 2) (h : off = ![s.val, 0, 0]) : (eV off inb).view.set = eSet s := by
  ext i
  constructor
  · intro hi
    obtain ⟨x, -, rfl⟩ := Finset.mem_map.mp hi
    refine Finset.mem_filter.mpr ⟨Finset.mem_univ _, ?_⟩
    rw [eV_emb s h]; rfl
  · intro hi
    obtain ⟨-, h0⟩ := Finset.mem_filter.mp hi
    refine Finset.mem_map.mpr ⟨ix2 (i 1) (i 2), Finset.mem_univ _, ?_⟩
    rw [eV_emb s h]
    exact ext3 h0.symm rfl rfl
theorem wV_set {off : Fin 3 → ℕ} {inb} (k : Fin 8) (h : off = ![k.val, 0, 0]) : (wV off inb).view.set = wSet k := by
  ext i
  constructor
  · intro hi
    obtain ⟨x, -, rfl⟩ := Finset.mem_map.mp hi
    refine Finset.mem_filter.mpr ⟨Finset.mem_univ _, ?_⟩
    rw [wV_emb k h]; rfl
  · intro hi
    obtain ⟨-, h0⟩ := Finset.mem_filter.mp hi
    refine Finset.mem_map.mpr ⟨ix2 (i 1) (i 2), Finset.mem_univ _, ?_⟩
    rw [wV_emb k h]
    exact ext3 h0.symm rfl rfl

/-- What a transfer leaves in its landing slot: at each index what the dispatch buffer's chunk has at that row. -/
theorem land {offd : Fin 3 → ℕ} {inbd} {offc : Fin 4 → ℕ} {inbc} (o' k' k o : Fin 8) (hd : offd = ![o'.val, 64 * k'.val, 0])
    (hc : offc = ![k.val, o.val, 0, 0]) (fd : Vec F S8x8x64x1024 .bf16) (fs : Vec F S8x512x1024 .bf16)
    (i : S8x8x64x1024.Idx) (hi : i ∈ cSet k o) :
    (cV offc inbc).view.write (Elt F) fd ((dV offd inbd).view.read (Elt F) fs) Finset.univ i = fs (ix3 o' (at64 k' (i 2)) (i 3)) := by
  obtain ⟨-, h0, h1⟩ := Finset.mem_filter.mp hi
  have he : i = (cV offc inbc).view.emb (ix2 (i 2) (i 3)) := by
    rw [cV_emb k o hc]; exact ext4 h0 h1 rfl rfl
  refine (congrArg (fun j => (cV offc inbc).view.write (Elt F) fd ((dV offd inbd).view.read (Elt F) fs) Finset.univ j) he).trans ?_
  refine (View.write_emb_of_mem (v := _) _ _ (Finset.mem_univ _)).trans ?_
  show fs ((dV offd inbd).view.emb (ix2 (i 2) (i 3))) = _
  rw [dV_emb o' k' hd]; rfl

/-- What the copy of expert `k`'s weights leaves in weight slot `s`. -/
theorem landW {offe : Fin 3 → ℕ} {inbe} {offw : Fin 3 → ℕ} {inbw} (s : Fin 2) (k : Fin 8) (he : offe = ![s.val, 0, 0])
    (hw : offw = ![k.val, 0, 0]) (fd : Vec F S2x1024x1024 .bf16) (fs : Vec F S8x1024x1024 .bf16)
    (i : S2x1024x1024.Idx) (hi : i ∈ eSet s) :
    (eV offe inbe).view.write (Elt F) fd ((wV offw inbw).view.read (Elt F) fs) Finset.univ i = fs (ix3 k (i 1) (i 2)) := by
  obtain ⟨-, h0⟩ := Finset.mem_filter.mp hi
  have hx : i = (eV offe inbe).view.emb (ix2 (i 1) (i 2)) := by
    rw [eV_emb s he]; exact ext3 h0 rfl rfl
  refine (congrArg (fun j => (eV offe inbe).view.write (Elt F) fd ((wV offw inbw).view.read (Elt F) fs) Finset.univ j) hx).trans ?_
  refine (View.write_emb_of_mem (v := _) _ _ (Finset.mem_univ _)).trans ?_
  show fs ((wV offw inbw).view.emb (ix2 (i 1) (i 2))) = _
  rw [wV_emb k hw]; rfl

end Cert.Exchange

end
-- ==== Proof.Steps.lean ====
/-
# One effect at a time

What each of the kernel's semaphore effects and transfers needs and gives, in terms of the exchange's cells; and
straight-line runs of such effects as lists.
-/
module

public import proofs.«01_k».proof.Proof.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program on device `c`, run to a postcondition. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use: the cells' invariants, their first rounds, the levels -/

variable (X : Inp F) (K : Dev nD × CI → ℕ)

def recs : sProp 𝕄 :=
  iprop(bigSep Finset.univ (fun ck : Dev nD × CI => cellInv ER (Rd X) (K ck) (kcell ck))
    ∗ bigSep Finset.univ (fun ck : Dev nD × CI => reached ER (kcell ck) 0) ∗ levAts L lv)

instance recs_persistent : BI.Persistent (recs X K) := by unfold recs; infer_instance

theorem recs_inv (ck : Dev nD × CI) : recs X K ⊢ cellInv ER (Rd X) (K ck) (kcell ck) := by
  classical
  unfold recs
  have h := bigSep_elim (Finset.mem_univ ck) (Φ := fun ck : Dev nD × CI => (cellInv ER (Rd X) (K ck) (kcell ck) : sProp 𝕄))
  exact sep_elim_left.trans h
theorem recs_reached (ck : Dev nD × CI) : recs X K ⊢ reached ER (kcell ck) 0 := by
  classical
  unfold recs
  have h := bigSep_elim (Finset.mem_univ ck) (Φ := fun ck : Dev nD × CI => (reached ER (kcell ck) 0 : sProp 𝕄))
  exact sep_elim_right.trans (sep_elim_left.trans h)
theorem recs_lev : recs X K ⊢ levAts L lv := by
  unfold recs
  iintro ⟨-, -, H⟩
  iexact H

/-- Device `c` owes the dues `l`, whatever it has waited on. -/
def ow (c : Dev nD) (l : List Due) : sProp 𝕄 := iprop(∃ W, owes (c : Thread nD τ) (Ow l) W)

/-! ## Waits and signals -/

abbrev credC (c : Dev nD) (i : CI) (n : ℕ) : sProp 𝕄 := cred (tallyAt (kcell (c, i)) () n)
abbrev posC (c : Dev nD) (i : CI) (R : ℕ) : sProp 𝕄 := atPos ER (kcell (c, i)) R ∅ 0
abbrev reachC (c : Dev nD) (i : CI) (R : ℕ) : sProp 𝕄 := reached ER (kcell (c, i)) R
abbrev tokC (c : Dev nD) (i : CI) (r : ℕ) (d : Fin 8) : sProp 𝕄 := dutyTok ER (kcell (c, i)) r d

theorem wait_cell (c : Dev nD) (i : CI) (R : ℕ) {n : ℕ} {l : List Due} (hl : lvK i ≤ n) (ha : Above n l)
    {w : TpuEff nD τ sig (Elt F) Λ₀ .tc PUnit} {k' : ℕ}
    (hw : ∀ Kt : PUnit → sProp 𝕄, wpE' (defs₀ (F := F)) 𝒱₀ (c : Thread nD τ) none ([] : PendingWaitsCtx sig Unit) Set.univ w Kt = waitSpec (c : Thread nD τ) Set.univ (csem i) k' Kt)
    (hk : k' = (dutiesK i R).card * amountK i)
    {α : Type} {Q : α → sProp 𝕄} {k : PUnit → Prog (TpuEff nD τ sig (Elt F) Λ₀ .tc) α} :
    iprop(recs X K ∗ credC c i k' ∗ ow c l ∗ posC c i R)
      ⊢ iprop(((ow c l ∗ posC c i (R + 1) ∗ reachC c i (R + 1) ∗ bigSep (dutiesK i R) (fun d => payK X c i R d)) -∗ run c (k ⟨⟩) Q)
        -∗ run c (.op w k) Q) := by
  unfold ow
  iintro ⟨#HR, Hc, ⟨%W, HO⟩, Hp⟩ Hk
  ihave #HI := recs_inv X K (c, i) $$ HR
  ihave #HL := recs_lev X K $$ HR
  iapply (Rounds.wp_wait_rest_token 𝒱₀ ER (Rd X) (c : Thread nD τ) none (κ := K (c, i)) hw (Set.mem_univ _) () (O := Ow l) (W := W) (R := R) (m := 0) (T := ∅)
    (by rw [Nat.zero_add, hk, ← expect_eq X c i R])) $$ [Hc HO Hp]
  · isplitr; · iexact HI
    isplitl [Hc]; · iexact Hc
    isplitl [HO]; · iexact HO
    isplitr; · iapply (mayWait_of_above c (csem i) (n := n) (le_trans (le_of_eq (lv_kcell c i)) hl) ha); iexact HL
    iexact Hp
  iintro ⟨HO, Hp, Hr, Hpay⟩
  iapply Hk
  isplitl [HO]; · iexists _; iexact HO
  isplitl [Hp]; · iexact Hp
  isplitl [Hr]; · iexact Hr
  have e : bigSep ((Rd X).duties (kcell (c, i)) R \ ∅) (fun d => (Rd X).payload (kcell (c, i)) R d) = bigSep (dutiesK i R) (fun d => payK X c i R d) := by
    rw [Finset.sdiff_empty, duties_eq]
    exact congrArg (bigSep (dutiesK i R)) (funext fun d => payload_eq X c i R d)
  ihave Hpay := (Entails.of_eq e) $$ Hpay
  iexact Hpay

/-- A transfer's credit and its cell's position before the wait; its cell's position and what it handed over after. -/
def wA (c : Dev nD) (t : Fin 4) (x : Fin 8 × Fin 8) : sProp 𝕄 := iprop(credC c (xf t x.1 x.2) NX ∗ posC c (xf t x.1 x.2) 0)
def wB (c : Dev nD) (t : Fin 4) (x : Fin 8 × Fin 8) : sProp 𝕄 := iprop(posC c (xf t x.1 x.2) 1 ∗ xfPay X c t x.1 x.2)

theorem wait_xf (c : Dev nD) (t : Fin 4) (k o : Fin 8) (ho : o ≠ 0) {n : ℕ} {l : List Due} (hl : lvK (xf t k o) ≤ n) (ha : Above n l)
    {s : DmaSem sig} (hs : s = xfS t k o) {sp sp' : Space} {s₁ s₂ : Shape} {e₁ e₂ : EltTy} {src : Memref sig .tc sp' s₁ e₁} {dst : Memref sig .tc sp s₂ e₂}
    (hN : dst.view.dmaCredit = NX) {h₁ : src.view.WordExact} {h₂ : dst.view.WordExact}
    {α : Type} {Q : α → sProp 𝕄} {p : PUnit → Prog (TpuEff nD τ sig (Elt F) Λ₀ .tc) α} :
    iprop(recs X K ∗ wA c t (k, o) ∗ ow c l)
      ⊢ iprop(((ow c l ∗ wB X c t (k, o)) -∗ run c (p ⟨⟩) Q) -∗ run c (.op (.waitDma2 s src dst h₁ h₂) p) Q) := by
  subst hs
  unfold wA wB
  iintro ⟨#HR, ⟨Hc, Hp⟩, HO⟩ Hk
  have hd : dutiesK (xf t k o) 0 = {0} := if_pos ⟨rfl, ho⟩
  iapply (wait_cell X K c (xf t k o) 0 hl ha (w := .waitDma2 (xfS t k o) src dst h₁ h₂) (k' := NX)
    (fun Kt => by rw [← hN]; rfl) (by rw [hd]; exact (Nat.one_mul NX).symm)) $$ [Hc HO Hp]
  · isplitr; · iexact HR
    isplitl [Hc]; · iexact Hc
    isplitl [HO]; · iexact HO
    iexact Hp
  iintro ⟨HO, Hp, -, Hpay⟩
  have e : bigSep (dutiesK (xf t k o) 0) (fun d => payK X c (xf t k o) 0 d) = xfPay X c t k o := by rw [hd, bigSep_singleton]; rfl
  ihave Hpay := (Entails.of_eq e) $$ Hpay
  iapply Hk
  isplitl [HO]; · iexact HO
  isplitl [Hp]; · iexact Hp
  iexact Hpay

theorem signal_cell (c c' : Dev nD) (i : CI) (s : Sem sig) (hs : csem i = .reg s) (d : Fin 8) (hd : d ∈ dutiesK i 0) (hk : amountK i = 1) {l : List Due}
    {α : Type} {Q : α → sProp 𝕄} {p : PUnit → Prog (TpuEff nD τ sig (Elt F) Λ₀ .tc) α} :
    iprop(recs X K ∗ ow c ((kcell (c', i), 1) :: l) ∗ tokC c' i 0 d ∗ payK X c' i 0 d)
      ⊢ iprop((ow c l -∗ run c (p ⟨⟩) Q) -∗ run c (.op (.semSignal (c' : Thread nD τ) s 1) p) Q) := by
  have e : kcell (c', i) = ((c' : Thread nD τ), SemLoc.reg s) := by unfold kcell; rw [hs]
  have hI := recs_inv X K (c', i)
  have hr := recs_reached X K (c', i)
  have hd' : d ∈ (Rd X).duties ((c' : Thread nD τ), SemLoc.reg s) 0 := by rw [← e, duties_eq]; exact hd
  have hk' : (Rd X).amount ((c' : Thread nD τ), SemLoc.reg s) 0 d = 1 := by rw [← e, amount_eq]; exact hk
  rw [← payload_eq X c' i 0 d]
  unfold ow tokC
  rw [e] at hI hr ⊢
  iintro ⟨#HR, ⟨%W, HO⟩, Ht, Hpay⟩ Hk
  ihave #HI := hI $$ HR
  ihave #Hr := hr $$ HR
  iapply (Rounds.wp_signal 𝒱₀ ER (Rd X) (c : Thread nD τ) none (dst := (c' : Thread nD τ)) (κ := K (c', i)) (d := d) hd' hk' () (Ow l) rfl (W := W)) $$ [HO Ht Hpay]
  · isplitr; · iexact HI
    isplitl [HO]; · iexact HO
    isplitl [Ht]; · iexact Ht
    isplitl [Hpay]; · iexact Hpay
    iexact Hr
  iintro HO
  iapply Hk
  iexists _; iexact HO

/-! ## Transfers -/

/-- What the dispatch of chunk `k` to the device `o` places on needs; of the return to the device `o` places back. -/
def sA1 (c : Dev nD) (k o : Fin 8) : sProp 𝕄 :=
  iprop(dPts c (dSet o k) (X.D1 c) ∗ (∃ f, cPts (fwd c o) (cSet k o) f) ∗ tokC c (xf 0 k o) 0 0 ∗ tokC (fwd c o) (xf 1 k o) 0 0)
def sA2 (c : Dev nD) (k o : Fin 8) : sProp 𝕄 :=
  iprop(dPts c (dSet k o) (X.D2 c) ∗ (∃ f, cPts (bwd c o) (cSet o k) f) ∗ tokC c (xf 2 k o) 0 0 ∗ tokC (bwd c o) (xf 3 k o) 0 0)

theorem mem_xf (t : Fin 4) (k o : Fin 8) (ho : o ≠ 0) : (0 : Fin 8) ∈ dutiesK (xf t k o) 0 := by
  have hd : dutiesK (xf t k o) 0 = {0} := if_pos ⟨rfl, ho⟩
  rw [hd]; exact Finset.mem_singleton_self _

theorem mem_duties (c : Dev nD) (i : CI) {r : ℕ} {d : Fin 8} (h : d ∈ dutiesK i r) : d ∈ (Rd X).duties (kcell (c, i)) r := by
  rw [duties_eq]; exact h

theorem send1 (c n : Dev nD) (k o : Fin 8) (ho : o ≠ 0) (hn : n = fwd c o) {l : List Due} {s₁ s₂ : DmaSem sig} (h₁ : s₁ = xfS 0 k o) (h₂ : s₂ = xfS 1 k o)
    {offd : Fin 3 → ℕ} {inbd} {offc : Fin 4 → ℕ} {inbc} (hd : offd = ![o.val, 64 * k.val, 0]) (hc : offc = ![k.val, o.val, 0, 0])
    {hsc : (cV offc inbc).view.ref.isScScratch = false} {hsrc : (dV offd inbd).view.WordExact} {hdst : (cV offc inbc).view.WordExact}
    {hsem : DmaTarget.Typed .vmem (.dma s₂) (.remote (Dev.tc n : Thread nD τ) (cV offc inbc) (.dma s₁) hsc)}
    {α : Type} {Q : α → sProp 𝕄} {p : PUnit → Prog (TpuEff nD τ sig (Elt F) Λ₀ .tc) α} :
    iprop(recs X K ∗ sA1 X c k o ∗ ow c (drDue c o k :: l))
      ⊢ iprop(((credC c (xf 0 k o) NX ∗ ow c l) -∗ run c (p ⟨⟩) Q)
        -∗ run c (.op (.enqueueDma (dV offd inbd) (.remote (Dev.tc n : Thread nD τ) (cV offc inbc) (.dma s₁) hsc) (.dma s₂) hsrc hdst hsem) p) Q) := by
  subst hn; subst h₁; subst h₂
  unfold ow sA1
  iintro ⟨#HR, ⟨Hd, ⟨%f, Hc⟩, Ht, Ht'⟩, ⟨%W, HO⟩⟩ Hk
  ihave #HI := recs_inv X K (c, xf 0 k o) $$ HR
  ihave #HI' := recs_inv X K (fwd c o, xf 1 k o) $$ HR
  ihave #Hr := recs_reached X K (c, xf 0 k o) $$ HR
  ihave #Hr' := recs_reached X K (fwd c o, xf 1 k o) $$ HR
  have e₁ : (dPts c (dSet o k) (X.D1 c) : sProp 𝕄) = ((dV offd inbd).view.loc (c : Thread nD τ) ↦[(dV offd inbd).view.set]{fullShare} X.D1 c) := by
    unfold dPts; rw [dV_set o k hd]
  have e₂ : (cPts (fwd c o) (cSet k o) f : sProp 𝕄) = ((cV offc inbc).view.loc (Dev.tc (fwd c o) : Thread nD τ) ↦[(cV offc inbc).view.set]{fullShare} f) := by
    unfold cPts; rw [cV_set k o hc]
  ihave Hd := (Entails.of_eq e₁) $$ Hd
  ihave Hc := (Entails.of_eq e₂) $$ Hc
  iapply (Rounds.wp_send_pointsTo 𝒱₀ ER (Rd X) (c : Thread nD τ) none (c' := (Dev.tc (fwd c o) : Thread nD τ)) (κ₁ := K (c, xf 0 k o)) (κ₂ := K (fwd c o, xf 1 k o))
    (r₁ := 0) (r₂ := 0) (d₁ := 0) (d₂ := 0) (fd := f) (fs := X.D1 c)
    (mem_duties X (c) (xf 0 k o) (mem_xf 0 k o ho))
    (mem_duties X (fwd c o) (xf 1 k o) (mem_xf 1 k o ho))
    () () NX rfl (amount_eq X c (xf 0 k o) 0 0) (amount_eq X (fwd c o) (xf 1 k o) 0 0) (Ow l) rfl (W := W)
    (by
      refine Entails.of_eq ?_
      exact e₁.symm.trans (payload_eq X c (xf 0 k o) 0 0).symm)
    (by
      refine Entails.of_eq (Eq.trans ?_ (payload_eq X (fwd c o) (xf 1 k o) 0 0).symm)
      show _ = cPts (fwd c o) (cSet k o) (X.C1 (fwd c o))
      unfold cPts
      rw [cV_set k o hc]
      refine pointsTo_congr fun i hi => ?_
      rw [land o k k o hd hc f (X.D1 c) i hi]
      obtain ⟨-, h0, h1⟩ := Finset.mem_filter.mp hi
      unfold Inp.C1
      rw [show i 1 = o from Fin.ext h1, show i 0 = k from Fin.ext h0, bwd_fwd])) $$ [Hd Hc HO Ht Ht']
  · isplitr; · iexact HI
    isplitr; · iexact HI'
    isplitl [Hd]; · iexact Hd
    isplitl [Hc]; · iexact Hc
    isplitl [HO]; · iexact HO
    isplitl [Ht]; · iexact Ht
    isplitr; · iexact Hr
    isplitl [Ht']; · iexact Ht'
    iexact Hr'
  iintro ⟨Hcr, HO⟩
  iapply Hk
  isplitl [Hcr]; · iexact Hcr
  iexists _; iexact HO

theorem send2 (c n : Dev nD) (k o : Fin 8) (ho : o ≠ 0) (hn : n = bwd c o) {l : List Due} {s₁ s₂ : DmaSem sig} (h₁ : s₁ = xfS 2 k o) (h₂ : s₂ = xfS 3 k o)
    {offd : Fin 3 → ℕ} {inbd} {offc : Fin 4 → ℕ} {inbc} (hd : offd = ![k.val, 64 * o.val, 0]) (hc : offc = ![o.val, k.val, 0, 0])
    {hsc : (cV offc inbc).view.ref.isScScratch = false} {hsrc : (dV offd inbd).view.WordExact} {hdst : (cV offc inbc).view.WordExact}
    {hsem : DmaTarget.Typed .vmem (.dma s₂) (.remote (Dev.tc n : Thread nD τ) (cV offc inbc) (.dma s₁) hsc)}
    {α : Type} {Q : α → sProp 𝕄} {p : PUnit → Prog (TpuEff nD τ sig (Elt F) Λ₀ .tc) α} :
    iprop(recs X K ∗ sA2 X c k o ∗ ow c (rrDue c o k :: l))
      ⊢ iprop(((credC c (xf 2 k o) NX ∗ ow c l) -∗ run c (p ⟨⟩) Q)
        -∗ run c (.op (.enqueueDma (dV offd inbd) (.remote (Dev.tc n : Thread nD τ) (cV offc inbc) (.dma s₁) hsc) (.dma s₂) hsrc hdst hsem) p) Q) := by
  subst hn; subst h₁; subst h₂
  unfold ow sA2
  iintro ⟨#HR, ⟨Hd, ⟨%f, Hc⟩, Ht, Ht'⟩, ⟨%W, HO⟩⟩ Hk
  ihave #HI := recs_inv X K (c, xf 2 k o) $$ HR
  ihave #HI' := recs_inv X K (bwd c o, xf 3 k o) $$ HR
  ihave #Hr := recs_reached X K (c, xf 2 k o) $$ HR
  ihave #Hr' := recs_reached X K (bwd c o, xf 3 k o) $$ HR
  have e₁ : (dPts c (dSet k o) (X.D2 c) : sProp 𝕄) = ((dV offd inbd).view.loc (c : Thread nD τ) ↦[(dV offd inbd).view.set]{fullShare} X.D2 c) := by
    unfold dPts; rw [dV_set k o hd]
  have e₂ : (cPts (bwd c o) (cSet o k) f : sProp 𝕄) = ((cV offc inbc).view.loc (Dev.tc (bwd c o) : Thread nD τ) ↦[(cV offc inbc).view.set]{fullShare} f) := by
    unfold cPts; rw [cV_set o k hc]
  ihave Hd := (Entails.of_eq e₁) $$ Hd
  ihave Hc := (Entails.of_eq e₂) $$ Hc
  iapply (Rounds.wp_send_pointsTo 𝒱₀ ER (Rd X) (c : Thread nD τ) none (c' := (Dev.tc (bwd c o) : Thread nD τ)) (κ₁ := K (c, xf 2 k o)) (κ₂ := K (bwd c o, xf 3 k o))
    (r₁ := 0) (r₂ := 0) (d₁ := 0) (d₂ := 0) (fd := f) (fs := X.D2 c)
    (mem_duties X (c) (xf 2 k o) (mem_xf 2 k o ho))
    (mem_duties X (bwd c o) (xf 3 k o) (mem_xf 3 k o ho))
    () () NX rfl (amount_eq X c (xf 2 k o) 0 0) (amount_eq X (bwd c o) (xf 3 k o) 0 0) (Ow l) rfl (W := W)
    (by
      refine Entails.of_eq ?_
      exact e₁.symm.trans (payload_eq X c (xf 2 k o) 0 0).symm)
    (by
      refine Entails.of_eq (Eq.trans ?_ (payload_eq X (bwd c o) (xf 3 k o) 0 0).symm)
      show _ = cPts (bwd c o) (cSet o k) (X.C2 (bwd c o))
      unfold cPts
      rw [cV_set o k hc]
      refine pointsTo_congr fun i hi => ?_
      rw [land k o o k hd hc f (X.D2 c) i hi]
      obtain ⟨-, h0, h1⟩ := Finset.mem_filter.mp hi
      unfold Inp.C2
      rw [show i 1 = k from Fin.ext h1, show i 0 = o from Fin.ext h0, fwd_bwd])) $$ [Hd Hc HO Ht Ht']
  · isplitr; · iexact HI
    isplitr; · iexact HI'
    isplitl [Hd]; · iexact Hd
    isplitl [Hc]; · iexact Hc
    isplitl [HO]; · iexact HO
    isplitl [Ht]; · iexact Ht
    isplitr; · iexact Hr
    isplitl [Ht']; · iexact Ht'
    iexact Hr'
  iintro ⟨Hcr, HO⟩
  iapply Hk
  isplitl [Hcr]; · iexact Hcr
  iexists _; iexact HO

/-- The copy of expert `2 r + s`'s weights into weight slot `s`. -/
theorem copyW (c : Dev nD) (s : Fin 2) (r : ℕ) (hr : r < 4) {q : DmaSem sig} (hq : q = ewS s)
    {offe : Fin 3 → ℕ} {inbe} {offw : Fin 3 → ℕ} {inbw} (he : offe = ![s.val, 0, 0]) (hw : offw = ![(expertOf s r).val, 0, 0])
    {hsrc : (wV offw inbw).view.WordExact} {hdst : (eV offe inbe).view.WordExact} {hsem : DmaTarget.Typed (nD := nD) (τ := τ) (p := .tc) .hbm (.dma q) (.here (eV offe inbe))}
    {α : Type} {Q : α → sProp 𝕄} {p : PUnit → Prog (TpuEff nD τ sig (Elt F) Λ₀ .tc) α} :
    iprop(recs X K ∗ (∃ f, ePts c (eSet s) f) ∗ wPts c (wSet (expertOf s r)) (X.w c) ∗ tokC c (ew s) r 0 ∗ reachC c (ew s) r)
      ⊢ iprop((credC c (ew s) NW -∗ run c (p ⟨⟩) Q)
        -∗ run c (.op (.enqueueDma (wV offw inbw) (.here (eV offe inbe)) (.dma q) hsrc hdst hsem) p) Q) := by
  subst hq
  iintro ⟨#HR, ⟨%f, He⟩, Hw, Ht, Hr⟩ Hk
  ihave #HI := recs_inv X K (c, ew s) $$ HR
  have e₁ : (wPts c (wSet (expertOf s r)) (X.w c) : sProp 𝕄) = ((wV offw inbw).view.loc (c : Thread nD τ) ↦[(wV offw inbw).view.set]{fullShare} X.w c) := by
    unfold wPts; rw [wV_set _ hw]
  have e₂ : (ePts c (eSet s) f : sProp 𝕄) = ((eV offe inbe).view.loc (c : Thread nD τ) ↦[(eV offe inbe).view.set]{fullShare} f) := by
    unfold ePts; rw [eV_set s he]
  ihave Hw := (Entails.of_eq e₁) $$ Hw
  ihave He := (Entails.of_eq e₂) $$ He
  iapply (Rounds.wp_copy_pointsTo 𝒱₀ ER (Rd X) (c : Thread nD τ) none (κ := K (c, ew s)) (r := r) (d := 0) (fd := f) (fs := X.w c)
    (mem_duties X c (ew s) (by rw [show dutiesK (ew s) r = {0} from if_pos hr]; exact Finset.mem_singleton_self _))
    () NW rfl (amount_eq X c (ew s) r 0)
    (by
      refine Entails.of_eq (Eq.trans ?_ (payload_eq X c (ew s) r 0).symm)
      show _ = ewPay X c s r
      unfold ewPay
      rw [e₁]
      refine congrArg (fun P => iprop(P ∗ _)) ?_
      unfold ePts
      rw [eV_set s he]
      exact pointsTo_congr fun i hi => landW s (expertOf s r) he hw f (X.w c) i hi)) $$ [Hw He Ht Hr]
  · isplitr; · iexact HI
    isplitl [Hw]; · iexact Hw
    isplitl [He]; · iexact He
    isplitl [Ht]; · iexact Ht
    iexact Hr
  iexact Hk

end Cert.Exchange

end
-- ==== Proof.Runs.lean ====
/-
# Runs of waits and of transfers

The kernel waits for, and sends, 56 transfers in a row at several places. Each such run is one step applied at every
transfer of a list.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The separating conjunction over a list. -/
def sepL {α : Type} (l : List α) (A : α → sProp 𝕄) : sProp 𝕄 := l.foldr (fun x P => iprop(A x ∗ P)) iprop(emp)

theorem sepL_nil {α : Type} (A : α → sProp 𝕄) : sepL [] A = iprop(emp) := rfl
theorem sepL_cons {α : Type} (x : α) (l : List α) (A : α → sProp 𝕄) : sepL (x :: l) A = iprop(A x ∗ sepL l A) := rfl

/-- A kernel part over the exchange's buffers and semaphores. -/
abbrev onBufs {β : Type 1} (p : (arg0 : Memref sig .tc .vmem S2048x1024 .bf16) → (harg0 : arg0.IsWhole) → (arg1 : Memref sig .tc .vmem S1024x64 .bf16) →
      (harg1 : arg1.IsWhole) → (arg2 : Memref sig .tc .vmem S2048x1 .i32) → (harg2 : arg2.IsWhole) → (arg3 : Memref sig .tc .hbm S8x1024x1024 .bf16) →
      (harg3 : arg3.IsWhole) → (arg4 : Memref sig .tc .vmem S1024x1024 .bf16) → (harg4 : arg4.IsWhole) → (arg5 : Memref sig .tc .vmem S2048x1024 .f32) →
      (harg5 : arg5.IsWhole) → (arg6 : Memref sig .tc .vmem S8x512x1024 .bf16) → (harg6 : arg6.IsWhole) → (arg7 : Memref sig .tc .vmem S8x8x64x1024 .bf16) →
      (harg7 : arg7.IsWhole) → (arg8 : Memref sig .tc .vmem S2x1024x1024 .bf16) → (harg8 : arg8.IsWhole) → (arg9 : Memref sig .tc .vmem S2048x1024 .bf16) →
      (harg9 : arg9.IsWhole) → (arg10 : Memref sig .tc .vmem S2048x1 .i32) → (harg10 : arg10.IsWhole) → DmaSems sig S2 → Sems sig S_ →
      DmaSems sig S8x8 → DmaSems sig S8x8 → DmaSems sig S8x8 → DmaSems sig S8x8 → β) : β :=
  p xM (Memref.isWhole_whole _) rM (Memref.isWhole_whole _) iM (Memref.isWhole_whole _) wM (Memref.isWhole_whole _) sM (Memref.isWhole_whole _)
    oM (Memref.isWhole_whole _) dM (Memref.isWhole_whole _) cM (Memref.isWhole_whole _) eM (Memref.isWhole_whole _) xsM (Memref.isWhole_whole _)
    dsM (Memref.isWhole_whole _) cc0_scratch5 cc0_scratch6 cc0_scratch7 cc0_scratch8 cc0_scratch9 cc0_scratch10

variable (X : Inp F) (K : Dev nD × CI → ℕ)

/-! ## Runs of waits -/

/-- Waits on the transfers of `l` to come, with the dues `d` held throughout; `R` is what stands once they are done. -/
def waitSt (c : Dev nD) (t : Fin 4) (d : List Due) (l : List (Fin 8 × Fin 8)) (R : sProp 𝕄) : sProp 𝕄 :=
  iprop(recs X K ∗ ow c d ∗ sepL l (wA c t) ∗ (sepL l (wB X c t) -∗ R))

theorem waitSt_start (c : Dev nD) (t : Fin 4) (d : List Due) (l : List (Fin 8 × Fin 8)) (R : sProp 𝕄) :
    iprop(recs X K ∗ ow c d ∗ sepL l (wA c t) ∗ R) ⊢ waitSt X K c t d l iprop(sepL l (wB X c t) ∗ R) := by
  unfold waitSt
  iintro ⟨#HR, HO, HA, H⟩
  isplitr; · iexact HR
  isplitl [HO]; · iexact HO
  isplitl [HA]; · iexact HA
  iintro HB
  isplitl [HB]; · iexact HB
  iexact H

theorem waitSt_done (c : Dev nD) (t : Fin 4) (d : List Due) (R : sProp 𝕄) : waitSt X K c t d [] R ⊢ iprop(recs X K ∗ ow c d ∗ R) := by
  unfold waitSt
  iintro ⟨#HR, HO, HA, H⟩
  isplitr; · iexact HR
  isplitl [HO]; · iexact HO
  iapply H
  iexact HA

theorem pass_wait {c : Dev nD} {t : Fin 4} {n : ℕ} {d : List Due} {l : List (Fin 8 × Fin 8)} {R : sProp 𝕄} (k o : Fin 8)
    (ha : Above n d) {s : DmaSem sig} {sp sp' : Space} {s₁ s₂ : Shape} {e₁ e₂ : EltTy} {src : Memref sig .tc sp' s₁ e₁}
    {dst : Memref sig .tc sp s₂ e₂} (hs : s = xfS t k o) (hN : dst.view.dmaCredit = NX) (ho : o ≠ 0) (hl : lvK (xf t k o) ≤ n)
    {h₁ : src.view.WordExact} {h₂ : dst.view.WordExact} {α : Type} {Q : α → sProp 𝕄} {p : PUnit → Prog (TpuEff nD τ sig (Elt F) Λ₀ .tc) α}
    (hp : waitSt X K c t d l R ⊢ run c (p ⟨⟩) Q) :
    waitSt X K c t d ((k, o) :: l) R ⊢ run c (.op (.waitDma2 s src dst h₁ h₂) p) Q := by
  unfold waitSt at hp ⊢
  rw [sepL_cons, sepL_cons]
  iintro ⟨#HR, HO, ⟨HA, HL⟩, HW⟩
  iapply (wait_xf X K c t k o ho hl ha hs hN) $$ [HA HO]
  · isplitr; · iexact HR
    isplitl [HA]; · iexact HA
    iexact HO
  iintro ⟨HO, HB⟩
  iapply hp
  isplitr; · iexact HR
  isplitl [HO]; · iexact HO
  isplitl [HL]; · iexact HL
  iintro HBL
  iapply HW
  isplitl [HB]; · iexact HB
  iexact HBL

/-! ## Runs of transfers -/

/-- Return transfers of `l` to come, the dues `d` after them; `R` is what stands once they are under way. -/
def sendSt (c : Dev nD) (d : List Due) (l : List (Fin 8 × Fin 8)) (R : sProp 𝕄) : sProp 𝕄 :=
  iprop(recs X K ∗ ow c (l.map (fun x => rrDue c x.2 x.1) ++ d) ∗ sepL l (fun x => sA2 X c x.1 x.2)
    ∗ (sepL l (fun x => credC c (xf 2 x.1 x.2) NX) -∗ R))

theorem sendSt_start (c : Dev nD) (d : List Due) (l : List (Fin 8 × Fin 8)) (R : sProp 𝕄) :
    iprop(recs X K ∗ ow c (l.map (fun x => rrDue c x.2 x.1) ++ d) ∗ sepL l (fun x => sA2 X c x.1 x.2) ∗ R)
      ⊢ sendSt X K c d l iprop(sepL l (fun x => credC c (xf 2 x.1 x.2) NX) ∗ R) := by
  unfold sendSt
  iintro ⟨#HR, HO, HA, H⟩
  isplitr; · iexact HR
  isplitl [HO]; · iexact HO
  isplitl [HA]; · iexact HA
  iintro HB
  isplitl [HB]; · iexact HB
  iexact H

theorem sendSt_done (c : Dev nD) (d : List Due) (R : sProp 𝕄) : sendSt X K c d [] R ⊢ iprop(recs X K ∗ ow c d ∗ R) := by
  unfold sendSt
  iintro ⟨#HR, HO, HA, H⟩
  isplitr; · iexact HR
  isplitl [HO]; · iexact HO
  iapply H
  iexact HA

theorem pass_send {c n : Dev nD} {d : List Due} {l : List (Fin 8 × Fin 8)} {R : sProp 𝕄} (k o : Fin 8) {s₁ s₂ : DmaSem sig}
    {offd : Fin 3 → ℕ} {inbd} {offc : Fin 4 → ℕ} {inbc} (hn : n = bwd c o) (h₁ : s₁ = xfS 2 k o) (h₂ : s₂ = xfS 3 k o)
    (hd : offd = ![k.val, 64 * o.val, 0]) (hc : offc = ![o.val, k.val, 0, 0]) (ho : o ≠ 0)
    {hsc : (cV offc inbc).view.ref.isScScratch = false} {hsrc : (dV offd inbd).view.WordExact} {hdst : (cV offc inbc).view.WordExact}
    {hsem : DmaTarget.Typed .vmem (.dma s₂) (.remote (Dev.tc n : Thread nD τ) (cV offc inbc) (.dma s₁) hsc)}
    {α : Type} {Q : α → sProp 𝕄} {p : PUnit → Prog (TpuEff nD τ sig (Elt F) Λ₀ .tc) α}
    (hp : sendSt X K c d l R ⊢ run c (p ⟨⟩) Q) :
    sendSt X K c d ((k, o) :: l) R
      ⊢ run c (.op (.enqueueDma (dV offd inbd) (.remote (Dev.tc n : Thread nD τ) (cV offc inbc) (.dma s₁) hsc) (.dma s₂) hsrc hdst hsem) p) Q := by
  unfold sendSt at hp ⊢
  rw [sepL_cons, sepL_cons]
  show iprop(recs X K ∗ ow c (rrDue c o k :: (l.map (fun x => rrDue c x.2 x.1) ++ d)) ∗ _) ⊢ _
  iintro ⟨#HR, HO, ⟨HA, HL⟩, HW⟩
  iapply (send2 X K c n k o ho hn h₁ h₂ hd hc) $$ [HA HO]
  · isplitr; · iexact HR
    isplitl [HA]; · iexact HA
    iexact HO
  iintro ⟨HB, HO⟩
  iapply hp
  isplitr; · iexact HR
  isplitl [HO]; · iexact HO
  isplitl [HL]; · iexact HL
  iintro HBL
  iapply HW
  isplitl [HB]; · iexact HB
  iexact HBL

/-- The 56 transfers, all chunks of an offset together. -/
def runL : List (Fin 8 × Fin 8) := offs.flatMap fun o => eight.map fun k => (k, o)
theorem runL_eq : runL = [(0, 1), (1, 1), (2, 1), (3, 1), (4, 1), (5, 1), (6, 1), (7, 1), (0, 2), (1, 2), (2, 2), (3, 2), (4, 2), (5, 2), (6, 2), (7, 2), (0, 3), (1, 3), (2, 3), (3, 3), (4, 3), (5, 3), (6, 3), (7, 3), (0, 4), (1, 4), (2, 4), (3, 4), (4, 4), (5, 4), (6, 4), (7, 4), (0, 5), (1, 5), (2, 5), (3, 5), (4, 5), (5, 5), (6, 5), (7, 5), (0, 6), (1, 6), (2, 6), (3, 6), (4, 6), (5, 6), (6, 6), (7, 6), (0, 7), (1, 7), (2, 7), (3, 7), (4, 7), (5, 7), (6, 7), (7, 7)] := by decide

/-- The waits of the kernel's parts 17 to 33: all of the dispatch's own transfers but the last two. -/
theorem run_dispatched (c : Dev nD) (d : List Due) (ha : Above 0 d) (R : sProp 𝕄) {α : Type} (Q : α → sProp 𝕄)
    (p : Prog (TpuEff nD τ sig (Elt F) Λ₀ .tc) α) (h : waitSt X K c 0 d [(6, 7), (7, 7)] R ⊢ run c p Q) :
    waitSt X K c 0 d runL R ⊢ run c (do
        onBufs (k0_part17 (F := F))
        onBufs (k0_part18 (F := F))
        onBufs (k0_part19 (F := F))
        onBufs (k0_part20 (F := F))
        onBufs (k0_part21 (F := F))
        onBufs (k0_part22 (F := F))
        onBufs (k0_part23 (F := F))
        onBufs (k0_part24 (F := F))
        onBufs (k0_part25 (F := F))
        onBufs (k0_part26 (F := F))
        onBufs (k0_part27 (F := F))
        onBufs (k0_part28 (F := F))
        onBufs (k0_part29 (F := F))
        onBufs (k0_part30 (F := F))
        onBufs (k0_part31 (F := F))
        onBufs (k0_part32 (F := F))
        onBufs (k0_part33 (F := F))
        p) Q := by
  rw [runL_eq]
  simp only [k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel,
    Prog.lift, bind_assoc, pure_bind, Prog.bind_op, Prog.bind_ret, Prog.pure_eq_ret]
  iterate 54 refine pass_wait X K _ _ ha (semAt_eq 0 _ _ rfl) (dV_credit _ _) (by decide) (by decide) ?_
  exact h

end Cert.Exchange

end
-- ==== Proof.Access.lean ====
/-
# Loads and stores

Every load and store of the kernel goes through a unit-stride rectangle of a whole buffer. Each of these accesses is one
step: what it reads or leaves is said at the indices of the buffer.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem load_step (c : Dev nD) {α : Type} {Q : α → sProp 𝕄} {cs : CoreSpace} {s : Shape} {e : EltTy} {m : Memref sig .tc cs s e} {r : Rect s} {hl : m.view.LoadsAt r}
    {k : (r.shape.Idx → Elt F e) → Prog (TpuEff nD τ sig (Elt F) Λ₀ .tc) α} {S : Finset (Idx ((m.access r).loc (c : Thread nD τ)))}
    {f : Buf (Elt F) ((m.access r).loc (c : Thread nD τ))} (hS : (m.access r).set ⊆ S) (v : r.shape.Idx → Elt F e) (hv : (m.access r).read (Elt F) f = v) :
    ((m.access r).loc (c : Thread nD τ) ↦[S]{fullShare} f)
      ⊢ iprop((((m.access r).loc (c : Thread nD τ) ↦[S]{fullShare} f) -∗ run c (k v) Q) -∗ run c (.op (.load m r hl) k) Q) := by
  subst hv
  exact wp_load_rect 𝒱₀ (c : Thread nD τ) none Set.univ hS

theorem store_step (c : Dev nD) {α : Type} {Q : α → sProp 𝕄} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {S : Finset (Idx ((m.access r).loc (c : Thread nD τ)))}
    {f : Buf (Elt F) ((m.access r).loc (c : Thread nD τ))} (hS : (m.access r).set ⊆ S) (g : Buf (Elt F) ((m.access r).loc (c : Thread nD τ)))
    (hg : ∀ i ∈ S, (m.access r).write (Elt F) f w Finset.univ i = g i) :
    ((m.access r).loc (c : Thread nD τ) ↦[S]{fullShare} f)
      ⊢ iprop((((m.access r).loc (c : Thread nD τ) ↦[S]{fullShare} g) -∗ run c (k ⟨⟩) Q) -∗ run c (.op (.store m r w Finset.univ hx hm) k) Q) := by
  rw [← pointsTo_congr hg]
  exact wp_store 𝒱₀ (c : Thread nD τ) none Set.univ (by rw [View.setOn_univ]; exact hS)

/-- The elements of a view, from where it places its indices; what a store leaves, likewise. -/
theorem set_sub {κ : Kind} {s : Shape} {sp : Space} {e : EltTy} (v : View sig κ sp s e) {S : Finset (v.ref.ty.shape.Idx)} (h : ∀ x, v.emb x ∈ S) : v.set ⊆ S := fun i hi => by
  obtain ⟨x, -, rfl⟩ := Finset.mem_map.mp hi
  exact h x
theorem write_is {κ : Kind} {s : Shape} {sp : Space} {e : EltTy} (v : View sig κ sp s e) (f : v.ref.ty.Contents (Elt F)) (w : s.Idx → Elt F e) (g : v.ref.ty.Contents (Elt F)) (i)
    (hin : ∀ x, v.emb x = i → v.write (Elt F) f w Finset.univ i = g i)
    (hout : (∀ x, v.emb x ≠ i) → f i = g i) : v.write (Elt F) f w Finset.univ i = g i := by
  by_cases h : ∃ x, v.emb x = i
  · obtain ⟨x, hx⟩ := h
    exact hin x hx
  · rw [View.write_of_not_mem _ _ _ (by
      rw [View.setOn_univ]
      intro hi
      obtain ⟨x, -, hx⟩ := Finset.mem_map.mp hi
      exact h ⟨x, hx⟩)]
    exact hout fun x hx => h ⟨x, hx⟩

/-! ## Where the rectangles place their indices -/

theorem zero_emb {a b : ℕ} {off : Fin 2 → ℕ} {inb} (h : off = ![0, 0]) (x : (⟨2, ![a, b]⟩ : Shape).Idx) :
    (Rect.unit (s := ⟨2, ![a, b]⟩) off ![a, b] inb).emb x = x := by
  subst h
  refine ext2 ?_ ?_
  · show 0 + 1 * (x 0).val = (x 0).val; omega
  · show 0 + 1 * (x 1).val = (x 1).val; omega
theorem rows_emb {n : ℕ} {off : Fin 2 → ℕ} {inb} (h : Fin 4) (he : off = ![512 * h.val, 0]) (x : (⟨2, ![512, n]⟩ : Shape).Idx) :
    (Rect.unit (s := ⟨2, ![2048, n]⟩) off ![512, n] inb).emb x = ix2 (at512 h (x 0)) (x 1) := by
  subst he
  refine ext2 ?_ ?_
  · show 512 * h.val + 1 * (x 0).val = 512 * h.val + (x 0).val; omega
  · show 0 + 1 * (x 1).val = (x 1).val; omega
theorem drow_emb {off : Fin 3 → ℕ} {inb} (o : Fin 8) (h : off = ![o.val, 0, 0]) (x : S1x512x1024.Idx) :
    (Rect.unit (s := S8x512x1024) off S1x512x1024.size inb).emb x = ix3 o (x 1) (x 2) := by
  subst h
  have h0 : (x 0).val < 1 := (x 0).isLt
  refine ext3 ?_ ?_ ?_
  · show o.val + 1 * (x 0).val = o.val; omega
  · show 0 + 1 * (x 1).val = (x 1).val; omega
  · show 0 + 1 * (x 2).val = (x 2).val; omega
theorem dpiece_emb {off : Fin 3 → ℕ} {inb} (o k : Fin 8) (h : off = ![o.val, 64 * k.val, 0]) (x : S1x64x1024.Idx) :
    (Rect.unit (s := S8x512x1024) off S1x64x1024.size inb).emb x = ix3 o (at64 k (x 1)) (x 2) := by
  subst h
  have h0 : (x 0).val < 1 := (x 0).isLt
  refine ext3 ?_ ?_ ?_
  · show o.val + 1 * (x 0).val = o.val; omega
  · show 64 * k.val + 1 * (x 1).val = 64 * k.val + (x 1).val; omega
  · show 0 + 1 * (x 2).val = (x 2).val; omega
theorem cslot_emb {off : Fin 4 → ℕ} {inb} (k o : Fin 8) (h : off = ![k.val, o.val, 0, 0]) (x : S1x1x64x1024.Idx) :
    (Rect.unit (s := S8x8x64x1024) off S1x1x64x1024.size inb).emb x = ix4 k o (x 2) (x 3) := by
  subst h
  have h0 : (x 0).val < 1 := (x 0).isLt
  have h1 : (x 1).val < 1 := (x 1).isLt
  refine ext4 ?_ ?_ ?_ ?_
  · show k.val + 1 * (x 0).val = k.val; omega
  · show o.val + 1 * (x 1).val = o.val; omega
  · show 0 + 1 * (x 2).val = (x 2).val; omega
  · show 0 + 1 * (x 3).val = (x 3).val; omega
theorem cslab_emb {off : Fin 4 → ℕ} {inb} (k : Fin 8) (h : off = ![k.val, 0, 0, 0]) (x : S1x8x64x1024.Idx) :
    (Rect.unit (s := S8x8x64x1024) off S1x8x64x1024.size inb).emb x = ix4 k (x 1) (x 2) (x 3) := by
  subst h
  have h0 : (x 0).val < 1 := (x 0).isLt
  refine ext4 ?_ ?_ ?_ ?_
  · show k.val + 1 * (x 0).val = k.val; omega
  · show 0 + 1 * (x 1).val = (x 1).val; omega
  · show 0 + 1 * (x 2).val = (x 2).val; omega
  · show 0 + 1 * (x 3).val = (x 3).val; omega
theorem eslot_emb {off : Fin 3 → ℕ} {inb} (s : Fin 2) (h : off = ![s.val, 0, 0]) (x : S1x1024x1024.Idx) :
    (Rect.unit (s := S2x1024x1024) off S1x1024x1024.size inb).emb x = ix3 s (x 1) (x 2) := by
  subst h
  have h0 : (x 0).val < 1 := (x 0).isLt
  refine ext3 ?_ ?_ ?_
  · show s.val + 1 * (x 0).val = s.val; omega
  · show 0 + 1 * (x 1).val = (x 1).val; omega
  · show 0 + 1 * (x 2).val = (x 2).val; omega

/-! ## The dispatch buffer, the landing buffer and the weight slots -/

theorem load_drow (c : Dev nD) (o : Fin 8) {S} (hS : dRow o ⊆ S) {off : Fin 3 → ℕ} {inb} (h : off = ![o.val, 0, 0]) {f : Vec F S8x512x1024 .bf16} {hl}
    {α : Type} {Q : α → sProp 𝕄} {k : Vec F S1x512x1024 .bf16 → Prog (TpuEff nD τ sig (Elt F) Λ₀ .tc) α} :
    dPts c S f ⊢ iprop((dPts c S f -∗ run c (k fun x => f (ix3 o (x 1) (x 2))) Q)
      -∗ run c (.op (.load dM (Rect.unit (s := S8x512x1024) off S1x512x1024.size inb).toLoadRect hl) k) Q) := by
  have hS' : (dM.access (Rect.unit (s := S8x512x1024) off S1x512x1024.size inb)).set ⊆ S := set_sub _ fun x => hS (Finset.mem_filter.mpr ⟨Finset.mem_univ _, by
    show ((Rect.unit (s := S8x512x1024) off S1x512x1024.size inb).emb x 0).val = _
    rw [drow_emb o h]; rfl⟩)
  have hv : (dM.access (Rect.unit (s := S8x512x1024) off S1x512x1024.size inb)).read (Elt F) f = fun x => f (ix3 o (x 1) (x 2)) := by
    funext x
    have e : (dM.access (Rect.unit (s := S8x512x1024) off S1x512x1024.size inb)).emb x = _ := drow_emb o h x
    unfold View.read
    rw [e]; rfl
  exact load_step c (Q := Q) (m := dM) (r := Rect.unit (s := S8x512x1024) off S1x512x1024.size inb) (hl := hl) (k := k) (S := S) (f := f) hS' _ hv
theorem load_dpiece (c : Dev nD) (o p : Fin 8) {S} (hS : dSet o p ⊆ S) {off : Fin 3 → ℕ} {inb} (h : off = ![o.val, 64 * p.val, 0]) {f : Vec F S8x512x1024 .bf16} {hl}
    {α : Type} {Q : α → sProp 𝕄} {k : Vec F S1x64x1024 .bf16 → Prog (TpuEff nD τ sig (Elt F) Λ₀ .tc) α} :
    dPts c S f ⊢ iprop((dPts c S f -∗ run c (k fun x => f (ix3 o (at64 p (x 1)) (x 2))) Q)
      -∗ run c (.op (.load dM (Rect.unit (s := S8x512x1024) off S1x64x1024.size inb).toLoadRect hl) k) Q) := by
  have hS' : (dM.access (Rect.unit (s := S8x512x1024) off S1x64x1024.size inb)).set ⊆ S := set_sub _ fun x => hS (Finset.mem_filter.mpr ⟨Finset.mem_univ _, by
    show ((Rect.unit (s := S8x512x1024) off S1x64x1024.size inb).emb x 0).val = _ ∧ ((Rect.unit (s := S8x512x1024) off S1x64x1024.size inb).emb x 1).val / 64 = _
    rw [dpiece_emb o p h]
    refine ⟨rfl, ?_⟩
    show (64 * p.val + (x 1).val) / 64 = p.val
    have : (x 1).val < 64 := (x 1).isLt
    omega⟩)
  have hv : (dM.access (Rect.unit (s := S8x512x1024) off S1x64x1024.size inb)).read (Elt F) f = fun x => f (ix3 o (at64 p (x 1)) (x 2)) := by
    funext x
    have e : (dM.access (Rect.unit (s := S8x512x1024) off S1x64x1024.size inb)).emb x = _ := dpiece_emb o p h x
    unfold View.read
    rw [e]; rfl
  exact load_step c (Q := Q) (m := dM) (r := Rect.unit (s := S8x512x1024) off S1x64x1024.size inb) (hl := hl) (k := k) (S := S) (f := f) hS' _ hv
theorem load_cslot (c : Dev nD) (p o : Fin 8) {off : Fin 4 → ℕ} {inb} (h : off = ![p.val, o.val, 0, 0]) {f : Vec F S8x8x64x1024 .bf16} {hl}
    {α : Type} {Q : α → sProp 𝕄} {k : Vec F S1x1x64x1024 .bf16 → Prog (TpuEff nD τ sig (Elt F) Λ₀ .tc) α} :
    cPts c (cSet p o) f ⊢ iprop((cPts c (cSet p o) f -∗ run c (k fun x => f (ix4 p o (x 2) (x 3))) Q)
      -∗ run c (.op (.load cM (Rect.unit (s := S8x8x64x1024) off S1x1x64x1024.size inb).toLoadRect hl) k) Q) := by
  have hS' : (cM.access (Rect.unit (s := S8x8x64x1024) off S1x1x64x1024.size inb)).set ⊆ (cSet p o) := set_sub _ fun x => Finset.mem_filter.mpr ⟨Finset.mem_univ _, by
    show ((Rect.unit (s := S8x8x64x1024) off S1x1x64x1024.size inb).emb x 0).val = _ ∧ ((Rect.unit (s := S8x8x64x1024) off S1x1x64x1024.size inb).emb x 1).val = _
    rw [cslot_emb p o h]; exact ⟨rfl, rfl⟩⟩
  have hv : (cM.access (Rect.unit (s := S8x8x64x1024) off S1x1x64x1024.size inb)).read (Elt F) f = fun x => f (ix4 p o (x 2) (x 3)) := by
    funext x
    have e : (cM.access (Rect.unit (s := S8x8x64x1024) off S1x1x64x1024.size inb)).emb x = _ := cslot_emb p o h x
    unfold View.read
    rw [e]; rfl
  exact load_step c (Q := Q) (m := cM) (r := Rect.unit (s := S8x8x64x1024) off S1x1x64x1024.size inb) (hl := hl) (k := k) (S := (cSet p o)) (f := f) hS' _ hv
theorem load_cslab (c : Dev nD) (p : Fin 8) {off : Fin 4 → ℕ} {inb} (h : off = ![p.val, 0, 0, 0]) {f : Vec F S8x8x64x1024 .bf16} {hl}
    {α : Type} {Q : α → sProp 𝕄} {k : Vec F S1x8x64x1024 .bf16 → Prog (TpuEff nD τ sig (Elt F) Λ₀ .tc) α} :
    cPts c (cSlab p) f ⊢ iprop((cPts c (cSlab p) f -∗ run c (k (Inp.slab f p)) Q)
      -∗ run c (.op (.load cM (Rect.unit (s := S8x8x64x1024) off S1x8x64x1024.size inb).toLoadRect hl) k) Q) := by
  have hS' : (cM.access (Rect.unit (s := S8x8x64x1024) off S1x8x64x1024.size inb)).set ⊆ (cSlab p) := set_sub _ fun x => Finset.mem_filter.mpr ⟨Finset.mem_univ _, by
    show ((Rect.unit (s := S8x8x64x1024) off S1x8x64x1024.size inb).emb x 0).val = _
    rw [cslab_emb p h]; rfl⟩
  have hv : (cM.access (Rect.unit (s := S8x8x64x1024) off S1x8x64x1024.size inb)).read (Elt F) f = (Inp.slab f p) := by
    funext x
    have e : (cM.access (Rect.unit (s := S8x8x64x1024) off S1x8x64x1024.size inb)).emb x = _ := cslab_emb p h x
    unfold View.read
    rw [e]; rfl
  exact load_step c (Q := Q) (m := cM) (r := Rect.unit (s := S8x8x64x1024) off S1x8x64x1024.size inb) (hl := hl) (k := k) (S := (cSlab p)) (f := f) hS' _ hv
theorem load_eslot (c : Dev nD) (s : Fin 2) {off : Fin 3 → ℕ} {inb} (h : off = ![s.val, 0, 0]) {f : Vec F S2x1024x1024 .bf16} {hl}
    {α : Type} {Q : α → sProp 𝕄} {k : Vec F S1x1024x1024 .bf16 → Prog (TpuEff nD τ sig (Elt F) Λ₀ .tc) α} :
    ePts c (eSet s) f ⊢ iprop((ePts c (eSet s) f -∗ run c (k fun x => f (ix3 s (x 1) (x 2))) Q)
      -∗ run c (.op (.load eM (Rect.unit (s := S2x1024x1024) off S1x1024x1024.size inb).toLoadRect hl) k) Q) := by
  have hS' : (eM.access (Rect.unit (s := S2x1024x1024) off S1x1024x1024.size inb)).set ⊆ (eSet s) := set_sub _ fun x => Finset.mem_filter.mpr ⟨Finset.mem_univ _, by
    show ((Rect.unit (s := S2x1024x1024) off S1x1024x1024.size inb).emb x 0).val = _
    rw [eslot_emb s h]; rfl⟩
  have hv : (eM.access (Rect.unit (s := S2x1024x1024) off S1x1024x1024.size inb)).read (Elt F) f = fun x => f (ix3 s (x 1) (x 2)) := by
    funext x
    have e : (eM.access (Rect.unit (s := S2x1024x1024) off S1x1024x1024.size inb)).emb x = _ := eslot_emb s h x
    unfold View.read
    rw [e]; rfl
  exact load_step c (Q := Q) (m := eM) (r := Rect.unit (s := S2x1024x1024) off S1x1024x1024.size inb) (hl := hl) (k := k) (S := (eSet s)) (f := f) hS' _ hv

theorem store_drow (c : Dev nD) (o : Fin 8) {off : Fin 3 → ℕ} {inb} (h : off = ![o.val, 0, 0]) {f : Vec F S8x512x1024 .bf16} (g : Vec F S8x512x1024 .bf16)
    {w : Vec F S1x512x1024 .bf16} (hg : ∀ a b, g (ix3 o a b) = w (ix3 0 a b)) {hx hm}
    {α : Type} {Q : α → sProp 𝕄} {k : PUnit → Prog (TpuEff nD τ sig (Elt F) Λ₀ .tc) α} :
    dPts c (dRow o) f ⊢ iprop((dPts c (dRow o) g -∗ run c (k ⟨⟩) Q)
      -∗ run c (.op (.store dM (Rect.unit (s := S8x512x1024) off S1x512x1024.size inb) w Finset.univ hx hm) k) Q) := by
  have hS' : (dM.access (Rect.unit (s := S8x512x1024) off S1x512x1024.size inb)).set ⊆ dRow o := set_sub _ fun x => Finset.mem_filter.mpr ⟨Finset.mem_univ _, by
    show ((Rect.unit (s := S8x512x1024) off S1x512x1024.size inb).emb x 0).val = _
    rw [drow_emb o h]; rfl⟩
  have hg' : ∀ i ∈ (dRow o : Finset _), (dM.access (Rect.unit (s := S8x512x1024) off S1x512x1024.size inb)).write (Elt F) (f) w Finset.univ i = (g) i := by
    intro i hi
    obtain ⟨-, h0⟩ := Finset.mem_filter.mp hi
    have he : (dM.access (Rect.unit (s := S8x512x1024) off S1x512x1024.size inb)).emb (ix3 0 (i 1) (i 2)) = i :=
      (drow_emb o h _).trans (by exact ext3 h0.symm rfl rfl)
    have hw := View.write_emb_of_mem (v := dM.access (Rect.unit (s := S8x512x1024) off S1x512x1024.size inb)) f w (Finset.mem_univ (ix3 0 (i 1) (i 2)))
    refine (congrArg (fun j => View.write (Elt F) (dM.access (Rect.unit (s := S8x512x1024) off S1x512x1024.size inb)) f w Finset.univ j) he.symm).trans (hw.trans ?_)
    refine (hg (i 1) (i 2)).symm.trans (congrArg g ?_)
    exact ext3 h0.symm rfl rfl
  exact store_step c (Q := Q) (m := dM) (r := Rect.unit (s := S8x512x1024) off S1x512x1024.size inb) (hx := hx) (hm := hm) (k := k) (S := dRow o) (f := f) hS' (g) hg'
theorem store_cslot (c : Dev nD) (p o : Fin 8) {off : Fin 4 → ℕ} {inb} (h : off = ![p.val, o.val, 0, 0]) {f : Vec F S8x8x64x1024 .bf16} (g : Vec F S8x8x64x1024 .bf16)
    {w : Vec F S1x1x64x1024 .bf16} (hg : ∀ a b, g (ix4 p o a b) = w (ix4 0 0 a b)) {hx hm}
    {α : Type} {Q : α → sProp 𝕄} {k : PUnit → Prog (TpuEff nD τ sig (Elt F) Λ₀ .tc) α} :
    cPts c (cSet p o) f ⊢ iprop((cPts c (cSet p o) g -∗ run c (k ⟨⟩) Q)
      -∗ run c (.op (.store cM (Rect.unit (s := S8x8x64x1024) off S1x1x64x1024.size inb) w Finset.univ hx hm) k) Q) := by
  have hS' : (cM.access (Rect.unit (s := S8x8x64x1024) off S1x1x64x1024.size inb)).set ⊆ cSet p o := set_sub _ fun x => Finset.mem_filter.mpr ⟨Finset.mem_univ _, by
    show ((Rect.unit (s := S8x8x64x1024) off S1x1x64x1024.size inb).emb x 0).val = _ ∧ ((Rect.unit (s := S8x8x64x1024) off S1x1x64x1024.size inb).emb x 1).val = _
    rw [cslot_emb p o h]; exact ⟨rfl, rfl⟩⟩
  have hg' : ∀ i ∈ (cSet p o : Finset _), (cM.access (Rect.unit (s := S8x8x64x1024) off S1x1x64x1024.size inb)).write (Elt F) (f) w Finset.univ i = (g) i := by
    intro i hi
    obtain ⟨-, h0, h1⟩ := Finset.mem_filter.mp hi
    have he : (cM.access (Rect.unit (s := S8x8x64x1024) off S1x1x64x1024.size inb)).emb (ix4 0 0 (i 2) (i 3)) = i :=
      (cslot_emb p o h _).trans (by exact ext4 h0.symm h1.symm rfl rfl)
    have hw := View.write_emb_of_mem (v := cM.access (Rect.unit (s := S8x8x64x1024) off S1x1x64x1024.size inb)) f w (Finset.mem_univ (ix4 0 0 (i 2) (i 3)))
    refine (congrArg (fun j => View.write (Elt F) (cM.access (Rect.unit (s := S8x8x64x1024) off S1x1x64x1024.size inb)) f w Finset.univ j) he.symm).trans (hw.trans ?_)
    refine (hg (i 2) (i 3)).symm.trans (congrArg g ?_)
    exact ext4 h0.symm h1.symm rfl rfl
  exact store_step c (Q := Q) (m := cM) (r := Rect.unit (s := S8x8x64x1024) off S1x1x64x1024.size inb) (hx := hx) (hm := hm) (k := k) (S := cSet p o) (f := f) hS' (g) hg'

/-! ## The arrays of 2048 rows -/

abbrev xP (c : Dev nD) (f : Vec F S2048x1024 .bf16) : sProp 𝕄 := ((c : Thread nD τ).loc cc0_stg0_0) ↦{fullShare} f
abbrev rP (c : Dev nD) (f : Vec F S1024x64 .bf16) : sProp 𝕄 := ((c : Thread nD τ).loc cc0_stg1_0) ↦{fullShare} f
abbrev iP (c : Dev nD) (f : Vec F S2048x1 .i32) : sProp 𝕄 := ((c : Thread nD τ).loc cc0_stg2_0) ↦{fullShare} f
abbrev sP (c : Dev nD) (f : Vec F S1024x1024 .bf16) : sProp 𝕄 := ((c : Thread nD τ).loc cc0_stg3_0) ↦{fullShare} f
abbrev oP (c : Dev nD) (f : Vec F S2048x1024 .f32) : sProp 𝕄 := ((c : Thread nD τ).loc cc0_stg4_0) ↦{fullShare} f
abbrev xsP (c : Dev nD) (f : Vec F S2048x1024 .bf16) : sProp 𝕄 := ((c : Thread nD τ).loc cc0_scratch3) ↦{fullShare} f
abbrev dsP (c : Dev nD) (f : Vec F S2048x1 .i32) : sProp 𝕄 := ((c : Thread nD τ).loc cc0_scratch4) ↦{fullShare} f

section Whole
variable {F : FTy → Type} [FloatOps F] {α : Type}

theorem load_x (c : Dev nD) {off : Fin 2 → ℕ} {inb} (h : off = ![0, 0]) {f : Vec F S2048x1024 .bf16} {hl} {Q : α → sProp (MT nD τ sig Unit (Elt F) ℕ UU ℕ)} {k : Vec F S2048x1024 .bf16 → Prog (TpuEff nD τ sig (Elt F) Λ₀ .tc) α} :
    xP c f ⊢ iprop((xP c f -∗ run c (k f) Q) -∗ run c (.op (.load xM (Rect.unit (s := S2048x1024) off S2048x1024.size inb).toLoadRect hl) k) Q) := by
  have hv : (xM.access (Rect.unit (s := S2048x1024) off S2048x1024.size inb)).read (Elt F) f = f := by
    funext x
    have e : (xM.access (Rect.unit (s := S2048x1024) off S2048x1024.size inb)).emb x = _ := zero_emb h x
    unfold View.read
    rw [e]; rfl
  exact load_step c (Q := Q) (m := xM) (r := Rect.unit (s := S2048x1024) off S2048x1024.size inb) (hl := hl) (k := k) (S := Finset.univ) (f := f) (Finset.subset_univ _) _ hv
theorem load_r (c : Dev nD) {off : Fin 2 → ℕ} {inb} (h : off = ![0, 0]) {f : Vec F S1024x64 .bf16} {hl} {Q : α → sProp (MT nD τ sig Unit (Elt F) ℕ UU ℕ)} {k : Vec F S1024x64 .bf16 → Prog (TpuEff nD τ sig (Elt F) Λ₀ .tc) α} :
    rP c f ⊢ iprop((rP c f -∗ run c (k f) Q) -∗ run c (.op (.load rM (Rect.unit (s := S1024x64) off S1024x64.size inb).toLoadRect hl) k) Q) := by
  have hv : (rM.access (Rect.unit (s := S1024x64) off S1024x64.size inb)).read (Elt F) f = f := by
    funext x
    have e : (rM.access (Rect.unit (s := S1024x64) off S1024x64.size inb)).emb x = _ := zero_emb h x
    unfold View.read
    rw [e]; rfl
  exact load_step c (Q := Q) (m := rM) (r := Rect.unit (s := S1024x64) off S1024x64.size inb) (hl := hl) (k := k) (S := Finset.univ) (f := f) (Finset.subset_univ _) _ hv
theorem load_i (c : Dev nD) {off : Fin 2 → ℕ} {inb} (h : off = ![0, 0]) {f : Vec F S2048x1 .i32} {hl} {Q : α → sProp (MT nD τ sig Unit (Elt F) ℕ UU ℕ)} {k : Vec F S2048x1 .i32 → Prog (TpuEff nD τ sig (Elt F) Λ₀ .tc) α} :
    iP c f ⊢ iprop((iP c f -∗ run c (k f) Q) -∗ run c (.op (.load iM (Rect.unit (s := S2048x1) off S2048x1.size inb).toLoadRect hl) k) Q) := by
  have hv : (iM.access (Rect.unit (s := S2048x1) off S2048x1.size inb)).read (Elt F) f = f := by
    funext x
    have e : (iM.access (Rect.unit (s := S2048x1) off S2048x1.size inb)).emb x = _ := zero_emb h x
    unfold View.read
    rw [e]; rfl
  exact load_step c (Q := Q) (m := iM) (r := Rect.unit (s := S2048x1) off S2048x1.size inb) (hl := hl) (k := k) (S := Finset.univ) (f := f) (Finset.subset_univ _) _ hv
theorem load_s (c : Dev nD) {off : Fin 2 → ℕ} {inb} (h : off = ![0, 0]) {f : Vec F S1024x1024 .bf16} {hl} {Q : α → sProp (MT nD τ sig Unit (Elt F) ℕ UU ℕ)} {k : Vec F S1024x1024 .bf16 → Prog (TpuEff nD τ sig (Elt F) Λ₀ .tc) α} :
    sP c f ⊢ iprop((sP c f -∗ run c (k f) Q) -∗ run c (.op (.load sM (Rect.unit (s := S1024x1024) off S1024x1024.size inb).toLoadRect hl) k) Q) := by
  have hv : (sM.access (Rect.unit (s := S1024x1024) off S1024x1024.size inb)).read (Elt F) f = f := by
    funext x
    have e : (sM.access (Rect.unit (s := S1024x1024) off S1024x1024.size inb)).emb x = _ := zero_emb h x
    unfold View.read
    rw [e]; rfl
  exact load_step c (Q := Q) (m := sM) (r := Rect.unit (s := S1024x1024) off S1024x1024.size inb) (hl := hl) (k := k) (S := Finset.univ) (f := f) (Finset.subset_univ _) _ hv
theorem load_ds (c : Dev nD) {off : Fin 2 → ℕ} {inb} (h : off = ![0, 0]) {f : Vec F S2048x1 .i32} {hl} {Q : α → sProp (MT nD τ sig Unit (Elt F) ℕ UU ℕ)} {k : Vec F S2048x1 .i32 → Prog (TpuEff nD τ sig (Elt F) Λ₀ .tc) α} :
    dsP c f ⊢ iprop((dsP c f -∗ run c (k f) Q) -∗ run c (.op (.load dsM (Rect.unit (s := S2048x1) off S2048x1.size inb).toLoadRect hl) k) Q) := by
  have hv : (dsM.access (Rect.unit (s := S2048x1) off S2048x1.size inb)).read (Elt F) f = f := by
    funext x
    have e : (dsM.access (Rect.unit (s := S2048x1) off S2048x1.size inb)).emb x = _ := zero_emb h x
    unfold View.read
    rw [e]; rfl
  exact load_step c (Q := Q) (m := dsM) (r := Rect.unit (s := S2048x1) off S2048x1.size inb) (hl := hl) (k := k) (S := Finset.univ) (f := f) (Finset.subset_univ _) _ hv
theorem load_xs (c : Dev nD) {off : Fin 2 → ℕ} {inb} (h : off = ![0, 0]) {f : Vec F S2048x1024 .bf16} {hl} {Q : α → sProp (MT nD τ sig Unit (Elt F) ℕ UU ℕ)} {k : Vec F S2048x1024 .bf16 → Prog (TpuEff nD τ sig (Elt F) Λ₀ .tc) α} :
    xsP c f ⊢ iprop((xsP c f -∗ run c (k f) Q) -∗ run c (.op (.load xsM (Rect.unit (s := S2048x1024) off S2048x1024.size inb).toLoadRect hl) k) Q) := by
  have hv : (xsM.access (Rect.unit (s := S2048x1024) off S2048x1024.size inb)).read (Elt F) f = f := by
    funext x
    have e : (xsM.access (Rect.unit (s := S2048x1024) off S2048x1024.size inb)).emb x = _ := zero_emb h x
    unfold View.read
    rw [e]; rfl
  exact load_step c (Q := Q) (m := xsM) (r := Rect.unit (s := S2048x1024) off S2048x1024.size inb) (hl := hl) (k := k) (S := Finset.univ) (f := f) (Finset.subset_univ _) _ hv

theorem load_xrows (c : Dev nD) (h : Fin 4) {off : Fin 2 → ℕ} {inb} (he : off = ![512 * h.val, 0]) {f : Vec F S2048x1024 .bf16} {hl} {Q : α → sProp (MT nD τ sig Unit (Elt F) ℕ UU ℕ)} {k : Vec F S512x1024 .bf16 → Prog (TpuEff nD τ sig (Elt F) Λ₀ .tc) α} :
    xP c f ⊢ iprop((xP c f -∗ run c (k (chunk f h)) Q) -∗ run c (.op (.load xM (Rect.unit (s := S2048x1024) off S512x1024.size inb).toLoadRect hl) k) Q) := by
  have hv : (xM.access (Rect.unit (s := S2048x1024) off S512x1024.size inb)).read (Elt F) f = (chunk f h) := by
    funext x
    have e : (xM.access (Rect.unit (s := S2048x1024) off S512x1024.size inb)).emb x = _ := rows_emb h he x
    unfold View.read
    rw [e]; rfl
  exact load_step c (Q := Q) (m := xM) (r := Rect.unit (s := S2048x1024) off S512x1024.size inb) (hl := hl) (k := k) (S := Finset.univ) (f := f) (Finset.subset_univ _) _ hv
theorem load_xsrows (c : Dev nD) (h : Fin 4) {off : Fin 2 → ℕ} {inb} (he : off = ![512 * h.val, 0]) {f : Vec F S2048x1024 .bf16} {hl} {Q : α → sProp (MT nD τ sig Unit (Elt F) ℕ UU ℕ)} {k : Vec F S512x1024 .bf16 → Prog (TpuEff nD τ sig (Elt F) Λ₀ .tc) α} :
    xsP c f ⊢ iprop((xsP c f -∗ run c (k (chunk f h)) Q) -∗ run c (.op (.load xsM (Rect.unit (s := S2048x1024) off S512x1024.size inb).toLoadRect hl) k) Q) := by
  have hv : (xsM.access (Rect.unit (s := S2048x1024) off S512x1024.size inb)).read (Elt F) f = (chunk f h) := by
    funext x
    have e : (xsM.access (Rect.unit (s := S2048x1024) off S512x1024.size inb)).emb x = _ := rows_emb h he x
    unfold View.read
    rw [e]; rfl
  exact load_step c (Q := Q) (m := xsM) (r := Rect.unit (s := S2048x1024) off S512x1024.size inb) (hl := hl) (k := k) (S := Finset.univ) (f := f) (Finset.subset_univ _) _ hv
theorem load_orows (c : Dev nD) (h : Fin 4) {off : Fin 2 → ℕ} {inb} (he : off = ![512 * h.val, 0]) {f : Vec F S2048x1024 .f32} {hl} {Q : α → sProp (MT nD τ sig Unit (Elt F) ℕ UU ℕ)} {k : Vec F S512x1024 .f32 → Prog (TpuEff nD τ sig (Elt F) Λ₀ .tc) α} :
    oP c f ⊢ iprop((oP c f -∗ run c (k (chunk f h)) Q) -∗ run c (.op (.load oM (Rect.unit (s := S2048x1024) off S512x1024.size inb).toLoadRect hl) k) Q) := by
  have hv : (oM.access (Rect.unit (s := S2048x1024) off S512x1024.size inb)).read (Elt F) f = (chunk f h) := by
    funext x
    have e : (oM.access (Rect.unit (s := S2048x1024) off S512x1024.size inb)).emb x = _ := rows_emb h he x
    unfold View.read
    rw [e]; rfl
  exact load_step c (Q := Q) (m := oM) (r := Rect.unit (s := S2048x1024) off S512x1024.size inb) (hl := hl) (k := k) (S := Finset.univ) (f := f) (Finset.subset_univ _) _ hv
theorem load_dsrows (c : Dev nD) (h : Fin 4) {off : Fin 2 → ℕ} {inb} (he : off = ![512 * h.val, 0]) {f : Vec F S2048x1 .i32} {hl} {Q : α → sProp (MT nD τ sig Unit (Elt F) ℕ UU ℕ)} {k : Vec F S512x1 .i32 → Prog (TpuEff nD τ sig (Elt F) Λ₀ .tc) α} :
    dsP c f ⊢ iprop((dsP c f -∗ run c (k (chunk f h)) Q) -∗ run c (.op (.load dsM (Rect.unit (s := S2048x1) off S512x1.size inb).toLoadRect hl) k) Q) := by
  have hv : (dsM.access (Rect.unit (s := S2048x1) off S512x1.size inb)).read (Elt F) f = (chunk f h) := by
    funext x
    have e : (dsM.access (Rect.unit (s := S2048x1) off S512x1.size inb)).emb x = _ := rows_emb h he x
    unfold View.read
    rw [e]; rfl
  exact load_step c (Q := Q) (m := dsM) (r := Rect.unit (s := S2048x1) off S512x1.size inb) (hl := hl) (k := k) (S := Finset.univ) (f := f) (Finset.subset_univ _) _ hv

theorem store_ds (c : Dev nD) {off : Fin 2 → ℕ} {inb} (h : off = ![0, 0]) {f w : Vec F S2048x1 .i32} {hx hm} {Q : α → sProp (MT nD τ sig Unit (Elt F) ℕ UU ℕ)} {k : PUnit → Prog (TpuEff nD τ sig (Elt F) Λ₀ .tc) α} :
    dsP c f ⊢ iprop((dsP c w -∗ run c (k ⟨⟩) Q) -∗ run c (.op (.store dsM (Rect.unit (s := S2048x1) off S2048x1.size inb) w Finset.univ hx hm) k) Q) := by
  have hS' : (dsM.access (Rect.unit (s := S2048x1) off S2048x1.size inb)).set ⊆ Finset.univ := Finset.subset_univ _
  have hg' : ∀ i ∈ (Finset.univ : Finset _), (dsM.access (Rect.unit (s := S2048x1) off S2048x1.size inb)).write (Elt F) (f) w Finset.univ i = (w) i := by
    intro i _
    have he : (dsM.access (Rect.unit (s := S2048x1) off S2048x1.size inb)).emb i = i := zero_emb h i
    have hw := View.write_emb_of_mem (v := dsM.access (Rect.unit (s := S2048x1) off S2048x1.size inb)) f w (Finset.mem_univ i)
    rw [he] at hw
    rw [hw]; rfl
  exact store_step c (Q := Q) (m := dsM) (r := Rect.unit (s := S2048x1) off S2048x1.size inb) (hx := hx) (hm := hm) (k := k) (S := Finset.univ) (f := f) hS' (w) hg'
theorem store_xs (c : Dev nD) {off : Fin 2 → ℕ} {inb} (h : off = ![0, 0]) {f w : Vec F S2048x1024 .bf16} {hx hm} {Q : α → sProp (MT nD τ sig Unit (Elt F) ℕ UU ℕ)} {k : PUnit → Prog (TpuEff nD τ sig (Elt F) Λ₀ .tc) α} :
    xsP c f ⊢ iprop((xsP c w -∗ run c (k ⟨⟩) Q) -∗ run c (.op (.store xsM (Rect.unit (s := S2048x1024) off S2048x1024.size inb) w Finset.univ hx hm) k) Q) := by
  have hS' : (xsM.access (Rect.unit (s := S2048x1024) off S2048x1024.size inb)).set ⊆ Finset.univ := Finset.subset_univ _
  have hg' : ∀ i ∈ (Finset.univ : Finset _), (xsM.access (Rect.unit (s := S2048x1024) off S2048x1024.size inb)).write (Elt F) (f) w Finset.univ i = (w) i := by
    intro i _
    have he : (xsM.access (Rect.unit (s := S2048x1024) off S2048x1024.size inb)).emb i = i := zero_emb h i
    have hw := View.write_emb_of_mem (v := xsM.access (Rect.unit (s := S2048x1024) off S2048x1024.size inb)) f w (Finset.mem_univ i)
    rw [he] at hw
    rw [hw]; rfl
  exact store_step c (Q := Q) (m := xsM) (r := Rect.unit (s := S2048x1024) off S2048x1024.size inb) (hx := hx) (hm := hm) (k := k) (S := Finset.univ) (f := f) hS' (w) hg'

/-- `f` with the rows of chunk `h` taken from `g`. -/
def upTo (h : ℕ) (g f : Vec F S2048x1024 .f32) : Vec F S2048x1024 .f32 := fun i => if (i 0).val < 512 * h then g i else f i
theorem upTo_zero (g f : Vec F S2048x1024 .f32) : upTo 0 g f = f := by
  funext i; unfold upTo; rw [if_neg (by omega)]
theorem upTo_four (g f : Vec F S2048x1024 .f32) : upTo 4 g f = g := by
  funext i; unfold upTo
  have : (i 0).val < 2048 := (i 0).isLt
  rw [if_pos (by omega)]
theorem chunk_upTo (h : Fin 4) (g f : Vec F S2048x1024 .f32) : chunk (upTo h.val g f) h = chunk f h := by
  funext i; unfold chunk upTo
  rw [if_neg (by show ¬ (512 * h.val + (i 0).val < 512 * h.val); omega)]

theorem store_orows (c : Dev nD) (h : Fin 4) {off : Fin 2 → ℕ} {inb} (he : off = ![512 * h.val, 0]) (g f : Vec F S2048x1024 .f32) {w : Vec F S512x1024 .f32}
    (hg : ∀ a b, g (ix2 (at512 h a) b) = w (ix2 a b)) {hx hm} {Q : α → sProp (MT nD τ sig Unit (Elt F) ℕ UU ℕ)} {k : PUnit → Prog (TpuEff nD τ sig (Elt F) Λ₀ .tc) α} :
    oP c (upTo h.val g f) ⊢ iprop((oP c (upTo (h.val + 1) g f) -∗ run c (k ⟨⟩) Q)
      -∗ run c (.op (.store oM (Rect.unit (s := S2048x1024) off S512x1024.size inb) w Finset.univ hx hm) k) Q) := by
  have hS' : (oM.access (Rect.unit (s := S2048x1024) off S512x1024.size inb)).set ⊆ Finset.univ := Finset.subset_univ _
  have hg' : ∀ i ∈ (Finset.univ : Finset _), (oM.access (Rect.unit (s := S2048x1024) off S512x1024.size inb)).write (Elt F) (upTo h.val g f) w Finset.univ i = (upTo (h.val + 1) g f) i := by
    intro i _
    refine write_is _ _ _ _ i (fun x hx => ?_) (fun hn => ?_)
    · have e : (oM.access (Rect.unit (s := S2048x1024) off S512x1024.size inb)).emb x = ix2 (at512 h (x 0)) (x 1) := rows_emb h he x
      have hw := View.write_emb_of_mem (v := oM.access (Rect.unit (s := S2048x1024) off S512x1024.size inb)) (upTo h.val g f) w (Finset.mem_univ x)
      rw [hx] at hw
      refine hw.trans (Eq.trans ?_ (congrArg (upTo (h.val + 1) g f) (e.symm.trans hx)))
      have hlt : (x 0).val < 512 := (x 0).isLt
      have hp : upTo (h.val + 1) g f (ix2 (at512 h (x 0)) (x 1)) = g (ix2 (at512 h (x 0)) (x 1)) :=
        if_pos (by show 512 * h.val + (x 0).val < 512 * (h.val + 1); omega)
      exact ((hp.trans (hg (x 0) (x 1))).trans (congrArg w (eq_ix2 x).symm)).symm
    · unfold upTo
      by_cases h1 : (i 0).val < 512 * h.val
      · rw [if_pos h1, if_pos (by omega)]
      · rw [if_neg h1, if_neg]
        intro h2
        refine hn (ix2 (⟨(i 0).val - 512 * h.val, by omega⟩ : Fin 512) (i 1)) ((rows_emb h he _).trans ?_)
        refine ext2 ?_ rfl
        show 512 * h.val + ((i 0).val - 512 * h.val) = (i 0).val
        omega
  exact store_step c (Q := Q) (m := oM) (r := Rect.unit (s := S2048x1024) off S512x1024.size inb) (hx := hx) (hm := hm) (k := k) (S := Finset.univ) (f := upTo h.val g f) hS' (upTo (h.val + 1) g f) hg'

end Whole

end Cert.Exchange

end
-- ==== Proof.Hello.lean ====
/-
# The first handshake

Every device tells the seven others that its landing buffer may be written, and waits to hear the same.
-/
module

public import proofs.«01_k».proof.Proof.Runs
public import proofs.«01_k».proof.Proof.Access

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp F) (K : Dev nD × CI → ℕ)

theorem run_ret (c : Dev nD) {α : Type} {Q : α → sProp 𝕄} (v : α) : Q v ⊢ run (F := F) c (.ret v) Q := by
  unfold run
  rw [wp_ret]
  iintro H
  imodintro
  iexact H

theorem pass_device {c : Dev nD} {P : sProp 𝕄} {α : Type} {Q : α → sProp 𝕄} {p : Dev nD → Prog (TpuEff nD τ sig (Elt F) Λ₀ .tc) α}
    (hp : P ⊢ run c (p c) Q) : P ⊢ run c (.op .deviceId p) Q := by
  unfold run at hp ⊢
  rw [wp_deviceId]
  exact hp

/-- Signals to the devices `l` places back, the dues `d` after them. -/
def barSt (c : Dev nD) (d : List Due) (l : List (Fin 8)) (R : sProp 𝕄) : sProp 𝕄 :=
  iprop(recs X K ∗ ow c (l.map (barDue c) ++ d) ∗ sepL l (fun o => iprop(tokC (bwd c o) bar 0 o ∗ barPay (F := F) (bwd c o) o)) ∗ R)

theorem pass_bar {c n : Dev nD} {d : List Due} {l : List (Fin 8)} {R : sProp 𝕄} (o : Fin 8) (hn : n = bwd c o) (ho : o ≠ 0)
    {α : Type} {Q : α → sProp 𝕄} {p : PUnit → Prog (TpuEff nD τ sig (Elt F) Λ₀ .tc) α} (hp : barSt X K c d l R ⊢ run c (p ⟨⟩) Q) :
    barSt X K c d (o :: l) R ⊢ run c (.op (.semSignal (n : Thread nD τ) barS 1) p) Q := by
  subst hn
  unfold barSt at hp ⊢
  rw [sepL_cons]
  show iprop(recs X K ∗ ow c ((kcell (bwd c o, bar), 1) :: (l.map (barDue c) ++ d)) ∗ ((tokC (bwd c o) bar 0 o ∗ payK X (bwd c o) bar 0 o) ∗ _) ∗ _) ⊢ _
  iintro ⟨#HR, HO, ⟨⟨Ht, Hb⟩, HL⟩, H⟩
  iapply (signal_cell X K c (bwd c o) bar barS rfl o (by
    show o ∈ Finset.univ.erase 0
    exact Finset.mem_erase.mpr ⟨ho, Finset.mem_univ _⟩) rfl) $$ [HO Ht Hb]
  · isplitr; · iexact HR
    isplitl [HO]; · iexact HO
    isplitl [Ht]; · iexact Ht
    iexact Hb
  iintro HO
  iapply hp
  isplitr; · iexact HR
  isplitl [HO]; · iexact HO
  isplitl [HL]; · iexact HL
  iexact H

theorem pass_bar_wait {c : Dev nD} {d : List Due} {R : sProp 𝕄} (ha : Above 1 d)
    {α : Type} {Q : α → sProp 𝕄} {p : PUnit → Prog (TpuEff nD τ sig (Elt F) Λ₀ .tc) α}
    (hp : iprop(recs X K ∗ ow c d ∗ posC c bar 1 ∗ bigSep (Finset.univ.erase 0) (barPay (F := F) c) ∗ R) ⊢ run c (p ⟨⟩) Q) :
    barSt X K c d [] iprop(credC c bar 7 ∗ posC c bar 0 ∗ R) ⊢ run c (.op (.semWait barS 7) p) Q := by
  unfold barSt
  show iprop(recs X K ∗ ow c d ∗ _) ⊢ _
  iintro ⟨#HR, HO, -, Hc, Hp, H⟩
  iapply (wait_cell X K c bar 0 (n := 1) (l := d) (k' := 7) (by decide) ha (fun _ => rfl) (by decide)) $$ [Hc HO Hp]
  · isplitr; · iexact HR
    isplitl [Hc]; · iexact Hc
    isplitl [HO]; · iexact HO
    iexact Hp
  iintro ⟨HO, Hp, -, HB⟩
  iapply hp
  isplitr; · iexact HR
  isplitl [HO]; · iexact HO
  isplitl [Hp]; · iexact Hp
  isplitl [HB]; · iexact HB
  iexact H

theorem run_hello (c : Dev nD) (d : List Due) (ha : Above 1 d) (R : sProp 𝕄) {α : Type} (Q : α → sProp 𝕄)
    (p : Dev nD → BitVec 32 → Prog (TpuEff nD τ sig (Elt F) Λ₀ .tc) α)
    (h : iprop(recs X K ∗ ow c d ∗ posC c bar 1 ∗ bigSep (Finset.univ.erase 0) (barPay (F := F) c) ∗ R) ⊢ run c (p c (ringNo c)) Q) :
    barSt X K c d offsDown iprop(credC c bar 7 ∗ posC c bar 0 ∗ R) ⊢ run c (do
        let ⟨d0, v2, v3, v30, c8_i32_18, v31⟩ : Σ' (d0 : Dev nD) (v2 : BitVec 32) (v3 : Sems sig S_) (v30 : BitVec 32) (c8_i32_18 : BitVec 32), BitVec 1 ← onBufs (k0_part10 (F := F))
        let ⟨v59, v64, v65⟩ : Σ' (v59 : BitVec 32) (v64 : BitVec 1), BitVec 32 ← onBufs (k0_part11 (F := F)) d0 v2 v3 v30 c8_i32_18 v31
        onBufs (k0_part12 (F := F)) d0 v2 v3 v59 v64 v65
        p d0 v2) Q := by
  simp only [k0_part10_eq_skeleton, k0_part10_skel, k0_part11_eq_skeleton, k0_part11_skel, k0_part12_eq_skeleton, k0_part12_skel, semSignalWord, semWaitWord,
    Prog.lift, bind_assoc, pure_bind, Prog.bind_op, Prog.bind_ret, Prog.pure_eq_ret]
  refine pass_device ?_
  iterate 7 refine pass_bar X K _ (by clear * -; revert c; decide +kernel) (by decide) ?_
  exact pass_bar_wait X K ha h

end Cert.Exchange

end
-- ==== Proof.Lists.lean ====
/-
# Conjunctions over lists, and the buffers cut along them

How a conjunction over a list of transfers is regrouped, and how the dispatch buffer, the landing buffer and the
weights are the conjunction of their pieces.
-/
module

public import proofs.«01_k».proof.Proof.Hello
public import proofs.«01_k».proof.Proof.Access

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Lists
variable {α β γ : Type}

theorem eqOf {P Q : sProp 𝕄} (h : P ⊢ Q) (h' : Q ⊢ P) : P = Q := equiv_iff.mp ⟨h, h'⟩
theorem sepA (P Q R : sProp 𝕄) : iprop((P ∗ Q) ∗ R) = iprop(P ∗ Q ∗ R) := eqOf (sep_assoc (PROP := sProp 𝕄)).1 (sep_assoc (PROP := sProp 𝕄)).2
theorem sepE (P : sProp 𝕄) : iprop(emp ∗ P) = P := equiv_iff.mp ⟨emp_sep.1, emp_sep.2⟩

theorem sepL_congr {l : List α} {A B : α → sProp 𝕄} (h : ∀ x ∈ l, A x = B x) : sepL l A = sepL l B := by
  induction l with
  | nil => rfl
  | cons x l ih => rw [sepL_cons, sepL_cons, h x List.mem_cons_self, ih fun y hy => h y (List.mem_cons_of_mem _ hy)]

theorem sepL_mono {l : List α} {A B : α → sProp 𝕄} (h : ∀ x ∈ l, A x ⊢ B x) : sepL l A ⊢ sepL l B := by
  induction l with
  | nil => exact .rfl
  | cons x l ih =>
    rw [sepL_cons, sepL_cons]
    exact BI.sep_mono (h x List.mem_cons_self) (ih fun y hy => h y (List.mem_cons_of_mem _ hy))

theorem sepL_append (l m : List α) (A : α → sProp 𝕄) : sepL (l ++ m) A = iprop(sepL l A ∗ sepL m A) := by
  induction l with
  | nil => exact (sepE _).symm
  | cons x l ih => rw [List.cons_append, sepL_cons, sepL_cons, ih]; exact (sepA _ _ _).symm

theorem sepL_map (g : α → β) (l : List α) (A : β → sProp 𝕄) : sepL (l.map g) A = sepL l fun x => A (g x) := by
  induction l with
  | nil => rfl
  | cons x l ih => rw [List.map_cons, sepL_cons, sepL_cons, ih]

theorem sepL_flat (l : List α) (m : List β) (g : α → β → γ) (A : γ → sProp 𝕄) :
    sepL (l.flatMap fun a => m.map (g a)) A = sepL l fun a => sepL m fun b => A (g a b) := by
  induction l with
  | nil => rfl
  | cons x l ih => rw [List.flatMap_cons, sepL_append, sepL_cons, ih, sepL_map]

theorem sepL_sep (l : List α) (A B : α → sProp 𝕄) : sepL l (fun x => iprop(A x ∗ B x)) = iprop(sepL l A ∗ sepL l B) := by
  induction l with
  | nil => exact (sepE _).symm
  | cons x l ih => rw [sepL_cons, sepL_cons, sepL_cons, ih]; exact eqOf (sep_sep_sep_comm (PROP := sProp 𝕄)).1 (sep_sep_sep_comm (PROP := sProp 𝕄)).2

theorem sepL_emp (l : List α) : sepL l (fun _ => (iprop(emp) : sProp 𝕄)) = iprop(emp) := by
  induction l with
  | nil => rfl
  | cons x l ih => rw [sepL_cons, ih]; exact sepE _

theorem sepL_swap (l : List α) (m : List β) (A : α → β → sProp 𝕄) :
    sepL l (fun a => sepL m fun b => A a b) = sepL m fun b => sepL l fun a => A a b := by
  induction l with
  | nil => exact (sepL_emp m).symm
  | cons x l ih => rw [sepL_cons, ih, ← sepL_sep]; rfl

theorem sepL_eq_bigSepL (l : List α) (A : α → sProp 𝕄) : sepL l A = bigSepL l A := by
  induction l with
  | nil => rfl
  | cons x l ih => rw [sepL_cons, bigSepL_cons, ih]; rfl

theorem sepL_finset [DecidableEq α] {S : Finset α} (l : List α) (h : S = l.toFinset) (hl : l.Nodup) (A : α → sProp 𝕄) :
    bigSep S A = sepL l A := (bigSep_eq_bigSepL_of_eq l h hl A).trans (sepL_eq_bigSepL l A).symm

theorem sepL_eight (A : Fin 8 → sProp 𝕄) : bigSep Finset.univ A = sepL eight A := sepL_finset _ (by decide) (by decide) A
theorem sepL_offs (A : Fin 8 → sProp 𝕄) : bigSep (Finset.univ.erase 0) A = sepL offs A := sepL_finset _ (by decide) (by decide) A
theorem sepL_down (A : Fin 8 → sProp 𝕄) : sepL offsDown A = sepL offs A := by
  rw [← sepL_offs]; exact (sepL_finset _ (by decide) (by decide) A).symm
theorem sepL_first (A : Fin 8 → sProp 𝕄) : sepL eight A = iprop(A 0 ∗ sepL offs A) := rfl
theorem sepL_run (A : Fin 8 × Fin 8 → sProp 𝕄) : sepL runL A = sepL offs fun o => sepL eight fun k => A (k, o) := sepL_flat _ _ _ A
theorem sepL_one (x : α) (A : α → sProp 𝕄) : sepL [x] A = A x := equiv_iff.mp ⟨sep_emp.1, sep_emp.2⟩

end Lists

/-! ## The buffers in pieces -/

section Cut
variable (c : Dev nD)

theorem dRow_cut (o : Fin 8) (f : Vec F S8x512x1024 .bf16) : dPts c (dRow o) f = sepL eight fun k => dPts c (dSet o k) f := by
  have e : dRow o = Finset.univ.biUnion fun k => dSet o k := by
    ext i
    have h1 : (i 1).val < 512 := (i 1).isLt
    simp only [dRow, dSet, Finset.mem_filter, Finset.mem_univ, true_and, Finset.mem_biUnion]
    exact ⟨fun h => ⟨⟨(i 1).val / 64, by omega⟩, h, rfl⟩, fun ⟨_, h, _⟩ => h⟩
  rw [← sepL_eight, e]
  exact pointsTo_biUnion _ _ fun a _ b _ h => Finset.disjoint_filter.mpr fun i _ ha hb => h (Fin.ext (ha.2.symm.trans hb.2))

theorem d_cut (f : Vec F S8x512x1024 .bf16) : dPts c Finset.univ f = sepL eight fun o => dPts c (dRow o) f := by
  have e : (Finset.univ : Finset S8x512x1024.Idx) = Finset.univ.biUnion fun o => dRow o := by
    ext i
    simp only [dRow, Finset.mem_filter, Finset.mem_univ, true_and, Finset.mem_biUnion, true_iff]
    exact ⟨i 0, rfl⟩
  rw [← sepL_eight, e]
  exact pointsTo_biUnion _ _ fun a _ b _ h => Finset.disjoint_filter.mpr fun i _ ha hb => h (Fin.ext (ha.symm.trans hb))

theorem cSlab_cut (k : Fin 8) (f : Vec F S8x8x64x1024 .bf16) : cPts c (cSlab k) f = sepL eight fun o => cPts c (cSet k o) f := by
  have e : cSlab k = Finset.univ.biUnion fun o => cSet k o := by
    ext i
    simp only [cSlab, cSet, Finset.mem_filter, Finset.mem_univ, true_and, Finset.mem_biUnion]
    exact ⟨fun h => ⟨i 1, h, rfl⟩, fun ⟨_, h, _⟩ => h⟩
  rw [← sepL_eight, e]
  exact pointsTo_biUnion _ _ fun a _ b _ h => Finset.disjoint_filter.mpr fun i _ ha hb => h (Fin.ext (ha.2.symm.trans hb.2))

theorem c_cut (f : Vec F S8x8x64x1024 .bf16) : cPts c Finset.univ f = sepL eight fun k => cPts c (cSlab k) f := by
  have e : (Finset.univ : Finset S8x8x64x1024.Idx) = Finset.univ.biUnion fun k => cSlab k := by
    ext i
    simp only [cSlab, Finset.mem_filter, Finset.mem_univ, true_and, Finset.mem_biUnion, true_iff]
    exact ⟨i 0, rfl⟩
  rw [← sepL_eight, e]
  exact pointsTo_biUnion _ _ fun a _ b _ h => Finset.disjoint_filter.mpr fun i _ ha hb => h (Fin.ext (ha.symm.trans hb))

theorem w_cut (f : Vec F S8x1024x1024 .bf16) : wPts c Finset.univ f = sepL eight fun k => wPts c (wSet k) f := by
  have e : (Finset.univ : Finset S8x1024x1024.Idx) = Finset.univ.biUnion fun k => wSet k := by
    ext i
    simp only [wSet, Finset.mem_filter, Finset.mem_univ, true_and, Finset.mem_biUnion, true_iff]
    exact ⟨i 0, rfl⟩
  rw [← sepL_eight, e]
  exact pointsTo_biUnion _ _ fun a _ b _ h => Finset.disjoint_filter.mpr fun i _ ha hb => h (Fin.ext (ha.symm.trans hb))

theorem eSet_disj : Disjoint (eSet 0) (eSet 1) := Finset.disjoint_filter.mpr fun i _ h h' => absurd (h.symm.trans h') (by decide)
theorem eSet_union : eSet 0 ∪ eSet 1 = Finset.univ := by
  ext i
  have h0 : (i 0).val < 2 := (i 0).isLt
  simp only [eSet, Finset.mem_union, Finset.mem_filter, Finset.mem_univ, true_and, iff_true]
  show (i 0).val = 0 ∨ (i 0).val = 1
  omega

theorem e_cut (f : Vec F S2x1024x1024 .bf16) : ePts c Finset.univ f ⊢ iprop(ePts c (eSet 0) f ∗ ePts c (eSet 1) f) := by
  unfold ePts
  rw [← eSet_union]
  exact (pointsTo_union eSet_disj).1

theorem e_join (f g : Vec F S2x1024x1024 .bf16) : iprop(ePts c (eSet 0) f ∗ ePts c (eSet 1) g) ⊢ iprop(∃ h, ePts (F := F) c Finset.univ h) := by
  have h : iprop(ePts c (eSet 0) f ∗ ePts c (eSet 1) g) ⊢ ePts c Finset.univ ((eSet 1).piecewise g f) := by
    unfold ePts
    rw [← eSet_union]
    exact pointsTo_join eSet_disj
  refine h.trans ?_
  iintro H
  iexists _
  iexact H

end Cut

end Cert.Exchange

end
-- ==== Proof.Dispatch.lean ====
/-
# The dispatch loop

Every trip fills one row of the dispatch buffer and sends it, in eight pieces, to the device that many places on;
the row of offset zero stays.
-/
module

public import proofs.«01_k».proof.Proof.Lists

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp F) (K : Dev nD × CI → ℕ)

/-- The pieces `l` of row `o` to come, the dues `d` after them; `R` is what stands once they are under way. -/
def outSt (c : Dev nD) (o : Fin 8) (d : List Due) (l : List (Fin 8)) (R : sProp 𝕄) : sProp 𝕄 :=
  iprop(recs X K ∗ ow c (l.map (drDue c o) ++ d) ∗ sepL l (fun k => sA1 X c k o) ∗ (sepL l (fun k => credC c (xf 0 k o) NX) -∗ R))

theorem pass_out {c n : Dev nD} {o : Fin 8} {d : List Due} {l : List (Fin 8)} {R : sProp 𝕄} (k : Fin 8) {s₁ s₂ : DmaSem sig}
    {offd : Fin 3 → ℕ} {inbd} {offc : Fin 4 → ℕ} {inbc} (hn : n = fwd c o) (h₁ : s₁ = xfS 0 k o) (h₂ : s₂ = xfS 1 k o)
    (hd : offd = ![o.val, 64 * k.val, 0]) (hc : offc = ![k.val, o.val, 0, 0]) (ho : o ≠ 0)
    {hsc : (cV offc inbc).view.ref.isScScratch = false} {hsrc : (dV offd inbd).view.WordExact} {hdst : (cV offc inbc).view.WordExact}
    {hsem : DmaTarget.Typed .vmem (.dma s₂) (.remote (Dev.tc n : Thread nD τ) (cV offc inbc) (.dma s₁) hsc)}
    {α : Type} {Q : α → sProp 𝕄} {p : PUnit → Prog (TpuEff nD τ sig (Elt F) Λ₀ .tc) α}
    (hp : outSt X K c o d l R ⊢ run c (p ⟨⟩) Q) :
    outSt X K c o d (k :: l) R
      ⊢ run c (.op (.enqueueDma (dV offd inbd) (.remote (Dev.tc n : Thread nD τ) (cV offc inbc) (.dma s₁) hsc) (.dma s₂) hsrc hdst hsem) p) Q := by
  unfold outSt at hp ⊢
  rw [sepL_cons, sepL_cons]
  show iprop(recs X K ∗ ow c (drDue c o k :: (l.map (drDue c o) ++ d)) ∗ _) ⊢ _
  iintro ⟨#HR, HO, ⟨HA, HL⟩, HW⟩
  iapply (send1 X K c n k o ho hn h₁ h₂ hd hc) $$ [HA HO]
  · isplitr; · iexact HR
    isplitl [HA]; · iexact HA
    iexact HO
  iintro ⟨HB, HO⟩
  iapply hp
  isplitr; · iexact HR
  isplitl [HO]; · iexact HO
  isplitl [HL]; · iexact HL
  iintro HBL
  iapply HW
  isplitl [HB]; · iexact HB
  iexact HBL

theorem outSt_done {c : Dev nD} {o : Fin 8} {d : List Due} {R S : sProp 𝕄} (h : iprop(recs X K ∗ ow c d ∗ R) ⊢ S) : outSt X K c o d [] R ⊢ S := by
  refine BIBase.Entails.trans ?_ h
  unfold outSt
  show iprop(recs X K ∗ ow c d ∗ _) ⊢ _
  iintro ⟨#HR, HO, HA, H⟩
  isplitr; · iexact HR
  isplitl [HO]; · iexact HO
  iapply H
  iexact HA

theorem cond1_iff : ∀ o : Fin 8, k0_cond1 (tr1 o) = 1#1 ↔ o ≠ 0 := by decide +kernel
theorem dev8_val : ∀ (c : Dev nD) (o : Fin 8), k0_cond1 (tr1 o) = 1#1 → k0_dev8 c (tr1 o) = (fwd c o).val := by decide +kernel
theorem dev9_val : ∀ (c : Dev nD) (o : Fin 8), k0_cond1 (tr1 o) = 1#1 → k0_dev9 c (tr1 o) = (fwd c o).val := by decide +kernel
theorem dev10_val : ∀ (c : Dev nD) (o : Fin 8), k0_cond1 (tr1 o) = 1#1 → k0_dev10 c (tr1 o) = (fwd c o).val := by decide +kernel
theorem dev11_val : ∀ (c : Dev nD) (o : Fin 8), k0_cond1 (tr1 o) = 1#1 → k0_dev11 c (tr1 o) = (fwd c o).val := by decide +kernel
theorem dev12_val : ∀ (c : Dev nD) (o : Fin 8), k0_cond1 (tr1 o) = 1#1 → k0_dev12 c (tr1 o) = (fwd c o).val := by decide +kernel
theorem dev13_val : ∀ (c : Dev nD) (o : Fin 8), k0_cond1 (tr1 o) = 1#1 → k0_dev13 c (tr1 o) = (fwd c o).val := by decide +kernel
theorem dev14_val : ∀ (c : Dev nD) (o : Fin 8), k0_cond1 (tr1 o) = 1#1 → k0_dev14 c (tr1 o) = (fwd c o).val := by decide +kernel
theorem dev15_val : ∀ (c : Dev nD) (o : Fin 8), k0_cond1 (tr1 o) = 1#1 → k0_dev15 c (tr1 o) = (fwd c o).val := by decide +kernel

/-- The eight sends of a trip. -/
theorem run_row (c : Dev nD) (o : Fin 8) (v2 w : BitVec 32) (hc : k0_cond1 (tr1 o) = 1#1) (d : List Due) (R : sProp 𝕄)
    {α : Type} (Q : α → sProp 𝕄) (p : Prog (TpuEff nD τ sig (Elt F) Λ₀ .tc) α) (h : iprop(recs X K ∗ ow c d ∗ R) ⊢ run c p Q) :
    outSt X K c o d eight R ⊢ run c (do onBufs (k0_part5 (F := F)) c v2 (tr1 o) w hc; p) Q := by
  have ho : o ≠ 0 := (cond1_iff o).mp hc
  simp only [k0_part1_eq_skeleton, k0_part1_skel, k0_part2_eq_skeleton, k0_part2_skel, k0_part3_eq_skeleton, k0_part3_skel, k0_part4_eq_skeleton, k0_part4_skel,
    k0_part5_eq_skeleton, k0_part5_skel, Prog.lift, bind_assoc, pure_bind, Prog.bind_op, Prog.bind_ret, Prog.pure_eq_ret]
  refine pass_out X K 0 (Fin.ext (dev8_val c o hc)) (semAt_eq 0 0 o (k0_off4_eq _)) (semAt_eq 1 0 o (k0_off4_eq _)) (k0_off6_eq _) (k0_off5_eq _) ho ?_
  refine pass_out X K 1 (Fin.ext (dev9_val c o hc)) (semAt_eq 0 1 o (k0_off7_eq _)) (semAt_eq 1 1 o (k0_off7_eq _)) (k0_off9_eq _) (k0_off8_eq _) ho ?_
  refine pass_out X K 2 (Fin.ext (dev10_val c o hc)) (semAt_eq 0 2 o (k0_off10_eq _)) (semAt_eq 1 2 o (k0_off10_eq _)) (k0_off12_eq _) (k0_off11_eq _) ho ?_
  refine pass_out X K 3 (Fin.ext (dev11_val c o hc)) (semAt_eq 0 3 o (k0_off13_eq _)) (semAt_eq 1 3 o (k0_off13_eq _)) (k0_off15_eq _) (k0_off14_eq _) ho ?_
  refine pass_out X K 4 (Fin.ext (dev12_val c o hc)) (semAt_eq 0 4 o (k0_off16_eq _)) (semAt_eq 1 4 o (k0_off16_eq _)) (k0_off18_eq _) (k0_off17_eq _) ho ?_
  refine pass_out X K 5 (Fin.ext (dev13_val c o hc)) (semAt_eq 0 5 o (k0_off19_eq _)) (semAt_eq 1 5 o (k0_off19_eq _)) (k0_off21_eq _) (k0_off20_eq _) ho ?_
  refine pass_out X K 6 (Fin.ext (dev14_val c o hc)) (semAt_eq 0 6 o (k0_off22_eq _)) (semAt_eq 1 6 o (k0_off22_eq _)) (k0_off24_eq _) (k0_off23_eq _) ho ?_
  refine pass_out X K 7 (Fin.ext (dev15_val c o hc)) (semAt_eq 0 7 o (k0_off25_eq _)) (semAt_eq 1 7 o (k0_off25_eq _)) (k0_off27_eq _) (k0_off26_eq _) ho ?_
  exact outSt_done X K h

/-! ## A row's contents -/

theorem off1_at : ∀ t : Fin k0_t2_loop.trips, k0_off1 t = ![512 * (Fin.ofNat 4 t.val).val, 0] := by decide +kernel
theorem off2_at : ∀ t : Fin k0_t2_loop.trips, k0_off2 t = ![512 * (Fin.ofNat 4 t.val).val, 0] := by decide +kernel

theorem run_acc (c : Dev nD) (o : Fin 8) (a1 : FVec F S2048x1 .f32) (a2 : IVec S2048x1 32) (a3 : Vec F S2048x1 .i32)
    {α : Type} {Q : α → sProp 𝕄} {p : FVec F S512x1024 .f32 → Prog (TpuEff nD τ sig (Elt F) Λ₀ .tc) α} :
    iprop(dsP c (X.ds c) ∗ xsP c (X.xs c))
      ⊢ iprop(((dsP c (X.ds c) ∗ xsP c (X.xs c)) -∗ run c (p (X.acc c o 4)) Q)
        -∗ run c (Scf.Loop.for k0_t2_loop k0_t2_ok (k0_pay10 (F := F)) (onBufs (k0_t2_body (F := F)) c (ringNo c) a1 a2 a3 (tr1 o)) >>= p) Q) := by
  iintro ⟨Hd, Hx⟩ Hk
  iapply (Scf.wp_for_bind _ _ _ k0_t2_loop.lb k0_t2_loop.ub k0_t2_loop.st k0_t2_ok (k0_pay10 (F := F))
    (onBufs (k0_t2_body (F := F)) c (ringNo c) a1 a2 a3 (tr1 o))
    (fun n a => iprop(⌜a = X.acc c o n⌝ ∗ dsP c (X.ds c) ∗ xsP c (X.xs c))) (by
      intro t a
      simp only [onBufs, k0_t2_body, Prog.lift, bind_assoc, pure_bind, Prog.bind_op, Prog.bind_ret, Prog.pure_eq_ret]
      iintro ⟨%ha, Hd, Hx⟩
      iapply (load_dsrows c (Fin.ofNat 4 t.val) (off1_at t)) $$ Hd
      iintro Hd
      iapply (load_xsrows c (Fin.ofNat 4 t.val) (off2_at t)) $$ Hx
      iintro Hx
      iapply (run_ret c)
      isplitr
      · ipureintro; rw [ha]; rfl
      isplitl [Hd]; · iexact Hd
      iexact Hx)) $$ [Hd Hx]
  · isplitr
    · ipureintro; rfl
    isplitl [Hd]; · iexact Hd
    iexact Hx
  iintro %a ⟨%ha, Hd, Hx⟩
  have ha' : a = X.acc c o 4 := ha
  subst ha'
  iapply Hk
  isplitl [Hd]; · iexact Hd
  iexact Hx

/-! ## The loop -/

/-- What the trip of offset `o` takes, and what it leaves. -/
def rA (c : Dev nD) (o : Fin 8) : sProp 𝕄 :=
  iprop((∃ f, dPts c (dRow o) f) ∗ (if o = 0 then iprop(emp) else sepL eight fun k =>
    iprop((∃ f, cPts (F := F) (fwd c o) (cSet k o) f) ∗ tokC c (xf 0 k o) 0 0 ∗ tokC (fwd c o) (xf 1 k o) 0 0)))
def rB (c : Dev nD) (o : Fin 8) : sProp 𝕄 :=
  if o = 0 then dPts c (dRow o) (X.D1 c) else sepL eight fun k => credC c (xf 0 k o) NX

def rowSt (c : Dev nD) (d : List Due) (n : ℕ) (R : sProp 𝕄) : sProp 𝕄 :=
  iprop(recs X K ∗ ow c (drDues c ((eight.drop n).filter (· ≠ 0)) ++ d) ∗ dsP c (X.ds c) ∗ xsP c (X.xs c) ∗ sepL (eight.drop n) (rA c)
    ∗ (sepL (eight.drop n) (rB X c) -∗ R))

theorem drop_eight (o : Fin 8) : eight.drop o.val = o :: eight.drop (o.val + 1) := by revert o; decide
theorem tr1_surj (t : Fin k0_t1_loop.trips) : ∃ o, t = tr1 o := ⟨⟨t.val, lt_of_lt_of_eq t.isLt t1_trips⟩, rfl⟩

theorem D1_row (c : Dev nD) (o : Fin 8) (a : Fin 512) (b : Fin 1024) : X.D1 c (ix3 o a b) = k0_pay12 (X.acc c o 4) (ix3 0 a b) := rfl

theorem run_trip1 (c : Dev nD) (d : List Due) (o : Fin 8) (a1 : FVec F S2048x1 .f32) (a2 : IVec S2048x1 32) (a3 : Vec F S2048x1 .i32) (R : sProp 𝕄) (u : Unit) :
    rowSt X K c d o.val R ⊢ run c (onBufs (k0_t1_body (F := F)) c (ringNo c) a1 a2 a3 (tr1 o) u) (fun _ => rowSt X K c d (o.val + 1) R) := by
  unfold rowSt
  rw [drop_eight o, sepL_cons, sepL_cons]
  by_cases ho : o = 0
  · have hc : ¬ k0_cond1 (tr1 o) = 1#1 := fun h => (cond1_iff o).mp h ho
    have eA : rA (F := F) c o = iprop((∃ f, dPts c (dRow o) f) ∗ emp) := by unfold rA; rw [if_pos ho]
    have eB : rB X c o = dPts c (dRow o) (X.D1 c) := by unfold rB; rw [if_pos ho]
    rw [eA, eB, List.filter_cons_of_neg (by simpa using ho)]
    simp only [onBufs, k0_t1_body, dif_neg hc, Prog.lift, bind_assoc, pure_bind, Prog.bind_op, Prog.bind_ret, Prog.pure_eq_ret]
    iintro ⟨#HR, HO, Hd, Hx, ⟨⟨⟨%f, Hrow⟩, -⟩, HL⟩, HW⟩
    iapply (run_acc X c o a1 a2 a3) $$ [Hd Hx]
    · isplitl [Hd]; · iexact Hd
      iexact Hx
    iintro ⟨Hd, Hx⟩
    iapply (load_drow c o (Finset.Subset.refl _) (k0_off3_eq (tr1 o))) $$ Hrow
    iintro Hrow
    iapply (store_drow c o (k0_off3_eq (tr1 o)) (X.D1 c) (D1_row X c o)) $$ Hrow
    iintro Hrow
    iapply (run_ret c)
    isplitr; · iexact HR
    isplitl [HO]; · iexact HO
    isplitl [Hd]; · iexact Hd
    isplitl [Hx]; · iexact Hx
    isplitl [HL]; · iexact HL
    iintro HB
    iapply HW
    isplitl [Hrow]; · iexact Hrow
    iexact HB
  · have hc : k0_cond1 (tr1 o) = 1#1 := (cond1_iff o).mpr ho
    have eA : rA (F := F) c o = iprop((∃ f, dPts c (dRow o) f) ∗ sepL eight fun k =>
      iprop((∃ f, cPts (F := F) (fwd c o) (cSet k o) f) ∗ tokC c (xf 0 k o) 0 0 ∗ tokC (fwd c o) (xf 1 k o) 0 0)) := by unfold rA; rw [if_neg ho]
    have eB : rB X c o = sepL eight fun k => credC c (xf 0 k o) NX := by unfold rB; rw [if_neg ho]
    have eD : drDues c (o :: (eight.drop (o.val + 1)).filter (· ≠ 0)) ++ d = eight.map (drDue c o) ++ (drDues c ((eight.drop (o.val + 1)).filter (· ≠ 0)) ++ d) := by
      unfold drDues; rw [List.flatMap_cons, List.append_assoc]
    have hS : iprop(dPts c (dRow o) (X.D1 c) ∗ sepL eight (fun k => iprop((∃ f, cPts (F := F) (fwd c o) (cSet k o) f) ∗ tokC c (xf 0 k o) 0 0 ∗ tokC (fwd c o) (xf 1 k o) 0 0)))
        = sepL eight (fun k => sA1 X c k o) := by
      rw [dRow_cut, ← sepL_sep]; rfl
    rw [eA, eB, List.filter_cons_of_pos (by simpa using ho), eD]
    simp only [k0_t1_body, dif_pos hc, Prog.lift, bind_assoc, pure_bind, Prog.bind_op, Prog.bind_ret, Prog.pure_eq_ret]
    iintro ⟨#HR, HO, Hd, Hx, ⟨⟨⟨%f, Hrow⟩, HA⟩, HL⟩, HW⟩
    iapply (run_acc X c o a1 a2 a3) $$ [Hd Hx]
    · isplitl [Hd]; · iexact Hd
      iexact Hx
    iintro ⟨Hd, Hx⟩
    iapply (load_drow c o (Finset.Subset.refl _) (k0_off3_eq (tr1 o))) $$ Hrow
    iintro Hrow
    iapply (store_drow c o (k0_off3_eq (tr1 o)) (X.D1 c) (D1_row X c o)) $$ Hrow
    iintro Hrow
    ihave HS := (Entails.of_eq hS) $$ [Hrow HA]
    · isplitl [Hrow]; · iexact Hrow
      iexact HA
    iapply (run_row X K c o (ringNo c) (Scf.iv 0#32 1#32 (tr1 o)) hc (drDues c ((eight.drop (o.val + 1)).filter (· ≠ 0)) ++ d)
      iprop(sepL eight (fun k => credC c (xf 0 k o) NX) ∗ dsP c (X.ds c) ∗ xsP c (X.xs c) ∗ sepL (eight.drop (o.val + 1)) (rA c)
        ∗ (iprop(sepL eight (fun k => credC c (xf 0 k o) NX) ∗ sepL (eight.drop (o.val + 1)) (rB X c)) -∗ R)) _ _ (by
        iintro ⟨#HR, HO, HC, Hd, Hx, HL, HW⟩
        iapply (run_ret c)
        isplitr; · iexact HR
        isplitl [HO]; · iexact HO
        isplitl [Hd]; · iexact Hd
        isplitl [Hx]; · iexact Hx
        isplitl [HL]; · iexact HL
        iintro HB
        iapply HW
        isplitl [HC]; · iexact HC
        iexact HB))
    unfold outSt
    isplitr; · iexact HR
    isplitl [HO]; · iexact HO
    isplitl [HS]; · iexact HS
    iintro HC
    isplitl [HC]; · iexact HC
    isplitl [Hd]; · iexact Hd
    isplitl [Hx]; · iexact Hx
    isplitl [HL]; · iexact HL
    iexact HW

theorem run_rows (c : Dev nD) (d : List Due) (a1 : FVec F S2048x1 .f32) (a2 : IVec S2048x1 32) (a3 : Vec F S2048x1 .i32)
    {α : Type} {Q : α → sProp 𝕄} {p : Unit → Prog (TpuEff nD τ sig (Elt F) Λ₀ .tc) α} :
    iprop(recs X K ∗ ow c (drDues c offs ++ d) ∗ dsP c (X.ds c) ∗ xsP c (X.xs c) ∗ sepL eight (rA c))
      ⊢ iprop(((ow c d ∗ dsP c (X.ds c) ∗ xsP c (X.xs c) ∗ sepL eight (rB X c)) -∗ run c (p ⟨⟩) Q)
        -∗ run c (Scf.Loop.for k0_t1_loop k0_t1_ok () (onBufs (k0_t1_body (F := F)) c (ringNo c) a1 a2 a3) >>= p) Q) := by
  iintro ⟨#HR, HO, Hd, Hx, HA⟩ Hk
  iapply (Scf.wp_for_bind _ _ _ k0_t1_loop.lb k0_t1_loop.ub k0_t1_loop.st k0_t1_ok () (onBufs (k0_t1_body (F := F)) c (ringNo c) a1 a2 a3)
    (fun n _ => rowSt X K c d n (sepL eight (rB X c))) (by
      intro t u
      obtain ⟨o, rfl⟩ := tr1_surj t
      exact run_trip1 X K c d o a1 a2 a3 _ u)) $$ [HO Hd Hx HA]
  · unfold rowSt
    isplitr; · iexact HR
    isplitl [HO]; · iexact HO
    isplitl [Hd]; · iexact Hd
    isplitl [Hx]; · iexact Hx
    isplitl [HA]; · iexact HA
    iintro HB
    iexact HB
  iintro %u HS
  have e : rowSt X K c d (Scf.trips k0_t1_loop.lb k0_t1_loop.ub k0_t1_loop.st) (sepL eight (rB X c))
      = iprop(recs X K ∗ ow c d ∗ dsP c (X.ds c) ∗ xsP c (X.xs c) ∗ emp ∗ (emp -∗ sepL eight (rB X c))) := by
    have h8 : Scf.trips k0_t1_loop.lb k0_t1_loop.ub k0_t1_loop.st = 8 := t1_trips
    rw [h8]; rfl
  ihave HS := (Entails.of_eq e) $$ HS
  icases HS with ⟨-, HO, Hd, Hx, HE, HW⟩
  iapply Hk
  isplitl [HO]; · iexact HO
  isplitl [Hd]; · iexact Hd
  isplitl [Hx]; · iexact Hx
  iapply HW
  iexact HE

end Cert.Exchange

end
-- ==== Proof.Prep.lean ====
module

public import proofs.«01_k».proof.Proof.Dispatch
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp F) (K : Dev nD × CI → ℕ)

/-! ## What the slot payloads hold -/

theorem rows_cast (v : Vec F S1x512x1024 .bf16) (k : Fin 8) {off : Fin 2 → ℕ} (ho : off = ![64 * k.val, 0])
    (h : S1x512x1024.ShapeCasts S512x1024) (hs : S512x1024.Slices off S64x1024) (h' : S64x1024.ShapeCasts S1x1x64x1024) (a : Fin 64) (b : Fin 1024) :
    shapeCast S1x1x64x1024 (extractStridedSlice S64x1024 off (shapeCast S512x1024 v h) hs) h' (ix4 0 0 a b) = v (ix3 0 (at64 k a) b) := by
  subst ho
  refine (shapeCast_apply _ h' (ix4 0 0 a b) (ix2 a b) ?_).trans ((extractStridedSlice_apply _ _ hs (ix2 a b) (ix2 (at64 k a) b) ?_).trans
    (shapeCast_apply v h (ix2 (at64 k a) b) (ix3 0 (at64 k a) b) ?_))
  · refine (Shape.rowMajor_val_two (d := ![64, 1024]) _).trans (Eq.trans ?_ (Shape.rowMajor_val_four (d := ![1, 1, 64, 1024]) _).symm)
    show a.val * 1024 + b.val = ((0 * 1 + 0) * 64 + a.val) * 1024 + b.val
    omega
  · intro i
    fin_cases i
    · show 64 * k.val + a.val = 64 * k.val + a.val; rfl
    · show b.val = 0 + b.val; omega
  · refine (Shape.rowMajor_val_three (d := ![1, 512, 1024]) _).trans (Eq.trans ?_ (Shape.rowMajor_val_two (d := ![512, 1024]) _).symm)
    show (0 * 512 + (64 * k.val + a.val)) * 1024 + b.val = (64 * k.val + a.val) * 1024 + b.val
    omega

theorem pay14_at (v : Vec F S1x512x1024 .bf16) (a : Fin 64) (b : Fin 1024) : k0_pay14 v (ix4 0 0 a b) = v (ix3 0 (at64 0 a) b) :=
  rows_cast v 0 (off := ![0, 0]) rfl _ _ _ a b
theorem pay15_at (v : Vec F S1x512x1024 .bf16) (a : Fin 64) (b : Fin 1024) : k0_pay15 v (ix4 0 0 a b) = v (ix3 0 (at64 1 a) b) :=
  rows_cast v 1 (off := ![64, 0]) rfl _ _ _ a b
theorem pay16_at (v : Vec F S1x512x1024 .bf16) (a : Fin 64) (b : Fin 1024) : k0_pay16 v (ix4 0 0 a b) = v (ix3 0 (at64 2 a) b) :=
  rows_cast v 2 (off := ![128, 0]) rfl _ _ _ a b
theorem pay18_at (v : Vec F S1x512x1024 .bf16) (a : Fin 64) (b : Fin 1024) : k0_pay18 (k0_pay17 v) (ix4 0 0 a b) = v (ix3 0 (at64 3 a) b) :=
  rows_cast v 3 (off := ![192, 0]) rfl _ slices_S512x1024_o192_0_S64x1024 _ a b
theorem pay19_at (v : Vec F S1x512x1024 .bf16) (a : Fin 64) (b : Fin 1024) : k0_pay19 (k0_pay13 v) (ix4 0 0 a b) = v (ix3 0 (at64 4 a) b) :=
  rows_cast v 4 (off := ![256, 0]) rfl _ _ _ a b
theorem pay20_at (v : Vec F S1x512x1024 .bf16) (a : Fin 64) (b : Fin 1024) : k0_pay20 (k0_pay13 v) (ix4 0 0 a b) = v (ix3 0 (at64 5 a) b) :=
  rows_cast v 5 (off := ![320, 0]) rfl _ _ _ a b
theorem pay21_at (v : Vec F S1x512x1024 .bf16) (a : Fin 64) (b : Fin 1024) : k0_pay21 (k0_pay13 v) (ix4 0 0 a b) = v (ix3 0 (at64 6 a) b) :=
  rows_cast v 6 (off := ![384, 0]) rfl _ _ _ a b
theorem pay22_at (v : Vec F S1x512x1024 .bf16) (a : Fin 64) (b : Fin 1024) : k0_pay22 (k0_pay13 v) (ix4 0 0 a b) = v (ix3 0 (at64 7 a) b) :=
  rows_cast v 7 (off := ![448, 0]) rfl _ _ _ a b

theorem piece_cast (v : Vec F S1x64x1024 .bf16) (h : S1x64x1024.ShapeCasts S64x1024) (h' : S64x1024.ShapeCasts S1x1x64x1024) (a : Fin 64) (b : Fin 1024) :
    shapeCast S1x1x64x1024 (shapeCast S64x1024 v h) h' (ix4 0 0 a b) = v (ix3 0 a b) := by
  refine (shapeCast_apply _ h' (ix4 0 0 a b) (ix2 a b) ?_).trans (shapeCast_apply v h (ix2 a b) (ix3 0 a b) ?_)
  · refine (Shape.rowMajor_val_two (d := ![64, 1024]) _).trans (Eq.trans ?_ (Shape.rowMajor_val_four (d := ![1, 1, 64, 1024]) _).symm)
    show a.val * 1024 + b.val = ((0 * 1 + 0) * 64 + a.val) * 1024 + b.val
    omega
  · refine (Shape.rowMajor_val_three (d := ![1, 64, 1024]) _).trans (Eq.trans ?_ (Shape.rowMajor_val_two (d := ![64, 1024]) _).symm)
    show (0 * 64 + a.val) * 1024 + b.val = a.val * 1024 + b.val
    omega

/-- Row 0 of device `c`'s dispatch buffer, as loaded. -/
def first (c : Dev nD) : Vec F S1x512x1024 .bf16 := fun x => X.D1 c (ix3 0 (x 1) (x 2))

theorem C1_own (c : Dev nD) (k : Fin 8) (a : Fin 64) (b : Fin 1024) : X.C1 c (ix4 k 0 a b) = first X c (ix3 0 (at64 k a) b) := by
  show X.D1 (bwd c 0) _ = _
  rw [bwd_zero]; rfl
theorem C2_own (c : Dev nD) (k : Fin 8) (a : Fin 64) (b : Fin 1024) : X.C2 c (ix4 0 k a b) = X.D2 c (ix3 k (at64 0 a) b) := by
  show X.D2 (fwd c 0) _ = _
  rw [fwd_zero]; rfl

/-! ## Filling slots of the landing buffer one after another -/

def fillSt (c : Dev nD) (σ : Fin 8 → Finset S8x8x64x1024.Idx) (g : Vec F S8x8x64x1024 .bf16) (l : List (Fin 8)) (R : sProp 𝕄) : sProp 𝕄 :=
  iprop(sepL l (fun k => iprop(∃ f, cPts c (σ k) f)) ∗ (sepL l (fun k => cPts c (σ k) g) -∗ R))

theorem pass_fill {c : Dev nD} {σ : Fin 8 → Finset S8x8x64x1024.Idx} {g : Vec F S8x8x64x1024 .bf16} {l : List (Fin 8)} {R : sProp 𝕄} (k a b : Fin 8)
    (hσ : σ k = cSet a b) {off off' : Fin 4 → ℕ} {inb inb'} (h : off = ![a.val, b.val, 0, 0]) (h' : off' = ![a.val, b.val, 0, 0])
    {w : Vec F S1x1x64x1024 .bf16} (hg : ∀ i j, g (ix4 a b i j) = w (ix4 0 0 i j)) {hl hx hm}
    {α : Type} {Q : α → sProp 𝕄} {p : Vec F S1x1x64x1024 .bf16 → PUnit → Prog (TpuEff nD τ sig (Elt F) Λ₀ .tc) α}
    (hp : ∀ v, fillSt c σ g l R ⊢ run c (p v ⟨⟩) Q) :
    fillSt c σ g (k :: l) R ⊢ run c (.op (.load cM (Rect.unit (s := S8x8x64x1024) off S1x1x64x1024.size inb).toLoadRect hl) fun v =>
      .op (.store cM (Rect.unit (s := S8x8x64x1024) off' S1x1x64x1024.size inb') w Finset.univ hx hm) (p v)) Q := by
  unfold fillSt at hp ⊢
  rw [sepL_cons, sepL_cons, hσ]
  iintro ⟨⟨⟨%f, Hf⟩, HL⟩, HW⟩
  iapply (load_cslot c a b h) $$ Hf
  iintro Hf
  iapply (store_cslot c a b h' g hg) $$ Hf
  iintro Hf
  iapply (hp _)
  isplitl [HL]; · iexact HL
  iintro HB
  iapply HW
  isplitl [Hf]; · iexact Hf
  iexact HB

theorem fillSt_done {c : Dev nD} {σ : Fin 8 → Finset S8x8x64x1024.Idx} {g : Vec F S8x8x64x1024 .bf16} {R S : sProp 𝕄} (h : R ⊢ S) :
    fillSt c σ g [] R ⊢ S := by
  refine BIBase.Entails.trans ?_ h
  unfold fillSt
  iintro ⟨HA, HW⟩
  iapply HW
  iexact HA

theorem run_from {c : Dev nD} (S : sProp 𝕄) {α : Type} {Q : α → sProp 𝕄} {p : Prog (TpuEff nD τ sig (Elt F) Λ₀ .tc) α} (h : S ⊢ run c p Q) : S ⊢ run c p Q := h

/-! ## The shared expert -/

theorem off28_at : ∀ t : Fin k0_t3_loop.trips, k0_off28 t = ![512 * (Fin.ofNat 4 t.val).val, 0] := by decide +kernel
theorem at4 {n : ℕ} (h : n < 4) : (Fin.ofNat 4 n).val = n := Nat.mod_eq_of_lt h
theorem q512_at (h : Fin 4) (a : Fin 512) : q512 (at512 h a) = h := Fin.ext (by
  show (512 * h.val + a.val) / 512 = h.val
  have := a.isLt; omega)
theorem r512_at (h : Fin 4) (a : Fin 512) : r512 (at512 h a) = a := Fin.ext (by
  show (512 * h.val + a.val) % 512 = a.val
  have := a.isLt; omega)

theorem out_zero (c : Dev nD) (h : Fin 4) (a : Fin 512) (b : Fin 1024) :
    X.out c 0 (ix2 (at512 h a) b) = k0_pay23 (chunk (X.x c) h) (X.s c) (ix2 a b) := by
  show k0_pay23 (chunk (X.x c) (q512 (at512 h a))) (X.s c) (ix2 (r512 (at512 h a)) b) = _
  rw [q512_at, r512_at]

theorem run_shared (c : Dev nD) (f : Vec F S2048x1024 .f32) (a1 : FVec F S512x1024 .bf16) (a2 : FVec F S64x1024 .bf16) (a3 : Vec F S1x1x64x1024 .bf16)
    {α : Type} {Q : α → sProp 𝕄} {p : Unit → Prog (TpuEff nD τ sig (Elt F) Λ₀ .tc) α} :
    iprop(xP c (X.x c) ∗ sP c (X.s c) ∗ oP c f)
      ⊢ iprop(((xP c (X.x c) ∗ sP c (X.s c) ∗ oP c (X.out c 0)) -∗ run c (p ⟨⟩) Q)
        -∗ run c (Scf.Loop.for k0_t3_loop k0_t3_ok () (onBufs (k0_t3_body (F := F)) a1 a2 a3) >>= p) Q) := by
  iintro ⟨Hx, Hs, Ho⟩ Hk
  iapply (Scf.wp_for_bind _ _ _ k0_t3_loop.lb k0_t3_loop.ub k0_t3_loop.st k0_t3_ok () (onBufs (k0_t3_body (F := F)) a1 a2 a3)
    (fun n _ => iprop(xP c (X.x c) ∗ sP c (X.s c) ∗ oP c (upTo n (X.out c 0) f))) (by
      intro t u
      have ht : t.val = (Fin.ofNat 4 t.val).val := (at4 (lt_of_lt_of_eq t.isLt t3_trips)).symm
      have e : upTo t.val (X.out c 0) f = upTo (Fin.ofNat 4 t.val).val (X.out c 0) f := congrArg (fun n => upTo n (X.out c 0) f) ht
      have e' : upTo (t.val + 1) (X.out c 0) f = upTo ((Fin.ofNat 4 t.val).val + 1) (X.out c 0) f := congrArg (fun n => upTo (n + 1) (X.out c 0) f) ht
      simp only [e, e', onBufs, k0_t3_body, Prog.lift, bind_assoc, pure_bind, Prog.bind_op, Prog.bind_ret, Prog.pure_eq_ret]
      iintro ⟨Hx, Hs, Ho⟩
      iapply (load_xrows c (Fin.ofNat 4 t.val) (off28_at t)) $$ Hx
      iintro Hx
      iapply (load_s c rfl) $$ Hs
      iintro Hs
      iapply (load_orows c (Fin.ofNat 4 t.val) (off28_at t)) $$ Ho
      iintro Ho
      iapply (store_orows c (Fin.ofNat 4 t.val) (off28_at t) (X.out c 0) f (out_zero X c _)) $$ Ho
      iintro Ho
      iapply (run_ret c)
      isplitl [Hx]; · iexact Hx
      isplitl [Hs]; · iexact Hs
      iexact Ho)) $$ [Hx Hs Ho]
  · rw [upTo_zero]
    isplitl [Hx]; · iexact Hx
    isplitl [Hs]; · iexact Hs
    iexact Ho
  have e4 : upTo (Scf.trips k0_t3_loop.lb k0_t3_loop.ub k0_t3_loop.st) (X.out c 0) f = X.out c 0 := by
    have h4 : Scf.trips k0_t3_loop.lb k0_t3_loop.ub k0_t3_loop.st = 4 := t3_trips
    rw [h4, upTo_four]
  rw [e4]
  iintro %u ⟨Hx, Hs, Ho⟩
  iapply Hk
  isplitl [Hx]; · iexact Hx
  isplitl [Hs]; · iexact Hs
  iexact Ho

/-! ## From the routing to the shared expert -/

set_option maxHeartbeats 1000000 in
theorem run_prep (c : Dev nD) (d : List Due) (R : sProp 𝕄) {α : Type} (Q : α → sProp 𝕄) (p : Prog (TpuEff nD τ sig (Elt F) Λ₀ .tc) α)
    (h : iprop(recs X K ∗ ow c d ∗ xP c (X.x c) ∗ rP c (X.r c) ∗ iP c (X.i c) ∗ sP c (X.s c) ∗ oP c (X.out c 0) ∗ dsP c (X.ds c) ∗ xsP c (X.xs c)
      ∗ credC c (ew 0) NW ∗ sepL eight (rB X c) ∗ sepL eight (fun k => cPts c (cSet k 0) (X.C1 c)) ∗ R) ⊢ run c p Q) :
    iprop(recs X K ∗ ow c (drDues c offs ++ d) ∗ xP c (X.x c) ∗ rP c (X.r c) ∗ iP c (X.i c) ∗ sP c (X.s c)
      ∗ (∃ f, oP c f) ∗ (∃ f, dsP c f) ∗ (∃ f, xsP c f)
      ∗ ((∃ f, ePts c (eSet 0) f) ∗ wPts c (wSet (expertOf 0 0)) (X.w c) ∗ tokC c (ew 0) 0 0)
      ∗ sepL eight (rA c) ∗ sepL eight (fun k => iprop(∃ f, cPts c (cSet k 0) f)) ∗ R) ⊢ run c (do
        let ⟨v110, v115, v118, v138, v139, v140⟩ : Σ' (v110 : IVec S2048x1 32) (v115 : FVec F S2048x64 .f32) (v118 : FVec F S2048x1 .f32) (v138 : FVec F S2048x64 .f32) (v139 : FVec F S32x64 .f32), FVec F S2016x64 .f32 ← onBufs (k0_part13 (F := F))
        let ⟨v174, v181⟩ : Σ' (v174 : IVec S2048x1 32), Vec F S2048x1 .i32 ← onBufs (k0_part14 (F := F)) v110 v115 v138 v139 v140
        let ⟨v194, v207, v208⟩ : Σ' (v194 : FVec F S512x1024 .bf16) (v207 : FVec F S64x1024 .bf16), Vec F S1x1x64x1024 .bf16 ← onBufs (k0_part15 (F := F)) c (ringNo c) v118 v174 v181
        onBufs (k0_part16 (F := F)) v194 v207 v208
        p) Q := by
  simp only [k0_part13_eq_skeleton, k0_part13_skel, k0_part14_eq_skeleton, k0_part14_skel, k0_part15_eq_skeleton, k0_part15_skel, k0_part16_eq_skeleton, k0_part16_skel,
    Prog.lift, bind_assoc, pure_bind, Prog.bind_op, Prog.bind_ret, Prog.pure_eq_ret]
  iintro ⟨#HR, HO, Hx, Hr, Hi, Hs, Ho, ⟨%fd, Hd⟩, ⟨%fx, Hxs⟩, ⟨He, Hw, Ht⟩, HA, HC, H⟩
  iapply (load_x c rfl) $$ Hx
  iintro Hx
  iapply (load_r c rfl) $$ Hr
  iintro Hr
  iapply (load_i c rfl) $$ Hi
  iintro Hi
  ihave Hre := (recs_reached X K (c, ew 0)) $$ HR
  iapply (copyW X K c 0 0 (by decide) (ewAt_eq 0 rfl) rfl rfl) $$ [He Hw Ht Hre]
  · isplitr; · iexact HR
    isplitl [He]; · iexact He
    isplitl [Hw]; · iexact Hw
    isplitl [Ht]; · iexact Ht
    iexact Hre
  iintro Hcr
  iapply (load_ds c rfl) $$ Hd
  iintro Hd
  iapply (store_ds c rfl) $$ Hd
  iintro Hd
  iapply (load_x c rfl) $$ Hx
  iintro Hx
  iapply (load_xs c rfl) $$ Hxs
  iintro Hxs
  iapply (store_xs c rfl) $$ Hxs
  iintro Hxs
  iapply (run_rows X K c d _ _ _) $$ [HO Hd Hxs HA]
  · isplitr; · iexact HR
    isplitl [HO]; · iexact HO
    isplitl [Hd]; · iexact Hd
    isplitl [Hxs]; · iexact Hxs
    iexact HA
  iintro ⟨HO, Hd, Hxs, HB⟩
  have hfirst : sepL eight (rB X c) = iprop(dPts c (dRow 0) (X.D1 c) ∗ sepL offs (rB X c)) := rfl
  ihave HB := (Entails.of_eq hfirst) $$ HB
  icases HB with ⟨Hrow, HB⟩
  iapply (load_drow c 0 (Finset.Subset.refl _) rfl) $$ Hrow
  iintro Hrow
  iapply (run_from (fillSt c (fun k => cSet k 0) (X.C1 c) eight iprop(recs X K ∗ ow c d ∗ xP c (X.x c) ∗ rP c (X.r c) ∗ iP c (X.i c) ∗ sP c (X.s c) ∗ (∃ f, oP c f) ∗ dsP c (X.ds c) ∗ xsP c (X.xs c)
      ∗ credC c (ew 0) NW ∗ sepL eight (rB X c) ∗ sepL eight (fun k => cPts c (cSet k 0) (X.C1 c)) ∗ R)) (by
    refine pass_fill (σ := fun k => cSet k 0) (g := X.C1 c) 0 0 0 rfl (off := ![0, 0, 0, 0]) (off' := ![0, 0, 0, 0]) rfl rfl (by exact fun a b => (C1_own X c 0 a b).trans (pay14_at (first X c) a b).symm) fun _ => ?_
    refine pass_fill (σ := fun k => cSet k 0) (g := X.C1 c) 1 1 0 rfl (off := ![1, 0, 0, 0]) (off' := ![1, 0, 0, 0]) rfl rfl (by exact fun a b => (C1_own X c 1 a b).trans (pay15_at (first X c) a b).symm) fun _ => ?_
    refine pass_fill (σ := fun k => cSet k 0) (g := X.C1 c) 2 2 0 rfl (off := ![2, 0, 0, 0]) (off' := ![2, 0, 0, 0]) rfl rfl (by exact fun a b => (C1_own X c 2 a b).trans (pay16_at (first X c) a b).symm) fun _ => ?_
    refine pass_fill (σ := fun k => cSet k 0) (g := X.C1 c) 3 3 0 rfl (off := ![3, 0, 0, 0]) (off' := ![3, 0, 0, 0]) rfl rfl (by exact fun a b => (C1_own X c 3 a b).trans (pay18_at (first X c) a b).symm) fun _ => ?_
    refine pass_fill (σ := fun k => cSet k 0) (g := X.C1 c) 4 4 0 rfl (off := ![4, 0, 0, 0]) (off' := ![4, 0, 0, 0]) rfl rfl (by exact fun a b => (C1_own X c 4 a b).trans (pay19_at (first X c) a b).symm) fun _ => ?_
    refine pass_fill (σ := fun k => cSet k 0) (g := X.C1 c) 5 5 0 rfl (off := ![5, 0, 0, 0]) (off' := ![5, 0, 0, 0]) rfl rfl (by exact fun a b => (C1_own X c 5 a b).trans (pay20_at (first X c) a b).symm) fun _ => ?_
    refine pass_fill (σ := fun k => cSet k 0) (g := X.C1 c) 6 6 0 rfl (off := ![6, 0, 0, 0]) (off' := ![6, 0, 0, 0]) rfl rfl (by exact fun a b => (C1_own X c 6 a b).trans (pay21_at (first X c) a b).symm) fun _ => ?_
    refine pass_fill (σ := fun k => cSet k 0) (g := X.C1 c) 7 7 0 rfl (off := ![7, 0, 0, 0]) (off' := ![7, 0, 0, 0]) rfl rfl (by exact fun a b => (C1_own X c 7 a b).trans (pay22_at (first X c) a b).symm) fun _ => ?_
    refine fillSt_done ?_
    iintro ⟨#HR, HO, Hx, Hr, Hi, Hs, ⟨%fo, Ho⟩, Hd, Hxs, Hcr, HB, HC, H⟩
    iapply (run_shared X c fo _ _ _) $$ [Hx Hs Ho]
    · isplitl [Hx]; · iexact Hx
      isplitl [Hs]; · iexact Hs
      iexact Ho
    iintro ⟨Hx, Hs, Ho⟩
    iapply h
    isplitr; · iexact HR
    isplitl [HO]; · iexact HO
    isplitl [Hx]; · iexact Hx
    isplitl [Hr]; · iexact Hr
    isplitl [Hi]; · iexact Hi
    isplitl [Hs]; · iexact Hs
    isplitl [Ho]; · iexact Ho
    isplitl [Hd]; · iexact Hd
    isplitl [Hxs]; · iexact Hxs
    isplitl [Hcr]; · iexact Hcr
    isplitl [HB]; · iexact HB
    isplitl [HC]; · iexact HC
    iexact H))
  unfold fillSt
  isplitl [HC]; · iexact HC
  iintro HC
  isplitr; · iexact HR
  isplitl [HO]; · iexact HO
  isplitl [Hx]; · iexact Hx
  isplitl [Hr]; · iexact Hr
  isplitl [Hi]; · iexact Hi
  isplitl [Hs]; · iexact Hs
  isplitl [Ho]; · iexact Ho
  isplitl [Hd]; · iexact Hd
  isplitl [Hxs]; · iexact Hxs
  isplitl [Hcr]; · iexact Hcr
  isplitl [Hrow HB]
  · rw [hfirst]
    isplitl [Hrow]; · iexact Hrow
    iexact HB
  isplitl [HC]; · iexact HC
  iexact H

end Cert.Exchange

end
-- ==== Proof.Combine.lean ====
module

public import proofs.«01_k».proof.Proof.Prep

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp F) (K : Dev nD × CI → ℕ)

theorem tr5_surj (t : Fin k0_t5_loop.trips) : ∃ o, t = tr5 o := ⟨⟨t.val, lt_of_lt_of_eq t.isLt t5_trips⟩, rfl⟩
theorem cond3_iff : ∀ o : Fin 8, k0_cond3 (tr5 o) = 1#1 ↔ o ≠ 0 := by decide +kernel
theorem off69_at : ∀ t : Fin k0_t6_loop.trips, k0_off69 t = ![512 * (Fin.ofNat 4 t.val).val, 0] := by decide +kernel
theorem off70_at : ∀ t : Fin k0_t6_loop.trips, k0_off70 t = ![512 * (Fin.ofNat 4 t.val).val, 0] := by decide +kernel

theorem out_succ (c : Dev nD) (o : Fin 8) (h : Fin 4) (a : Fin 512) (b : Fin 1024) :
    X.out c (o.val + 1) (ix2 (at512 h a) b)
      = k0_pay34 (ringNo c) (tr5 o) (Inp.slab (X.C2 c) o) (chunk (X.ds c) h) (chunk (X.out c o.val) h) (ix2 a b) := by
  have e : Fin.ofNat 8 o.val = o := Fin.ext (Nat.mod_eq_of_lt o.isLt)
  show k0_pay34 (ringNo c) (tr5 (Fin.ofNat 8 o.val)) (Inp.slab (X.C2 c) (Fin.ofNat 8 o.val)) (chunk (X.ds c) (q512 (at512 h a)))
    (chunk (X.out c o.val) (q512 (at512 h a))) (ix2 (r512 (at512 h a)) b) = _
  rw [q512_at, r512_at, e]

/-- One offset's share of the output, chunk by chunk. -/
theorem run_share (c : Dev nD) (o : Fin 8) (v1861 : BitVec 32)
    {α : Type} {Q : α → sProp 𝕄} {p : Unit → Prog (TpuEff nD τ sig (Elt F) Λ₀ .tc) α} :
    iprop(dsP c (X.ds c) ∗ oP c (X.out c o.val))
      ⊢ iprop(((dsP c (X.ds c) ∗ oP c (X.out c (o.val + 1))) -∗ run c (p ⟨⟩) Q)
        -∗ run c (Scf.Loop.for k0_t6_loop k0_t6_ok () (onBufs (k0_t6_body (F := F)) c (ringNo c) v1861 (tr5 o) (Inp.slab (X.C2 c) o)) >>= p) Q) := by
  iintro ⟨Hd, Ho⟩ Hk
  iapply (Scf.wp_for_bind _ _ _ k0_t6_loop.lb k0_t6_loop.ub k0_t6_loop.st k0_t6_ok ()
    (onBufs (k0_t6_body (F := F)) c (ringNo c) v1861 (tr5 o) (Inp.slab (X.C2 c) o))
    (fun n _ => iprop(dsP c (X.ds c) ∗ oP c (upTo n (X.out c (o.val + 1)) (X.out c o.val)))) (by
      intro t u
      have ht : t.val = (Fin.ofNat 4 t.val).val := (at4 (lt_of_lt_of_eq t.isLt t6_trips)).symm
      have e : upTo t.val (X.out c (o.val + 1)) (X.out c o.val) = upTo (Fin.ofNat 4 t.val).val (X.out c (o.val + 1)) (X.out c o.val) :=
        congrArg (fun n => upTo n (X.out c (o.val + 1)) (X.out c o.val)) ht
      have e' : upTo (t.val + 1) (X.out c (o.val + 1)) (X.out c o.val) = upTo ((Fin.ofNat 4 t.val).val + 1) (X.out c (o.val + 1)) (X.out c o.val) :=
        congrArg (fun n => upTo (n + 1) (X.out c (o.val + 1)) (X.out c o.val)) ht
      simp only [e, e', onBufs, k0_t6_body, Prog.lift, bind_assoc, pure_bind, Prog.bind_op, Prog.bind_ret, Prog.pure_eq_ret]
      iintro ⟨Hd, Ho⟩
      iapply (load_dsrows c (Fin.ofNat 4 t.val) (off69_at t)) $$ Hd
      iintro Hd
      iapply (load_orows c (Fin.ofNat 4 t.val) (off70_at t)) $$ Ho
      iintro Ho
      iapply (load_orows c (Fin.ofNat 4 t.val) (off70_at t)) $$ Ho
      iintro Ho
      iapply (store_orows c (Fin.ofNat 4 t.val) (off70_at t) (X.out c (o.val + 1)) (X.out c o.val)
        (by rw [chunk_upTo]; exact out_succ X c o _)) $$ Ho
      iintro Ho
      iapply (run_ret c)
      isplitl [Hd]; · iexact Hd
      iexact Ho)) $$ [Hd Ho]
  · rw [upTo_zero]
    isplitl [Hd]; · iexact Hd
    iexact Ho
  have e4 : upTo (Scf.trips k0_t6_loop.lb k0_t6_loop.ub k0_t6_loop.st) (X.out c (o.val + 1)) (X.out c o.val) = X.out c (o.val + 1) := by
    have h4 : Scf.trips k0_t6_loop.lb k0_t6_loop.ub k0_t6_loop.st = 4 := t6_trips
    rw [h4, upTo_four]
  rw [e4]
  iintro %u ⟨Hd, Ho⟩
  iapply Hk
  isplitl [Hd]; · iexact Hd
  iexact Ho

/-! ## The loop over the offsets -/

def oA (c : Dev nD) (o : Fin 8) : sProp 𝕄 :=
  if o = 0 then cPts c (cSlab 0) (X.C2 c) else sepL (eight.map fun k => (k, o)) (wA c 3)
def oB (c : Dev nD) (o : Fin 8) : sProp 𝕄 :=
  iprop(cPts c (cSlab o) (X.C2 c) ∗ (if o = 0 then iprop(emp) else sepL eight fun k => posC c (xf 3 k o) 1))

def combSt (c : Dev nD) (n : ℕ) (R : sProp 𝕄) : sProp 𝕄 :=
  iprop(recs X K ∗ ow c [] ∗ dsP c (X.ds c) ∗ oP c (X.out c n) ∗ sepL (eight.drop n) (oA X c) ∗ (sepL (eight.drop n) (oB X c) -∗ R))

/-- The chunks that came back at offset `o`. -/
theorem returned (c : Dev nD) (o : Fin 8) : sepL (eight.map fun k => (k, o)) (wB X c 3)
    = iprop(cPts c (cSlab o) (X.C2 c) ∗ sepL eight fun k => posC c (xf 3 k o) 1) := by
  rw [sepL_map, cSlab_cut]
  have e : (sepL eight fun k => wB X c 3 (k, o)) = iprop((sepL eight fun k => posC c (xf 3 k o) 1) ∗ sepL eight fun k => cPts c (cSet o k) (X.C2 c)) := sepL_sep _ _ _
  rw [e]
  exact eqOf sep_comm.1 sep_comm.1

theorem run_trip5 (c : Dev nD) (o : Fin 8) (v1861 : BitVec 32) (R : sProp 𝕄) (u : Unit) :
    combSt X K c o.val R ⊢ run c (onBufs (k0_t5_body (F := F)) c (ringNo c) v1861 (tr5 o) u) (fun _ => combSt X K c (o.val + 1) R) := by
  by_cases ho : o = 0
  · have hc : ¬ k0_cond3 (tr5 o) = 1#1 := fun h => (cond3_iff o).mp h ho
    unfold combSt
    rw [drop_eight o, sepL_cons, sepL_cons]
    have eA : oA X c o = cPts c (cSlab o) (X.C2 c) := by unfold oA; rw [if_pos ho, ho]
    have eB : oB X c o = iprop(cPts c (cSlab o) (X.C2 c) ∗ emp) := by unfold oB; rw [if_pos ho]
    rw [eA, eB]
    simp only [onBufs, k0_t5_body, dif_neg hc, Prog.lift, bind_assoc, pure_bind, Prog.bind_op, Prog.bind_ret, Prog.pure_eq_ret]
    iintro ⟨#HR, HO, Hd, Hout, ⟨Hc, HL⟩, HW⟩
    iapply (load_cslab c o (k0_off68_eq (tr5 o))) $$ Hc
    iintro Hc
    iapply (run_share X c o v1861) $$ [Hd Hout]
    · isplitl [Hd]; · iexact Hd
      iexact Hout
    iintro ⟨Hd, Hout⟩
    iapply (run_ret c)
    isplitr; · iexact HR
    isplitl [HO]; · iexact HO
    isplitl [Hd]; · iexact Hd
    isplitl [Hout]; · iexact Hout
    isplitl [HL]; · iexact HL
    iintro HB
    iapply HW
    isplitl [Hc]
    · isplitl [Hc]; · iexact Hc
      iempintro
    iexact HB
  · have hc : k0_cond3 (tr5 o) = 1#1 := (cond3_iff o).mpr ho
    have eB : oB X c o = sepL (eight.map fun k => (k, o)) (wB X c 3) := by unfold oB; rw [if_neg ho, returned]
    have hst : combSt X K c o.val R ⊢ waitSt X K c 3 [] (eight.map fun k => (k, o))
        iprop(sepL (eight.map fun k => (k, o)) (wB X c 3) ∗ dsP c (X.ds c) ∗ oP c (X.out c o.val) ∗ sepL (eight.drop (o.val + 1)) (oA X c)
          ∗ (iprop(oB X c o ∗ sepL (eight.drop (o.val + 1)) (oB X c)) -∗ R)) := by
      refine BIBase.Entails.trans ?_ (waitSt_start X K c 3 [] _ _)
      unfold combSt
      rw [drop_eight o, sepL_cons, sepL_cons]
      have eA : oA X c o = sepL (eight.map fun k => (k, o)) (wA c 3) := by unfold oA; rw [if_neg ho]
      rw [eA]
      iintro ⟨#HR, HO, Hd, Hout, ⟨HA, HL⟩, HW⟩
      isplitr; · iexact HR
      isplitl [HO]; · iexact HO
      isplitl [HA]; · iexact HA
      isplitl [Hd]; · iexact Hd
      isplitl [Hout]; · iexact Hout
      isplitl [HL]; · iexact HL
      iexact HW
    refine hst.trans ?_
    have hl : (eight.map fun k => (k, o)) = [(0, o), (1, o), (2, o), (3, o), (4, o), (5, o), (6, o), (7, o)] := rfl
    rw [hl]
    have hgo : ∀ {α : Type} {Q : α → sProp 𝕄} {p : Prog (TpuEff nD τ sig (Elt F) Λ₀ .tc) α} {S : sProp 𝕄}, (iprop(recs X K ∗ ow c [] ∗ S) ⊢ run c p Q) →
        waitSt X K c 3 [] [] S ⊢ run c p Q := fun h => (waitSt_done X K c 3 [] _).trans h
    simp only [onBufs, k0_t5_body, k0_part8_eq_skeleton, k0_part8_skel, k0_part9_eq_skeleton, k0_part9_skel, dif_pos hc, Prog.lift, bind_assoc, pure_bind, Prog.bind_op,
      Prog.bind_ret, Prog.pure_eq_ret]
    refine pass_wait X K 0 o (Above.nil 4) (semAt_eq 3 0 o (k0_off52_eq _)) (cV_credit _ _) ho (le_refl 4) ?_
    refine pass_wait X K 1 o (Above.nil 4) (semAt_eq 3 1 o (k0_off54_eq _)) (cV_credit _ _) ho (le_refl 4) ?_
    refine pass_wait X K 2 o (Above.nil 4) (semAt_eq 3 2 o (k0_off56_eq _)) (cV_credit _ _) ho (le_refl 4) ?_
    refine pass_wait X K 3 o (Above.nil 4) (semAt_eq 3 3 o (k0_off58_eq _)) (cV_credit _ _) ho (le_refl 4) ?_
    refine pass_wait X K 4 o (Above.nil 4) (semAt_eq 3 4 o (k0_off60_eq _)) (cV_credit _ _) ho (le_refl 4) ?_
    refine pass_wait X K 5 o (Above.nil 4) (semAt_eq 3 5 o (k0_off62_eq _)) (cV_credit _ _) ho (le_refl 4) ?_
    refine pass_wait X K 6 o (Above.nil 4) (semAt_eq 3 6 o (k0_off64_eq _)) (cV_credit _ _) ho (le_refl 4) ?_
    refine pass_wait X K 7 o (Above.nil 4) (semAt_eq 3 7 o (k0_off66_eq _)) (cV_credit _ _) ho (le_refl 4) ?_
    refine hgo ?_
    rw [← hl, eB, returned]
    iintro ⟨#HR, HO, ⟨Hc, HP⟩, Hd, Hout, HL, HW⟩
    iapply (load_cslab c o (k0_off68_eq (tr5 o))) $$ Hc
    iintro Hc
    iapply (run_share X c o v1861) $$ [Hd Hout]
    · isplitl [Hd]; · iexact Hd
      iexact Hout
    iintro ⟨Hd, Hout⟩
    iapply (run_ret c)
    unfold combSt
    isplitr; · iexact HR
    isplitl [HO]; · iexact HO
    isplitl [Hd]; · iexact Hd
    isplitl [Hout]; · iexact Hout
    isplitl [HL]; · iexact HL
    iintro HB
    iapply HW
    isplitl [Hc HP]
    · isplitl [Hc]; · iexact Hc
      iexact HP
    iexact HB

theorem run_combine (c : Dev nD) (v1861 : BitVec 32)
    {α : Type} {Q : α → sProp 𝕄} {p : Unit → Prog (TpuEff nD τ sig (Elt F) Λ₀ .tc) α} :
    iprop(recs X K ∗ ow c [] ∗ dsP c (X.ds c) ∗ oP c (X.out c 0) ∗ sepL eight (oA X c))
      ⊢ iprop(((ow c [] ∗ dsP c (X.ds c) ∗ oP c (X.out c 8) ∗ sepL eight (oB X c)) -∗ run c (p ⟨⟩) Q)
        -∗ run c (Scf.Loop.for k0_t5_loop k0_t5_ok () (onBufs (k0_t5_body (F := F)) c (ringNo c) v1861) >>= p) Q) := by
  iintro ⟨#HR, HO, Hd, Hout, HA⟩ Hk
  iapply (Scf.wp_for_bind _ _ _ k0_t5_loop.lb k0_t5_loop.ub k0_t5_loop.st k0_t5_ok () (onBufs (k0_t5_body (F := F)) c (ringNo c) v1861)
    (fun n _ => combSt X K c n (sepL eight (oB X c))) (by
      intro t u
      obtain ⟨o, rfl⟩ := tr5_surj t
      exact run_trip5 X K c o v1861 _ u)) $$ [HO Hd Hout HA]
  · unfold combSt
    isplitr; · iexact HR
    isplitl [HO]; · iexact HO
    isplitl [Hd]; · iexact Hd
    isplitl [Hout]; · iexact Hout
    isplitl [HA]; · iexact HA
    iintro HB
    iexact HB
  iintro %u HS
  have e : combSt X K c (Scf.trips k0_t5_loop.lb k0_t5_loop.ub k0_t5_loop.st) (sepL eight (oB X c))
      = iprop(recs X K ∗ ow c [] ∗ dsP c (X.ds c) ∗ oP c (X.out c 8) ∗ emp ∗ (emp -∗ sepL eight (oB X c))) := by
    have h8 : Scf.trips k0_t5_loop.lb k0_t5_loop.ub k0_t5_loop.st = 8 := t5_trips
    rw [h8]; rfl
  ihave HS := (Entails.of_eq e) $$ HS
  icases HS with ⟨-, HO, Hd, Hout, HE, HW⟩
  iapply Hk
  isplitl [HO]; · iexact HO
  isplitl [Hd]; · iexact Hd
  isplitl [Hout]; · iexact Hout
  iapply HW
  iexact HE

end Cert.Exchange

end
-- ==== Proof.Experts.lean ====
module

public import proofs.«01_k».proof.Proof.Prep

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp F) (K : Dev nD × CI → ℕ)

set_option backward.proofsInPublic true in
def tr4 (k : Fin 8) : Fin k0_t4_loop.trips := ⟨k.val, by rw [t4_trips]; exact k.isLt⟩
theorem tr4_surj (t : Fin k0_t4_loop.trips) : ∃ k, t = tr4 k := ⟨⟨t.val, lt_of_lt_of_eq t.isLt t4_trips⟩, rfl⟩

/-- The weight slot of the `n`-th expert. -/
abbrev sl (n : ℕ) : Fin 2 := Fin.ofNat 2 n
theorem sl_two (n : ℕ) : sl (n + 1 + 1) = sl n := Fin.ext (by show (n + 1 + 1) % 2 = n % 2; omega)
theorem half_two (n : ℕ) : (n + 1 + 1) / 2 = n / 2 + 1 := by omega
theorem expert_at (k : Fin 8) : expertOf (sl k.val) (k.val / 2) = k := by revert k; decide

theorem cond2_iff : ∀ k : Fin 8, k0_cond2 (tr4 k) = 1#1 ↔ k.val + 1 < 8 := by decide +kernel
theorem off48_at : ∀ k : Fin 8, k0_cond2 (tr4 k) = 1#1 → k0_off48 (tr4 k) = ![(expertOf (sl (k.val + 1)) ((k.val + 1) / 2)).val, 0, 0] := by decide +kernel
theorem off46_at : ∀ k : Fin 8, k0_off46 (tr4 k) = ![(sl (k.val + 1)).val] := by decide +kernel
theorem off47_at : ∀ k : Fin 8, k0_off47 (tr4 k) = ![(sl (k.val + 1)).val, 0, 0] := by decide +kernel

/-! ## The weight slots between two experts -/

/-- Before expert `n`: its weights are on their way (after the last expert, its slot is free), and the other slot is free. -/
def slots (c : Dev nD) (n : ℕ) : sProp 𝕄 :=
  iprop((if n < 8 then credC c (ew (sl n)) NW else iprop(∃ f, ePts c (eSet (sl n)) f)) ∗ posC c (ew (sl n)) (n / 2)
    ∗ (∃ f, ePts c (eSet (sl (n + 1))) f) ∗ posC c (ew (sl (n + 1))) ((n + 1) / 2) ∗ reachC c (ew (sl (n + 1))) ((n + 1) / 2))
/-- An expert's weights and the right to fetch them. -/
def wT (c : Dev nD) (k : Fin 8) : sProp 𝕄 := iprop(wPts c (wSet k) (X.w c) ∗ tokC c (ew (sl k.val)) (k.val / 2) 0)

def kA (c : Dev nD) (k : Fin 8) : sProp 𝕄 :=
  iprop((∃ f, dPts c (dRow k) f) ∗ cPts c (cSet k 0) (X.C1 c) ∗ sepL offs fun o => wA c 1 (k, o))
def kB (c : Dev nD) (k : Fin 8) : sProp 𝕄 :=
  iprop(dPts c (dRow k) (X.D2 c) ∗ cPts c (cSlab k) (X.C1 c) ∗ (sepL offs fun o => posC c (xf 1 k o) 1) ∗ wPts c (wSet k) (X.w c))

def expSt (c : Dev nD) (d : List Due) (n : ℕ) (R : sProp 𝕄) : sProp 𝕄 :=
  iprop(recs X K ∗ ow c d ∗ slots c n ∗ sepL (eight.drop (n + 1)) (wT X c) ∗ sepL (eight.drop n) (kA X c) ∗ (sepL (eight.drop n) (kB X c) -∗ R))

theorem D2_row (c : Dev nD) (k : Fin 8) (a : Fin 512) (b : Fin 1024) :
    X.D2 c (ix3 k a b) = k0_pay24 (Inp.slab (X.C1 c) k) (Inp.mat (X.w c) k) (ix3 0 a b) := rfl

/-- The landed chunks of expert `k`, all offsets. -/
theorem landed (c : Dev nD) (k : Fin 8) : iprop(cPts c (cSet k 0) (X.C1 c) ∗ sepL (offs.map fun o => (k, o)) (wB X c 1))
    = iprop((sepL offs fun o => posC c (xf 1 k o) 1) ∗ cPts c (cSlab k) (X.C1 c)) := by
  rw [sepL_map, cSlab_cut, sepL_first]
  have e : (sepL offs fun o => wB X c 1 (k, o)) = iprop((sepL offs fun o => posC c (xf 1 k o) 1) ∗ sepL offs fun o => cPts c (cSet k o) (X.C1 c)) := sepL_sep _ _ _
  rw [e, ← sepA, ← sepA]
  exact congrArg (fun P => iprop(P ∗ _)) (eqOf sep_comm.1 sep_comm.1)

/-- Waiting for an expert's weights. -/
theorem wait_ew (c : Dev nD) (k : Fin 8) {d : List Due} (ha : Above 0 d) {s : DmaSem sig} {sp sp' : Space} {s₁ s₂ : Shape} {e₁ e₂ : EltTy}
    {src : Memref sig .tc sp' s₁ e₁} {dst : Memref sig .tc sp s₂ e₂} (hs : s = ewS (sl k.val)) (hN : dst.view.dmaCredit = NW)
    {h₁ : src.view.WordExact} {h₂ : dst.view.WordExact} {α : Type} {Q : α → sProp 𝕄} {p : PUnit → Prog (TpuEff nD τ sig (Elt F) Λ₀ .tc) α} :
    iprop(recs X K ∗ credC c (ew (sl k.val)) NW ∗ ow c d ∗ posC c (ew (sl k.val)) (k.val / 2))
      ⊢ iprop(((ow c d ∗ posC c (ew (sl k.val)) (k.val / 2 + 1) ∗ reachC c (ew (sl k.val)) (k.val / 2 + 1)
          ∗ ePts c (eSet (sl k.val)) (eAt X c k) ∗ wPts c (wSet k) (X.w c)) -∗ run c (p ⟨⟩) Q)
        -∗ run c (.op (.waitDma2 s src dst h₁ h₂) p) Q) := by
  subst hs
  have hr : k.val / 2 < 4 := by have := k.isLt; omega
  have hd : dutiesK (ew (sl k.val)) (k.val / 2) = {0} := if_pos hr
  have hpay : bigSep (dutiesK (ew (sl k.val)) (k.val / 2)) (fun d => payK X c (ew (sl k.val)) (k.val / 2) d)
      = iprop(ePts c (eSet (sl k.val)) (eAt X c k) ∗ wPts c (wSet k) (X.w c)) := by
    rw [hd, bigSep_singleton]
    show ewPay X c (sl k.val) (k.val / 2) = _
    unfold ewPay
    rw [expert_at]
  iintro ⟨#HR, Hc, HO, Hp⟩ Hk
  iapply (wait_cell X K c (ew (sl k.val)) (k.val / 2) (n := 0) (le_refl 0) ha (w := .waitDma2 (ewS (sl k.val)) src dst h₁ h₂) (k' := NW)
    (fun Kt => by rw [← hN]; rfl) (by rw [hd]; exact (Nat.one_mul NW).symm)) $$ [Hc HO Hp]
  · isplitr; · iexact HR
    isplitl [Hc]; · iexact Hc
    isplitl [HO]; · iexact HO
    iexact Hp
  iintro ⟨HO, Hp, Hr, HB⟩
  ihave HB := (Entails.of_eq hpay) $$ HB
  icases HB with ⟨He, Hw⟩
  iapply Hk
  isplitl [HO]; · iexact HO
  isplitl [Hp]; · iexact Hp
  isplitl [Hr]; · iexact Hr
  isplitl [He]; · iexact He
  iexact Hw

/-- The end of a trip: the weights in, the product out. -/
theorem run_product (c : Dev nD) (k : Fin 8) {α : Type} {Q : α → sProp 𝕄} {p : Unit → Prog (TpuEff nD τ sig (Elt F) Λ₀ .tc) α}
    {o1 : Fin 4 → ℕ} {i1} (h1 : o1 = ![k.val, 0, 0, 0]) {o2 : Fin 3 → ℕ} {i2} (h2 : o2 = ![(sl k.val).val, 0, 0]) {o3 o4 : Fin 3 → ℕ} {i3 i4}
    (h3 : o3 = ![k.val, 0, 0]) (h4 : o4 = ![k.val, 0, 0]) {l1 l2 l3 hx hm} :
    iprop(cPts c (cSlab k) (X.C1 c) ∗ ePts c (eSet (sl k.val)) (eAt X c k) ∗ (∃ f, dPts c (dRow k) f))
      ⊢ iprop(((cPts c (cSlab k) (X.C1 c) ∗ ePts c (eSet (sl k.val)) (eAt X c k) ∗ dPts c (dRow k) (X.D2 c)) -∗ run c (p ⟨⟩) Q)
        -∗ run c (.op (.load cM (Rect.unit (s := S8x8x64x1024) o1 S1x8x64x1024.size i1).toLoadRect l1) fun v =>
          .op (.load eM (Rect.unit (s := S2x1024x1024) o2 S1x1024x1024.size i2).toLoadRect l2) fun v' =>
          .op (.load dM (Rect.unit (s := S8x512x1024) o3 S1x512x1024.size i3).toLoadRect l3) fun _ =>
          .op (.store dM (Rect.unit (s := S8x512x1024) o4 S1x512x1024.size i4) (k0_pay24 v v') Finset.univ hx hm) p) Q) := by
  iintro ⟨Hc, He, ⟨%f, Hd⟩⟩ Hk
  iapply (load_cslab c k h1) $$ Hc
  iintro Hc
  iapply (load_eslot c (sl k.val) h2) $$ He
  iintro He
  iapply (load_drow c k (Finset.Subset.refl _) h3) $$ Hd
  iintro Hd
  iapply (store_drow c k h4 (X.D2 c) (D2_row X c k)) $$ Hd
  iintro Hd
  iapply Hk
  isplitl [Hc]; · iexact Hc
  isplitl [He]; · iexact He
  iexact Hd

theorem run_trip4 (c : Dev nD) (d : List Due) (ha : Above 2 d) (k : Fin 8) (v2 : BitVec 32) (R : sProp 𝕄) (u : Unit) :
    expSt X K c d k.val R ⊢ run c (onBufs (k0_t4_body (F := F)) v2 (tr4 k) u) (fun _ => expSt X K c d (k.val + 1) R) := by
  have hst : expSt X K c d k.val R ⊢ waitSt X K c 1 d (offs.map fun o => (k, o))
      iprop(sepL (offs.map fun o => (k, o)) (wB X c 1) ∗ cPts c (cSet k 0) (X.C1 c) ∗ (∃ f, dPts c (dRow k) f) ∗ slots c k.val
        ∗ sepL (eight.drop (k.val + 1)) (wT X c) ∗ sepL (eight.drop (k.val + 1)) (kA X c) ∗ (sepL (eight.drop k.val) (kB X c) -∗ R)) := by
    refine BIBase.Entails.trans ?_ (waitSt_start X K c 1 d _ _)
    unfold expSt
    rw [sepL_map, drop_eight k, sepL_cons]
    unfold kA
    iintro ⟨#HR, HO, HE, HT, ⟨⟨Hd, Hc, HA⟩, HL⟩, HW⟩
    isplitr; · iexact HR
    isplitl [HO]; · iexact HO
    isplitl [HA]; · iexact HA
    isplitl [Hc]; · iexact Hc
    isplitl [Hd]; · iexact Hd
    isplitl [HE]; · iexact HE
    isplitl [HT]; · iexact HT
    isplitl [HL]; · iexact HL
    iexact HW
  refine hst.trans ?_
  have hl : (offs.map fun o => (k, o)) = [(k, 1), (k, 2), (k, 3), (k, 4), (k, 5), (k, 6), (k, 7)] := rfl
  rw [hl]
  have hn : k.val < 8 := k.isLt
  have hgo : ∀ {α : Type} {Q : α → sProp 𝕄} {p : Prog (TpuEff nD τ sig (Elt F) Λ₀ .tc) α} {S : sProp 𝕄}, (iprop(recs X K ∗ ow c d ∗ S) ⊢ run c p Q) →
      waitSt X K c 1 d [] S ⊢ run c p Q := fun h => (waitSt_done X K c 1 d _).trans h
  by_cases hc : k0_cond2 (tr4 k) = 1#1
  · have hk : k.val + 1 < 8 := (cond2_iff k).mp hc
    simp only [onBufs, k0_t4_body, k0_part6_eq_skeleton, k0_part6_skel, k0_part7_eq_skeleton, k0_part7_skel, dif_pos hc, Prog.lift, bind_assoc, pure_bind, Prog.bind_op,
      Prog.bind_ret, Prog.pure_eq_ret]
    refine pass_wait X K k 1 ha (semAt_eq 1 k 1 (k0_off29_eq _)) (cV_credit _ _) (by decide) (le_refl 2) ?_
    refine pass_wait X K k 2 ha (semAt_eq 1 k 2 (k0_off31_eq _)) (cV_credit _ _) (by decide) (le_refl 2) ?_
    refine pass_wait X K k 3 ha (semAt_eq 1 k 3 (k0_off33_eq _)) (cV_credit _ _) (by decide) (le_refl 2) ?_
    refine pass_wait X K k 4 ha (semAt_eq 1 k 4 (k0_off35_eq _)) (cV_credit _ _) (by decide) (le_refl 2) ?_
    refine pass_wait X K k 5 ha (semAt_eq 1 k 5 (k0_off37_eq _)) (cV_credit _ _) (by decide) (le_refl 2) ?_
    refine pass_wait X K k 6 ha (semAt_eq 1 k 6 (k0_off39_eq _)) (cV_credit _ _) (by decide) (le_refl 2) ?_
    refine pass_wait X K k 7 ha (semAt_eq 1 k 7 (k0_off41_eq _)) (cV_credit _ _) (by decide) (le_refl 2) ?_
    refine hgo ?_
    rw [← hl]
    have hslots : slots c k.val = (iprop(credC c (ew (sl k.val)) NW ∗ posC c (ew (sl k.val)) (k.val / 2)
        ∗ (∃ f, ePts c (eSet (sl (k.val + 1))) f) ∗ posC c (ew (sl (k.val + 1))) ((k.val + 1) / 2) ∗ reachC c (ew (sl (k.val + 1))) ((k.val + 1) / 2)) : sProp 𝕄) := by
      unfold slots; rw [if_pos hn]
    have hslots' : slots c (k.val + 1) = (iprop(credC c (ew (sl (k.val + 1))) NW ∗ posC c (ew (sl (k.val + 1))) ((k.val + 1) / 2)
        ∗ (∃ f, ePts c (eSet (sl k.val)) f) ∗ posC c (ew (sl k.val)) (k.val / 2 + 1) ∗ reachC c (ew (sl k.val)) (k.val / 2 + 1)) : sProp 𝕄) := by
      unfold slots; rw [if_pos hk, sl_two, half_two]
    have hw1 : sepL (eight.drop (k.val + 1)) (wT X c) = iprop((wPts c (wSet (expertOf (sl (k.val + 1)) ((k.val + 1) / 2))) (X.w c)
        ∗ tokC c (ew (sl (k.val + 1))) ((k.val + 1) / 2) 0) ∗ sepL (eight.drop (k.val + 1 + 1)) (wT X c)) := by
      have e := drop_eight ⟨k.val + 1, hk⟩
      have e' := expert_at ⟨k.val + 1, hk⟩
      refine (congrArg (fun l => sepL l (wT X c)) e).trans ((sepL_cons _ _ _).trans ?_)
      unfold wT
      rw [e']
    unfold expSt
    rw [hslots, hslots', hw1, drop_eight k, sepL_cons]
    iintro ⟨#HR, HO, HB, Hc0, Hd, ⟨Hcr, Hp, He', Hp', Hre'⟩, ⟨⟨Hw', Ht'⟩, HT⟩, HL, HW⟩
    ihave HC := (Entails.of_eq (landed X c k)) $$ [Hc0 HB]
    · isplitl [Hc0]; · iexact Hc0
      iexact HB
    icases HC with ⟨HP, Hc⟩
    iapply (wait_ew X K c k (ha.mono (Nat.zero_le _)) (ewAt_eq (sl k.val) (k0_off43_eq (tr4 k))) (eV_credit _ _)) $$ [Hcr HO Hp]
    · isplitr; · iexact HR
      isplitl [Hcr]; · iexact Hcr
      isplitl [HO]; · iexact HO
      iexact Hp
    iintro ⟨HO, Hp, Hre, He, Hw⟩
    iapply (copyW X K c (sl (k.val + 1)) ((k.val + 1) / 2) (by omega) (ewAt_eq _ (off46_at k)) (off47_at k) (off48_at k hc)) $$ [He' Hw' Ht' Hre']
    · isplitr; · iexact HR
      isplitl [He']; · iexact He'
      isplitl [Hw']; · iexact Hw'
      isplitl [Ht']; · iexact Ht'
      iexact Hre'
    iintro Hcr'
    iapply (run_product X c k (k0_off49_eq (tr4 k)) (k0_off50_eq (tr4 k)) (k0_off51_eq (tr4 k)) (k0_off51_eq (tr4 k))) $$ [Hc He Hd]
    · isplitl [Hc]; · iexact Hc
      isplitl [He]; · iexact He
      iexact Hd
    iintro ⟨Hc, He, Hd⟩
    iapply (run_ret c)
    isplitr; · iexact HR
    isplitl [HO]; · iexact HO
    isplitl [Hcr' Hp' He Hp Hre]
    · isplitl [Hcr']; · iexact Hcr'
      isplitl [Hp']; · iexact Hp'
      isplitl [He]; · iexists _; iexact He
      isplitl [Hp]; · iexact Hp
      iexact Hre
    isplitl [HT]; · iexact HT
    isplitl [HL]; · iexact HL
    iintro HBL
    iapply HW
    isplitl [Hd Hc HP Hw]
    · unfold kB
      isplitl [Hd]; · iexact Hd
      isplitl [Hc]; · iexact Hc
      isplitl [HP]; · iexact HP
      iexact Hw
    iexact HBL
  · have hk : ¬ k.val + 1 < 8 := fun h => hc ((cond2_iff k).mpr h)
    simp only [onBufs, k0_t4_body, k0_part6_eq_skeleton, k0_part6_skel, k0_part7_eq_skeleton, k0_part7_skel, dif_neg hc, Prog.lift, bind_assoc, pure_bind, Prog.bind_op,
      Prog.bind_ret, Prog.pure_eq_ret]
    refine pass_wait X K k 1 ha (semAt_eq 1 k 1 (k0_off29_eq _)) (cV_credit _ _) (by decide) (le_refl 2) ?_
    refine pass_wait X K k 2 ha (semAt_eq 1 k 2 (k0_off31_eq _)) (cV_credit _ _) (by decide) (le_refl 2) ?_
    refine pass_wait X K k 3 ha (semAt_eq 1 k 3 (k0_off33_eq _)) (cV_credit _ _) (by decide) (le_refl 2) ?_
    refine pass_wait X K k 4 ha (semAt_eq 1 k 4 (k0_off35_eq _)) (cV_credit _ _) (by decide) (le_refl 2) ?_
    refine pass_wait X K k 5 ha (semAt_eq 1 k 5 (k0_off37_eq _)) (cV_credit _ _) (by decide) (le_refl 2) ?_
    refine pass_wait X K k 6 ha (semAt_eq 1 k 6 (k0_off39_eq _)) (cV_credit _ _) (by decide) (le_refl 2) ?_
    refine pass_wait X K k 7 ha (semAt_eq 1 k 7 (k0_off41_eq _)) (cV_credit _ _) (by decide) (le_refl 2) ?_
    refine hgo ?_
    rw [← hl]
    have hslots : slots c k.val = (iprop(credC c (ew (sl k.val)) NW ∗ posC c (ew (sl k.val)) (k.val / 2)
        ∗ (∃ f, ePts c (eSet (sl (k.val + 1))) f) ∗ posC c (ew (sl (k.val + 1))) ((k.val + 1) / 2) ∗ reachC c (ew (sl (k.val + 1))) ((k.val + 1) / 2)) : sProp 𝕄) := by
      unfold slots; rw [if_pos hn]
    have hslots' : slots c (k.val + 1) = (iprop((∃ f, ePts c (eSet (sl (k.val + 1))) f) ∗ posC c (ew (sl (k.val + 1))) ((k.val + 1) / 2)
        ∗ (∃ f, ePts c (eSet (sl k.val)) f) ∗ posC c (ew (sl k.val)) (k.val / 2 + 1) ∗ reachC c (ew (sl k.val)) (k.val / 2 + 1)) : sProp 𝕄) := by
      unfold slots; rw [if_neg hk, sl_two, half_two]
    have hw1 : eight.drop (k.val + 1 + 1) = eight.drop (k.val + 1) := by
      have : k.val = 7 := by omega
      rw [this]; rfl
    unfold expSt
    rw [hslots, hslots', hw1, drop_eight k, sepL_cons]
    iintro ⟨#HR, HO, HB, Hc0, Hd, ⟨Hcr, Hp, He', Hp', Hre'⟩, HT, HL, HW⟩
    ihave HC := (Entails.of_eq (landed X c k)) $$ [Hc0 HB]
    · isplitl [Hc0]; · iexact Hc0
      iexact HB
    icases HC with ⟨HP, Hc⟩
    iapply (wait_ew X K c k (ha.mono (Nat.zero_le _)) (ewAt_eq (sl k.val) (k0_off43_eq (tr4 k))) (eV_credit _ _)) $$ [Hcr HO Hp]
    · isplitr; · iexact HR
      isplitl [Hcr]; · iexact Hcr
      isplitl [HO]; · iexact HO
      iexact Hp
    iintro ⟨HO, Hp, Hre, He, Hw⟩
    iapply (run_product X c k (k0_off49_eq (tr4 k)) (k0_off50_eq (tr4 k)) (k0_off51_eq (tr4 k)) (k0_off51_eq (tr4 k))) $$ [Hc He Hd]
    · isplitl [Hc]; · iexact Hc
      isplitl [He]; · iexact He
      iexact Hd
    iintro ⟨Hc, He, Hd⟩
    iapply (run_ret c)
    isplitr; · iexact HR
    isplitl [HO]; · iexact HO
    isplitl [Hp' He' He Hp Hre]
    · isplitl [He']; · iexact He'
      isplitl [Hp']; · iexact Hp'
      isplitl [He]; · iexists _; iexact He
      isplitl [Hp]; · iexact Hp
      iexact Hre
    isplitl [HT]; · iexact HT
    isplitl [HL]; · iexact HL
    iintro HBL
    iapply HW
    isplitl [Hd Hc HP Hw]
    · unfold kB
      isplitl [Hd]; · iexact Hd
      isplitl [Hc]; · iexact Hc
      isplitl [HP]; · iexact HP
      iexact Hw
    iexact HBL

theorem run_experts (c : Dev nD) (d : List Due) (ha : Above 2 d) (v2 : BitVec 32)
    {α : Type} {Q : α → sProp 𝕄} {p : Unit → Prog (TpuEff nD τ sig (Elt F) Λ₀ .tc) α} :
    iprop(recs X K ∗ ow c d ∗ slots c 0 ∗ sepL offs (wT X c) ∗ sepL eight (kA X c))
      ⊢ iprop(((ow c d ∗ slots c 8 ∗ sepL eight (kB X c)) -∗ run c (p ⟨⟩) Q)
        -∗ run c (Scf.Loop.for k0_t4_loop k0_t4_ok () (onBufs (k0_t4_body (F := F)) v2) >>= p) Q) := by
  iintro ⟨#HR, HO, HE, HT, HA⟩ Hk
  iapply (Scf.wp_for_bind _ _ _ k0_t4_loop.lb k0_t4_loop.ub k0_t4_loop.st k0_t4_ok () (onBufs (k0_t4_body (F := F)) v2)
    (fun n _ => expSt X K c d n (sepL eight (kB X c))) (by
      intro t u
      obtain ⟨k, rfl⟩ := tr4_surj t
      exact run_trip4 X K c d ha k v2 _ u)) $$ [HO HE HT HA]
  · unfold expSt
    isplitr; · iexact HR
    isplitl [HO]; · iexact HO
    isplitl [HE]; · iexact HE
    isplitl [HT]; · iexact HT
    isplitl [HA]; · iexact HA
    iintro HB
    iexact HB
  iintro %u HS
  have e : expSt X K c d (Scf.trips k0_t4_loop.lb k0_t4_loop.ub k0_t4_loop.st) (sepL eight (kB X c))
      = iprop(recs X K ∗ ow c d ∗ slots c 8 ∗ emp ∗ emp ∗ (emp -∗ sepL eight (kB X c))) := by
    have h8 : Scf.trips k0_t4_loop.lb k0_t4_loop.ub k0_t4_loop.st = 8 := t4_trips
    rw [h8]; rfl
  ihave HS := (Entails.of_eq e) $$ HS
  icases HS with ⟨-, HO, HE, -, HN, HW⟩
  iapply Hk
  isplitl [HO]; · iexact HO
  isplitl [HE]; · iexact HE
  iapply HW
  iexact HN

end Cert.Exchange

end
-- ==== Proof.Middle.lean ====
module

public import proofs.«01_k».proof.Proof.Combine
public import proofs.«01_k».proof.Proof.Experts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp F) (K : Dev nD × CI → ℕ)

/-! ## The second buffer's own slab -/

/-- A piece of the row buffer loaded and written into its own slot. -/
theorem pass_piece {c : Dev nD} {l : List (Fin 8)} {R : sProp 𝕄} (k : Fin 8)
    {offd : Fin 3 → ℕ} {off off' : Fin 4 → ℕ} {inbd inb inb'} (hd : offd = ![k.val, 64 * (0 : Fin 8).val, 0])
    (h : off = ![(0 : Fin 8).val, k.val, 0, 0]) (h' : off' = ![(0 : Fin 8).val, k.val, 0, 0])
    (w : Vec F S1x64x1024 .bf16 → Vec F S1x1x64x1024 .bf16) (hw : ∀ v i j, w v (ix4 0 0 i j) = v (ix3 0 i j)) {hld hl hx hm}
    {α : Type} {Q : α → sProp 𝕄} {p : Vec F S1x64x1024 .bf16 → Vec F S1x1x64x1024 .bf16 → PUnit → Prog (TpuEff nD τ sig (Elt F) Λ₀ .tc) α}
    (hp : ∀ v v', iprop(dPts c Finset.univ (X.D2 c) ∗ fillSt c (fun k => cSet 0 k) (X.C2 c) l R) ⊢ run c (p v v' ⟨⟩) Q) :
    iprop(dPts c Finset.univ (X.D2 c) ∗ fillSt c (fun k => cSet 0 k) (X.C2 c) (k :: l) R)
      ⊢ run c (.op (.load dM (Rect.unit (s := S8x512x1024) offd S1x64x1024.size inbd).toLoadRect hld) fun v =>
        .op (.load cM (Rect.unit (s := S8x8x64x1024) off S1x1x64x1024.size inb).toLoadRect hl) fun v' =>
        .op (.store cM (Rect.unit (s := S8x8x64x1024) off' S1x1x64x1024.size inb') (w v) Finset.univ hx hm) (p v v')) Q := by
  unfold fillSt at hp ⊢
  rw [sepL_cons, sepL_cons]
  iintro ⟨Hd, ⟨⟨%f, Hf⟩, HL⟩, HW⟩
  iapply (load_dpiece c k 0 (Finset.subset_univ _) hd) $$ Hd
  iintro Hd
  iapply (load_cslot c 0 k h) $$ Hf
  iintro Hf
  iapply (store_cslot c 0 k h' (X.C2 c) (fun i j => (C2_own X c k i j).trans (hw (fun x => X.D2 c (ix3 k (at64 0 (x 1)) (x 2))) i j).symm)) $$ Hf
  iintro Hf
  iapply (hp _ _)
  isplitl [Hd]; · iexact Hd
  isplitl [HL]; · iexact HL
  iintro HB
  iapply HW
  isplitl [Hf]; · iexact Hf
  iexact HB

theorem fillSt_frame {c : Dev nD} {σ : Fin 8 → Finset S8x8x64x1024.Idx} {g : Vec F S8x8x64x1024 .bf16} {P R S : sProp 𝕄} (h : iprop(P ∗ R) ⊢ S) :
    iprop(P ∗ fillSt c σ g [] R) ⊢ S := by
  refine BIBase.Entails.trans ?_ h
  iintro ⟨HP, HF⟩
  isplitl [HP]; · iexact HP
  iapply (fillSt_done (BIBase.Entails.refl (P := R)))
  iexact HF

theorem pay25_at (v : Vec F S1x64x1024 .bf16) (i j) : k0_pay25 v (ix4 0 0 i j) = v (ix3 0 i j) := piece_cast v _ _ i j
theorem pay26_at (v : Vec F S1x64x1024 .bf16) (i j) : k0_pay26 v (ix4 0 0 i j) = v (ix3 0 i j) := piece_cast v _ _ i j
theorem pay27_at (v : Vec F S1x64x1024 .bf16) (i j) : k0_pay27 v (ix4 0 0 i j) = v (ix3 0 i j) := piece_cast v _ _ i j
theorem pay28_at (v : Vec F S1x64x1024 .bf16) (i j) : k0_pay28 v (ix4 0 0 i j) = v (ix3 0 i j) := piece_cast v _ _ i j
theorem pay29_at (v : Vec F S1x64x1024 .bf16) (i j) : k0_pay29 v (ix4 0 0 i j) = v (ix3 0 i j) := piece_cast v _ _ i j
theorem pay30_at (v : Vec F S1x64x1024 .bf16) (i j) : k0_pay30 v (ix4 0 0 i j) = v (ix3 0 i j) := piece_cast v _ _ i j
theorem pay32_at (v : Vec F S1x64x1024 .bf16) (i j) : k0_pay32 (k0_pay31 v) (ix4 0 0 i j) = v (ix3 0 i j) := piece_cast v _ _ i j
theorem pay33_at (v : Vec F S1x64x1024 .bf16) (i j) : k0_pay33 v (ix4 0 0 i j) = v (ix3 0 i j) := piece_cast v _ _ i j

/-! ## Telling the others that the second buffer is free -/

def rdySt (c : Dev nD) (d : List Due) (l : List (Fin 8)) (R : sProp 𝕄) : sProp 𝕄 :=
  iprop(recs X K ∗ ow c (l.map (rdyDue c) ++ d) ∗ sepL l (fun o => iprop(tokC (fwd c o) rdy 0 o ∗ rdyPay (F := F) (fwd c o) o)) ∗ R)

theorem pass_rdy {c n : Dev nD} {d : List Due} {l : List (Fin 8)} {R : sProp 𝕄} (o : Fin 8) (hn : n = fwd c o) (ho : o ≠ 0)
    {α : Type} {Q : α → sProp 𝕄} {p : PUnit → Prog (TpuEff nD τ sig (Elt F) Λ₀ .tc) α} (hp : rdySt X K c d l R ⊢ run c (p ⟨⟩) Q) :
    rdySt X K c d (o :: l) R ⊢ run c (.op (.semSignal (n : Thread nD τ) rdyS 1) p) Q := by
  subst hn
  unfold rdySt at hp ⊢
  rw [sepL_cons]
  show iprop(recs X K ∗ ow c ((kcell (fwd c o, rdy), 1) :: (l.map (rdyDue c) ++ d)) ∗ ((tokC (fwd c o) rdy 0 o ∗ payK X (fwd c o) rdy 0 o) ∗ _) ∗ _) ⊢ _
  iintro ⟨#HR, HO, ⟨⟨Ht, Hb⟩, HL⟩, H⟩
  iapply (signal_cell X K c (fwd c o) rdy rdyS rfl o (by
    show o ∈ Finset.univ.erase 0
    exact Finset.mem_erase.mpr ⟨ho, Finset.mem_univ _⟩) rfl) $$ [HO Ht Hb]
  · isplitr; · iexact HR
    isplitl [HO]; · iexact HO
    isplitl [Ht]; · iexact Ht
    iexact Hb
  iintro HO
  iapply hp
  isplitr; · iexact HR
  isplitl [HO]; · iexact HO
  isplitl [HL]; · iexact HL
  iexact H

theorem pass_rdy_wait {c : Dev nD} {d : List Due} {R : sProp 𝕄} (ha : Above 3 d)
    {α : Type} {Q : α → sProp 𝕄} {p : PUnit → Prog (TpuEff nD τ sig (Elt F) Λ₀ .tc) α}
    (hp : iprop(recs X K ∗ ow c d ∗ posC c rdy 1 ∗ bigSep (Finset.univ.erase 0) (rdyPay (F := F) c) ∗ R) ⊢ run c (p ⟨⟩) Q) :
    rdySt X K c d [] iprop(credC c rdy 7 ∗ posC c rdy 0 ∗ R) ⊢ run c (.op (.semWait rdyS 7) p) Q := by
  unfold rdySt
  show iprop(recs X K ∗ ow c d ∗ _) ⊢ _
  iintro ⟨#HR, HO, -, Hc, Hp, H⟩
  iapply (wait_cell X K c rdy 0 (n := 3) (l := d) (k' := 7) (by decide) ha (fun _ => rfl) (by decide)) $$ [Hc HO Hp]
  · isplitr; · iexact HR
    isplitl [Hc]; · iexact Hc
    isplitl [HO]; · iexact HO
    iexact Hp
  iintro ⟨HO, Hp, -, HB⟩
  iapply hp
  isplitr; · iexact HR
  isplitl [HO]; · iexact HO
  isplitl [Hp]; · iexact Hp
  isplitl [HB]; · iexact HB
  iexact H

/-! ## Between the phases -/

/-- What the first exchange left, sorted by expert. -/
theorem sort_in (c : Dev nD) :
    iprop(sepL runL (wB X c 0) ∗ dPts c (dRow 0) (X.D1 c) ∗ sepL eight (fun k => cPts c (cSet k 0) (X.C1 c)) ∗ sepL runL (wA c 1))
      ⊢ iprop((sepL runL fun x => posC c (xf 0 x.1 x.2) 1) ∗ sepL eight (kA X c)) := by
  have e1 : sepL runL (wB X c 0) = iprop((sepL runL fun x => posC c (xf 0 x.1 x.2) 1) ∗ sepL offs fun o => dPts c (dRow o) (X.D1 c)) := by
    refine (sepL_sep _ _ _).trans (congrArg (fun P => iprop(_ ∗ P)) ((sepL_run _).trans (sepL_congr fun o _ => (dRow_cut c o (X.D1 c)).symm)))
  have e2 : sepL eight (kA X c) = iprop((sepL eight fun k => iprop(∃ f, dPts (F := F) c (dRow k) f)) ∗ sepL eight (fun k => cPts c (cSet k 0) (X.C1 c)) ∗ sepL runL (wA c 1)) := by
    refine (sepL_sep _ _ _).trans (congrArg (fun P => iprop(_ ∗ P)) ((sepL_sep _ _ _).trans (congrArg (fun P => iprop(_ ∗ P)) ?_)))
    exact (sepL_swap _ _ _).trans (sepL_run _).symm
  have e3 : iprop(dPts c (dRow 0) (X.D1 c) ∗ sepL offs fun o => dPts c (dRow o) (X.D1 c)) ⊢ sepL eight fun k => iprop(∃ f, dPts (F := F) c (dRow k) f) := by
    refine BIBase.Entails.trans (Q := sepL eight fun o => dPts c (dRow o) (X.D1 c)) .rfl (sepL_mono fun k _ => ?_)
    iintro H
    iexists (X.D1 c)
    iexact H
  rw [e1, e2]
  iintro ⟨⟨HP, HD⟩, H0, HC, HA⟩
  isplitl [HP]; · iexact HP
  isplitl [HD H0]
  · iapply e3
    isplitl [H0]; · iexact H0
    iexact HD
  isplitl [HC]; · iexact HC
  iexact HA

/-- What the experts left, buffer by buffer. -/
theorem sort_out (c : Dev nD) : sepL eight (kB X c)
    ⊢ iprop(dPts c Finset.univ (X.D2 c) ∗ (sepL eight fun k => iprop(∃ f, cPts (F := F) c (cSet 0 k) f))
      ∗ sepL offs (fun o => rdyPay (F := F) (fwd c o) o) ∗ (sepL runL fun x => posC c (xf 1 x.1 x.2) 1) ∗ wPts c Finset.univ (X.w c)) := by
  have e : sepL eight (kB X c) = iprop(dPts c Finset.univ (X.D2 c) ∗ (cPts c (cSlab 0) (X.C1 c) ∗ sepL offs fun k => cPts c (cSlab k) (X.C1 c))
      ∗ (sepL runL fun x => posC c (xf 1 x.1 x.2) 1) ∗ wPts c Finset.univ (X.w c)) := by
    rw [d_cut, w_cut, sepL_run]
    refine (sepL_sep _ _ _).trans (congrArg (fun P => iprop(_ ∗ P)) ((sepL_sep _ _ _).trans ?_))
    refine congr (congrArg _ (sepL_first _)) ((sepL_sep _ _ _).trans ?_)
    exact congrArg (fun P => iprop(P ∗ _)) (sepL_swap _ _ _)
  have h0 : cPts c (cSlab 0) (X.C1 c) ⊢ sepL eight fun k => iprop(∃ f, cPts (F := F) c (cSet 0 k) f) := by
    rw [cSlab_cut]
    refine sepL_mono fun k _ => ?_
    iintro H
    iexists (X.C1 c)
    iexact H
  have h1 : (sepL offs fun k => cPts c (cSlab k) (X.C1 c)) ⊢ sepL offs (fun o => rdyPay (F := F) (fwd c o) o) := by
    refine sepL_mono fun o _ => ?_
    unfold rdyPay
    rw [cSlab_cut, sepL_eight, bwd_fwd]
    refine sepL_mono fun k _ => ?_
    iintro H
    iexists (X.C1 c)
    iexact H
  rw [e]
  iintro ⟨HD, ⟨H0, H1⟩, HP, HW⟩
  isplitl [HD]; · iexact HD
  isplitl [H0]
  · iapply h0; iexact H0
  isplitl [H1]
  · iapply h1; iexact H1
  isplitl [HP]; · iexact HP
  iexact HW

/-- The middle of the kernel: the last two waits of the first exchange, the experts, the device's own results, and the signals to the others. -/
theorem run_middle (c : Dev nD) (R : sProp 𝕄) {α : Type} (Q : α → sProp 𝕄)
    (p : BitVec 32 → BitVec 1 → BitVec 32 → Prog (TpuEff nD τ sig (Elt F) Λ₀ .tc) α)
    (h : ∀ a b e, rdySt X K c (rrDues c offs) [7] iprop(credC c rdy 7 ∗ posC c rdy 0 ∗ dPts c Finset.univ (X.D2 c) ∗ cPts c (cSlab 0) (X.C2 c) ∗ slots c 8
      ∗ (sepL runL fun x => posC c (xf 0 x.1 x.2) 1) ∗ (sepL runL fun x => posC c (xf 1 x.1 x.2) 1) ∗ wPts c Finset.univ (X.w c) ∗ R) ⊢ run c (p a b e) Q) :
    waitSt X K c 0 (rdyDues c ++ rrDues c offs) [(6, 7), (7, 7)] iprop(sepL runL (wB X c 0) ∗ dPts c (dRow 0) (X.D1 c) ∗ slots c 0 ∗ sepL offs (wT X c)
      ∗ sepL eight (fun k => cPts c (cSet k 0) (X.C1 c)) ∗ sepL runL (wA c 1) ∗ (sepL offs fun o => tokC (fwd c o) rdy 0 o) ∗ credC c rdy 7 ∗ posC c rdy 0 ∗ R)
      ⊢ run c (do
        let v574 : FVec F S1x1x64x1024 .bf16 ← onBufs (k0_part34 (F := F)) (ringNo c)
        let v596 : FVec F S64x1024 .bf16 ← onBufs (k0_part35 (F := F)) v574
        let ⟨v621, v626, v627⟩ : Σ' (v621 : BitVec 32) (v626 : BitVec 1), BitVec 32 ← onBufs (k0_part36 (F := F)) c (ringNo c) v596
        let ⟨v657, c8_i32_901, v658⟩ : Σ' (v657 : BitVec 32) (c8_i32_901 : BitVec 32), BitVec 1 ← onBufs (k0_part37 (F := F)) c (ringNo c) v621 v626 v627
        let ⟨v686, v691, v692⟩ : Σ' (v686 : BitVec 32) (v691 : BitVec 1), BitVec 32 ← onBufs (k0_part38 (F := F)) c (ringNo c) v657 c8_i32_901 v658
        p v686 v691 v692) Q := by
  have ha : Above 2 (rdyDues c ++ rrDues c offs) := (above_rdy c).append ((above_rr c offs).mono (by decide))
  have ha0 : Above 0 (rdyDues c ++ rrDues c offs) := ha.mono (by decide)
  simp only [onBufs, k0_part34_eq_skeleton, k0_part34_skel, k0_part35_eq_skeleton, k0_part35_skel, k0_part36_eq_skeleton, k0_part36_skel, k0_part37_eq_skeleton, k0_part37_skel,
    k0_part38_eq_skeleton, k0_part38_skel, semSignalWord, Prog.lift, bind_assoc, pure_bind, Prog.bind_op, Prog.bind_ret, Prog.pure_eq_ret]
  refine pass_wait X K 6 7 ha0 (semAt_eq 0 6 7 rfl) (dV_credit _ _) (by decide) (by decide) ?_
  refine pass_wait X K 7 7 ha0 (semAt_eq 0 7 7 rfl) (dV_credit _ _) (by decide) (by decide) ?_
  refine (waitSt_done X K c 0 _ _).trans ?_
  iintro ⟨#HR, HO, HB, H0, HE, HT, HC, HA, Htok, Hcr, Hpos, H⟩
  ihave HS := (sort_in X c) $$ [HB H0 HC HA]
  · isplitl [HB]; · iexact HB
    isplitl [H0]; · iexact H0
    isplitl [HC]; · iexact HC
    iexact HA
  icases HS with ⟨HP0, HA⟩
  iapply (run_experts X K c _ ha (ringNo c)) $$ [HO HE HT HA]
  · isplitr; · iexact HR
    isplitl [HO]; · iexact HO
    isplitl [HE]; · iexact HE
    isplitl [HT]; · iexact HT
    iexact HA
  iintro ⟨HO, HE, HB⟩
  ihave HB := (sort_out X c) $$ HB
  icases HB with ⟨HD, HF, Hpay, HP1, HW⟩
  iapply (run_from (iprop(dPts c Finset.univ (X.D2 c) ∗ fillSt c (fun k => cSet 0 k) (X.C2 c) eight iprop((sepL eight fun k => cPts c (cSet 0 k) (X.C2 c))
      ∗ recs X K ∗ ow c (rdyDues c ++ rrDues c offs) ∗ (sepL offs fun o => tokC (fwd c o) rdy 0 o) ∗ sepL offs (fun o => rdyPay (F := F) (fwd c o) o)
      ∗ credC c rdy 7 ∗ posC c rdy 0 ∗ slots c 8
      ∗ (sepL runL fun x => posC c (xf 0 x.1 x.2) 1) ∗ (sepL runL fun x => posC c (xf 1 x.1 x.2) 1) ∗ wPts c Finset.univ (X.w c) ∗ R))) (by
    refine pass_piece X 0 rfl rfl rfl k0_pay25 pay25_at fun _ _ => ?_
    refine pass_piece X 1 rfl rfl rfl k0_pay26 pay26_at fun _ _ => ?_
    refine pass_piece X 2 rfl rfl rfl k0_pay27 pay27_at fun _ _ => ?_
    refine pass_piece X 3 rfl rfl rfl k0_pay28 pay28_at fun _ _ => ?_
    refine pass_piece X 4 rfl rfl rfl k0_pay29 pay29_at fun _ _ => ?_
    refine pass_piece X 5 rfl rfl rfl k0_pay30 pay30_at fun _ _ => ?_
    refine pass_piece X 6 rfl rfl rfl (fun v => k0_pay32 (k0_pay31 v)) pay32_at fun _ _ => ?_
    refine pass_piece X 7 rfl rfl rfl k0_pay33 pay33_at fun _ _ => ?_
    refine BIBase.Entails.trans (Q := rdySt X K c (rrDues c offs) offs iprop(credC c rdy 7 ∗ posC c rdy 0 ∗ dPts c Finset.univ (X.D2 c) ∗ cPts c (cSlab 0) (X.C2 c) ∗ slots c 8
      ∗ (sepL runL fun x => posC c (xf 0 x.1 x.2) 1) ∗ (sepL runL fun x => posC c (xf 1 x.1 x.2) 1) ∗ wPts c Finset.univ (X.w c) ∗ R)) ?_ ?_
    · unfold rdySt
      rw [sepL_sep, cSlab_cut]
      refine fillSt_frame ?_
      iintro ⟨HD, HC, #HR, HO, Htok, Hpay, Hcr, Hpos, HE, HP0, HP1, HW, H⟩
      isplitr; · iexact HR
      isplitl [HO]; · iexact HO
      isplitl [Htok Hpay]
      · isplitl [Htok]; · iexact Htok
        iexact Hpay
      isplitl [Hcr]; · iexact Hcr
      isplitl [Hpos]; · iexact Hpos
      isplitl [HD]; · iexact HD
      isplitl [HC]; · iexact HC
      isplitl [HE]; · iexact HE
      isplitl [HP0]; · iexact HP0
      isplitl [HP1]; · iexact HP1
      isplitl [HW]; · iexact HW
      iexact H
    · iterate 6 refine pass_rdy X K _ (by clear * -; revert c; decide +kernel) (by decide) ?_
      exact h _ _ _))
  isplitl [HD]; · iexact HD
  unfold fillSt
  isplitl [HF]; · iexact HF
  iintro HC
  isplitl [HC]; · iexact HC
  isplitr; · iexact HR
  isplitl [HO]; · iexact HO
  isplitl [Htok]; · iexact Htok
  isplitl [Hpay]; · iexact Hpay
  isplitl [Hcr]; · iexact Hcr
  isplitl [Hpos]; · iexact Hpos
  isplitl [HE]; · iexact HE
  isplitl [HP0]; · iexact HP0
  isplitl [HP1]; · iexact HP1
  isplitl [HW]; · iexact HW
  iexact H

end Cert.Exchange

end
-- ==== Proof.Body.lean ====
module

public import proofs.«01_k».proof.Proof.Middle

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp F) (K : Dev nD × CI → ℕ)

theorem run_bind (c : Dev nD) {α β : Type} {Q : β → sProp 𝕄} (a : Prog (TpuEff nD τ sig (Elt F) Λ₀ .tc) α) (k : α → Prog (TpuEff nD τ sig (Elt F) Λ₀ .tc) β) :
    run c (a >>= k) Q = run c a fun r => run c (k r) Q := by
  unfold run
  rw [wp_bind]

/-! ## What each phase starts from -/

/-- The buffers nobody else touches and the position of the barrier cell. -/
def keep (c : Dev nD) : sProp 𝕄 :=
  iprop(xP c (X.x c) ∗ rP c (X.r c) ∗ iP c (X.i c) ∗ sP c (X.s c) ∗ xsP c (X.xs c) ∗ posC c bar 1)
/-- For the return: the tokens, the credits and positions of the arrivals, the positions of the departures. -/
def forReturn (c : Dev nD) : sProp 𝕄 :=
  iprop((sepL runL fun x => iprop(tokC c (xf 2 x.1 x.2) 0 0 ∗ tokC (bwd c x.2) (xf 3 x.1 x.2) 0 0)) ∗ sepL runL (wA c 3) ∗ sepL runL fun x => posC c (xf 2 x.1 x.2) 0)
/-- For the experts and the signals after them. -/
def forExperts (c : Dev nD) : sProp 𝕄 :=
  iprop((posC c (ew 0) 0 ∗ (∃ f, ePts c (eSet 1) f) ∗ posC c (ew 1) 0) ∗ sepL offs (wT X c) ∗ sepL runL (wA c 1)
    ∗ (sepL offs fun o => tokC (fwd c o) rdy 0 o) ∗ credC c rdy 7 ∗ posC c rdy 0)
/-- For the preparation. -/
def forPrep (c : Dev nD) : sProp 𝕄 :=
  iprop((xP c (X.x c) ∗ rP c (X.r c) ∗ iP c (X.i c) ∗ sP c (X.s c)) ∗ ((∃ f, oP c f) ∗ (∃ f, dsP c f) ∗ (∃ f, xsP c f))
    ∗ ((∃ f, ePts c (eSet 0) f) ∗ wPts c (wSet (expertOf 0 0)) (X.w c) ∗ tokC c (ew 0) 0 0)
    ∗ (sepL eight fun o => iprop(∃ f, dPts (F := F) c (dRow o) f))
    ∗ (sepL runL fun x => iprop(tokC c (xf 0 x.1 x.2) 0 0 ∗ tokC (fwd c x.2) (xf 1 x.1 x.2) 0 0))
    ∗ sepL eight (fun k => iprop(∃ f, cPts c (cSet k 0) f)))
def startSt (c : Dev nD) : sProp 𝕄 :=
  barSt X K c (drDues c offs ++ (rdyDues c ++ rrDues c offs)) offsDown
    iprop(credC c bar 7 ∗ posC c bar 0 ∗ forPrep X c ∗ (sepL runL fun x => posC c (xf 0 x.1 x.2) 0) ∗ forExperts X c ∗ forReturn c)
/-- After the waits of the first exchange and the experts: what is done with. -/
def spent (c : Dev nD) : sProp 𝕄 :=
  iprop(slots c 8 ∗ (sepL runL fun x => posC c (xf 0 x.1 x.2) 1) ∗ (sepL runL fun x => posC c (xf 1 x.1 x.2) 1) ∗ wPts c Finset.univ (X.w c))
def endSt (c : Dev nD) : sProp 𝕄 :=
  iprop(recs X K ∗ ow c [] ∗ keep X c ∗ dsP c (X.ds c) ∗ oP c (X.out c 8) ∗ spent X c ∗ posC c rdy 1 ∗ dPts c Finset.univ (X.D2 c) ∗ cPts c Finset.univ (X.C2 c)
    ∗ (sepL runL fun x => posC c (xf 2 x.1 x.2) 1) ∗ sepL runL fun x => posC c (xf 3 x.1 x.2) 1)

/-- From the greeting to the preparation: the slots of the others come with the barrier. -/
theorem to_prep (c : Dev nD) (d : List Due) (R : sProp 𝕄) :
    iprop(recs X K ∗ ow c d ∗ posC c bar 1 ∗ bigSep (Finset.univ.erase 0) (barPay (F := F) c) ∗ forPrep X c ∗ R)
      ⊢ iprop(recs X K ∗ ow c d ∗ xP c (X.x c) ∗ rP c (X.r c) ∗ iP c (X.i c) ∗ sP c (X.s c)
      ∗ (∃ f, oP c f) ∗ (∃ f, dsP c f) ∗ (∃ f, xsP c f)
      ∗ ((∃ f, ePts c (eSet 0) f) ∗ wPts c (wSet (expertOf 0 0)) (X.w c) ∗ tokC c (ew 0) 0 0)
      ∗ sepL eight (rA c) ∗ sepL eight (fun k => iprop(∃ f, cPts c (cSet k 0) f)) ∗ posC c bar 1 ∗ R) := by
  have e : sepL eight (rA (F := F) c) = iprop((sepL eight fun o => iprop(∃ f, dPts (F := F) c (dRow o) f)) ∗ bigSep (Finset.univ.erase 0) (barPay (F := F) c)
      ∗ sepL runL fun x => iprop(tokC c (xf 0 x.1 x.2) 0 0 ∗ tokC (fwd c x.2) (xf 1 x.1 x.2) 0 0)) := by
    have e0 : (sepL eight fun o => if o = 0 then (iprop(emp) : sProp 𝕄) else sepL eight fun k =>
        iprop((∃ f, cPts (F := F) (fwd c o) (cSet k o) f) ∗ tokC c (xf 0 k o) 0 0 ∗ tokC (fwd c o) (xf 1 k o) 0 0))
        = iprop(bigSep (Finset.univ.erase 0) (barPay (F := F) c) ∗ sepL runL fun x => iprop(tokC c (xf 0 x.1 x.2) 0 0 ∗ tokC (fwd c x.2) (xf 1 x.1 x.2) 0 0)) := by
      rw [sepL_first, if_pos rfl, sepE, sepL_offs, sepL_run, ← sepL_sep]
      refine sepL_congr fun o ho => ?_
      rw [if_neg (fun h => absurd (h ▸ ho) (by decide))]
      unfold barPay
      rw [sepL_eight, ← sepL_sep]
    rw [← e0]
    exact sepL_sep _ _ _
  rw [e]
  unfold forPrep
  iintro ⟨#HR, HO, Hpos, HB, ⟨⟨Hx, Hr, Hi, Hs⟩, ⟨Ho, Hd, Hxs⟩, HE, HD, HT, HC⟩, H⟩
  isplitr; · iexact HR
  isplitl [HO]; · iexact HO
  isplitl [Hx]; · iexact Hx
  isplitl [Hr]; · iexact Hr
  isplitl [Hi]; · iexact Hi
  isplitl [Hs]; · iexact Hs
  isplitl [Ho]; · iexact Ho
  isplitl [Hd]; · iexact Hd
  isplitl [Hxs]; · iexact Hxs
  isplitl [HE]; · iexact HE
  isplitl [HD HB HT]
  · isplitl [HD]; · iexact HD
    isplitl [HB]; · iexact HB
    iexact HT
  isplitl [HC]; · iexact HC
  isplitl [Hpos]; · iexact Hpos
  iexact H

/-- From the preparation to the waits of the first exchange. -/
theorem to_waits (c : Dev nD) (d : List Due) (R : sProp 𝕄) :
    iprop(recs X K ∗ ow c d ∗ xP c (X.x c) ∗ rP c (X.r c) ∗ iP c (X.i c) ∗ sP c (X.s c) ∗ oP c (X.out c 0) ∗ dsP c (X.ds c) ∗ xsP c (X.xs c)
      ∗ credC c (ew 0) NW ∗ sepL eight (rB X c) ∗ sepL eight (fun k => cPts c (cSet k 0) (X.C1 c))
      ∗ posC c bar 1 ∗ (sepL runL fun x => posC c (xf 0 x.1 x.2) 0) ∗ forExperts X c ∗ R)
      ⊢ waitSt X K c 0 d runL iprop(sepL runL (wB X c 0) ∗ dPts c (dRow 0) (X.D1 c) ∗ slots c 0 ∗ sepL offs (wT X c)
      ∗ sepL eight (fun k => cPts c (cSet k 0) (X.C1 c)) ∗ sepL runL (wA c 1) ∗ (sepL offs fun o => tokC (fwd c o) rdy 0 o) ∗ credC c rdy 7 ∗ posC c rdy 0
      ∗ keep X c ∗ oP c (X.out c 0) ∗ dsP c (X.ds c) ∗ R) := by
  refine BIBase.Entails.trans ?_ (waitSt_start X K c 0 d runL _)
  have e : sepL eight (rB X c) = iprop(dPts c (dRow 0) (X.D1 c) ∗ sepL runL fun x => credC c (xf 0 x.1 x.2) NX) := by
    rw [sepL_first, sepL_run]
    refine congr (congrArg _ (if_pos rfl)) (sepL_congr fun o ho => ?_)
    exact if_neg (fun h => absurd (h ▸ ho) (by decide))
  have e2 : sepL runL (wA (F := F) c 0) = iprop((sepL runL fun x => credC c (xf 0 x.1 x.2) NX) ∗ sepL runL fun x => posC c (xf 0 x.1 x.2) 0) := sepL_sep _ _ _
  rw [e, e2]
  unfold forExperts keep slots
  rw [if_pos (by decide)]
  iintro ⟨#HR, HO, Hx, Hr, Hi, Hs, Ho, Hd, Hxs, Hew, ⟨H0, HC0⟩, HC, Hbar, HP, ⟨⟨Hp0, He1, Hp1⟩, HT, HA, Htok, Hcr, Hpos⟩, H⟩
  ihave Hre := (recs_reached X K (c, ew 1)) $$ HR
  isplitr; · iexact HR
  isplitl [HO]; · iexact HO
  isplitl [HC0 HP]
  · isplitl [HC0]; · iexact HC0
    iexact HP
  isplitl [H0]; · iexact H0
  isplitl [Hew Hp0 He1 Hp1 Hre]
  · isplitl [Hew]; · iexact Hew
    isplitl [Hp0]; · iexact Hp0
    isplitl [He1]; · iexact He1
    isplitl [Hp1]; · iexact Hp1
    iexact Hre
  isplitl [HT]; · iexact HT
  isplitl [HC]; · iexact HC
  isplitl [HA]; · iexact HA
  isplitl [Htok]; · iexact Htok
  isplitl [Hcr]; · iexact Hcr
  isplitl [Hpos]; · iexact Hpos
  isplitl [Hx Hr Hi Hs Hxs Hbar]
  · isplitl [Hx]; · iexact Hx
    isplitl [Hr]; · iexact Hr
    isplitl [Hi]; · iexact Hi
    isplitl [Hs]; · iexact Hs
    isplitl [Hxs]; · iexact Hxs
    iexact Hbar
  isplitl [Ho]; · iexact Ho
  isplitl [Hd]; · iexact Hd
  iexact H

/-- The rows of results, the device's own pieces apart. -/
theorem results (c : Dev nD) : dPts c Finset.univ (X.D2 c)
    = iprop((sepL eight fun k => dPts c (dSet k 0) (X.D2 c)) ∗ sepL runL fun x => dPts c (dSet x.1 x.2) (X.D2 c)) := by
  rw [d_cut, sepL_run]
  have e : (sepL eight fun o => dPts c (dRow o) (X.D2 c)) = sepL eight fun k => iprop(dPts c (dSet k 0) (X.D2 c) ∗ sepL offs fun o => dPts c (dSet k o) (X.D2 c)) :=
    sepL_congr fun k _ => (dRow_cut c k (X.D2 c)).trans (sepL_first _)
  rw [e, sepL_sep]
  exact congrArg (fun P => iprop(_ ∗ P)) (sepL_swap _ _ _)

/-- From the ready signals to the return's sends. -/
theorem to_sends (c : Dev nD) (R : sProp 𝕄) :
    iprop(recs X K ∗ ow c (rrDues c offs) ∗ posC c rdy 1 ∗ bigSep (Finset.univ.erase 0) (rdyPay (F := F) c) ∗ dPts c Finset.univ (X.D2 c) ∗ forReturn (F := F) c ∗ R)
      ⊢ sendSt X K c [] runL iprop((sepL runL fun x => credC c (xf 2 x.1 x.2) NX) ∗ posC c rdy 1 ∗ (sepL eight fun k => dPts c (dSet k 0) (X.D2 c))
        ∗ sepL runL (wA c 3) ∗ (sepL runL fun x => posC c (xf 2 x.1 x.2) 0) ∗ R) := by
  refine BIBase.Entails.trans ?_ (sendSt_start X K c [] runL _)
  have e : (sepL runL fun x => sA2 X c x.1 x.2) = iprop((sepL runL fun x => dPts c (dSet x.1 x.2) (X.D2 c)) ∗ bigSep (Finset.univ.erase 0) (rdyPay (F := F) c)
      ∗ sepL runL fun x => iprop(tokC c (xf 2 x.1 x.2) 0 0 ∗ tokC (bwd c x.2) (xf 3 x.1 x.2) 0 0)) := by
    refine (sepL_sep _ _ _).trans (congrArg (fun P => iprop(_ ∗ P)) ((sepL_sep _ _ _).trans (congrArg (fun P => iprop(P ∗ _)) ?_)))
    rw [sepL_offs, sepL_run]
    refine sepL_congr fun o _ => ?_
    unfold rdyPay
    rw [sepL_eight]
  have ed : runL.map (fun x => rrDue c x.2 x.1) ++ [] = rrDues c offs := rfl
  rw [e, ed, results]
  unfold forReturn
  iintro ⟨#HR, HO, Hpos, HB, ⟨HD0, HD⟩, ⟨HT, HA, HP⟩, H⟩
  isplitr; · iexact HR
  isplitl [HO]; · iexact HO
  isplitl [HD HB HT]
  · isplitl [HD]; · iexact HD
    isplitl [HB]; · iexact HB
    iexact HT
  isplitl [Hpos]; · iexact Hpos
  isplitl [HD0]; · iexact HD0
  isplitl [HA]; · iexact HA
  isplitl [HP]; · iexact HP
  iexact H

/-! ## The kernel's first part, phase by phase -/

noncomputable def from39 (d0 : Dev nD) (v2 : BitVec 32) (v686 : BitVec 32) (v691 : BitVec 1) (v692 : BitVec 32) : Prog (TpuEff nD τ sig (Elt F) Λ₀ .tc) (Σ' (_ : Dev nD) (_ : BitVec 32), BitVec 32) := do
      let ⟨v719, v720⟩ : Σ' (v719 : BitVec 32), BitVec 32 ← onBufs (k0_part39 (F := F)) d0 v2 v686 v691 v692
      let ⟨v748, c1_i32_986⟩ : Σ' (v748 : BitVec 32), BitVec 32 ← onBufs (k0_part40 (F := F)) d0 v2 v719 v720
      let v780 : BitVec 32 ← onBufs (k0_part41 (F := F)) d0 v2 v748 c1_i32_986
      let v811 : BitVec 32 ← onBufs (k0_part42 (F := F)) d0 v2 v780
      onBufs (k0_part43 (F := F)) d0 v2 v811
      let ⟨v866, v867, v868, v869, v870⟩ : Σ' (v866 : BitVec 32) (v867 : BitVec 32) (v868 : BitVec 1) (v869 : BitVec 1), BitVec 1 ← onBufs (k0_part44 (F := F)) d0 v2
      onBufs (k0_part45 (F := F)) d0 v2 v866 v867 v868 v869 v870
      let ⟨v929, v930⟩ : Σ' (v929 : BitVec 32), BitVec 32 ← onBufs (k0_part46 (F := F)) d0 v2
      let ⟨v958, c1_i32_1186⟩ : Σ' (v958 : BitVec 32), BitVec 32 ← onBufs (k0_part47 (F := F)) d0 v2 v929 v930
      let v990 : BitVec 32 ← onBufs (k0_part48 (F := F)) d0 v2 v958 c1_i32_1186
      let v1021 : BitVec 32 ← onBufs (k0_part49 (F := F)) d0 v2 v990
      onBufs (k0_part50 (F := F)) d0 v2 v1021
      let ⟨v1076, v1077, v1078, v1079, v1080⟩ : Σ' (v1076 : BitVec 32) (v1077 : BitVec 32) (v1078 : BitVec 1) (v1079 : BitVec 1), BitVec 1 ← onBufs (k0_part51 (F := F)) d0 v2
      onBufs (k0_part52 (F := F)) d0 v2 v1076 v1077 v1078 v1079 v1080
      let ⟨v1139, v1140⟩ : Σ' (v1139 : BitVec 32), BitVec 32 ← onBufs (k0_part53 (F := F)) d0 v2
      let ⟨v1168, c1_i32_1386⟩ : Σ' (v1168 : BitVec 32), BitVec 32 ← onBufs (k0_part54 (F := F)) d0 v2 v1139 v1140
      let v1200 : BitVec 32 ← onBufs (k0_part55 (F := F)) d0 v2 v1168 c1_i32_1386
      let v1231 : BitVec 32 ← onBufs (k0_part56 (F := F)) d0 v2 v1200
      onBufs (k0_part57 (F := F)) d0 v2 v1231
      let ⟨v1286, v1287, v1288, v1289, v1290⟩ : Σ' (v1286 : BitVec 32) (v1287 : BitVec 32) (v1288 : BitVec 1) (v1289 : BitVec 1), BitVec 1 ← onBufs (k0_part58 (F := F)) d0 v2
      onBufs (k0_part59 (F := F)) d0 v2 v1286 v1287 v1288 v1289 v1290
      let ⟨v1349, v1350⟩ : Σ' (v1349 : BitVec 32), BitVec 32 ← onBufs (k0_part60 (F := F)) d0 v2
      let ⟨v1378, c1_i32_1586⟩ : Σ' (v1378 : BitVec 32), BitVec 32 ← onBufs (k0_part61 (F := F)) d0 v2 v1349 v1350
      let v1410 : BitVec 32 ← onBufs (k0_part62 (F := F)) d0 v2 v1378 c1_i32_1586
      let v1441 : BitVec 32 ← onBufs (k0_part63 (F := F)) d0 v2 v1410
      onBufs (k0_part64 (F := F)) d0 v2 v1441
      let ⟨v1496, v1497, v1498, v1499, v1500⟩ : Σ' (v1496 : BitVec 32) (v1497 : BitVec 32) (v1498 : BitVec 1) (v1499 : BitVec 1), BitVec 1 ← onBufs (k0_part65 (F := F)) d0 v2
      onBufs (k0_part66 (F := F)) d0 v2 v1496 v1497 v1498 v1499 v1500
      let ⟨v1559, v1560⟩ : Σ' (v1559 : BitVec 32), BitVec 32 ← onBufs (k0_part67 (F := F)) d0 v2
      let ⟨v1588, c1_i32_1786⟩ : Σ' (v1588 : BitVec 32), BitVec 32 ← onBufs (k0_part68 (F := F)) d0 v2 v1559 v1560
      let v1620 : BitVec 32 ← onBufs (k0_part69 (F := F)) d0 v2 v1588 c1_i32_1786
      pure ⟨d0, v2, v1620⟩
noncomputable def from34 (d0 : Dev nD) (v2 : BitVec 32) : Prog (TpuEff nD τ sig (Elt F) Λ₀ .tc) (Σ' (_ : Dev nD) (_ : BitVec 32), BitVec 32) := do
      let v574 : FVec F S1x1x64x1024 .bf16 ← onBufs (k0_part34 (F := F)) v2
      let v596 : FVec F S64x1024 .bf16 ← onBufs (k0_part35 (F := F)) v574
      let ⟨v621, v626, v627⟩ : Σ' (v621 : BitVec 32) (v626 : BitVec 1), BitVec 32 ← onBufs (k0_part36 (F := F)) d0 v2 v596
      let ⟨v657, c8_i32_901, v658⟩ : Σ' (v657 : BitVec 32) (c8_i32_901 : BitVec 32), BitVec 1 ← onBufs (k0_part37 (F := F)) d0 v2 v621 v626 v627
      let ⟨v686, v691, v692⟩ : Σ' (v686 : BitVec 32) (v691 : BitVec 1), BitVec 32 ← onBufs (k0_part38 (F := F)) d0 v2 v657 c8_i32_901 v658
      from39 d0 v2 v686 v691 v692
noncomputable def from17 (d0 : Dev nD) (v2 : BitVec 32) : Prog (TpuEff nD τ sig (Elt F) Λ₀ .tc) (Σ' (_ : Dev nD) (_ : BitVec 32), BitVec 32) := do
      onBufs (k0_part17 (F := F))
      onBufs (k0_part18 (F := F))
      onBufs (k0_part19 (F := F))
      onBufs (k0_part20 (F := F))
      onBufs (k0_part21 (F := F))
      onBufs (k0_part22 (F := F))
      onBufs (k0_part23 (F := F))
      onBufs (k0_part24 (F := F))
      onBufs (k0_part25 (F := F))
      onBufs (k0_part26 (F := F))
      onBufs (k0_part27 (F := F))
      onBufs (k0_part28 (F := F))
      onBufs (k0_part29 (F := F))
      onBufs (k0_part30 (F := F))
      onBufs (k0_part31 (F := F))
      onBufs (k0_part32 (F := F))
      onBufs (k0_part33 (F := F))
      from34 d0 v2
noncomputable def from13 (d0 : Dev nD) (v2 : BitVec 32) : Prog (TpuEff nD τ sig (Elt F) Λ₀ .tc) (Σ' (_ : Dev nD) (_ : BitVec 32), BitVec 32) := do
      let ⟨v110, v115, v118, v138, v139, v140⟩ : Σ' (v110 : IVec S2048x1 32) (v115 : FVec F S2048x64 .f32) (v118 : FVec F S2048x1 .f32) (v138 : FVec F S2048x64 .f32) (v139 : FVec F S32x64 .f32), FVec F S2016x64 .f32 ← onBufs (k0_part13 (F := F))
      let ⟨v174, v181⟩ : Σ' (v174 : IVec S2048x1 32), Vec F S2048x1 .i32 ← onBufs (k0_part14 (F := F)) v110 v115 v138 v139 v140
      let ⟨v194, v207, v208⟩ : Σ' (v194 : FVec F S512x1024 .bf16) (v207 : FVec F S64x1024 .bf16), Vec F S1x1x64x1024 .bf16 ← onBufs (k0_part15 (F := F)) d0 v2 v118 v174 v181
      onBufs (k0_part16 (F := F)) v194 v207 v208
      from17 d0 v2

/-- The last signal, the wait for the others' signals, and the return's sends up to the kernel's part 69. -/
theorem run_sends (c : Dev nD) (R R' : sProp 𝕄) (Q : (Σ' (_ : Dev nD) (_ : BitVec 32), BitVec 32) → sProp 𝕄) (v686 : BitVec 32) (v691 : BitVec 1) (v692 : BitVec 32)
    (hm : iprop(recs X K ∗ ow c (rrDues c offs) ∗ posC c rdy 1 ∗ bigSep (Finset.univ.erase 0) (rdyPay (F := F) c) ∗ R) ⊢ sendSt X K c [] runL R')
    (h : ∀ v, sendSt X K c [] (runL.drop 44) R' ⊢ Q ⟨c, ringNo c, v⟩) :
    rdySt X K c (rrDues c offs) [7] iprop(credC c rdy 7 ∗ posC c rdy 0 ∗ R) ⊢ run c (from39 c (ringNo c) v686 v691 v692) Q := by
  have hl : runL.drop 44 = [(4, 6), (5, 6), (6, 6), (7, 6), (0, 7), (1, 7), (2, 7), (3, 7), (4, 7), (5, 7), (6, 7), (7, 7)] := by decide
  rw [hl] at h
  rw [runL_eq] at hm
  unfold from39
  simp only [onBufs, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel,
    semSignalWord, semWaitWord, Prog.lift, bind_assoc, pure_bind, Prog.bind_op, Prog.bind_ret, Prog.pure_eq_ret]
  refine pass_rdy X K 7 (by clear * -; revert c; decide +kernel) (by decide) ?_
  refine pass_rdy_wait X K (above_rr c offs) (hm.trans ?_)
  iterate 44 refine pass_send X K _ _ (by clear * -; revert c; decide +kernel) (semAt_eq 2 _ _ rfl) (semAt_eq 3 _ _ rfl) rfl rfl (by decide) ?_
  exact (h _).trans (run_ret c _)

/-- The first part of the kernel. -/
theorem run_first (c : Dev nD) (Q : (Σ' (_ : Dev nD) (_ : BitVec 32), BitVec 32) → sProp 𝕄)
    (h : ∀ v, sendSt X K c [] (runL.drop 44) iprop((sepL runL fun x => credC c (xf 2 x.1 x.2) NX) ∗ posC c rdy 1 ∗ (sepL eight fun k => dPts c (dSet k 0) (X.D2 c))
        ∗ sepL runL (wA c 3) ∗ (sepL runL fun x => posC c (xf 2 x.1 x.2) 0) ∗ cPts c (cSlab 0) (X.C2 c) ∗ spent X c ∗ keep X c ∗ oP c (X.out c 0) ∗ dsP c (X.ds c))
      ⊢ Q ⟨c, ringNo c, v⟩) :
    startSt X K c ⊢ run c (onBufs (k0_part96 (F := F))) Q := by
  have ha : Above 0 (rdyDues c ++ rrDues c offs) := ((above_rdy c).append ((above_rr c offs).mono (by decide))).mono (by decide)
  have ha1 : Above 1 (drDues c offs ++ (rdyDues c ++ rrDues c offs)) :=
    (above_dr c offs).append (((above_rdy c).append ((above_rr c offs).mono (by decide))).mono (by decide))
  unfold startSt
  rw [k0_part96_eq_skeleton]
  unfold onBufs k0_part96_skel
  refine run_hello X K c _ ha1 _ Q from13 ?_
  refine (to_prep X K c _ _).trans ?_
  refine run_prep X K c _ _ Q (from17 c (ringNo c)) ?_
  refine (to_waits X K c _ _).trans ?_
  refine run_dispatched X K c _ ha _ Q (from34 c (ringNo c)) ?_
  refine run_middle X K c _ Q (from39 c (ringNo c)) fun a b e => ?_
  refine BIBase.Entails.trans ?_ (run_sends X K c _ _ Q a b e (to_sends X K c iprop(cPts c (cSlab 0) (X.C2 c) ∗ spent X c ∗ keep X c ∗ oP c (X.out c 0) ∗ dsP c (X.ds c)))
    h)
  unfold rdySt spent
  iintro ⟨#HR, HO, HT, Hcr, Hpos, HD, HC, HE, HP0, HP1, HW, HK, Ho, Hd, HF⟩
  isplitr; · iexact HR
  isplitl [HO]; · iexact HO
  isplitl [HT]; · iexact HT
  isplitl [Hcr]; · iexact Hcr
  isplitl [Hpos]; · iexact Hpos
  isplitl [HD]; · iexact HD
  isplitl [HF]; · iexact HF
  isplitl [HC]; · iexact HC
  isplitl [HE HP0 HP1 HW]
  · isplitl [HE]; · iexact HE
    isplitl [HP0]; · iexact HP0
    isplitl [HP1]; · iexact HP1
    iexact HW
  isplitl [HK]; · iexact HK
  isplitl [Ho]; · iexact Ho
  iexact Hd

/-! ## The rest of the kernel -/

/-- What the loop over the offsets takes. -/
theorem oA_all (c : Dev nD) : sepL eight (oA X c) = iprop(cPts c (cSlab 0) (X.C2 c) ∗ sepL runL (wA c 3)) := by
  rw [sepL_first, sepL_run]
  refine congr (congrArg _ (if_pos rfl)) (sepL_congr fun o ho => ?_)
  exact (if_neg (fun h => absurd (h ▸ ho) (by decide))).trans (sepL_map _ _ _)
/-- What it leaves. -/
theorem oB_all (c : Dev nD) : sepL eight (oB X c) = iprop(cPts c Finset.univ (X.C2 c) ∗ sepL runL fun x => posC c (xf 3 x.1 x.2) 1) := by
  have e0 : (sepL eight fun o => if o = 0 then (iprop(emp) : sProp 𝕄) else sepL eight fun k => posC c (xf 3 k o) 1)
      = sepL runL fun x => posC c (xf 3 x.1 x.2) 1 := by
    rw [sepL_first, if_pos rfl, sepE, sepL_run]
    exact sepL_congr fun o ho => if_neg (fun h => absurd (h ▸ ho) (by decide))
  rw [c_cut, ← e0]
  exact sepL_sep _ _ _

/-- All the rows of results, once the departures are over. -/
theorem back (c : Dev nD) : iprop((sepL eight fun k => dPts c (dSet k 0) (X.D2 c)) ∗ sepL runL (wB X c 2))
    ⊢ iprop(dPts c Finset.univ (X.D2 c) ∗ sepL runL fun x => posC c (xf 2 x.1 x.2) 1) := by
  have e : sepL runL (wB X c 2) = iprop((sepL runL fun x => posC c (xf 2 x.1 x.2) 1) ∗ sepL runL fun x => dPts c (dSet x.1 x.2) (X.D2 c)) := sepL_sep _ _ _
  rw [e, results]
  iintro ⟨H0, HP, HD⟩
  isplitl [H0 HD]
  · isplitl [H0]; · iexact H0
    iexact HD
  iexact HP

theorem run_body (c : Dev nD) (Q : PUnit → sProp 𝕄) (h : endSt X K c ⊢ Q ⟨⟩) : startSt X K c ⊢ run c (onBufs (cc0_body (F := F))) Q := by
  have hl : runL.drop 44 = [(4, 6), (5, 6), (6, 6), (7, 6), (0, 7), (1, 7), (2, 7), (3, 7), (4, 7), (5, 7), (6, 7), (7, 7)] := by decide
  rw [cc0_body_eq_skeleton]
  unfold onBufs cc0_body_skel
  rw [run_bind]
  refine run_first X K c _ fun v => ?_
  rw [hl]
  simp only [k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel,
    Prog.lift, bind_assoc, pure_bind, Prog.bind_op, Prog.bind_ret, Prog.pure_eq_ret]
  iterate 12 refine pass_send X K _ _ (by clear * -; revert c; decide +kernel) (semAt_eq 2 _ _ rfl) (semAt_eq 3 _ _ rfl) rfl rfl (by decide) ?_
  refine (sendSt_done X K c _ _).trans ?_
  iintro ⟨#HR, HO, HC, Hrdy, HD0, HA, HP, HS, Hsp, HK, Ho, Hd⟩
  iapply (run_combine X K c _) $$ [HO Hd Ho HS HA]
  · isplitr; · iexact HR
    isplitl [HO]; · iexact HO
    isplitl [Hd]; · iexact Hd
    isplitl [Ho]; · iexact Ho
    rw [oA_all]
    isplitl [HS]; · iexact HS
    iexact HA
  rw [oB_all]
  iintro ⟨HO, Hd, Ho, HS, HA⟩
  iapply (run_from (iprop(recs X K ∗ ow c [] ∗ sepL runL (wA c 2) ∗ ((sepL eight fun k => dPts c (dSet k 0) (X.D2 c)) ∗ keep X c ∗ dsP c (X.ds c) ∗ oP c (X.out c 8)
      ∗ spent X c ∗ posC c rdy 1 ∗ cPts c Finset.univ (X.C2 c) ∗ sepL runL fun x => posC c (xf 3 x.1 x.2) 1))) (by
    refine (waitSt_start X K c 2 [] runL _).trans ?_
    have hgo : ∀ {α : Type} {Q : α → sProp 𝕄} {p : Prog (TpuEff nD τ sig (Elt F) Λ₀ .tc) α} {S : sProp 𝕄}, (iprop(recs X K ∗ ow c [] ∗ S) ⊢ run c p Q) →
        waitSt X K c 2 [] [] S ⊢ run c p Q := fun h => (waitSt_done X K c 2 [] _).trans h
    generalize hG : sepL runL (wB X c 2) = G
    rw [runL_eq]
    iterate 56 refine pass_wait X K _ _ (Above.nil 3) (semAt_eq 2 _ _ rfl) (dV_credit _ _) (by decide) (by decide) ?_
    refine hgo ?_
    rw [← hG, ← runL_eq]
    refine BIBase.Entails.trans ?_ (run_ret c _)
    refine BIBase.Entails.trans ?_ h
    unfold endSt
    iintro ⟨#HR, HO, HB, HD0, HK, Hd, Ho, Hsp, Hrdy, HS, HA⟩
    ihave HB := (back X c) $$ [HD0 HB]
    · isplitl [HD0]; · iexact HD0
      iexact HB
    icases HB with ⟨HD, HP⟩
    isplitr; · iexact HR
    isplitl [HO]; · iexact HO
    isplitl [HK]; · iexact HK
    isplitl [Hd]; · iexact Hd
    isplitl [Ho]; · iexact Ho
    isplitl [Hsp]; · iexact Hsp
    isplitl [Hrdy]; · iexact Hrdy
    isplitl [HD]; · iexact HD
    isplitl [HS]; · iexact HS
    isplitl [HP]; · iexact HP
    iexact HA))
  isplitr; · iexact HR
  isplitl [HO]; · iexact HO
  isplitl [HC HP]
  · have e2 : sepL runL (wA (F := F) c 2) = iprop((sepL runL fun x => credC c (xf 2 x.1 x.2) NX) ∗ sepL runL fun x => posC c (xf 2 x.1 x.2) 0) := sepL_sep _ _ _
    rw [e2]
    isplitl [HC]; · iexact HC
    iexact HP
  isplitl [HD0]; · iexact HD0
  isplitl [HK]; · iexact HK
  isplitl [Hd]; · iexact Hd
  isplitl [Ho]; · iexact Ho
  isplitl [Hsp]; · iexact Hsp
  isplitl [Hrdy]; · iexact Hrdy
  isplitl [HS]; · iexact HS
  iexact HA

end Cert.Exchange

end
-- ==== Proof.Alloc.lean ====
/-
# What the launch deals

Every device's semaphore cells are opened at once; the tokens of the payments go to the devices that pay, and the
credit of what each cell is owed to the device that waits on it.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the cells of a device -/

/-- The cells one by one: the transfers at offset zero apart, which no transfer uses. -/
theorem ci_cut (A : CI → sProp 𝕄) : bigSep Finset.univ A
    = iprop(A bar ∗ A rdy ∗ (A (ew 0) ∗ A (ew 1)) ∗ (bigSep Finset.univ fun t : Fin 4 => sepL eight fun k => A (xf t k 0))
      ∗ (sepL runL fun x => A (xf 0 x.1 x.2)) ∗ (sepL runL fun x => A (xf 1 x.1 x.2)) ∗ (sepL runL fun x => A (xf 2 x.1 x.2))
      ∗ sepL runL fun x => A (xf 3 x.1 x.2)) := by
  have ht (t : Fin 4) : (bigSep Finset.univ fun ko : Fin 8 × Fin 8 => A (xf t ko.1 ko.2))
      = iprop((sepL eight fun k => A (xf t k 0)) ∗ sepL runL fun x => A (xf t x.1 x.2)) := by
    rw [bigSep_univ_prod, sepL_eight]
    have e : (fun k : Fin 8 => bigSep Finset.univ fun o : Fin 8 => A (xf t k o)) = fun k => sepL eight fun o => A (xf t k o) :=
      funext fun k => sepL_eight _
    refine (congrArg (sepL eight) e).trans ?_
    rw [sepL_swap, sepL_first, sepL_run]
  have h4 : (bigSep Finset.univ fun x : Fin 4 × Fin 8 × Fin 8 => A (.inr (.inr x)))
      = iprop((bigSep Finset.univ fun t : Fin 4 => sepL eight fun k => A (xf t k 0))
        ∗ bigSep Finset.univ fun t : Fin 4 => sepL runL fun x => A (xf t x.1 x.2)) := by
    rw [bigSep_univ_prod, ← bigSep_sep']
    exact congrArg (bigSep Finset.univ) (funext ht)
  have hr : (bigSep Finset.univ fun t : Fin 4 => sepL runL fun x => A (xf t x.1 x.2))
      = iprop((sepL runL fun x => A (xf 0 x.1 x.2)) ∗ (sepL runL fun x => A (xf 1 x.1 x.2)) ∗ (sepL runL fun x => A (xf 2 x.1 x.2))
      ∗ sepL runL fun x => A (xf 3 x.1 x.2)) := bigSep_univ_eq_bigSepL [0, 1, 2, 3] (by decide) (by decide) _
  have h1 (B : Unit → sProp 𝕄) : bigSep Finset.univ B = B () := by
    rw [Finset.univ_unique]; exact bigSep_singleton
  have h2 (B : Fin 2 → sProp 𝕄) : bigSep Finset.univ B = iprop(B 0 ∗ B 1) := bigSep_univ_eq_bigSepL [0, 1] (by decide) (by decide) _
  rw [bigSep_univ_sum, bigSep_univ_sum, bigSep_univ_sum, h1, h1, h2, h4, hr]
  exact congrArg (fun P => iprop(A bar ∗ P)) (sepA _ _ _)

/-- Resources held at every device, moved along a bijection for each entry of a list. -/
theorem deal {α : Type} (l : List α) (σ : α → Dev nD ≃ Dev nD) (A : Dev nD → α → sProp 𝕄) :
    (bigSep Finset.univ fun c : Dev nD => sepL l (A c)) = bigSep Finset.univ fun c : Dev nD => sepL l fun o => A (σ o c) o := by
  induction l with
  | nil => rfl
  | cons x l ih =>
    have e1 : (fun c : Dev nD => sepL (x :: l) (A c)) = fun c => iprop(A c x ∗ sepL l (A c)) := rfl
    have e2 : (fun c : Dev nD => sepL (x :: l) fun o => A (σ o c) o) = fun c => iprop(A (σ x c) x ∗ sepL l fun o => A (σ o c) o) := rfl
    rw [e1, e2, bigSep_sep', bigSep_sep', ih, bigSep_univ_equiv (σ x) (fun c : Dev nD => A c x)]

/-! ## The cells, their tokens -/

variable (X : Inp F)

def exCells : Finset (GSem nD τ sig) := Finset.univ.map ⟨kcell, kcell_injective⟩
abbrev TI : Type := Dev nD × CI × Fin 4 × Fin 8
/-- A cell's tokens: of four rounds, eight duties. -/
def tokOf (x : TI) : GSem nD τ sig × ℕ × Fin 8 := (kcell (x.1, x.2.1), x.2.2.1.val, x.2.2.2)
theorem tokOf_injective : Function.Injective tokOf := by
  rintro ⟨c, i, r, d⟩ ⟨c', i', r', d'⟩ h
  have h1 := Prod.mk.inj (kcell_injective (congrArg Prod.fst h))
  have h2 : r = r' := Fin.ext (congrArg (fun x : GSem nD τ sig × ℕ × Fin 8 => x.2.1) h)
  have h3 : d = d' := congrArg (fun x : GSem nD τ sig × ℕ × Fin 8 => x.2.2) h
  exact Prod.ext h1.1 (Prod.ext h1.2 (Prod.ext h2 h3))
def exToks : Finset (GSem nD τ sig × ℕ × Fin 8) := Finset.univ.map ⟨tokOf, tokOf_injective⟩

def u₀ : UU := (initOf (Pipeline.cells cfgs cellOf_inj) (Pipeline.launchToks cfgs cellOf_inj), initOf exCells exToks)

def toksOf (c : Dev nD) (i : CI) : sProp 𝕄 := bigSep Finset.univ fun r : Fin 4 => bigSep Finset.univ fun d : Fin 8 => tokC c i r.val d
def posAll (c : Dev nD) : sProp 𝕄 := bigSep Finset.univ fun i : CI => posC c i 0
def reachAll (c : Dev nD) : sProp 𝕄 := bigSep Finset.univ fun i : CI => reachC c i 0

/-- What the launch element deals a device. -/
def G (c : Dev nD) : sProp 𝕄 :=
  iprop((bigSep Finset.univ fun i : CI => roundState ER (Rd X) (kcell (c, i)) 0) ∗ posAll c ∗ reachAll c ∗ bigSep Finset.univ fun i : CI => toksOf c i)

theorem fund_all : BI.own (ER (initOf exCells exToks)) ⊢ (|==> bigSep Finset.univ (G X) : sProp 𝕄) := by
  have hX (A : GSem nD τ sig → sProp 𝕄) : bigSep exCells A = bigSep Finset.univ fun c : Dev nD => bigSep Finset.univ fun i : CI => A (kcell (c, i)) := by
    unfold exCells; rw [bigSep_map, bigSep_univ_prod]; rfl
  have hT : bigSep exToks (fun x => (dutyTok ER x.1 x.2.1 x.2.2 : sProp 𝕄)) = bigSep Finset.univ fun c : Dev nD => bigSep Finset.univ fun i : CI => toksOf c i := by
    unfold exToks; rw [bigSep_map, bigSep_univ_prod]
    refine bigSep_congr fun c _ => ?_
    rw [bigSep_univ_prod]
    refine bigSep_congr fun i _ => ?_
    rw [bigSep_univ_prod]
    rfl
  iintro HX
  imod (Rounds.fund ER (Rd X) exCells exToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posAll reachAll; simp only [bigSep_sep']
  isplitl [Hst']; · iexact Hst'
  isplitl [Hat']; · iexact Hat'
  isplitl [Hr']; · iexact Hr'
  iexact Htok'

/-! ## The tokens, dealt to the devices that pay -/

/-- The tokens a device needs of its own cells. -/
def ownToks (c : Dev nD) : sProp 𝕄 :=
  iprop((sepL offs fun o => tokC c bar 0 o) ∗ (sepL offs fun o => tokC c rdy 0 o) ∗ (sepL eight fun k => tokC c (ew (sl k.val)) (k.val / 2) 0)
    ∗ (sepL runL fun x => tokC c (xf 0 x.1 x.2) 0 0) ∗ (sepL runL fun x => tokC c (xf 1 x.1 x.2) 0 0) ∗ (sepL runL fun x => tokC c (xf 2 x.1 x.2) 0 0)
    ∗ sepL runL fun x => tokC c (xf 3 x.1 x.2) 0 0)
/-- The tokens of what a device pays. -/
def payToks (c : Dev nD) : sProp 𝕄 :=
  iprop((sepL offs fun o => tokC (bwd c o) bar 0 o) ∗ (sepL offs fun o => tokC (fwd c o) rdy 0 o) ∗ (sepL eight fun k => tokC c (ew (sl k.val)) (k.val / 2) 0)
    ∗ (sepL runL fun x => tokC c (xf 0 x.1 x.2) 0 0) ∗ (sepL runL fun x => tokC (fwd c x.2) (xf 1 x.1 x.2) 0 0) ∗ (sepL runL fun x => tokC c (xf 2 x.1 x.2) 0 0)
    ∗ sepL runL fun x => tokC (bwd c x.2) (xf 3 x.1 x.2) 0 0)

theorem toksOf_at (c : Dev nD) (i : CI) (r : Fin 4) (d : Fin 8) : toksOf (F := F) c i ⊢ tokC c i r.val d := by
  unfold toksOf
  have h1 := bigSep_elim (Finset.mem_univ r) (Φ := fun r : Fin 4 => bigSep Finset.univ fun d : Fin 8 => (tokC c i r.val d : sProp 𝕄))
  have h2 := bigSep_elim (Finset.mem_univ d) (Φ := fun d : Fin 8 => (tokC c i r.val d : sProp 𝕄))
  exact h1.trans h2
theorem toksOf_offs (c : Dev nD) (i : CI) : toksOf (F := F) c i ⊢ sepL offs fun o => tokC c i 0 o := by
  unfold toksOf
  have h1 := bigSep_elim (Finset.mem_univ (0 : Fin 4)) (Φ := fun r : Fin 4 => bigSep Finset.univ fun d : Fin 8 => (tokC c i r.val d : sProp 𝕄))
  have h2 := bigSep_subset (Finset.erase_subset 0 (Finset.univ : Finset (Fin 8))) (Φ := fun d : Fin 8 => (tokC c i 0 d : sProp 𝕄))
  rw [← sepL_offs]
  exact h1.trans h2
theorem toksOf_rounds (c : Dev nD) (i : CI) : toksOf (F := F) c i ⊢ iprop(tokC c i 0 0 ∗ tokC c i 1 0 ∗ tokC c i 2 0 ∗ tokC c i 3 0) := by
  unfold toksOf
  have e : (bigSep Finset.univ fun r : Fin 4 => (tokC c i r.val 0 : sProp 𝕄)) = iprop(tokC c i 0 0 ∗ tokC c i 1 0 ∗ tokC c i 2 0 ∗ tokC c i 3 0) :=
    bigSep_univ_eq_bigSepL [0, 1, 2, 3] (by decide) (by decide) _
  rw [← e]
  exact bigSep_mono fun r _ => by
    have h2 := bigSep_elim (Finset.mem_univ (0 : Fin 8)) (Φ := fun d : Fin 8 => (tokC c i r.val d : sProp 𝕄))
    exact h2

theorem toks_own (c : Dev nD) : (bigSep Finset.univ fun i : CI => toksOf (F := F) c i) ⊢ ownToks c := by
  rw [ci_cut]
  unfold ownToks
  iintro ⟨HB, HR, ⟨HE0, HE1⟩, -, H0, H1, H2, H3⟩
  isplitl [HB]; · iapply toksOf_offs; iexact HB
  isplitl [HR]; · iapply toksOf_offs; iexact HR
  isplitl [HE0 HE1]
  · ihave HE0 := toksOf_rounds c (ew 0) $$ HE0
    ihave HE1 := toksOf_rounds c (ew 1) $$ HE1
    icases HE0 with ⟨A0, A1, A2, A3⟩
    icases HE1 with ⟨B0, B1, B2, B3⟩
    iapply (Entails.of_eq (show iprop(tokC (F := F) c (ew 0) 0 0 ∗ tokC c (ew 1) 0 0 ∗ tokC c (ew 0) 1 0 ∗ tokC c (ew 1) 1 0 ∗ tokC c (ew 0) 2 0
      ∗ tokC c (ew 1) 2 0 ∗ tokC c (ew 0) 3 0 ∗ tokC c (ew 1) 3 0 ∗ emp) = sepL eight fun k => tokC c (ew (sl k.val)) (k.val / 2) 0 from rfl))
    isplitl [A0]; · iexact A0
    isplitl [B0]; · iexact B0
    isplitl [A1]; · iexact A1
    isplitl [B1]; · iexact B1
    isplitl [A2]; · iexact A2
    isplitl [B2]; · iexact B2
    isplitl [A3]; · iexact A3
    isplitl [B3]; · iexact B3
    iempintro
  have h (t : Fin 4) : (sepL runL fun x => toksOf (F := F) c (xf t x.1 x.2)) ⊢ sepL runL fun x => tokC c (xf t x.1 x.2) 0 0 :=
    sepL_mono fun x _ => toksOf_at c (xf t x.1 x.2) 0 0
  isplitl [H0]; · iapply (h 0); iexact H0
  isplitl [H1]; · iapply (h 1); iexact H1
  isplitl [H2]; · iapply (h 2); iexact H2
  iapply (h 3); iexact H3

theorem toks_around : (bigSep Finset.univ fun c : Dev nD => ownToks (F := F) c) = bigSep Finset.univ fun c : Dev nD => payToks c := by
  unfold ownToks payToks
  rw [bigSep_sep', bigSep_sep', bigSep_sep', bigSep_sep', bigSep_sep', bigSep_sep', bigSep_sep', bigSep_sep', bigSep_sep', bigSep_sep', bigSep_sep', bigSep_sep',
    deal offs (fun o => (ring o).symm) (fun c o => tokC c bar 0 o), deal offs (fun o => ring o) (fun c o => tokC c rdy 0 o),
    deal runL (fun x => ring x.2) (fun c x => tokC c (xf 1 x.1 x.2) 0 0), deal runL (fun x => (ring x.2).symm) (fun c x => tokC c (xf 3 x.1 x.2) 0 0)]
  rfl

/-! ## The cells opened -/

/-- What a device starts from, at the names `K` of the cells' invariants. -/
def linear (c : Dev nD) : sProp 𝕄 := iprop(posAll c ∗ payToks c)
def invs (K : Dev nD × CI → ℕ) : sProp 𝕄 :=
  iprop(bigSep Finset.univ (fun ck : Dev nD × CI => cellInv ER (Rd X) (K ck) (kcell ck)) ∗ bigSep Finset.univ (fun ck : Dev nD × CI => reached ER (kcell ck) 0))
instance invs_persistent (K : Dev nD × CI → ℕ) : BI.Persistent (invs X K) := by unfold invs; infer_instance
def G' (c : Dev nD) : sProp 𝕄 := iprop(∃ K, invs X K ∗ linear c)

abbrev own0 (c : Dev nD) : sProp 𝕄 := Pipeline.ownSems0 (Ix := Unit) (Name := ℕ) (U := UU) (Lvl := ℕ) (Val := Elt F) (τ := τ) osem c

theorem unscoped_eq (c : Dev nD) : (unscopedSems0 c : sProp 𝕄) = semVal (kcell (c, bar)) 0 := by
  unfold unscopedSems0; rw [bigSep_eq_bigSepL_of_eq [SemLoc.reg barS] (by decide) (by decide)]; rfl

theorem sems_eq (c : Dev nD) : (bigSep Finset.univ fun i : CI => semVal (kcell (c, i)) 0 : sProp 𝕄) = iprop(unscopedSems0 c ∗ own0 c) := by
  rw [unscoped_eq, bigSep_univ_sum, Finset.univ_unique, bigSep_singleton]
  rfl

theorem core_alloc (c : Dev nD) :
    iprop(own0 c ∗ unscopedSems0 c ∗ G X c)
      ⊢ |={Set.univ}=> iprop((bigSep Finset.univ fun i => iprop(∃ κ : ℕ, cellInv ER (Rd X) κ (kcell (c, i)))) ∗ posAll c ∗ reachAll c ∗ ownToks c) := by
  unfold G
  iintro ⟨Hos, Hus, Hst, Hat, Hr, Htok⟩
  ihave Hv := (Entails.of_eq (sems_eq (F := F) c).symm) $$ [Hos Hus]
  · isplitl [Hus] <;> iassumption
  imod (show iprop((bigSep Finset.univ fun i : CI => semVal (kcell (c, i)) 0) ∗ bigSep Finset.univ fun i : CI => roundState ER (Rd X) (kcell (c, i)) 0)
      ⊢ (|={Set.univ}=> bigSep Finset.univ fun i => iprop(∃ κ : ℕ, cellInv ER (Rd X) κ (kcell (c, i))) : sProp 𝕄) from by
        rw [← bigSep_sep']
        exact (bigSep_mono fun i _ => (Rounds.body_intro ER (Rd X) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iapply toks_own; iexact Htok

theorem bigSep_beside {R : sProp 𝕄} [BI.Persistent R] {A B : Dev nD → sProp 𝕄} (h : ∀ c, iprop(R ∗ A c) ⊢ B c) :
    iprop(R ∗ bigSep Finset.univ A) ⊢ bigSep Finset.univ B :=
  (sep_mono_left (BI.bigSep_of_persistent Finset.univ R)).trans (by rw [← bigSep_sep']; exact bigSep_mono fun c _ => h c)

theorem regroup :
    (bigSep Finset.univ fun c : Dev nD => iprop((bigSep Finset.univ fun i => iprop(∃ κ : ℕ, cellInv ER (Rd X) κ (kcell (c, i)))) ∗ posAll c ∗ reachAll c ∗ ownToks c) : sProp 𝕄)
      ⊢ bigSep Finset.univ (G' X) := by
  classical
  have eI : (bigSep Finset.univ fun c : Dev nD => bigSep Finset.univ fun i : CI => iprop(∃ κ : ℕ, cellInv ER (Rd X) κ (kcell (c, i))))
      = bigSep Finset.univ fun ck : Dev nD × CI => iprop(∃ κ : ℕ, cellInv ER (Rd X) κ (kcell ck)) :=
    (bigSep_univ_prod (fun ck : Dev nD × CI => iprop(∃ κ : ℕ, cellInv ER (Rd X) κ (kcell ck)))).symm
  have eR : (bigSep Finset.univ fun c : Dev nD => reachAll (F := F) c) = bigSep Finset.univ fun ck : Dev nD × CI => reached ER (kcell ck) 0 :=
    (bigSep_univ_prod (fun ck : Dev nD × CI => (reached ER (kcell ck) 0 : sProp 𝕄))).symm
  rw [bigSep_sep', bigSep_sep', bigSep_sep', eI, eR, toks_around]
  iintro ⟨HI, Hat, #HR, Htk⟩
  ihave HK := (BI.bigSep_exists_pi Finset.univ (fun (ck : Dev nD × CI) (κ : ℕ) => (cellInv ER (Rd X) κ (kcell ck) : sProp 𝕄))) $$ HI
  icases HK with ⟨%K, #HI⟩
  have hg (c : Dev nD) : iprop(invs X K ∗ linear c) ⊢ G' X c := by
    unfold G'
    iintro H
    iexists K
    iexact H
  iapply (bigSep_beside (R := invs X K) hg)
  isplitr
  · unfold invs; isplitl; · iexact HI
    iexact HR
  · have e : (bigSep Finset.univ fun c : Dev nD => linear (F := F) c) = iprop((bigSep Finset.univ fun c : Dev nD => posAll (F := F) c) ∗ bigSep Finset.univ fun c : Dev nD => payToks (F := F) c) :=
      bigSep_sep' _ _ _
    iapply (Entails.of_eq e.symm)
    isplitl [Hat]; · iexact Hat
    iexact Htk

theorem glob : (bigSep Finset.univ fun c => iprop(own0 c ∗ unscopedSems0 c ∗ G X c) : sProp 𝕄) ⊢ |={Set.univ}=> bigSep Finset.univ (G' X) :=
  ((bigSep_mono fun c _ => core_alloc X c).trans (bigSep_fupd _ _)).trans (BI.fupd_mono (regroup X))

/-! ## The launch credit -/

/-- What every device pays, in order: how the payee is reached, and which of its cells. -/
def pays : List ((Dev nD ≃ Dev nD) × CI) :=
  offsDown.map (fun o => ((ring o).symm, bar)) ++ ((offs.flatMap fun o => eight.map fun k => (ring o, xf 1 k o))
    ++ (offs.map (fun o => (ring o, rdy)) ++ offs.flatMap fun o => eight.map fun k => ((ring o).symm, xf 3 k o)))

theorem dues_eq (c : Dev nD) : dues c = pays.map fun e => (kcell (e.1 c, e.2), amountK e.2) := rfl

/-- How often a cell occurs in a list. -/
def times (i : CI) (l : List CI) : ℕ := (l.map fun e => if e = i then 1 else 0).sum

theorem owed_sum (c : Dev nD) (i : CI) (l : List ((Dev nD ≃ Dev nD) × CI)) :
    ∑ d : Dev nD, Ow (l.map fun e => (kcell (e.1 d, e.2), amountK e.2)) (kcell (c, i)) () = times i (l.map Prod.snd) * amountK i := by
  induction l with
  | nil => exact (Finset.sum_const_zero).trans (Nat.zero_mul _).symm
  | cons e l ih =>
    have h (d : Dev nD) : Ow ((e :: l).map fun e => (kcell (e.1 d, e.2), amountK e.2)) (kcell (c, i)) ()
        = Ow (l.map fun e => (kcell (e.1 d, e.2), amountK e.2)) (kcell (c, i)) () + if d = e.1.symm c then (if e.2 = i then amountK i else 0) else 0 := by
      rw [List.map_cons]
      show (Ow _ + tallyAt _ () _ : CellTallies nD τ sig Unit) _ _ = _
      rw [Pi.add_apply, Finsupp.add_apply, tallyAt_apply]
      congr 1
      by_cases hi : e.2 = i
      · by_cases hd : d = e.1.symm c
        · subst hd; subst hi
          rw [if_pos ⟨by rw [Equiv.apply_symm_apply], rfl⟩, if_pos rfl, if_pos rfl]
        · rw [if_neg (fun h => hd (by rw [(Prod.mk.inj (kcell_injective h.1)).1, Equiv.symm_apply_apply])), if_neg hd]
      · rw [if_neg (fun h => hi (Prod.mk.inj (kcell_injective h.1)).2.symm), if_neg hi, ite_self]
    rw [Finset.sum_congr rfl fun d _ => h d, Finset.sum_add_distrib, ih, Finset.sum_ite_eq' Finset.univ (e.1.symm c) fun _ => _, if_pos (Finset.mem_univ _),
      List.map_cons]
    show _ = ((if e.2 = i then 1 else 0) + times i (l.map Prod.snd)) * amountK i
    rw [Nat.add_mul, Nat.add_comm]
    congr 1
    by_cases hi : e.2 = i
    · rw [if_pos hi, if_pos hi, Nat.one_mul]
    · rw [if_neg hi, if_neg hi, Nat.zero_mul]

def paid (i : CI) : ℕ := times i (pays.map Prod.snd)
theorem pays_snd : pays.map Prod.snd = offsDown.map (fun _ => bar) ++ ((offs.flatMap fun o => eight.map fun k => xf 1 k o)
    ++ (offs.map (fun _ => rdy) ++ offs.flatMap fun o => eight.map fun k => xf 3 k o)) := rfl
theorem paid_bar : paid bar = 7 := by unfold paid; rw [pays_snd]; decide +kernel
theorem paid_rdy : paid rdy = 7 := by unfold paid; rw [pays_snd]; decide +kernel
theorem paid_xf1 : ∀ x ∈ runL, paid (xf 1 x.1 x.2) = 1 := by unfold paid; rw [pays_snd]; decide +kernel
theorem paid_xf3 : ∀ x ∈ runL, paid (xf 3 x.1 x.2) = 1 := by unfold paid; rw [pays_snd]; decide +kernel

abbrev O₀ (c : Dev nD) : CellTallies nD τ sig Unit := Ow (dues c)

theorem launch_at (c : Dev nD) (i : CI) :
    tallyOn (kcell (c, i)) (launchCredit (Pipeline.owing O₀) 0 (kcell (c, i))) = (tallyAt (kcell (c, i)) () (paid i * amountK i) : CellTallies nD τ sig Unit) := by
  unfold tallyAt; refine congrArg _ (Finsupp.ext fun u => ?_); cases u
  rw [Pipeline.launchCredit_owing, Finsupp.single_eq_same]
  exact owed_sum c i pays

/-- The credit a device waits on. -/
def creds (c : Dev nD) : sProp 𝕄 :=
  iprop(credC c bar 7 ∗ credC c rdy 7 ∗ (sepL runL fun x => credC c (xf 1 x.1 x.2) NX) ∗ sepL runL fun x => credC c (xf 3 x.1 x.2) NX)

theorem launch_creds (c : Dev nD) : (Pipeline.launchCred O₀ c : sProp 𝕄) ⊢ creds c := by
  have h1 : (Pipeline.launchCred O₀ c : sProp 𝕄) ⊢ bigSep Finset.univ fun i : CI => credC c i (paid i * amountK i) := by
    have hs := bigSep_subset (Finset.subset_univ ((Finset.univ : Finset CI).map ⟨csem, csem_injective⟩))
      (Φ := fun sm : SemLoc sig => (cred (tallyOn ((c.tc : Thread nD τ), sm) (launchCredit (Pipeline.owing O₀) 0 ((c.tc : Thread nD τ), sm))) : sProp 𝕄))
    refine hs.trans ?_
    rw [bigSep_map]
    exact bigSep_mono fun i _ => Entails.of_eq (congrArg cred (launch_at c i))
  refine h1.trans ?_
  have hb : (credC c bar (paid bar * amountK bar) : sProp 𝕄) = credC c bar 7 := by rw [paid_bar]; rfl
  have hr : (credC c rdy (paid rdy * amountK rdy) : sProp 𝕄) = credC c rdy 7 := by rw [paid_rdy]; rfl
  have hx1 : (sepL runL fun x => (credC c (xf 1 x.1 x.2) (paid (xf 1 x.1 x.2) * amountK (xf 1 x.1 x.2)) : sProp 𝕄)) = sepL runL fun x => credC c (xf 1 x.1 x.2) NX :=
    sepL_congr fun x hx => by rw [paid_xf1 x hx, Nat.one_mul]; rfl
  have hx3 : (sepL runL fun x => (credC c (xf 3 x.1 x.2) (paid (xf 3 x.1 x.2) * amountK (xf 3 x.1 x.2)) : sProp 𝕄)) = sepL runL fun x => credC c (xf 3 x.1 x.2) NX :=
    sepL_congr fun x hx => by rw [paid_xf3 x hx, Nat.one_mul]; rfl
  rw [ci_cut, hb, hr, hx1, hx3]
  unfold creds
  iintro ⟨HB, HR, -, -, -, H1, -, H3⟩
  isplitl [HB]; · iexact HB
  isplitl [HR]; · iexact HR
  isplitl [H1]; · iexact H1
  iexact H3

end Cert.Exchange

end
-- ==== Proof.Launch.lean ====
/-
# The launch

From the launch's resources to the state the body starts from, from the state it ends in to what the launch takes
back, and the run of the whole program: at any float values, from any memory with every counter at zero.
-/
module

public import proofs.«01_k».proof.Proof.Alloc
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp F) (K : Dev nD × CI → ℕ)

/-! ## Into the body -/

/-- The transfers at offset zero, which no transfer uses. -/
def idle (A : CI → sProp 𝕄) : sProp 𝕄 := bigSep Finset.univ fun t : Fin 4 => sepL eight fun k => A (xf t k 0)

/-- The landing buffer in the slots that stay and the slots the others fill. -/
theorem c_hand (c : Dev nD) (f : Vec F S8x8x64x1024 .bf16) :
    cPts c Finset.univ f ⊢ iprop((sepL eight fun k => iprop(∃ f, cPts (F := F) c (cSet k 0) f)) ∗ sepL offs fun o => barPay (F := F) (bwd c o) o) := by
  have e : cPts c Finset.univ f = sepL eight fun o => sepL eight fun k => cPts c (cSet k o) f := by
    rw [c_cut, sepL_congr fun k _ => cSlab_cut c k f, sepL_swap]
  rw [e]
  have h : (sepL eight fun o => sepL eight fun k => cPts c (cSet k o) f) ⊢ sepL eight fun o => sepL eight fun k => iprop(∃ f, cPts (F := F) c (cSet k o) f) :=
    sepL_mono fun o _ => sepL_mono fun k _ => by
      iintro H
      iexists f
      iexact H
  refine h.trans ?_
  rw [sepL_first]
  have e2 : (sepL offs fun o => barPay (F := F) (bwd c o) o) = sepL offs fun o => sepL eight fun k => iprop(∃ f, cPts (F := F) c (cSet k o) f) :=
    sepL_congr fun o _ => by unfold barPay; rw [fwd_bwd, sepL_eight]
  rw [e2]

/-- The buffers of a device before the body. -/
def bufs0 (c : Dev nD) : sProp 𝕄 :=
  iprop((∃ f, dPts (F := F) c Finset.univ f) ∗ (∃ f, cPts (F := F) c Finset.univ f) ∗ (∃ f, ePts (F := F) c Finset.univ f) ∗ (∃ f, xsP (F := F) c f) ∗ ∃ f, dsP (F := F) c f)
def stage0 (c : Dev nD) : sProp 𝕄 := iprop(xP c (X.x c) ∗ rP c (X.r c) ∗ iP c (X.i c) ∗ sP c (X.s c) ∗ ∃ f, oP c f)

theorem d_open (c : Dev nD) : iprop(∃ f, dPts (F := F) c Finset.univ f) ⊢ sepL eight fun o => iprop(∃ f, dPts (F := F) c (dRow o) f) := by
  iintro ⟨%f, H⟩
  have h : dPts c Finset.univ f ⊢ sepL eight fun o => iprop(∃ f, dPts (F := F) c (dRow o) f) := by
    rw [d_cut]
    exact sepL_mono fun o _ => by
      iintro H
      iexists f
      iexact H
  iapply h
  iexact H
theorem e_open (c : Dev nD) : iprop(∃ f, ePts (F := F) c Finset.univ f) ⊢ iprop((∃ f, ePts (F := F) c (eSet 0) f) ∗ ∃ f, ePts (F := F) c (eSet 1) f) := by
  iintro ⟨%f, H⟩
  ihave H := e_cut c f $$ H
  icases H with ⟨H0, H1⟩
  isplitl [H0]
  · iexists f; iexact H0
  iexists f; iexact H1

theorem to_start (c : Dev nD) :
    iprop(recs X K ∗ posAll c ∗ payToks c ∗ creds c ∗ wPts c Finset.univ (X.w c) ∗ ow c (dues c) ∗ stage0 X c ∗ bufs0 c)
      ⊢ iprop(startSt X K c ∗ idle fun i => posC (F := F) c i 0) := by
  have eB : (sepL offsDown fun o => iprop(tokC (F := F) (bwd c o) bar 0 o ∗ barPay (F := F) (bwd c o) o))
      = iprop((sepL offs fun o => tokC (F := F) (bwd c o) bar 0 o) ∗ sepL offs fun o => barPay (F := F) (bwd c o) o) := by
    rw [sepL_down]; exact sepL_sep _ _ _
  have eD : (sepL runL fun x => iprop(tokC (F := F) c (xf 0 x.1 x.2) 0 0 ∗ tokC (fwd c x.2) (xf 1 x.1 x.2) 0 0))
      = iprop((sepL runL fun x => tokC (F := F) c (xf 0 x.1 x.2) 0 0) ∗ sepL runL fun x => tokC (F := F) (fwd c x.2) (xf 1 x.1 x.2) 0 0) := sepL_sep _ _ _
  have eR : (sepL runL fun x => iprop(tokC (F := F) c (xf 2 x.1 x.2) 0 0 ∗ tokC (bwd c x.2) (xf 3 x.1 x.2) 0 0))
      = iprop((sepL runL fun x => tokC (F := F) c (xf 2 x.1 x.2) 0 0) ∗ sepL runL fun x => tokC (F := F) (bwd c x.2) (xf 3 x.1 x.2) 0 0) := sepL_sep _ _ _
  have eA (t : Fin 4) : sepL runL (wA (F := F) c t) = iprop((sepL runL fun x => credC c (xf t x.1 x.2) NX) ∗ sepL runL fun x => posC c (xf t x.1 x.2) 0) := sepL_sep _ _ _
  have eW : iprop(wPts c (wSet (expertOf 0 0)) (X.w c) ∗ tokC c (ew 0) 0 0 ∗ sepL offs (wT X c))
      = iprop(wPts c Finset.univ (X.w c) ∗ sepL eight fun k => tokC c (ew (sl k.val)) (k.val / 2) 0) := by
    rw [w_cut, ← sepL_sep, sepL_first, sepA]; rfl
  unfold startSt barSt
  rw [eB]
  unfold forPrep forExperts forReturn
  rw [eD, eR, eA 1, eA 3]
  unfold posAll
  rw [ci_cut]
  unfold payToks creds stage0 bufs0
  iintro ⟨#HR, ⟨Pb, Pr, ⟨Pe0, Pe1⟩, Pi, P0, P1, P2, P3⟩, ⟨Tb, Tr, Te, T0, T1, T2, T3⟩, ⟨Cb, Cr, C1, C3⟩, Hw, HO, ⟨Sx, Sr, Si, Ss, So⟩, Bd, ⟨%fc, Bc⟩, Be, Bxs, Bds⟩
  ihave Hw := (Entails.of_eq eW.symm) $$ [Hw Te]
  · isplitl [Hw]; · iexact Hw
    iexact Te
  icases Hw with ⟨Hw0, Te0, Hw⟩
  ihave Hc := c_hand c fc $$ Bc
  icases Hc with ⟨Hc0, Hc⟩
  ihave Hd := d_open c $$ Bd
  ihave He := e_open c $$ Be
  icases He with ⟨He0, He1⟩
  isplitr [Pi]
  rotate_left
  · unfold idle; iexact Pi
  isplitr; · iexact HR
  isplitl [HO]; · iexact HO
  isplitl [Tb Hc]
  · isplitl [Tb]; · iexact Tb
    iexact Hc
  isplitl [Cb]; · iexact Cb
  isplitl [Pb]; · iexact Pb
  isplitl [Sx Sr Si Ss So Bds Bxs He0 Hw0 Te0 Hd T0 T1 Hc0]
  · isplitl [Sx Sr Si Ss]
    · isplitl [Sx]; · iexact Sx
      isplitl [Sr]; · iexact Sr
      isplitl [Si]; · iexact Si
      iexact Ss
    isplitl [So Bds Bxs]
    · isplitl [So]; · iexact So
      isplitl [Bds]; · iexact Bds
      iexact Bxs
    isplitl [He0 Hw0 Te0]
    · isplitl [He0]; · iexact He0
      isplitl [Hw0]; · iexact Hw0
      iexact Te0
    isplitl [Hd]; · iexact Hd
    isplitl [T0 T1]
    · isplitl [T0]; · iexact T0
      iexact T1
    iexact Hc0
  isplitl [P0]; · iexact P0
  isplitl [Pe0 He1 Pe1 Hw C1 P1 Tr Cr Pr]
  · isplitl [Pe0 He1 Pe1]
    · isplitl [Pe0]; · iexact Pe0
      isplitl [He1]; · iexact He1
      iexact Pe1
    isplitl [Hw]; · iexact Hw
    isplitl [C1 P1]
    · isplitl [C1]; · iexact C1
      iexact P1
    isplitl [Tr]; · iexact Tr
    isplitl [Cr]; · iexact Cr
    iexact Pr
  isplitl [T2 T3]
  · isplitl [T2]; · iexact T2
    iexact T3
  isplitl [C3 P3]
  · isplitl [C3]; · iexact C3
    iexact P3
  iexact P2

/-! ## Out of the body -/

theorem close (c : Dev nD) (i : CI) (R : ℕ) (h : ∀ r, R ≤ r → dutiesK i r = ∅) :
    iprop(recs X K ∗ posC c i R) ⊢ (|={Set.univ}=> semVal (kcell (c, i)) 0 : sProp 𝕄) := by
  iintro ⟨#HR, H⟩
  ihave #HI := recs_inv X K (c, i) $$ HR
  imod (Rounds.cell_close ER (Rd X) (Set.mem_univ (K (c, i))) (fun h => h) (R := R) (fun r hr => by rw [duties_eq]; exact h r hr)) $$ [H] with Hz
  · isplitr; · iexact HI
    iexact H
  imodintro
  iexact Hz

theorem closeL {α : Type} (c : Dev nD) (l : List α) (f : α → CI) (R : ℕ) (h : ∀ x ∈ l, ∀ r, R ≤ r → dutiesK (f x) r = ∅) :
    iprop(recs X K ∗ sepL l fun x => posC c (f x) R) ⊢ (|={Set.univ}=> sepL l fun x => semVal (kcell (c, f x)) 0 : sProp 𝕄) := by
  induction l with
  | nil =>
    iintro ⟨-, H⟩
    imodintro
    iexact H
  | cons x l ih =>
    rw [sepL_cons, sepL_cons]
    iintro ⟨#HR, H, Hl⟩
    imod (close X K c (f x) R (h x List.mem_cons_self)) $$ [H] with Hz
    · isplitr; · iexact HR
      iexact H
    imod (ih fun y hy => h y (List.mem_cons_of_mem _ hy)) $$ [Hl] with Hzl
    · isplitr; · iexact HR
      iexact Hl
    imodintro
    isplitl [Hz]; · iexact Hz
    iexact Hzl

theorem idle_list (A : CI → sProp 𝕄) : idle A = sepL (([0, 1, 2, 3] : List (Fin 4)).flatMap fun t => eight.map fun k => (t, k)) fun x => A (xf x.1 x.2 0) := by
  rw [sepL_flat]
  exact sepL_finset _ (by decide) (by decide) _

/-- What the body leaves, the cells closed. -/
def doneSt (c : Dev nD) : sProp 𝕄 :=
  iprop(ow (F := F) c [] ∗ (xP c (X.x c) ∗ rP c (X.r c) ∗ iP c (X.i c) ∗ sP c (X.s c) ∗ oP c (X.out c 8)) ∗ bufs0 c ∗ wPts c Finset.univ (X.w c)
    ∗ unscopedSems0 c ∗ own0 c)

theorem slots_end (c : Dev nD) : slots (F := F) c 8 ⊢ iprop((∃ f, ePts (F := F) c Finset.univ f) ∗ posC c (ew 0) 4 ∗ posC c (ew 1) 4) := by
  have e : slots (F := F) c 8 = iprop((∃ f, ePts c (eSet 0) f) ∗ posC c (ew 0) 4 ∗ (∃ f, ePts c (eSet 1) f) ∗ posC c (ew 1) 4 ∗ reachC c (ew 1) 4) := by
    unfold slots; rw [if_neg (by decide)]; rfl
  rw [e]
  iintro ⟨⟨%f, H0⟩, P0, ⟨%g, H1⟩, P1, -⟩
  isplitl [H0 H1]
  · iapply (e_join c f g)
    isplitl [H0]; · iexact H0
    iexact H1
  isplitl [P0]; · iexact P0
  iexact P1

theorem none_left (t : Fin 4) : ∀ x ∈ runL, ∀ r, 1 ≤ r → dutiesK (xf t x.1 x.2) r = ∅ := fun x _ r hr => if_neg fun h => by omega

theorem from_end (c : Dev nD) : iprop(endSt X K c ∗ idle fun i => posC (F := F) c i 0) ⊢ |={Set.univ}=> doneSt X c := by
  have hS := sems_eq (F := F) c
  rw [ci_cut] at hS
  rw [idle_list]
  unfold endSt keep spent doneSt bufs0
  iintro ⟨⟨#HR, HO, ⟨Sx, Sr, Si, Ss, Bxs, Pb⟩, Bds, So, ⟨Hsl, P0, P1, Hw⟩, Pr, Bd, Bc, P2, P3⟩, Pi⟩
  ihave Hsl := slots_end c $$ Hsl
  icases Hsl with ⟨Be, Pe0, Pe1⟩
  imod (close X K c bar 1 (fun r hr => if_neg (by omega))) $$ [Pb] with Zb
  · isplitr; · iexact HR
    iexact Pb
  imod (close X K c rdy 1 (fun r hr => if_neg (by omega))) $$ [Pr] with Zr
  · isplitr; · iexact HR
    iexact Pr
  imod (close X K c (ew 0) 4 (fun r hr => if_neg (by omega))) $$ [Pe0] with Ze0
  · isplitr; · iexact HR
    iexact Pe0
  imod (close X K c (ew 1) 4 (fun r hr => if_neg (by omega))) $$ [Pe1] with Ze1
  · isplitr; · iexact HR
    iexact Pe1
  imod (closeL X K c runL (fun x => xf 0 x.1 x.2) 1 (none_left 0)) $$ [P0] with Z0
  · isplitr; · iexact HR
    iexact P0
  imod (closeL X K c runL (fun x => xf 1 x.1 x.2) 1 (none_left 1)) $$ [P1] with Z1
  · isplitr; · iexact HR
    iexact P1
  imod (closeL X K c runL (fun x => xf 2 x.1 x.2) 1 (none_left 2)) $$ [P2] with Z2
  · isplitr; · iexact HR
    iexact P2
  imod (closeL X K c runL (fun x => xf 3 x.1 x.2) 1 (none_left 3)) $$ [P3] with Z3
  · isplitr; · iexact HR
    iexact P3
  imod (closeL X K c (([0, 1, 2, 3] : List (Fin 4)).flatMap fun t => eight.map fun k => (t, k)) (fun x => xf x.1 x.2 0) 0
    (fun x _ r _ => if_neg fun h => h.2 rfl)) $$ [Pi] with Zi
  · isplitr; · iexact HR
    iexact Pi
  ihave Zi := (Entails.of_eq (idle_list (F := F) fun i => semVal (kcell (c, i)) 0).symm) $$ Zi
  unfold idle
  ihave HZ := (Entails.of_eq hS) $$ [Zb Zr Ze0 Ze1 Zi Z0 Z1 Z2 Z3]
  · isplitl [Zb]; · iexact Zb
    isplitl [Zr]; · iexact Zr
    isplitl [Ze0 Ze1]
    · isplitl [Ze0]; · iexact Ze0
      iexact Ze1
    isplitl [Zi]; · iexact Zi
    isplitl [Z0]; · iexact Z0
    isplitl [Z1]; · iexact Z1
    isplitl [Z2]; · iexact Z2
    iexact Z3
  icases HZ with ⟨HU, HZ⟩
  imodintro
  isplitl [HO]; · iexact HO
  isplitl [Sx Sr Si Ss So]
  · isplitl [Sx]; · iexact Sx
    isplitl [Sr]; · iexact Sr
    isplitl [Si]; · iexact Si
    isplitl [Ss]; · iexact Ss
    iexact So
  isplitl [Bd Bc Be Bxs Bds]
  · isplitl [Bd]; · iexists _; iexact Bd
    isplitl [Bc]; · iexists _; iexact Bc
    isplitl [Be]; · iexact Be
    isplitl [Bxs]; · iexists _; iexact Bxs
    iexists _; iexact Bds
  isplitl [Hw]; · iexact Hw
  isplitl [HU]; · iexact HU
  iexact HZ

theorem run_all (c : Dev nD) : iprop(startSt X K c ∗ idle fun i => posC (F := F) c i 0) ⊢ run c (onBufs (cc0_body (F := F))) fun _ => doneSt X c :=
  (sep_mono_left (run_body X K c (fun _ => endSt X K c) (BIBase.Entails.refl (P := _)))).trans
    ((wp_frame_r _ _ _).trans ((wp_mono _ _ _ fun _ => from_end X K c).trans (wp_fupd _ _ _ _ _)))

end Cert.Exchange

end
-- ==== Proof.Run.lean ====
/-
# The run

The whole program under the launch: at any float values, from any memory with every counter at zero, every device's
output array ends at the computed contents, every other array is as it was, and every counter ends at zero.
-/
module

public import proofs.«01_k».proof.Proof.Launch
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The inputs a memory holds. -/
def inp : Inp F where
  x c := (win0_0.blk (0 : Fin 1)).view.read (Elt F) (m ((c : Thread nD τ).loc main_arg0))
  r c := (win0_1.blk (0 : Fin 1)).view.read (Elt F) (m ((c : Thread nD τ).loc main_arg1))
  i c := (win0_2.blk (0 : Fin 1)).view.read (Elt F) (m ((c : Thread nD τ).loc main_arg2))
  w c := m ((c : Thread nD τ).loc main_arg3)
  s c := (win0_3.blk (0 : Fin 1)).view.read (Elt F) (m ((c : Thread nD τ).loc main_arg4))

/-- What a device's body starts from. -/
def start (c : Dev nD) : sProp 𝕄 :=
  iprop((∃ K, recs (inp m) K) ∗ posAll c ∗ payToks c ∗ creds c ∗ wPts c Finset.univ ((inp m).w c))
def Φ₀ (c : Dev nD) : sProp 𝕄 := iprop(start m c ∗ bufs0 c)
def Φ₁ (c : Dev nD) : sProp 𝕄 := iprop(bufs0 (F := F) c ∗ wPts c Finset.univ ((inp m).w c) ∗ unscopedSems0 c ∗ own0 c)

def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).r c
    | ⟨2, _⟩ => (inp m).i c
    | ⟨3, _⟩ => (inp m).s c
    | ⟨4, _⟩ => (inp m).out c 8
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

abbrev t₀ : Fin cfg0.N := t0_0

/-- A staging buffer at given contents. -/
def stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre (c : Dev nD) : sProp 𝕄 :=
  iprop(Φ₀ m c ∗ (dats m 0 c).owesAt () t₀.castSucc
    ∗ (∃ d, stg c cc0_stg0_0 ((dats m 0 c).before (0 : Fin 5) t₀ d))
    ∗ (∃ d, stg c cc0_stg1_0 ((dats m 0 c).before (1 : Fin 5) t₀ d))
    ∗ (∃ d, stg c cc0_stg2_0 ((dats m 0 c).before (2 : Fin 5) t₀ d))
    ∗ (∃ d, stg c cc0_stg3_0 ((dats m 0 c).before (3 : Fin 5) t₀ d))
    ∗ (∃ d, stg c cc0_stg4_0 ((dats m 0 c).before (4 : Fin 5) t₀ d)))
def bodyPost (c : Dev nD) : sProp 𝕄 :=
  iprop(Φ₁ m c ∗ (dats m 0 c).owesAt () t₀.succ ∗ stg c cc0_stg0_0 ((inp m).x c) ∗ stg c cc0_stg1_0 ((inp m).r c) ∗ stg c cc0_stg2_0 ((inp m).i c)
    ∗ stg c cc0_stg3_0 ((inp m).s c) ∗ stg c cc0_stg4_0 ((inp m).out c 8))

theorem done_post (c : Dev nD) : doneSt (inp m) c ⊢ bodyPost m c := by
  unfold doneSt bodyPost Φ₁ Dat.owesAt Pipeline.owesWithin
  rw [show (dats m 0 c).owed t₀.succ = 0 from rfl]
  unfold ow stg
  iintro ⟨⟨%W, HO⟩, ⟨Sx, Sr, Si, Ss, So⟩, HB, Hw, HU, HZ⟩
  isplitl [HB Hw HU HZ]
  · isplitl [HB]; · iexact HB
    isplitl [Hw]; · iexact Hw
    isplitl [HU]; · iexact HU
    iexact HZ
  isplitl [HO]
  · iexists W
    isplitr; · ipureintro; exact fun _ _ => Or.inl trivial
    iexact HO
  isplitl [Sx]
  · iexists _; isplitr; · (ipureintro; rfl)
    iexact Sx
  isplitl [Sr]
  · iexists _; isplitr; · (ipureintro; rfl)
    iexact Sr
  isplitl [Si]
  · iexists _; isplitr; · (ipureintro; rfl)
    iexact Si
  isplitl [Ss]
  · iexists _; isplitr; · (ipureintro; rfl)
    iexact Ss
  iexists _; isplitr; · (ipureintro; rfl)
  iexact So

theorem pre_start (c : Dev nD) : bodyPre m c ⊢ iprop(∃ K, startSt (inp m) K c ∗ idle fun i => posC (F := F) c i 0) := by
  have h0 (d) : (dats m 0 c).before (0 : Fin 5) t₀ d = (inp m).x c := by unfold Dat.before; rw [if_pos (fetch0_0 t₀)]; rfl
  have h1 (d) : (dats m 0 c).before (1 : Fin 5) t₀ d = (inp m).r c := by unfold Dat.before; rw [if_pos (fetch0_1 t₀)]; rfl
  have h2 (d) : (dats m 0 c).before (2 : Fin 5) t₀ d = (inp m).i c := by unfold Dat.before; rw [if_pos (fetch0_2 t₀)]; rfl
  have h3 (d) : (dats m 0 c).before (3 : Fin 5) t₀ d = (inp m).s c := by unfold Dat.before; rw [if_pos (fetch0_3 t₀)]; rfl
  unfold bodyPre Φ₀ start stg Dat.owesAt Pipeline.owesWithin
  rw [show (dats m 0 c).owed t₀.castSucc = Ow (dues c) from rfl]
  iintro ⟨⟨⟨⟨%K, #HR⟩, HP, HT, HC, Hw⟩, HB⟩, ⟨%W, %hW, HO⟩, ⟨%d0, %g0, %e0, Sx⟩, ⟨%d1, %g1, %e1, Sr⟩, ⟨%d2, %g2, %e2, Si⟩, ⟨%d3, %g3, %e3, Ss⟩, ⟨%d4, %g4, %e4, So⟩⟩
  have e0 := e0.trans (h0 d0)
  have e1 := e1.trans (h1 d1)
  have e2 := e2.trans (h2 d2)
  have e3 := e3.trans (h3 d3)
  subst e0 e1 e2 e3
  iexists K
  iapply (to_start (inp m) K c)
  unfold ow stage0
  isplitr; · iexact HR
  isplitl [HP]; · iexact HP
  isplitl [HT]; · iexact HT
  isplitl [HC]; · iexact HC
  isplitl [Hw]; · iexact Hw
  isplitl [HO]; · iexists W; iexact HO
  isplitl [Sx Sr Si Ss So]
  · isplitl [Sx]; · iexact Sx
    isplitl [Sr]; · iexact Sr
    isplitl [Si]; · iexact Si
    isplitl [Ss]; · iexact Ss
    iexists _; iexact So
  iexact HB

theorem body_run (c : Dev nD) : bodyPre m c ⊢ run c (onBufs (cc0_body (F := F))) fun _ => bodyPost m c := by
  refine (pre_start m c).trans ?_
  iintro ⟨%K, H⟩
  iapply ((run_all (inp m) K c).trans (wp_mono _ _ _ fun _ => done_post m c))
  iexact H

set_option maxRecDepth 4000 in
/-- The launch's obligation on a device's body. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_run m c

/-! ## The side conditions -/

theorem ownSemFacts : Pipeline.OwnSemFacts cfg0.spec osem where
  isScoped := by decide +kernel
  inj := osem_injective
  disj := by decide +kernel

theorem share_eq (c : Dev nD) (w : Fin cfg0.W) : (dats m 0 c).share w = fullShare := by unfold Dat.share; split <;> rfl

theorem rest_eq (c : Dev nD) : (Pipeline.unscopedRestP (Ix := Unit) (Name := ℕ) (U := UU) (Lvl := ℕ) Pipeline.Prefetch.none cfg0.spec c (fun b => m ((c : Thread nD τ).loc b)) : sProp 𝕄)
    = wPts c Finset.univ ((inp m).w c) :=
  Pipeline.unscopedRestP_eq_of_list cfg0.spec c Pipeline.Prefetch.none (fun b => m ((c : Thread nD τ).loc b)) [main_arg3] (by decide) (by decide)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  rw [rest_eq]
  unfold G' linear start invs
  iintro ⟨Hw, #Hl, Hc, -, ⟨%K, ⟨#HI, #HR⟩, HP, HT⟩⟩
  ihave Hc := launch_creds (F := F) c $$ Hc
  imodintro
  isplitl
  · isplitr
    · iexists K
      unfold recs
      isplitr; · iexact HI
      isplitr; · iexact HR
      iexact Hl
    isplitl [HP]; · iexact HP
    isplitl [HT]; · iexact HT
    isplitl [Hc]; · iexact Hc
    iexact Hw
  · iempintro

theorem bufs_eq (c : Dev nD) : (Pipeline.scopedRest cfg0.spec c : sProp 𝕄) = bufs0 c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, bufs_eq]
  unfold Φ₀
  iintro ⟨Hs, -, HB⟩
  isplitl [Hs]; · iexact Hs
  iexact HB

theorem phi1_exit (c : Dev nD) :
    (dats m 0 c).Φ (Fin.last cfg0.N) ⊢ iprop((unscopedSems0 c ∗ wPts c Finset.univ ((inp m).w c)) ∗ own0 c ∗ Pipeline.scopedRest cfg0.spec c) := by
  rw [show (dats m 0 c).Φ (Fin.last cfg0.N) = Φ₁ m c from rfl, bufs_eq]
  unfold Φ₁
  iintro ⟨HB, Hw, HU, HZ⟩
  isplitl [HU Hw]
  · isplitl [HU]; · iexact HU
    iexact Hw
  isplitl [HZ]; · iexact HZ
  iexact HB

theorem above_all (c : Dev nD) : Above 0 (dues c) :=
  (above_bar c).append (((above_dr c offs).mono (by decide)).append (((above_rdy c).mono (by decide)).append ((above_rr c offs).mono (by decide))))

theorem lv_stage (c : Dev nD) (w : Fin cfg0.W) (s : Fin (cfg0.win w).nbuf) : lv ((c : Thread nD τ), .dma ((cfg0.win w).sem s)) () ≤ 0 := by
  have h : kindOf (.dma ((cfg0.win w).sem s)) = none := by
    cases hk : kindOf (.dma ((cfg0.win w).sem s)) with
    | none => rfl
    | some i =>
      have hi := csem_of_kindOf hk
      match i, hi with
      | .inl _, hi => cases hi
      | .inr x, hi => exact absurd hi (ownSemFacts.disj x w s)
  show (kindOf _).elim 0 lvK ≤ 0
  rw [h]; exact le_refl 0

theorem waits (c : Dev nD) : (levAts L lv : sProp 𝕄) ⊢ Pipeline.cellsWaits cfgs (dats m) () 0 c :=
  Pipeline.cellsWaits_intro cfgs (dats m) () 0 c fun w s t => by
    rcases t with ⟨_ | n, ht⟩
    · exact mayWait_of_above c _ (n := 0) (lv_stage c w s) (above_all c)
    · exact mayWait_of_above c _ (n := 0) (lv_stage c w s) (l := []) (Above.nil 0)

/-! ## The run -/

/-- A window's array at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r => ∀ c : Dev nD,
  (∀ w : Fin cfg0.W, r.2.mem ((cfg0.win w).arr.view.loc (c : Thread nD τ)) = finalA m c w)
    ∧ r.2.mem ((c : Thread nD τ).loc main_arg3) = m ((c : Thread nD τ).loc main_arg3)

theorem w_read (c : Dev nD) (s' : Phys nD τ sig (Elt F)) :
    iprop((unscopedSems0 c ∗ wPts c Finset.univ ((inp m).w c)) ∗ emp ∗ SI s')
      ⊢ |={Set.univ}=> iprop(⌜s'.mem.mem ((c : Thread nD τ).loc main_arg3) = m ((c : Thread nD τ).loc main_arg3)
        ∧ ∀ sm : SemLoc sig, sm.isScoped .tc = false → s'.mem.sem ((c.tc : Thread nD τ), sm) = 0⌝ ∗ SI s') := by
  unfold wPts
  iintro ⟨⟨HU, Hw⟩, -, HSI⟩
  ihave %hw := (SI_pointsTo_agree (st := s') (ℓ := (c : Thread nD τ).loc main_arg3) (I := Finset.univ) (q := fullShare) (f := (inp m).w c)) $$ [HSI Hw]
  · isplitl [HSI]; · iexact HSI
    iexact Hw
  imod (Pipeline.unscopedSems0_read (X := unscopedSems0 c) (c := c) fupd_intro s') $$ [HU HSI] with ⟨%hs, HSI⟩
  · isplitl [HU] <;> iassumption
  imodintro
  isplitr
  · ipureintro; exact ⟨funext fun i => hw i (Finset.mem_univ i), hs⟩
  iexact HSI

set_option maxRecDepth 8000 in
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := glob (inp m))
    (hA := fun _ _ => rfl) (hpf := fun _ k => k.elim0)
    (X := start m) (Y := fun c => iprop(unscopedSems0 c ∗ wPts c Finset.univ ((inp m).w c))) (Z := fun _ => iprop(emp))
    (hX := start_intro m ρ) (hin := phi0_intro m) (hout := phi1_exit m)
    (QY := fun c s => s.mem ((c : Thread nD τ).loc main_arg3) = m ((c : Thread nD τ).loc main_arg3)
      ∧ ∀ sm : SemLoc sig, sm.isScoped .tc = false → s.sem ((c.tc : Thread nD τ), sm) = 0)
    (hY := w_read m)
    (hQ := fun _ h hs => ⟨fun c => ⟨(h c).1, (h c).2.2.1⟩, sem_eq_zero hs fun c => (h c).2.2.2⟩)

/-- The arguments after the run are what they were. -/
theorem args_kept {r : PUnit × MemSt nD τ sig (Elt F)} (h : QC m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).1 0).trans ((dats (F := F) m 0 c).arrAt_in (0 : Fin 5) rfl _), ((h c).1 1).trans ((dats (F := F) m 0 c).arrAt_in (1 : Fin 5) rfl _),
    ((h c).1 2).trans ((dats (F := F) m 0 c).arrAt_in (2 : Fin 5) rfl _), (h c).2, ((h c).1 3).trans ((dats (F := F) m 0 c).arrAt_in (3 : Fin 5) rfl _)⟩

/-- The run leaves the arguments and every counter as they were. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0) :=
  (θ_run defs _ _).mono (fun _ h => ⟨args_kept m h.1, h.2⟩) (run_main m ρ)

end Cert.Exchange

end
-- ==== Proof.Reads.lean ====
/-
# The payloads read at an index

What each pure step of the kernel computes at one position, the floats extended reals. A comparison of two words
becomes the number 1 or 0 (`hit`); the gate of an expert is its share of the exponentials of the scores (`gate`).
-/
module

public import proofs.«01_k».proof.Proof.Common
public import Idealize.ShloMosaic.Lib.Pointwise
public import Idealize.ShloMosaic.Lib.WordCmp

@[expose] public section

set_option maxRecDepth 16384

noncomputable section

namespace Cert.Exchange

open Cert.KernelIdeal Cert.KernelIdeal.Gen
open Idealize.ShloMosaic

/-- 1 where the statement holds, 0 where it does not. -/
def hit (p : Prop) [Decidable p] : EReal := if p then 1 else 0

theorem hit_pos {p : Prop} [Decidable p] (h : p) : hit p = 1 := if_pos h
theorem hit_neg {p : Prop} [Decidable p] (h : ¬p) : hit p = 0 := if_neg h

/-- A compared pair of words as the number the kernel makes of it. -/
theorem sitofp_eq (a b : BitVec 32) :
    FloatOps.sitofp (F := Ideal) .f32 (BitVec.setWidth 32 (IntOp.cmpi .eq a b)) = hit (a = b) := by
  rw [Idealize.ShloMosaic.WordCmp.cmpi_eq_eq]
  by_cases h : a = b
  · rw [hit_pos h, decide_eq_true h]
    show ((((BitVec.setWidth 32 (BitVec.ofBool true)).toInt : ℤ) : ℝ) : EReal) = 1
    rw [show (BitVec.setWidth 32 (BitVec.ofBool true)).toInt = 1 by decide]
    simp
  · rw [hit_neg h, decide_eq_false h]
    show ((((BitVec.setWidth 32 (BitVec.ofBool false)).toInt : ℤ) : ℝ) : EReal) = 0
    rw [show (BitVec.setWidth 32 (BitVec.ofBool false)).toInt = 0 by decide]
    simp

theorem uitofp_eq (a b : BitVec 32) : FloatOps.uitofp (F := Ideal) .f32 (IntOp.cmpi .eq a b) = hit (a = b) := by
  rw [Idealize.ShloMosaic.WordCmp.cmpi_eq_eq]
  by_cases h : a = b
  · rw [hit_pos h, decide_eq_true h]
    show ((((BitVec.ofBool true).toNat : ℕ) : ℝ) : EReal) = 1
    rw [show (BitVec.ofBool true).toNat = 1 by decide]
    simp
  · rw [hit_neg h, decide_eq_false h]
    show ((((BitVec.ofBool false).toNat : ℕ) : ℝ) : EReal) = 0
    rw [show (BitVec.ofBool false).toNat = 0 by decide]
    simp

/-- An expert's share of the exponentials of the scores, the scores taken from their largest. -/
def gate (s : Fin 64 → EReal) (e : Fin 64) : EReal :=
  Ideal.div (Ideal.exp (s e - Finset.fold max (Ideal.ofBits FTy.f32 0xFF800000#32) s Finset.univ))
    (∑ e', Ideal.exp (s e' - Finset.fold max (Ideal.ofBits FTy.f32 0xFF800000#32) s Finset.univ))

/-- The number, as a word, of the first slot of the device `n` places on. -/
def dest (r : BitVec 32) (n : Nat) : BitVec 32 :=
  Scalar.muli (Scalar.select
    (Scalar.andi (Scalar.xori
        (Scalar.cmpi .slt (Scalar.remsi (Scalar.addi r (Scf.iv 0#32 1#32 n)) (Scalar.select (Scalar.cmpi .eq 8#32 0#32) 1#32 8#32)) 0#32)
        (Scalar.cmpi .slt (Scalar.select (Scalar.cmpi .eq 8#32 0#32) 1#32 8#32) 0#32))
      (Scalar.cmpi .ne (Scalar.remsi (Scalar.addi r (Scf.iv 0#32 1#32 n)) (Scalar.select (Scalar.cmpi .eq 8#32 0#32) 1#32 8#32)) 0#32))
    (Scalar.addi (Scalar.remsi (Scalar.addi r (Scf.iv 0#32 1#32 n)) (Scalar.select (Scalar.cmpi .eq 8#32 0#32) 1#32 8#32))
      (Scalar.select (Scalar.cmpi .eq 8#32 0#32) 1#32 8#32))
    (Scalar.remsi (Scalar.addi r (Scf.iv 0#32 1#32 n)) (Scalar.select (Scalar.cmpi .eq 8#32 0#32) 1#32 8#32))) 512#32

theorem dest_eq (c : Dev nD) (o : Fin 8) : dest (ringNo c) o.val = BitVec.ofNat 32 (512 * (fwd c o).val) := by
  revert c o; decide

theorem pay1_read (v : Vec Ideal S2048x1 .i32) (t : Fin 2048) : k0_pay1 (F := Ideal) v (ix2 t 0) = v (ix2 t 0) := by
  pointwise [k0_pay1]

theorem pay2_read (v : Vec Ideal S2048x1 .i32) (t : Fin 2048) (e : Fin 64) :
    k0_pay2 (F := Ideal) v (ix2 t e) = hit (BitVec.ofNat 32 e.val = v (ix2 t 0)) := by
  pointwise [k0_pay2, k0_pay1]
  exact sitofp_eq _ _

theorem pay9_read (p : FVec Ideal S2048x1 .f32) (x : Vec Ideal S2048x1024 .bf16) (t : Fin 2048) (d : Fin 1024) :
    k0_pay9 (F := Ideal) p x (ix2 t d) = x (ix2 t d) * p (ix2 t 0) := by
  pointwise [k0_pay9]

theorem pay10_read (q : Fin 512) (d : Fin 1024) : k0_pay10 (F := Ideal) (ix2 q d) = 0 := by
  pointwise [k0_pay10]

theorem pay12_read (v : FVec Ideal S512x1024 .f32) (q : Fin 512) (d : Fin 1024) :
    k0_pay12 (F := Ideal) v (ix3 0 q d) = v (ix2 q d) := by
  pointwise [k0_pay12]

theorem pay23_read (x : Vec Ideal S512x1024 .bf16) (s : Vec Ideal S1024x1024 .bf16) (q : Fin 512) (f : Fin 1024) :
    k0_pay23 (F := Ideal) x s (ix2 q f) = ∑ d : Fin 1024, x (ix2 q d) * s (ix2 d f) := by
  pointwise [k0_pay23, dot_S512x1024_S1024x1024_S512x1024_1_0_0_1_n_n]

theorem pay24_read (v : Vec Ideal S1x8x64x1024 .bf16) (w : Vec Ideal S1x1024x1024 .bf16) (q : Fin 512) (f : Fin 1024) :
    k0_pay24 (F := Ideal) v w (ix3 0 q f)
      = ∑ d : Fin 1024, v (ix4 0 ⟨q.val / 64, by omega⟩ ⟨q.val % 64, by omega⟩ d) * w (ix3 0 d f) := by
  pointwise [k0_pay24, dot_S512x1024_S1024x1024_S512x1024_1_0_0_1_n_n]

theorem pay11_read (r : BitVec 32) (t : Fin k0_t1_loop.trips) (a : FVec Ideal S512x1024 .f32) (s : Vec Ideal S512x1 .i32)
    (x : Vec Ideal S512x1024 .bf16) (q : Fin 512) (d : Fin 1024) :
    k0_pay11 (F := Ideal) r t a s x (ix2 q d)
      = a (ix2 q d) + ∑ k : Fin 512, hit (s (ix2 k 0) - dest r t.val = BitVec.ofNat 32 q.val) * x (ix2 k d) := by
  pointwise [k0_pay11, dot_S512x512_S512x1024_S512x1024_0_0_1_1_n_n]
  exact congrArg _ (Finset.sum_congr rfl fun k _ => congrArg (· * _) (sitofp_eq _ _))

theorem pay34_read (r : BitVec 32) (t : Fin k0_t5_loop.trips) (v : Vec Ideal S1x8x64x1024 .bf16) (s : Vec Ideal S512x1 .i32)
    (a : FVec Ideal S512x1024 .f32) (q : Fin 512) (f : Fin 1024) :
    k0_pay34 (F := Ideal) r t v s a (ix2 q f)
      = a (ix2 q f) + ∑ k : Fin 512, hit (s (ix2 q 0) - dest r t.val = BitVec.ofNat 32 k.val)
          * v (ix4 0 ⟨k.val / 64, by omega⟩ ⟨k.val % 64, by omega⟩ f) := by
  pointwise [k0_pay34, dot_S512x512_S512x1024_S512x1024_1_0_0_1_n_n]
  exact congrArg _ (Finset.sum_congr rfl fun k _ => congrArg (· * _) (sitofp_eq _ _))

theorem pay3_read (x : Vec Ideal S2048x1024 .bf16) (r : Vec Ideal S1024x64 .bf16) (v : Vec Ideal S2048x1 .i32) (t : Fin 2048) :
    k0_pay3 (F := Ideal) x r v (ix2 t 0)
      = ∑ e : Fin 64, gate (fun e => ∑ d : Fin 1024, x (ix2 t d) * r (ix2 d e)) e * hit (BitVec.ofNat 32 e.val = v (ix2 t 0)) := by
  pointwise [k0_pay3, dot_S2048x1024_S1024x64_S2048x64_1_0_0_1_n_n, pay2_read]
  rfl

/-- Rows moved down by `n`, zeros above them. -/
theorem shift_read {n k : ℕ} (z : EReal) (v : FVec Ideal S2048x64 .f32) (hs : S2048x64.Slices ![0, 0] ⟨2, ![k, 64]⟩)
    (hc : Shape.Concatenates [⟨2, ![n, 64]⟩, ⟨2, ![k, 64]⟩] S2048x64 0) (t : Fin 2048) (e : Fin 64) :
    concatenate S2048x64 0 [⟨⟨2, ![n, 64]⟩, (broadcast ⟨2, ![n, 64]⟩ z : FVec Ideal ⟨2, ![n, 64]⟩ .f32)⟩,
        ⟨⟨2, ![k, 64]⟩, extractStridedSlice ⟨2, ![k, 64]⟩ ![0, 0] v hs⟩] hc (ix2 t e)
      = if t.val < n then z else v (ix2 ⟨t.val - n, by omega⟩ e) := by
  pointwise
  by_cases h : t.val < n
  · rw [if_pos h]; exact dif_pos h
  · rw [if_neg h]; exact dif_neg h

end Cert.Exchange

end
-- ==== Proof.Gate.lean ====
/-
# The gate is a nonnegative number

With finite tokens and a finite router the scores are real numbers, so the gate of an expert is a real number that
is not negative. A product with such a number may be taken into a sum.
-/
module

public import proofs.«01_k».proof.Proof.Reads

@[expose] public section

noncomputable section

namespace Cert.Exchange

open Idealize.ShloMosaic

/-- The extended real is a real number. -/
def IsReal (x : EReal) : Prop := ∃ r : ℝ, x = (r : EReal)

theorem isReal_of {x : EReal} (h₁ : x ≠ ⊥) (h₂ : x ≠ ⊤) : IsReal x := ⟨x.toReal, (EReal.coe_toReal h₂ h₁).symm⟩

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.sum {ι : Type} [Fintype ι] {f : ι → EReal} (h : ∀ i, IsReal (f i)) : IsReal (∑ i, f i) :=
  Finset.sum_induction f IsReal (fun _ _ => IsReal.add) ⟨0, EReal.coe_zero.symm⟩ fun i _ => h i

theorem negInf : Ideal.ofBits FTy.f32 0xFF800000#32 = ⊥ := by simp [Ideal.ofBits, Ideal.ieee]
theorem posInf : Ideal.ofBits FTy.f32 0x7F800000#32 = ⊤ := by simp [Ideal.ofBits, Ideal.ieee]
theorem sixtyFour : Ideal.ofBits FTy.f32 0x42800000#32 = ((64 : ℝ) : EReal) := by
  simp [Ideal.ofBits, Ideal.ieee, -EReal.coe_mul]; norm_num

/-- The largest of the scores is one of them, so a real number. -/
theorem isReal_max {s : Fin 64 → EReal} (h : ∀ e, IsReal (s e)) :
    IsReal (Finset.fold max (Ideal.ofBits FTy.f32 0xFF800000#32) s Finset.univ) := by
  refine isReal_of (fun hb => ?_) (fun ht => ?_)
  · have h0 : s 0 ≤ Finset.fold max (Ideal.ofBits FTy.f32 0xFF800000#32) s Finset.univ :=
      (Finset.le_fold_max _).2 (.inr ⟨0, Finset.mem_univ _, le_rfl⟩)
    obtain ⟨r, hr⟩ := h 0
    rw [hb, hr] at h0
    exact EReal.coe_ne_bot r (le_bot_iff.1 h0)
  · have h1 : Finset.fold max (Ideal.ofBits FTy.f32 0xFF800000#32) s Finset.univ < ⊤ :=
      (Finset.fold_max_lt _).2 ⟨by rw [negInf]; exact bot_lt_top, fun e _ => by
        obtain ⟨r, hr⟩ := h e; rw [hr]; exact EReal.coe_lt_top r⟩
    exact h1.ne ht

/-- The exponential of a real number is a positive real number. -/
theorem exp_pos_real {x : EReal} : IsReal x → ∃ r : ℝ, 0 < r ∧ Ideal.exp x = (r : EReal)
  | ⟨a, ha⟩ => ⟨Real.exp a, Real.exp_pos a, by rw [ha, Ideal.exp_coe]⟩

theorem sum_pos_real {f : Fin 64 → EReal} (h : ∀ e, ∃ r : ℝ, 0 < r ∧ f e = (r : EReal)) :
    ∃ r : ℝ, 0 < r ∧ ∑ e, f e = (r : EReal) :=
  Finset.sum_induction_nonempty f (fun x => ∃ r : ℝ, 0 < r ∧ x = (r : EReal))
    (fun _ _ ⟨a, ha, ea⟩ ⟨b, hb, eb⟩ => ⟨a + b, add_pos ha hb, by rw [ea, eb, EReal.coe_add]⟩)
    Finset.univ_nonempty fun e _ => h e

theorem gate_real {s : Fin 64 → EReal} (h : ∀ e, IsReal (s e)) (e : Fin 64) : ∃ r : ℝ, 0 ≤ r ∧ gate s e = (r : EReal) := by
  have hM := isReal_max h
  obtain ⟨a, ha, ea⟩ := exp_pos_real ((h e).sub hM)
  obtain ⟨b, hb, eb⟩ := sum_pos_real fun e' => exp_pos_real ((h e').sub hM)
  refine ⟨a * (1 / b), by positivity, ?_⟩
  unfold gate
  rw [ea, eb, Ideal.div_coe hb.ne', EReal.coe_mul]

/-- A nonnegative real factor of the left operand of a dot product comes out of it. -/
theorem scaled_dot {n : ℕ} {p : EReal} (hp : ∃ r : ℝ, 0 ≤ r ∧ p = (r : EReal)) (x w : Fin n → EReal) :
    ∑ d, x d * p * w d = p * ∑ d, x d * w d := by
  obtain ⟨r, hr, rfl⟩ := hp
  have h0 : (0 : EReal) ≤ (r : EReal) := EReal.coe_nonneg.2 hr
  have hsum : ∀ s : Finset (Fin n), (r : EReal) * ∑ d ∈ s, x d * w d = ∑ d ∈ s, x d * r * w d := fun s => by
    induction s using Finset.induction_on with
    | empty => simp
    | insert a s ha ih =>
      rw [Finset.sum_insert ha, Finset.sum_insert ha, EReal.left_distrib_of_nonneg_of_ne_top h0 (EReal.coe_ne_top r), ih,
        mul_left_comm (r : EReal), mul_assoc (x a)]
  exact (hsum _).symm

end Cert.Exchange

end
-- ==== Proof.Count.lean ====
/-
# The slots

Every expert's tokens are numbered in order: the kernel counts, by doubling, how many tokens up to and including
this one name the expert. The slot of a token is that count less one, and its dispatch slot is its expert's number
times 64 plus the slot. With at most 64 tokens to an expert no token is dropped, and two tokens never share a
dispatch slot.
-/
module

public import proofs.«01_k».proof.Proof.Gate

@[expose] public section

set_option maxRecDepth 16384

noncomputable section

namespace Cert.Exchange

open Cert.KernelIdeal Cert.KernelIdeal.Gen
open Idealize.ShloMosaic

/-! ## Counting by doubling -/

/-- The sum of the last `n` values up to and including the `t`-th. -/
def win (f : ℕ → ℕ) (n t : ℕ) : ℕ := ∑ j ∈ Finset.range n, if j ≤ t then f (t - j) else 0

/-- The sum of all values up to and including the `t`-th. -/
def earlier (f : ℕ → ℕ) (t : ℕ) : ℕ := ∑ j ∈ Finset.range (t + 1), f j

theorem win_one (f : ℕ → ℕ) (t : ℕ) : win f 1 t = f t := by simp [win]

theorem win_double (f : ℕ → ℕ) (n t : ℕ) : win f (n + n) t = win f n t + if t < n then 0 else win f n (t - n) := by
  unfold win
  rw [Finset.sum_range_add]
  congr 1
  by_cases h : t < n
  · rw [if_pos h]
    exact Finset.sum_eq_zero fun j _ => if_neg (by omega)
  · rw [if_neg h]
    refine Finset.sum_congr rfl fun j _ => ?_
    by_cases hj : n + j ≤ t
    · rw [if_pos hj, if_pos (by omega), Nat.sub_add_eq]
    · rw [if_neg hj, if_neg (by omega)]

theorem win_upTo (f : ℕ → ℕ) (n t : ℕ) (h : t < n) : win f n t = earlier f t := by
  unfold win earlier
  rw [← Finset.sum_filter, show (Finset.range n).filter (fun j => j ≤ t) = Finset.range (t + 1) by ext j; simp; omega,
    ← Finset.sum_range_reflect f (t + 1)]
  exact Finset.sum_congr rfl fun j _ => by rw [Nat.add_sub_cancel]

theorem upTo_lt (f : ℕ → ℕ) {t t' : ℕ} (h : t < t') : earlier f t + f t' ≤ earlier f t' := by
  unfold earlier
  rw [Finset.sum_range_succ f t']
  exact Nat.add_le_add_right (Finset.sum_le_sum_of_subset (Finset.range_mono h)) _

theorem le_upTo (f : ℕ → ℕ) (t : ℕ) : f t ≤ earlier f t :=
  Finset.single_le_sum (f := f) (fun _ _ => Nat.zero_le _) (Finset.mem_range.2 (Nat.lt_succ_self t))

/-! ## The experts of a device's tokens -/

/-- 1 at the tokens that name the expert, 0 elsewhere. -/
def named (E : Fin 2048 → Fin 64) (e : Fin 64) (t : ℕ) : ℕ := if h : t < 2048 then (if E ⟨t, h⟩ = e then 1 else 0) else 0

theorem named_at (E : Fin 2048 → Fin 64) (e : Fin 64) (t : Fin 2048) : named E e t.val = if E t = e then 1 else 0 :=
  dif_pos t.isLt

/-- The token's number among its expert's. -/
def slot (E : Fin 2048 → Fin 64) (t : Fin 2048) : ℕ := earlier (named E (E t)) t.val - 1

/-- The token's dispatch slot. -/
def place (E : Fin 2048 → Fin 64) (t : Fin 2048) : ℕ := 64 * (E t).val + slot E t

theorem upTo_pos (E : Fin 2048 → Fin 64) (t : Fin 2048) : 1 ≤ earlier (named E (E t)) t.val :=
  le_trans (by rw [named_at, if_pos rfl]) (le_upTo _ _)

/-- No expert is named by more than 64 tokens. -/
def Fits (E : Fin 2048 → Fin 64) : Prop := ∀ e, ∑ t : Fin 2048, (if E t = e then 1 else 0) ≤ 64

theorem upTo_le {E : Fin 2048 → Fin 64} (h : Fits E) (e : Fin 64) (t : Fin 2048) : earlier (named E e) t.val ≤ 64 := by
  refine le_trans ?_ (h e)
  rw [show ∑ t : Fin 2048, (if E t = e then 1 else 0) = ∑ t : Fin 2048, named E e t.val from
      Finset.sum_congr rfl fun t _ => (named_at E e t).symm, Fin.sum_univ_eq_sum_range (named E e) 2048]
  exact Finset.sum_le_sum_of_subset (Finset.range_mono t.isLt)

theorem slot_lt {E : Fin 2048 → Fin 64} (h : Fits E) (t : Fin 2048) : slot E t < 64 := by
  have := upTo_le h (E t) t; have := upTo_pos E t; unfold slot; omega

theorem place_lt {E : Fin 2048 → Fin 64} (h : Fits E) (t : Fin 2048) : place E t < 4096 := by
  have := slot_lt h t; have := (E t).isLt; unfold place; omega

theorem place_ne_of_lt {E : Fin 2048 → Fin 64} (h : Fits E) {t t' : Fin 2048} (hlt : t.val < t'.val) : place E t ≠ place E t' := fun e => by
  have h1 := slot_lt h t
  have h2 := slot_lt h t'
  have hE : E t = E t' := Fin.ext (by unfold place at e; omega)
  have hs : slot E t = slot E t' := by unfold place at e; rw [hE] at e; omega
  have p1 := upTo_pos E t
  have p2 := upTo_pos E t'
  have hu := upTo_lt (named E (E t')) hlt
  rw [named_at, if_pos rfl] at hu
  unfold slot at hs
  rw [hE] at hs p1
  omega

/-- Two tokens never share a dispatch slot. -/
theorem place_inj {E : Fin 2048 → Fin 64} (h : Fits E) {t t' : Fin 2048} (e : place E t = place E t') : t = t' := by
  rcases Nat.lt_trichotomy t.val t'.val with hl | hl | hl
  · exact absurd e (place_ne_of_lt h hl)
  · exact Fin.ext hl
  · exact absurd e.symm (place_ne_of_lt h hl)

/-! ## The kernel's counts -/

/-- The array counts, for every expert, the named tokens among the last `n`. -/
def Counts (E : Fin 2048 → Fin 64) (n : ℕ) (v : FVec Ideal S2048x64 .f32) : Prop :=
  ∀ t e, v (ix2 t e) = ((win (named E e) n t.val : ℕ) : EReal)

/-- Adding the array moved down by `n` doubles the span it counts. -/
theorem Counts.double {E : Fin 2048 → Fin 64} {n k : ℕ} {v : FVec Ideal S2048x64 .f32} (h : Counts E n v)
    (hs : S2048x64.Slices ![0, 0] ⟨2, ![k, 64]⟩) (hc : Shape.Concatenates [⟨2, ![n, 64]⟩, ⟨2, ![k, 64]⟩] S2048x64 0) :
    Counts E (n + n) (addf v (concatenate S2048x64 0
      [⟨⟨2, ![n, 64]⟩, (broadcast ⟨2, ![n, 64]⟩ (Scalar.ofBits (F := Ideal) .f32 0x00000000#32) : FVec Ideal ⟨2, ![n, 64]⟩ .f32)⟩,
        ⟨⟨2, ![k, 64]⟩, extractStridedSlice ⟨2, ![k, 64]⟩ ![0, 0] v hs⟩] hc)) := fun t e => by
  refine (congrArg (v (ix2 t e) + ·) (shift_read (Scalar.ofBits (F := Ideal) .f32 0x00000000#32) v hs hc t e)).trans ?_
  rw [h, win_double, Nat.cast_add]
  congr 1
  by_cases ht : t.val < n
  · rw [if_pos ht, if_pos ht, Nat.cast_zero]
    exact Ideal.ofBits_zero_f32
  · rw [if_neg ht, if_neg ht, h]

/-- The experts of a device's tokens, read off its routing array. -/
def Names (E : Fin 2048 → Fin 64) (v : Vec Ideal S2048x1 .i32) : Prop := ∀ t, v (ix2 t 0) = BitVec.ofNat 32 (E t).val

theorem names_hit {E : Fin 2048 → Fin 64} {v : Vec Ideal S2048x1 .i32} (h : Names E v) (t : Fin 2048) (e : Fin 64) :
    hit (BitVec.ofNat 32 e.val = v (ix2 t 0)) = hit (E t = e) := by
  have hiff : BitVec.ofNat 32 e.val = v (ix2 t 0) ↔ E t = e := by
    rw [h t]
    refine ⟨fun hh => Fin.ext ?_, fun hh => by rw [hh]⟩
    have := congrArg BitVec.toNat hh
    simp only [BitVec.toNat_ofNat] at this
    have h1 := e.isLt; have h2 := (E t).isLt
    omega
  unfold hit
  simp only [hiff]

theorem counts_one {E : Fin 2048 → Fin 64} {v : Vec Ideal S2048x1 .i32} (h : Names E v) : Counts E 1 (k0_pay2 v) := fun t e => by
  rw [pay2_read, names_hit h, win_one, named_at]
  unfold hit
  split <;> simp

theorem counts_32 {E : Fin 2048 → Fin 64} {v : Vec Ideal S2048x1 .i32} (h : Names E v) : Counts E 32 (k0_pay4 v) :=
  ((((((counts_one h).double slices_S2048x64_o0_0_S2047x64 concatenates_S1x64_S2047x64_S2048x64_d0).double
    slices_S2048x64_o0_0_S2046x64 concatenates_S2x64_S2046x64_S2048x64_d0).double
    slices_S2048x64_o0_0_S2044x64 concatenates_S4x64_S2044x64_S2048x64_d0).double
    slices_S2048x64_o0_0_S2040x64 concatenates_S8x64_S2040x64_S2048x64_d0).double
    slices_S2048x64_o0_0_S2032x64 concatenates_S16x64_S2032x64_S2048x64_d0)

/-- A small count, converted to a word, is that word. -/
theorem fptosi_nat {k : ℕ} (hk : k < 2 ^ 31) : FloatOps.fptosi (F := Ideal) (φ := .f32) 32 (((k : ℝ)) : EReal) = BitVec.ofNat 32 k := by
  show BitVec.ofInt 32 (max (-((2 ^ 31 : ℕ) : ℤ)) (min (((2 ^ 31 : ℕ) : ℤ) - 1) (if 0 ≤ (k : ℝ) then ⌊(k : ℝ)⌋ else ⌈(k : ℝ)⌉))) = _
  rw [if_pos (Nat.cast_nonneg k), Int.floor_natCast, min_eq_right (by omega), max_eq_right (by omega), BitVec.ofInt_natCast]

/-- The dispatch slot as a word, off the array of all counts. -/
theorem pay7_of {v110 : IVec S2048x1 32} {v115 c32 : FVec Ideal S2048x64 .f32} {E : Fin 2048 → Fin 64} (hf : Fits E)
    (h110 : ∀ t, v110 (ix2 t 0) = BitVec.ofNat 32 (E t).val) (h115 : ∀ t e, v115 (ix2 t e) = hit (E t = e)) (hc : Counts E 32 c32)
    (t : Fin 2048) :
    k0_pay7 v110 v115 c32 (k0_pay5 (F := Ideal)) (extractStridedSlice S2016x64 ![0, 0] c32 slices_S2048x64_o0_0_S2016x64) (ix2 t 0)
      = BitVec.ofNat 32 (place E t) := by
  obtain ⟨c, hcc, hcv⟩ : ∃ c : FVec Ideal S2048x64 .f32, Counts E 2048 c ∧
      k0_pay7 v110 v115 c32 (k0_pay5 (F := Ideal)) (extractStridedSlice S2016x64 ![0, 0] c32 slices_S2048x64_o0_0_S2016x64)
        = (let v167 : IVec S2048x1 32 := fptosi 32 (shapeCast S2048x1 (multiReduction .add [1] S2048 (mulf (subf c v115) v115) 0x00000000#32
              reduces_S2048x64_S2048 (.inl rfl) rfl) shapeCasts_S2048_S2048x1)
          select (cmpi .slt v167 (broadcast S2048x1 64#32)) (addi (muli v110 (broadcast S2048x1 64#32)) v167) (broadcast S2048x1 1048576#32)) :=
    ⟨_, ((((((hc.double slices_S2048x64_o0_0_S2016x64 concatenates_S32x64_S2016x64_S2048x64_d0).double
      slices_S2048x64_o0_0_S1984x64 concatenates_S64x64_S1984x64_S2048x64_d0).double
      slices_S2048x64_o0_0_S1920x64 concatenates_S128x64_S1920x64_S2048x64_d0).double
      slices_S2048x64_o0_0_S1792x64 concatenates_S256x64_S1792x64_S2048x64_d0).double
      slices_S2048x64_o0_0_S1536x64 concatenates_S512x64_S1536x64_S2048x64_d0).double
      slices_S2048x64_o0_0_S1024x64 concatenates_S1024x64_S1024x64_S2048x64_d0), rfl⟩
  rw [hcv]
  clear hcv hc
  pointwise
  have hsum : ∑ e : Fin 64, (c (ix2 t e) - v115 (ix2 t e)) * v115 (ix2 t e) = ((slot E t : ℝ) : EReal) := by
    rw [Finset.sum_eq_single (E t) (fun e _ hne => by rw [h115, hit_neg (Ne.symm hne), mul_zero]) (fun hh => absurd (Finset.mem_univ _) hh),
      h115, hit_pos rfl, mul_one, hcc, win_upTo _ _ _ t.isLt]
    have hp := upTo_pos E t
    obtain ⟨k, hk⟩ : ∃ k, earlier (named E (E t)) t.val = k + 1 := ⟨_, (Nat.sub_add_cancel hp).symm⟩
    unfold slot
    rw [hk, Nat.add_sub_cancel]
    rw [show (((k + 1 : ℕ) : EReal)) = (((k : ℝ) + 1 : ℝ) : EReal) by push_cast; rfl, show (1 : EReal) = ((1 : ℝ) : EReal) from rfl,
      ← EReal.coe_sub]
    simp
  have hs := slot_lt hf t
  have he := (E t).isLt
  rw [hsum, fptosi_nat (by omega), h110]
  rw [(Idealize.ShloMosaic.WordCmp.cmpi_slt_ofNat_eq_one_iff (w := 32) (a := slot E t) (b := 64) (by omega) (by omega)).2 hs]
  show BitVec.ofNat 32 (E t).val * 64#32 + BitVec.ofNat 32 (slot E t) = BitVec.ofNat 32 (place E t)
  apply BitVec.eq_of_toNat_eq
  simp only [BitVec.toNat_add, BitVec.toNat_mul, BitVec.toNat_ofNat]
  unfold place
  omega

/-- Every token's dispatch slot, in the kernel's array of them. -/
theorem ds_read {X : Inp Ideal} {c : Dev nD} {E : Fin 2048 → Fin 64} (hf : Fits E) (hn : Names E (X.i c)) (t : Fin 2048) :
    X.ds c (ix2 t 0) = BitVec.ofNat 32 (place E t) := by
  unfold Inp.ds
  pointwise [k0_pay8]
  exact pay7_of hf (fun t => by rw [pay1_read]; exact hn t) (fun t e => by rw [pay2_read, names_hit hn]) (counts_32 hn) t

end Cert.Exchange

end
-- ==== Proof.Route.lean ====
/-
# What the kernel computes

A token's row goes, scaled by its gate, to its dispatch slot of the buffer for the device of its expert; there it
is multiplied by the expert's matrix; the combine picks the result back up at the same slot. Every other product of
the selecting matrices is a product by zero.
-/
module

public import proofs.«01_k».proof.Proof.Count

@[expose] public section

set_option maxRecDepth 16384

noncomputable section

namespace Cert.Exchange

open Cert.KernelIdeal Cert.KernelIdeal.Gen
open Idealize.ShloMosaic

/-- A word less a device's first slot is a slot of that device's row exactly where it should be. -/
theorem slot_word {n g q : ℕ} (hn : n < 4096) (hg : g < 8) (hq : q < 512) :
    (BitVec.ofNat 32 n - BitVec.ofNat 32 (512 * g) = BitVec.ofNat 32 q) ↔ n = 512 * g + q := by
  constructor
  · intro h
    have := congrArg BitVec.toNat h
    simp only [BitVec.toNat_sub, BitVec.toNat_ofNat] at this
    omega
  · rintro rfl
    apply BitVec.eq_of_toNat_eq
    simp only [BitVec.toNat_sub, BitVec.toNat_ofNat]
    omega

theorem hit_congr {p q : Prop} [Decidable p] [Decidable q] (h : p ↔ q) : hit p = hit q := by
  unfold hit; simp only [h]

/-- A sum of products by hits, only one of which is made. -/
theorem sum_hit {n : ℕ} {p : Fin n → Prop} [∀ k, Decidable (p k)] (k₀ : Fin n) (h : ∀ k, p k ↔ k = k₀) (v : Fin n → EReal) :
    ∑ k, hit (p k) * v k = v k₀ := by
  rw [Finset.sum_eq_single k₀ (fun k _ hk => by rw [hit_neg (fun hp => hk ((h k).1 hp)), zero_mul])
    (fun hh => absurd (Finset.mem_univ _) hh), hit_pos ((h k₀).2 rfl), one_mul]

/-- A sum of products by hits, none of which is made. -/
theorem sum_no_hit {n : ℕ} {p : Fin n → Prop} [∀ k, Decidable (p k)] (h : ∀ k, ¬p k) (v : Fin n → EReal) :
    ∑ k, hit (p k) * v k = 0 :=
  Finset.sum_eq_zero fun k _ => by rw [hit_neg (h k), zero_mul]

theorem at512_q512_r512 (t : Fin 2048) : at512 (q512 t) (r512 t) = t := Fin.ext (by simp only [at512, q512, r512]; omega)

section
variable (X : Inp Ideal) (c : Dev nD) {E : Fin 2048 → Fin 64}

/-- The device that holds the token's expert. -/
def home (e : Fin 64) : Dev nD := ⟨e.val / 8, by have := e.isLt; show _ < 8; omega⟩
/-- The expert's number on its device. -/
def local8 (e : Fin 64) : Fin 8 := ⟨e.val % 8, Nat.mod_lt _ (by decide)⟩
/-- The number of places from the device to the expert's. -/
def away (c : Dev nD) (e : Fin 64) : Fin 8 := ⟨(e.val / 8 + 8 - c.val) % 8, Nat.mod_lt _ (by decide)⟩

theorem fwd_eq_home (c : Dev nD) (e : Fin 64) (o : Fin 8) : (fwd c o).val = e.val / 8 ↔ o = away c e := by
  have hc : c.val < 8 := c.isLt
  have he := e.isLt
  have ho := o.isLt
  constructor
  · intro h
    apply Fin.ext
    simp only [fwd, away] at h ⊢
    omega
  · rintro rfl
    simp only [fwd, away]
    omega

theorem fwd_away (c : Dev nD) (e : Fin 64) : fwd c (away c e) = home e := Fin.ext ((fwd_eq_home c e _).2 rfl)

/-- The token's slot in its row of the dispatch buffer. -/
def inRow (hf : Fits E) (t : Fin 2048) : Fin 512 := at64 (local8 (E t)) ⟨slot E t, slot_lt hf t⟩

theorem place_eq (hf : Fits E) (t : Fin 2048) : place E t = 512 * ((E t).val / 8) + (inRow hf t).val := by
  simp only [place, inRow, at64, local8]
  omega

/-- One chunk of the dispatch, at the slot of token `t`: its row where the chunk holds it, zero elsewhere. -/
theorem chunk_sum (hf : Fits E) (hn : Names E (X.i c)) (t : Fin 2048) (d : Fin 1024) (h : Fin 4) :
    ∑ k : Fin 512, hit (chunk (X.ds c) h (ix2 k 0) - dest (ringNo c) (away c (E t)).val = BitVec.ofNat 32 (inRow hf t).val)
        * chunk (X.xs c) h (ix2 k d)
      = if h = q512 t then X.xs c (ix2 t d) else 0 := by
  have hp : ∀ k : Fin 512, (chunk (X.ds c) h (ix2 k 0) - dest (ringNo c) (away c (E t)).val = BitVec.ofNat 32 (inRow hf t).val)
      ↔ at512 h k = t := fun k => by
    have e1 : chunk (X.ds c) h (ix2 k 0) = BitVec.ofNat 32 (place E (at512 h k)) := ds_read hf hn (at512 h k)
    rw [e1, dest_eq, (fwd_eq_home c (E t) _).2 rfl, slot_word (place_lt hf _) (by have := (E t).isLt; omega) (inRow hf t).isLt,
      ← place_eq hf t]
    exact ⟨fun e => place_inj hf e, fun e => by rw [e]⟩
  by_cases hq : h = q512 t
  · rw [if_pos hq, sum_hit (r512 t) (fun k => (hp k).trans ?_)]
    · show X.xs c (ix2 (at512 h (r512 t)) d) = _
      rw [hq, at512_q512_r512]
    · subst hq
      constructor
      · intro e
        have := congrArg Fin.val e
        apply Fin.ext
        have := k.isLt
        simp only [at512, q512, r512] at *
        omega
      · rintro rfl; exact at512_q512_r512 t
  · rw [if_neg hq]
    refine sum_no_hit (fun k hk => hq ?_) _
    have := congrArg Fin.val ((hp k).1 hk)
    apply Fin.ext
    have := k.isLt
    simp only [at512, q512] at *
    omega

theorem acc_at (hf : Fits E) (hn : Names E (X.i c)) (t : Fin 2048) (d : Fin 1024) (n : ℕ) (hn4 : n ≤ 4) :
    X.acc c (away c (E t)) n (ix2 (inRow hf t) d) = if (q512 t).val < n then X.xs c (ix2 t d) else 0 := by
  induction n with
  | zero => rw [if_neg (Nat.not_lt_zero _)]; exact pay10_read _ _
  | succ n ih =>
    have hv : (Fin.ofNat 4 n).val = n := Nat.mod_eq_of_lt (by omega)
    refine (pay11_read _ _ _ _ _ _ _).trans ?_
    rw [ih (by omega)]
    refine (congrArg (_ + ·) (chunk_sum X c hf hn t d (Fin.ofNat 4 n))).trans ?_
    have he : (Fin.ofNat 4 n = q512 t) ↔ n = (q512 t).val := by rw [Fin.ext_iff, hv]
    simp only [he]
    split_ifs <;> first | omega | simp

/-- The dispatch buffer holds the token's scaled row at its slot. -/
theorem D1_at (hf : Fits E) (hn : Names E (X.i c)) (t : Fin 2048) (d : Fin 1024) :
    X.D1 c (ix3 (away c (E t)) (inRow hf t) d) = X.xs c (ix2 t d) := by
  refine (pay12_read _ _ _).trans ((acc_at X c hf hn t d 4 le_rfl).trans (if_pos ?_))
  exact (q512 t).isLt

/-- What comes back to the token's slot: its scaled row times its expert's matrix. -/
theorem C2_at (hf : Fits E) (hn : Names E (X.i c)) (t : Fin 2048) (f : Fin 1024) :
    X.C2 c (ix4 (away c (E t)) (local8 (E t)) ⟨slot E t, slot_lt hf t⟩ f)
      = ∑ d : Fin 1024, X.xs c (ix2 t d) * X.w (home (E t)) (ix3 (local8 (E t)) d f) := by
  show k0_pay24 (Inp.slab (X.C1 (fwd c (away c (E t)))) (local8 (E t))) (Inp.mat (X.w (fwd c (away c (E t)))) (local8 (E t)))
    (ix3 0 (at64 (away c (E t)) ⟨slot E t, slot_lt hf t⟩) f) = _
  rw [pay24_read]
  refine Finset.sum_congr rfl fun d _ => ?_
  have e1 : (at64 (away c (E t)) ⟨slot E t, slot_lt hf t⟩).val / 64 = (away c (E t)).val := by
    have := slot_lt hf t; simp only [at64]; omega
  have e2 : (at64 (away c (E t)) ⟨slot E t, slot_lt hf t⟩).val % 64 = slot E t := by
    have := slot_lt hf t; simp only [at64]; omega
  have e3 : Inp.slab (X.C1 (fwd c (away c (E t)))) (local8 (E t))
      (ix4 0 ⟨(at64 (away c (E t)) ⟨slot E t, slot_lt hf t⟩).val / 64, by omega⟩ ⟨(at64 (away c (E t)) ⟨slot E t, slot_lt hf t⟩).val % 64, by omega⟩ d)
      = X.xs c (ix2 t d) := by
    simp only [e1, e2]
    show X.D1 (bwd (fwd c (away c (E t))) (away c (E t))) (ix3 (away c (E t)) (inRow hf t) d) = _
    rw [bwd_fwd]
    exact D1_at X c hf hn t d
  rw [e3, ← fwd_away c]
  rfl

/-- The output after `n` offsets: the shared product, and the routed one once its offset has passed. -/
theorem out_at (hf : Fits E) (hn : Names E (X.i c)) (t : Fin 2048) (f : Fin 1024) (n : ℕ) (hn8 : n ≤ 8) :
    X.out c n (ix2 t f) = (∑ d : Fin 1024, X.x c (ix2 t d) * X.s c (ix2 d f))
      + if (away c (E t)).val < n then ∑ d : Fin 1024, X.xs c (ix2 t d) * X.w (home (E t)) (ix3 (local8 (E t)) d f) else 0 := by
  induction n with
  | zero =>
    rw [if_neg (Nat.not_lt_zero _), add_zero]
    show k0_pay23 (chunk (X.x c) (q512 t)) (X.s c) (ix2 (r512 t) f) = _
    rw [pay23_read]
    refine Finset.sum_congr rfl fun d _ => ?_
    show X.x c (ix2 (at512 (q512 t) (r512 t)) d) * _ = _
    rw [at512_q512_r512]
  | succ n ih =>
    have hv : (Fin.ofNat 8 n).val = n := Nat.mod_eq_of_lt (by omega)
    show k0_pay34 (ringNo c) (tr5 (Fin.ofNat 8 n)) (Inp.slab (X.C2 c) (Fin.ofNat 8 n)) (chunk (X.ds c) (q512 t))
      (chunk (X.out c n) (q512 t)) (ix2 (r512 t) f) = _
    rw [pay34_read]
    have e0 : chunk (X.out c n) (q512 t) (ix2 (r512 t) f) = X.out c n (ix2 t f) := by
      show X.out c n (ix2 (at512 (q512 t) (r512 t)) f) = _
      rw [at512_q512_r512]
    have e1 : chunk (X.ds c) (q512 t) (ix2 (r512 t) 0) = BitVec.ofNat 32 (place E t) := by
      show X.ds c (ix2 (at512 (q512 t) (r512 t)) 0) = _
      rw [at512_q512_r512]; exact ds_read hf hn t
    have e2 : dest (ringNo c) (tr5 (Fin.ofNat 8 n)).val = BitVec.ofNat 32 (512 * (fwd c (Fin.ofNat 8 n)).val) := dest_eq c _
    rw [e0, ih (by omega), e1, e2]
    have hp : ∀ k : Fin 512, (BitVec.ofNat 32 (place E t) - BitVec.ofNat 32 (512 * (fwd c (Fin.ofNat 8 n)).val) = BitVec.ofNat 32 k.val)
        ↔ place E t = 512 * (fwd c (Fin.ofNat 8 n)).val + k.val := fun k => slot_word (place_lt hf t) (fwd c _).isLt k.isLt
    have hpl := place_eq hf t
    have hin := (inRow hf t).isLt
    have haw : (Fin.ofNat 8 n = away c (E t)) ↔ n = (away c (E t)).val := by rw [Fin.ext_iff, hv]
    by_cases ho : Fin.ofNat 8 n = away c (E t)
    · have hh := (fwd_eq_home c (E t) _).2 ho
      have hx : ∀ v : Fin 512 → EReal, ∑ k : Fin 512, hit (BitVec.ofNat 32 (place E t) - BitVec.ofNat 32 (512 * (fwd c (Fin.ofNat 8 n)).val)
          = BitVec.ofNat 32 k.val) * v k = v (inRow hf t) :=
        sum_hit (inRow hf t) fun k => (hp k).trans ⟨fun e => Fin.ext (by omega), fun e => by rw [e]; omega⟩
      rw [hx]
      have h64 : (inRow hf t).val / 64 = (local8 (E t)).val := by have := slot_lt hf t; simp only [inRow, at64]; omega
      have h65 : (inRow hf t).val % 64 = slot E t := by have := slot_lt hf t; simp only [inRow, at64]; omega
      have hC : Inp.slab (X.C2 c) (Fin.ofNat 8 n) (ix4 0 ⟨(inRow hf t).val / 64, by omega⟩ ⟨(inRow hf t).val % 64, by omega⟩ f)
          = ∑ d : Fin 1024, X.xs c (ix2 t d) * X.w (home (E t)) (ix3 (local8 (E t)) d f) := by
        simp only [h64, h65]
        rw [ho]
        exact C2_at X c hf hn t f
      have hlt : n = (away c (E t)).val := haw.1 ho
      rw [hC, if_neg (by omega), if_pos (by omega), add_zero]
    · have hh : ¬(fwd c (Fin.ofNat 8 n)).val = (E t).val / 8 := fun e => ho ((fwd_eq_home c (E t) _).1 e)
      have hne : n ≠ (away c (E t)).val := fun e => ho (haw.2 e)
      rw [sum_no_hit (fun k hk => hh (by have := (hp k).1 hk; have := k.isLt; omega)), add_zero]
      congr 1
      simp only [show ((away c (E t)).val < n + 1) ↔ (away c (E t)).val < n by omega]

/-- The gate of the token's expert is what scales its row. -/
theorem xs_at (hn : Names E (X.i c)) (t : Fin 2048) (d : Fin 1024) :
    X.xs c (ix2 t d) = X.x c (ix2 t d) * gate (fun e => ∑ d : Fin 1024, X.x c (ix2 t d) * X.r c (ix2 d e)) (E t) := by
  unfold Inp.xs
  rw [pay9_read, pay3_read]
  congr 1
  rw [Finset.sum_congr rfl fun e _ => by rw [names_hit hn],
    Finset.sum_eq_single (E t) (fun e _ hne => by rw [hit_neg (Ne.symm hne), mul_zero]) (fun hh => absurd (Finset.mem_univ _) hh),
    hit_pos rfl, mul_one]

/-- The kernel's result: the shared product, and the gate times the expert's. -/
theorem out_eq (hf : Fits E) (hn : Names E (X.i c)) (hx : ∀ t d, IsReal (X.x c (ix2 t d))) (hr : ∀ d e, IsReal (X.r c (ix2 d e)))
    (t : Fin 2048) (f : Fin 1024) :
    X.out c 8 (ix2 t f) = (∑ d : Fin 1024, X.x c (ix2 t d) * X.s c (ix2 d f))
      + gate (fun e => ∑ d : Fin 1024, X.x c (ix2 t d) * X.r c (ix2 d e)) (E t)
        * ∑ d : Fin 1024, X.x c (ix2 t d) * X.w (home (E t)) (ix3 (local8 (E t)) d f) := by
  rw [out_at X c hf hn t f 8 le_rfl, if_pos (away c (E t)).isLt]
  congr 1
  rw [Finset.sum_congr rfl fun d _ => by rw [xs_at X c hn]]
  exact scaled_dot (gate_real (fun e => IsReal.sum fun d => (hx t d).mul (hr d e)) _) _ _

end

end Cert.Exchange

end
-- ==== Proof.RefRead.lean ====
/-
# The reference read at an index

Where a token's expert is in range, the reference is the shared product plus the gate of that expert times the
token's product with that expert's matrix.
-/
module

public import proofs.«01_k».proof.Proof.Gen.ReferenceIdeal.Run
public import proofs.«01_k».proof.Proof.Reads

@[expose] public section

set_option maxRecDepth 16384

noncomputable section

namespace Cert.Exchange.Ref

open Cert.ReferenceIdeal Cert.ReferenceIdeal.Gen
open Idealize.ShloMosaic
open Idealize.ShloMosaic.TcCoe

/-- A word naming an expert, clamped to the last expert, is that expert. -/
theorem clamp_eq {v : BitVec 32} {e : Fin 64} (h : v = BitVec.ofNat 32 e.val) : min v.toInt.toNat 63 = e.val := by
  have he := e.isLt
  rw [h, Idealize.ShloMosaic.WordCmp.toInt_ofNat_of_lt (by omega)]
  omega

/-- The row gather's dimension numbers. -/
abbrev dRow := gather_S16384x64_S16384x1x1_S16384x1_n_1_0_0_1_2_11

/-- The matrix gather's dimension numbers. -/
abbrev dMat := gather_S64x1024x1024_S16384x1_S16384x1024x1024_12_0_n_n_0_1_110241024

theorem row_component (t : Fin 16384) (k : Fin dRow.startIndexMap.length) : dRow.siIdx (ix2 t 0) k = ix3 t 0 0 := by
  funext b
  match b with
  | ⟨0, _⟩ => rfl
  | ⟨1, _⟩ => rfl
  | ⟨2, _⟩ => exact Subsingleton.elim (α := Fin 1) _ _

theorem mat_component (t : Fin 16384) (d f : Fin 1024) (k : Fin dMat.startIndexMap.length) : dMat.siIdx (ix3 t d f) k = ix2 t 0 := by
  funext b
  match b with
  | ⟨0, _⟩ => rfl
  | ⟨1, _⟩ => exact Subsingleton.elim (α := Fin 1) _ _

/-- The gather along a row: entry `t` is row `t`'s value at the index given. -/
theorem gather_gate {α : Type} (x : S16384x64.Idx → α) (idx : IVec S16384x1x1 32) (t : Fin 16384) (e : Fin 64)
    (h : idx (ix3 t 0 0) = BitVec.ofNat 32 e.val) : Host.gather dRow x idx (ix2 t 0) = x (ix2 t e) := by
  have h0 : dRow.start (ix2 t 0) idx 0 + dRow.batchCoord (ix2 t 0) 0 + dRow.offCoord (ix2 t 0) 0 = t.val := by
    rw [dRow.start_batching _ _ _ (List.mem_singleton.2 rfl),
      dRow.offCoord_eq_zero _ _ (fun h => ((dRow.mem_sKept _).1 h).2 (List.mem_singleton.2 rfl)), Nat.zero_add, Nat.add_zero]
    unfold GatherDims.batchCoord
    rw [dif_pos (show 0 ∈ dRow.operandBatchingDims from List.mem_singleton.2 rfl)]
    rfl
  have h1 : dRow.start (ix2 t 0) idx 1 + dRow.batchCoord (ix2 t 0) 1 + dRow.offCoord (ix2 t 0) 1 = e.val := by
    rw [dRow.batchCoord_eq_zero _ _ (fun h => absurd (List.mem_singleton.1 h) (by decide)),
      dRow.offCoord_eq_zero _ _ (fun h => ((dRow.mem_sKept _).1 h).1 (List.mem_singleton.2 rfl))]
    unfold GatherDims.start
    rw [dif_pos (show 1 ∈ dRow.startIndexMap from List.mem_singleton.2 rfl), row_component]
    exact clamp_eq h
  unfold Host.gather
  refine congrArg x (funext fun a => Fin.ext ?_)
  match a with
  | ⟨0, _⟩ => exact h0
  | ⟨1, _⟩ => exact h1

/-- The gather of matrices: entry `(t, d, f)` is the given matrix's `(d, f)`. -/
theorem gather_matrix {α : Type} (x : S64x1024x1024.Idx → α) (idx : IVec S16384x1 32) (t : Fin 16384) (d f : Fin 1024) (e : Fin 64)
    (h : idx (ix2 t 0) = BitVec.ofNat 32 e.val) : Host.gather dMat x idx (ix3 t d f) = x (ix3 e d f) := by
  have hb : ∀ a, dMat.batchCoord (ix3 t d f) a = 0 := fun a => dMat.batchCoord_eq_zero _ _ List.not_mem_nil
  have h0 : dMat.start (ix3 t d f) idx 0 + dMat.batchCoord (ix3 t d f) 0 + dMat.offCoord (ix3 t d f) 0 = e.val := by
    rw [hb, dMat.offCoord_eq_zero _ _ (fun h => ((dMat.mem_sKept _).1 h).1 (List.mem_singleton.2 rfl))]
    unfold GatherDims.start
    rw [dif_pos (show 0 ∈ dMat.startIndexMap from List.mem_singleton.2 rfl), mat_component]
    exact clamp_eq h
  have hs : ∀ a : Fin 3, a ≠ 0 → dMat.start (ix3 t d f) idx a = 0 := fun a ha => by
    unfold GatherDims.start
    exact dif_neg (fun h => ha (List.mem_singleton.1 h))
  have hk : ∀ a : Fin 3, a ≠ 0 → a ∈ dMat.sKept := fun a ha =>
    (dMat.mem_sKept _).2 ⟨fun h => ha (List.mem_singleton.1 h), List.not_mem_nil⟩
  have h1 : dMat.start (ix3 t d f) idx 1 + dMat.batchCoord (ix3 t d f) 1 + dMat.offCoord (ix3 t d f) 1 = d.val := by
    rw [hb, hs 1 (by decide)]
    unfold GatherDims.offCoord
    rw [dif_pos (hk 1 (by decide)), Nat.zero_add]
    rfl
  have h2 : dMat.start (ix3 t d f) idx 2 + dMat.batchCoord (ix3 t d f) 2 + dMat.offCoord (ix3 t d f) 2 = f.val := by
    rw [hb, hs 2 (by decide)]
    unfold GatherDims.offCoord
    rw [dif_pos (hk 2 (by decide)), Nat.zero_add]
    rfl
  unfold Host.gather
  refine congrArg x (funext fun a => Fin.ext ?_)
  match a with
  | ⟨0, _⟩ => exact h0
  | ⟨1, _⟩ => exact h1
  | ⟨2, _⟩ => exact h2

/-- An expert's number is neither negative nor above 63. -/
theorem named_range {v : BitVec 32} {e : Fin 64} (h : v = BitVec.ofNat 32 e.val) :
    IntOp.cmpi .slt v 0#32 = 0#1 ∧ IntOp.cmpi .sge v 0#32 = 1#1 ∧ IntOp.cmpi .sle v 63#32 = 1#1 := by
  subst h
  revert e
  decide

/-- The gates of every token: the softmax of its scores. -/
def gates (x : FVec Ideal S16384x1024 .f32) (r : FVec Ideal S1024x64 .f32) : FVec Ideal S16384x64 .f32 :=
  Host.divf (Host.exp (subf (Host.dotGeneral dot_S16384x1024_S1024x64_S16384x64_1_0_0_1_n_n none x r) (broadcastInDim S16384x64 ![0, 1] bcast_S16384x1_S16384x64_0_1 (broadcastInDim S16384x1 ![0] bcast_S16384_S16384x1_0 (Host.reduce FloatOps.maximumf (Host.dotGeneral dot_S16384x1024_S1024x64_S16384x64_1_0_0_1_n_n none x r) (constant S_ .f32 0xFF800000#32) reducesTo_S16384x64_S16384_d1 h_S_))))) (broadcastInDim S16384x64 ![0, 1] bcast_S16384x1_S16384x64_0_1 (broadcastInDim S16384x1 ![0] bcast_S16384_S16384x1_0 (Host.reduceAdd (Host.exp (subf (Host.dotGeneral dot_S16384x1024_S1024x64_S16384x64_1_0_0_1_n_n none x r) (broadcastInDim S16384x64 ![0, 1] bcast_S16384x1_S16384x64_0_1 (broadcastInDim S16384x1 ![0] bcast_S16384_S16384x1_0 (Host.reduce FloatOps.maximumf (Host.dotGeneral dot_S16384x1024_S1024x64_S16384x64_1_0_0_1_n_n none x r) (constant S_ .f32 0xFF800000#32) reducesTo_S16384x64_S16384_d1 h_S_))))) (constant S_ .f32 0x00000000#32) reducesTo_S16384x64_S16384_d1 h_S_)))

theorem gates_read (x : FVec Ideal S16384x1024 .f32) (r : FVec Ideal S1024x64 .f32) (t : Fin 16384) (e : Fin 64) :
    gates x r (ix2 t e) = gate (fun e' => ∑ d : Fin 1024, (x (ix2 t d) : EReal) * r (ix2 d e')) e := by
  unfold gate
  pointwise [gates, dot_S16384x1024_S1024x64_S16384x64_1_0_0_1_n_n]

/-- The reference's result at a token whose expert is `e`. -/
theorem out_read (m : (ℓ : Loc nD τ sig) → Buf (Elt Ideal) ℓ) (c : Dev nD) (x : Vec Ideal S16384x1024 .bf16)
    (r : Vec Ideal S1024x64 .bf16) (i : Vec Ideal S16384x1 .i32) (w : Vec Ideal S64x1024x1024 .bf16) (s : Vec Ideal S1024x1024 .bf16)
    (hx : m ((c.tc : Thread nD τ).loc main_arg0) = x) (hr : m ((c.tc : Thread nD τ).loc main_arg1) = r)
    (hi : m ((c.tc : Thread nD τ).loc main_arg2) = i) (hw : m ((c.tc : Thread nD τ).loc main_arg3) = w)
    (hs : m ((c.tc : Thread nD τ).loc main_arg4) = s) (t : Fin 16384) (f : Fin 1024) (e : Fin 64)
    (h : i (ix2 t 0) = BitVec.ofNat 32 e.val) :
    Value.res_main_v27 (F := Ideal) m c (ix2 t f)
      = ((∑ d : Fin 1024, (x (ix2 t d) : EReal) * s (ix2 d f))
        + gate (fun e' => ∑ d : Fin 1024, (x (ix2 t d) : EReal) * r (ix2 d e')) e
          * ∑ d : Fin 1024, (x (ix2 t d) : EReal) * w (ix3 e d f) : EReal) := by
  obtain ⟨hlt, hge, hle⟩ := named_range h
  unfold Value.res_main_v27
  rw [hx, hr, hi, hw, hs]
  generalize hM : Host.reduce IntOp.andi _ _ _ _ = M
  generalize hG : Host.gather gather_S16384x64_S16384x1x1_S16384x1_n_1_0_0_1_2_11 _ _ = G
  generalize hW : Host.gather gather_S64x1024x1024_S16384x1_S16384x1024x1024_12_0_n_n_0_1_110241024 _ _ = W
  have eM : M (ix2 t 0) = 1#1 := by
    rw [← hM]
    pointwise
    rw [hlt, Scalar.select, if_neg (by decide), hge, hle]
    decide
  have eG : G (ix2 t 0) = gate (fun e' => ∑ d : Fin 1024, (x (ix2 t d) : EReal) * r (ix2 d e')) e := by
    rw [← hG]
    refine (gather_gate _ _ t e ?_).trans (gates_read (extf .f32 x bitsLt_bf16_f32) (extf .f32 r bitsLt_bf16_f32) t e)
    pointwise
    rw [hlt]
    exact h
  have eW : ∀ d, W (ix3 t d f) = w (ix3 e d f) := fun d => by
    rw [← hW, gather_matrix _ _ t d f e]
    · rfl
    · pointwise
      rw [hlt]
      exact h
  pointwise [dot_S16384x1024_S1024x1024_S16384x1024_1_0_0_1_n_n, dot_S16384x1024_S16384x1024x1024_S16384x1024_1_1_n_2_0_0]
  simp only [eM, eG, eW]
  rfl

end Cert.Exchange.Ref

end
-- ==== Proof.Agree.lean ====
/-
# The run's arrays as whole arrays

Each window is its whole array: what the body reads is what the memory holds, and the output array ends at what the
body left. A device's blocks are read at an index of the whole arrays.
-/
module

public import proofs.«01_k».proof.Proof.Run
public import proofs.«01_k».proof.Proof.Route
public import proofs.«01_k».proof.Proof.RefRead
public import proofs.«01_k».proof.Proof.Gen.Pre_routable_KernelIdeal

@[expose] public section

set_option maxRecDepth 16384

noncomputable section

namespace Cert.Exchange

open Cert.KernelIdeal Cert.KernelIdeal.Gen
open Idealize.ShloMosaic
open Idealize.ShloMosaic.TcCoe
open Idealize.ShloMosaic.Pipeline (Dat Cfg Window)

/-! ## Windows -/

section Windows

variable {F : FTy → Type} [FloatOps F] (m : (ℓ : Loc nD τ sig) → Buf (Elt F) ℓ) (c : Dev nD)

theorem inp_x : (inp m).x c = m ((c : Thread nD τ).loc main_arg0) := by
  show (win0_0.blk (0 : Fin 1)).view.read (Elt F) (m ((c : Thread nD τ).loc main_arg0)) = _
  exact Memref.read_access_unit_zero (Elt F) main_arg0 (funext fun a => Nat.zero_mul _) _ _

theorem inp_r : (inp m).r c = m ((c : Thread nD τ).loc main_arg1) := by
  show (win0_1.blk (0 : Fin 1)).view.read (Elt F) (m ((c : Thread nD τ).loc main_arg1)) = _
  exact Memref.read_access_unit_zero (Elt F) main_arg1 (funext fun a => Nat.zero_mul _) _ _

theorem inp_i : (inp m).i c = m ((c : Thread nD τ).loc main_arg2) := by
  show (win0_2.blk (0 : Fin 1)).view.read (Elt F) (m ((c : Thread nD τ).loc main_arg2)) = _
  exact Memref.read_access_unit_zero (Elt F) main_arg2 (funext fun a => Nat.zero_mul _) _ _

theorem inp_s : (inp m).s c = m ((c : Thread nD τ).loc main_arg4) := by
  show (win0_3.blk (0 : Fin 1)).view.read (Elt F) (m ((c : Thread nD τ).loc main_arg4)) = _
  exact Memref.read_access_unit_zero (Elt F) main_arg4 (funext fun a => Nat.zero_mul _) _ _

/-- The output array at the end is what the body left. -/
theorem final_value : finalA m c (4 : Fin 5) = (inp m).out c 8 := by
  unfold finalA
  rw [show cfg0.N = (t₀ : Fin cfg0.N).val + 1 from rfl, (dats (F := F) m 0 c).arrAt_succ (4 : Fin 5) t₀,
    show (cfg0.win (4 : Fin 5)).flush t₀ = true from by decide, if_pos rfl]
  exact Memref.write_access_unit_zero_univ (Elt F) main_v1 (funext fun a => Nat.zero_mul _) _ _ _

end Windows

/-! ## Blocks -/

/-- Device `c`'s row `t` in the whole array. -/
def row (c : Dev nD) (t : Fin 2048) : Fin 16384 := ⟨c.val * 2048 + t.val, by have h := c.isLt; have := t.isLt; change c.val < 8 at h; omega⟩

/-- Device `c`'s `k`-th expert. -/
def expert (c : Dev nD) (k : Fin 8) : Fin 64 := ⟨c.val * 8 + k.val, by have h := c.isLt; have := k.isLt; change c.val < 8 at h; omega⟩

theorem expert_home (e : Fin 64) : expert (home e) (local8 e) = e := Fin.ext (Nat.div_add_mod' e.val 8)

variable {α : Type}

theorem block_rows (c : Fin 8) (v : (⟨2, ![16384, 1024]⟩ : Shape).Idx → α) (t : Fin 2048) (d : Fin 1024) :
    Layout.block ⟨2, ![2048, 1024]⟩ ⟨2, ![16384, 1024]⟩ 0 8 c v (by decide) (ix2 t d) = v (ix2 (row c t) d) := by
  refine congrArg v (funext fun b => Fin.ext ?_)
  match b with
  | ⟨0, _⟩ => rfl
  | ⟨1, _⟩ => rfl

theorem block_names (c : Fin 8) (v : (⟨2, ![16384, 1]⟩ : Shape).Idx → α) (t : Fin 2048) :
    Layout.block ⟨2, ![2048, 1]⟩ ⟨2, ![16384, 1]⟩ 0 8 c v (by decide) (ix2 t 0) = v (ix2 (row c t) 0) := by
  refine congrArg v (funext fun b => Fin.ext ?_)
  match b with
  | ⟨0, _⟩ => rfl
  | ⟨1, _⟩ => rfl

theorem block_experts (c : Fin 8) (v : (⟨3, ![64, 1024, 1024]⟩ : Shape).Idx → α) (k : Fin 8) (d f : Fin 1024) :
    Layout.block ⟨3, ![8, 1024, 1024]⟩ ⟨3, ![64, 1024, 1024]⟩ 0 8 c v (by decide) (ix3 k d f) = v (ix3 (expert c k) d f) := by
  refine congrArg v (funext fun b => Fin.ext ?_)
  match b with
  | ⟨0, _⟩ => rfl
  | ⟨1, _⟩ => rfl
  | ⟨2, _⟩ => rfl

/-! ## The precondition read -/

/-- A signed word from 0 to 63 is a number below 64. -/
theorem word_lt {v : BitVec 32} (h0 : IntOp.cmpi .sge v 0#32 = 1#1) (h1 : IntOp.cmpi .slt v 64#32 = 1#1) : v.toNat < 64 := by
  rw [WordCmp.cmpi_sge_eq, WordCmp.ofBool_decide_eq_one_iff] at h0
  rw [WordCmp.cmpi_slt_eq, WordCmp.ofBool_decide_eq_one_iff] at h1
  have e0 : (0#32 : BitVec 32).toInt = 0 := by decide
  have e1 : (64#32 : BitVec 32).toInt = 64 := by decide
  rw [e0] at h0
  rw [e1] at h1
  rw [BitVec.toInt_eq_toNat_cond] at h0 h1
  have := v.isLt
  split at h0 <;> omega

/-- A number whose absolute value is below infinity is real. -/
theorem real_of_abs {x : EReal} (h : max x (-x) < ⊤) : IsReal x :=
  isReal_of (fun e => by rw [e] at h; simp at h) (fun e => by rw [e] at h; simp at h)

/-- A count read as a sum of numbers is the count. -/
theorem count_cast (E : Fin 2048 → Fin 64) (e : Fin 64) :
    (∑ t : Fin 2048, hit (E t = e)) = (((∑ t : Fin 2048, (if E t = e then 1 else 0) : ℕ) : ℝ) : EReal) := by
  have h : ∀ s : Finset (Fin 2048), (∑ t ∈ s, hit (E t = e)) = (((∑ t ∈ s, (if E t = e then 1 else 0) : ℕ) : ℝ) : EReal) := by
    intro s
    induction s using Finset.induction_on with
    | empty => simp
    | insert a s ha ih =>
      rw [Finset.sum_insert ha, Finset.sum_insert ha, ih, Nat.cast_add, EReal.coe_add]
      congr 1
      by_cases h : E a = e
      · rw [hit_pos h, if_pos h]; simp
      · rw [hit_neg h, if_neg h]; simp
  exact h Finset.univ

/-- The precondition: every token names an expert, no expert more than 64 tokens, and tokens and router are real. -/
theorem pre_reads (x : FVec Ideal S2048x1024 .bf16) (r : FVec Ideal S1024x64 .bf16) (i : IVec S2048x1 32) (w : FVec Ideal S8x1024x1024 .bf16)
    (s : FVec Ideal S1024x1024 .bf16) [Cert.Pre_routable_KernelIdeal.Facts]
    (h1 : (Cert.Pre_routable_KernelIdeal.fn (F := Ideal) x r i w s).1 = fun _ => 1#1)
    (h2 : (Cert.Pre_routable_KernelIdeal.fn (F := Ideal) x r i w s).2.1 = fun _ => 1#1)
    (h3 : (Cert.Pre_routable_KernelIdeal.fn (F := Ideal) x r i w s).2.2.1 = fun _ => 1#1)
    (h4 : (Cert.Pre_routable_KernelIdeal.fn (F := Ideal) x r i w s).2.2.2.1 = fun _ => 1#1)
    (h5 : (Cert.Pre_routable_KernelIdeal.fn (F := Ideal) x r i w s).2.2.2.2 = fun _ => 1#1) :
    ∃ E : Fin 2048 → Fin 64, Fits E ∧ Names E i ∧ (∀ t d, IsReal (x (ix2 t d))) ∧ ∀ d e, IsReal (r (ix2 d e)) := by
  have a1 := fun t : Fin 2048 => congrFun h1 (ix2 t 0)
  have a2 := fun t : Fin 2048 => congrFun h2 (ix2 t 0)
  have a3 := fun e : Fin 64 => congrFun h3 (ix1 e)
  have a4 := fun (t : Fin 2048) (d : Fin 1024) => congrFun h4 (ix2 t d)
  have a5 := fun (d : Fin 1024) (e : Fin 64) => congrFun h5 (ix2 d e)
  pointwise [Cert.Pre_routable_KernelIdeal.fn, Cert.Pre_routable_KernelIdeal.fn_part1] at a1 a2 a3 a4 a5
  have hlt := fun t => word_lt (a1 t) (a2 t)
  let E : Fin 2048 → Fin 64 := fun t => ⟨(i (ix2 t 0)).toNat, hlt t⟩
  have hn : Names E i := fun t => by
    show i (ix2 t 0) = BitVec.ofNat 32 (i (ix2 t 0)).toNat
    rw [BitVec.ofNat_toNat, BitVec.setWidth_eq]
  refine ⟨E, fun e => ?_, hn, fun t d => real_of_abs ?_, fun d e => real_of_abs ?_⟩
  · have h := a3 e
    rw [WordCmp.ofBool_decide_eq_one_iff, sixtyFour] at h
    have hs : (∑ t : Fin 2048, FloatOps.uitofp (F := Ideal) .f32 (IntOp.cmpi .eq (i (ix2 t 0)) (BitVec.ofNat 32 e.val)))
        = ∑ t : Fin 2048, hit (E t = e) := Finset.sum_congr rfl fun t _ => by
      rw [uitofp_eq, ← names_hit hn t e]
      by_cases hh : i (ix2 t 0) = BitVec.ofNat 32 e.val
      · rw [hit_pos hh, hit_pos hh.symm]
      · rw [hit_neg hh, hit_neg fun h => hh h.symm]
    have h' := (le_of_eq (hs.trans (count_cast E e)).symm).trans h
    exact_mod_cast EReal.coe_le_coe_iff.1 h'
  · have h := a4 t d
    rw [WordCmp.ofBool_decide_eq_one_iff, posInf] at h
    exact h
  · have h := a5 d e
    rw [WordCmp.ofBool_decide_eq_one_iff, posInf] at h
    exact h

/-! ## Agreement -/

/-- A token's row of the kernel's output is its row of the reference's. -/
theorem agrees (m : (ℓ : Loc nD τ sig) → Buf (Elt Ideal) ℓ)
    (m' : (ℓ : Loc Cert.ReferenceIdeal.nD Cert.ReferenceIdeal.τ Cert.ReferenceIdeal.sig) → Buf (Elt Ideal) ℓ)
    (x : (⟨2, ![16384, 1024]⟩ : Shape).Idx → EReal) (r : (⟨2, ![1024, 64]⟩ : Shape).Idx → EReal)
    (i : (⟨2, ![16384, 1]⟩ : Shape).Idx → BitVec 32) (w : (⟨3, ![64, 1024, 1024]⟩ : Shape).Idx → EReal)
    (s : (⟨2, ![1024, 1024]⟩ : Shape).Idx → EReal)
    (hx' : m' (((0 : Dev Cert.ReferenceIdeal.nD).tc : Thread Cert.ReferenceIdeal.nD Cert.ReferenceIdeal.τ).loc Cert.ReferenceIdeal.main_arg0) = x)
    (hr' : m' (((0 : Dev Cert.ReferenceIdeal.nD).tc : Thread Cert.ReferenceIdeal.nD Cert.ReferenceIdeal.τ).loc Cert.ReferenceIdeal.main_arg1) = r)
    (hi' : m' (((0 : Dev Cert.ReferenceIdeal.nD).tc : Thread Cert.ReferenceIdeal.nD Cert.ReferenceIdeal.τ).loc Cert.ReferenceIdeal.main_arg2) = i)
    (hw' : m' (((0 : Dev Cert.ReferenceIdeal.nD).tc : Thread Cert.ReferenceIdeal.nD Cert.ReferenceIdeal.τ).loc Cert.ReferenceIdeal.main_arg3) = w)
    (hs' : m' (((0 : Dev Cert.ReferenceIdeal.nD).tc : Thread Cert.ReferenceIdeal.nD Cert.ReferenceIdeal.τ).loc Cert.ReferenceIdeal.main_arg4) = s)
    (hx : ∀ c : Dev nD, m ((c : Thread nD τ).loc main_arg0) = Layout.block ⟨2, ![2048, 1024]⟩ ⟨2, ![16384, 1024]⟩ 0 8 c x)
    (hr : ∀ c : Dev nD, m ((c : Thread nD τ).loc main_arg1) = r)
    (hi : ∀ c : Dev nD, m ((c : Thread nD τ).loc main_arg2) = Layout.block ⟨2, ![2048, 1]⟩ ⟨2, ![16384, 1]⟩ 0 8 c i)
    (hw : ∀ c : Dev nD, m ((c : Thread nD τ).loc main_arg3) = Layout.block ⟨3, ![8, 1024, 1024]⟩ ⟨3, ![64, 1024, 1024]⟩ 0 8 c w)
    (hs : ∀ c : Dev nD, m ((c : Thread nD τ).loc main_arg4) = s)
    (c : Dev nD) (E : Fin 2048 → Fin 64) (hf : Fits E) (hn : Names E (m ((c : Thread nD τ).loc main_arg2)))
    (hrx : ∀ t d, IsReal (m ((c : Thread nD τ).loc main_arg0) (ix2 t d)))
    (hrr : ∀ d e, IsReal (m ((c : Thread nD τ).loc main_arg1) (ix2 d e))) :
    finalA m c (4 : Fin 5) = Layout.block ⟨2, ![2048, 1024]⟩ ⟨2, ![16384, 1024]⟩ 0 8 c (Cert.ReferenceIdeal.Value.res_main_v27 (F := Ideal) m' 0) := by
  rw [final_value]
  funext y
  obtain ⟨t, f, rfl⟩ : ∃ (t : Fin 2048) (f : Fin 1024), y = ix2 t f := ⟨y 0, y 1, eq_ix2 y⟩
  have ex : ∀ t d, (inp m).x c (ix2 t d) = x (ix2 (row c t) d) := fun t d => by rw [inp_x, hx c]; exact block_rows c x t d
  have er : (inp m).r c = r := (inp_r m c).trans (hr c)
  have es : (inp m).s c = s := (inp_s m c).trans (hs c)
  have ew : ∀ e d f, (inp m).w (home e) (ix3 (local8 e) d f) = w (ix3 e d f) := fun e d f => by
    refine (congrFun (hw (home e)) _).trans ((block_experts (home e) w (local8 e) d f).trans ?_)
    rw [expert_home]
  have ei : i (ix2 (row c t) 0) = BitVec.ofNat 32 (E t).val := by
    rw [← hn t, hi c]; exact (block_names c i t).symm
  rw [out_eq (inp m) c hf (by rw [inp_i]; exact hn) (by rw [inp_x]; exact hrx) (by rw [inp_r]; exact hrr) t f]
  refine Eq.trans ?_ (block_rows c (Cert.ReferenceIdeal.Value.res_main_v27 (F := Ideal) m' 0) t f).symm
  rw [Ref.out_read m' 0 x r i w s hx' hr' hi' hw' hs' (row c t) f (E t) ei]
  simp only [ex, er, es, ew]

end Cert.Exchange

end
-- ==== Proof.lean ====
/-
# The claims

The kernel as printed and as read over the ideal reals has one text, and its run (Proof/Run.lean) is at any float values: both
frames are that run. The reference's frame is its generated run. What the kernel's run leaves is the reference's result, block
by block (Proof/Agree.lean).
-/
module

public import proofs.«01_k».proof.Defs
public import proofs.«01_k».proof.Proof.Run
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routable_KernelIdeal
public import proofs.«01_k».proof.Proof.Gen.Pre_routable_ReferenceIdeal

@[expose] public section

noncomputable section

namespace Cert.Proof

open Idealize.ShloMosaic Idealize.SL.Sem

theorem frame_kernel_ideal : Cert.quiescent_KernelIdeal := fun m ρ _ =>
  (θ_run Cert.KernelIdeal.defs _ _).mono (fun _ h => ⟨Cert.Exchange.args_kept m h.1, h.2⟩) (Cert.Exchange.run_main (F := Ideal) m ρ)

/-- The kernel's body, printed twice, is one program. -/
theorem body_same : @Cert.Kernel.cc0_body Bits _ _ = @Cert.KernelIdeal.cc0_body Bits _ _ := rfl

theorem kernels_same : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ => rfl

theorem defs_same : Cert.Kernel.defs (F := Bits) = Cert.KernelIdeal.defs (F := Bits) :=
  congrArg (Pipeline.defs Cert.KernelIdeal.pcfgs) kernels_same

theorem frame_kernel : Cert.quiescent_Kernel := fun m ρ _ => by
  have h := Cert.Exchange.run_frame (F := Bits) m ρ
  rw [← defs_same] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition every device ends with its block of the reference's result. -/
theorem algebraic : Cert.algebraic_KernelIdeal_ReferenceIdeal_pre_routable_KernelIdeal := fun m g m' g' hpre harg => by
  refine ⟨Cert.ReferenceIdeal.Value.res_main_v27 (F := Ideal) m' 0, ?_, ?_⟩
  · refine (θ_run Cert.KernelIdeal.defs _ _).mono (fun r h c => ⟨?_, Cert.Exchange.args_kept m h.1 c⟩) (Cert.Exchange.run_main (F := Ideal) m g)
    obtain ⟨h1, h2, h3, h4, h5⟩ := hpre c
    obtain ⟨E, hf, hn, hx, hr⟩ := Cert.Exchange.pre_reads _ _ _ _ _ h1 h2 h3 h4 h5
    exact ((h.1 c).1 4).trans (Cert.Exchange.agrees m m' _ _ _ _ _ rfl rfl rfl rfl rfl (fun c => (harg c).1) (fun c => (harg c).2.1)
      (fun c => (harg c).2.2.1) (fun c => (harg c).2.2.2.1) (fun c => (harg c).2.2.2.2) c E hf hn hx hr)
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_routable_KernelIdeal.Gen.facts,
    Cert.Pre_routable_ReferenceIdeal.Gen.facts, frame_kernel, frame_kernel_ideal, fun m g _ => frame_kernel_ideal m g trivial,
    frame_reference, fun m g _ => frame_reference m g trivial, trivial, algebraic⟩

end Cert.Proof

end
